-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_masked_and_scaled [hPre_masked_and_scaled : Cert.Pre_masked_and_scaled.Facts] (m : (ℓ : Loc Cert.BwdIdeal.nD Cert.BwdIdeal.τ Cert.BwdIdeal.sig) → Buf (Elt Ideal) ℓ) : Prop :=
  ∀ c : Dev Cert.BwdIdeal.nD,
    (Cert.Pre_masked_and_scaled.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8))).1 = (fun _ => 1#1)
    ∧ (Cert.Pre_masked_and_scaled.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8))).2 = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_masked_and_scaled [hPre_masked_and_scaled : Cert.Pre_masked_and_scaled.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_masked_and_scaled.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8))).1 = (fun _ => 1#1)
    ∧ (Cert.Pre_masked_and_scaled.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8))).2 = (fun _ => 1#1)

def Pre_Dproj (m : (ℓ : Loc Cert.Dproj.nD Cert.Dproj.τ Cert.Dproj.sig) → Buf (Elt Bits) ℓ) : Prop :=
  True

def Pre_DprojIdeal (m : (ℓ : Loc Cert.DprojIdeal.nD Cert.DprojIdeal.τ Cert.DprojIdeal.sig) → Buf (Elt Ideal) ℓ) : Prop :=
  True

def Pre_DprojRefIdeal (m : (ℓ : Loc Cert.DprojRefIdeal.nD Cert.DprojRefIdeal.τ Cert.DprojRefIdeal.sig) → Buf (Elt Ideal) ℓ) : Prop :=
  True

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7)
      ∧ r.2.mem ((c.tc : Thread Cert.Bwd.nD Cert.Bwd.τ).loc Cert.Bwd.main_arg8) = m ((c.tc : Thread Cert.Bwd.nD Cert.Bwd.τ).loc Cert.Bwd.main_arg8))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8))
      ∧ r.2.sem = fun _ => 0)

def quiescent_BwdIdeal_pre_masked_and_scaled [hBwdIdeal : Cert.BwdIdeal.Facts] [hPre_masked_and_scaled : Cert.Pre_masked_and_scaled.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_masked_and_scaled m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7)
      ∧ r.2.mem ((c.tc : Thread Cert.BwdRefIdeal.nD Cert.BwdRefIdeal.τ).loc Cert.BwdRefIdeal.main_arg8) = m ((c.tc : Thread Cert.BwdRefIdeal.nD Cert.BwdRefIdeal.τ).loc Cert.BwdRefIdeal.main_arg8))
      ∧ r.2.sem = fun _ => 0)

def quiescent_BwdRefIdeal_pre_masked_and_scaled [hBwdRefIdeal : Cert.BwdRefIdeal.Facts] [hPre_masked_and_scaled : Cert.Pre_masked_and_scaled.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_masked_and_scaled m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7)
      ∧ r.2.mem ((c.tc : Thread Cert.BwdRefIdeal.nD Cert.BwdRefIdeal.τ).loc Cert.BwdRefIdeal.main_arg8) = m ((c.tc : Thread Cert.BwdRefIdeal.nD Cert.BwdRefIdeal.τ).loc Cert.BwdRefIdeal.main_arg8))
      ∧ r.2.sem = fun _ => 0)

def quiescent_Dproj [hDproj : Cert.Dproj.Facts] : Prop :=
  ∀ (m : (ℓ : Loc Cert.Dproj.nD Cert.Dproj.τ Cert.Dproj.sig) → Buf (Elt Bits) ℓ) (g : Dev Cert.Dproj.nD → PrngReg), Pre_Dproj m →
    θ_run (Cert.Dproj.defs (F := Bits)) (onTc (τ := Cert.Dproj.τ) (Cert.Dproj.main (F := Bits))) ⟨m, fun _ => 0, g⟩ (fun r => (∀ c : Dev Cert.Dproj.nD,
      r.2.mem ((c.tc : Thread Cert.Dproj.nD Cert.Dproj.τ).loc Cert.Dproj.main_arg0) = m ((c.tc : Thread Cert.Dproj.nD Cert.Dproj.τ).loc Cert.Dproj.main_arg0)
      ∧ r.2.mem ((c.tc : Thread Cert.Dproj.nD Cert.Dproj.τ).loc Cert.Dproj.main_arg1) = m ((c.tc : Thread Cert.Dproj.nD Cert.Dproj.τ).loc Cert.Dproj.main_arg1)
      ∧ r.2.mem ((c.tc : Thread Cert.Dproj.nD Cert.Dproj.τ).loc Cert.Dproj.main_arg2) = m ((c.tc : Thread Cert.Dproj.nD Cert.Dproj.τ).loc Cert.Dproj.main_arg2)
      ∧ r.2.mem ((c.tc : Thread Cert.Dproj.nD Cert.Dproj.τ).loc Cert.Dproj.main_arg3) = m ((c.tc : Thread Cert.Dproj.nD Cert.Dproj.τ).loc Cert.Dproj.main_arg3)
      ∧ r.2.mem ((c.tc : Thread Cert.Dproj.nD Cert.Dproj.τ).loc Cert.Dproj.main_arg4) = m ((c.tc : Thread Cert.Dproj.nD Cert.Dproj.τ).loc Cert.Dproj.main_arg4)
      ∧ r.2.mem ((c.tc : Thread Cert.Dproj.nD Cert.Dproj.τ).loc Cert.Dproj.main_arg5) = m ((c.tc : Thread Cert.Dproj.nD Cert.Dproj.τ).loc Cert.Dproj.main_arg5)
      ∧ r.2.mem ((c.tc : Thread Cert.Dproj.nD Cert.Dproj.τ).loc Cert.Dproj.main_arg6) = m ((c.tc : Thread Cert.Dproj.nD Cert.Dproj.τ).loc Cert.Dproj.main_arg6)
      ∧ r.2.mem ((c.tc : Thread Cert.Dproj.nD Cert.Dproj.τ).loc Cert.Dproj.main_arg7) = m ((c.tc : Thread Cert.Dproj.nD Cert.Dproj.τ).loc Cert.Dproj.main_arg7)
      ∧ r.2.mem ((c.tc : Thread Cert.Dproj.nD Cert.Dproj.τ).loc Cert.Dproj.main_arg8) = m ((c.tc : Thread Cert.Dproj.nD Cert.Dproj.τ).loc Cert.Dproj.main_arg8))
      ∧ r.2.sem = fun _ => 0)

def quiescent_DprojIdeal [hDprojIdeal : Cert.DprojIdeal.Facts] : Prop :=
  ∀ (m : (ℓ : Loc Cert.DprojIdeal.nD Cert.DprojIdeal.τ Cert.DprojIdeal.sig) → Buf (Elt Ideal) ℓ) (g : Dev Cert.DprojIdeal.nD → PrngReg), Pre_DprojIdeal m →
    θ_run (Cert.DprojIdeal.defs (F := Ideal)) (onTc (τ := Cert.DprojIdeal.τ) (Cert.DprojIdeal.main (F := Ideal))) ⟨m, fun _ => 0, g⟩ (fun r => (∀ c : Dev Cert.DprojIdeal.nD,
      r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
      ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
      ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2)
      ∧ r.2.mem ((c.tc : Thread Cert.DprojIdeal.nD Cert.DprojIdeal.τ).loc Cert.DprojIdeal.main_arg3) = m ((c.tc : Thread Cert.DprojIdeal.nD Cert.DprojIdeal.τ).loc Cert.DprojIdeal.main_arg3)
      ∧ r.2.mem ((c.tc : Thread Cert.DprojIdeal.nD Cert.DprojIdeal.τ).loc Cert.DprojIdeal.main_arg4) = m ((c.tc : Thread Cert.DprojIdeal.nD Cert.DprojIdeal.τ).loc Cert.DprojIdeal.main_arg4)
      ∧ r.2.mem ((c.tc : Thread Cert.DprojIdeal.nD Cert.DprojIdeal.τ).loc Cert.DprojIdeal.main_arg5) = m ((c.tc : Thread Cert.DprojIdeal.nD Cert.DprojIdeal.τ).loc Cert.DprojIdeal.main_arg5)
      ∧ r.2.mem ((c.tc : Thread Cert.DprojIdeal.nD Cert.DprojIdeal.τ).loc Cert.DprojIdeal.main_arg6) = m ((c.tc : Thread Cert.DprojIdeal.nD Cert.DprojIdeal.τ).loc Cert.DprojIdeal.main_arg6)
      ∧ r.2.mem ((c.tc : Thread Cert.DprojIdeal.nD Cert.DprojIdeal.τ).loc Cert.DprojIdeal.main_arg7) = m ((c.tc : Thread Cert.DprojIdeal.nD Cert.DprojIdeal.τ).loc Cert.DprojIdeal.main_arg7)
      ∧ r.2.mem ((c.tc : Thread Cert.DprojIdeal.nD Cert.DprojIdeal.τ).loc Cert.DprojIdeal.main_arg8) = m ((c.tc : Thread Cert.DprojIdeal.nD Cert.DprojIdeal.τ).loc Cert.DprojIdeal.main_arg8))
      ∧ r.2.sem = fun _ => 0)

def quiescent_DprojRefIdeal [hDprojRefIdeal : Cert.DprojRefIdeal.Facts] : Prop :=
  ∀ (m : (ℓ : Loc Cert.DprojRefIdeal.nD Cert.DprojRefIdeal.τ Cert.DprojRefIdeal.sig) → Buf (Elt Ideal) ℓ) (g : Dev Cert.DprojRefIdeal.nD → PrngReg), Pre_DprojRefIdeal m →
    θ_run (Cert.DprojRefIdeal.defs (F := Ideal)) (onTc (τ := Cert.DprojRefIdeal.τ) (Cert.DprojRefIdeal.main (F := Ideal))) ⟨m, fun _ => 0, g⟩ (fun r => (∀ c : Dev Cert.DprojRefIdeal.nD,
      r.2.mem ((c.tc : Thread Cert.DprojRefIdeal.nD Cert.DprojRefIdeal.τ).loc Cert.DprojRefIdeal.main_arg0) = m ((c.tc : Thread Cert.DprojRefIdeal.nD Cert.DprojRefIdeal.τ).loc Cert.DprojRefIdeal.main_arg0)
      ∧ r.2.mem ((c.tc : Thread Cert.DprojRefIdeal.nD Cert.DprojRefIdeal.τ).loc Cert.DprojRefIdeal.main_arg1) = m ((c.tc : Thread Cert.DprojRefIdeal.nD Cert.DprojRefIdeal.τ).loc Cert.DprojRefIdeal.main_arg1)
      ∧ r.2.mem ((c.tc : Thread Cert.DprojRefIdeal.nD Cert.DprojRefIdeal.τ).loc Cert.DprojRefIdeal.main_arg2) = m ((c.tc : Thread Cert.DprojRefIdeal.nD Cert.DprojRefIdeal.τ).loc Cert.DprojRefIdeal.main_arg2)
      ∧ r.2.mem ((c.tc : Thread Cert.DprojRefIdeal.nD Cert.DprojRefIdeal.τ).loc Cert.DprojRefIdeal.main_arg3) = m ((c.tc : Thread Cert.DprojRefIdeal.nD Cert.DprojRefIdeal.τ).loc Cert.DprojRefIdeal.main_arg3)
      ∧ r.2.mem ((c.tc : Thread Cert.DprojRefIdeal.nD Cert.DprojRefIdeal.τ).loc Cert.DprojRefIdeal.main_arg4) = m ((c.tc : Thread Cert.DprojRefIdeal.nD Cert.DprojRefIdeal.τ).loc Cert.DprojRefIdeal.main_arg4)
      ∧ r.2.mem ((c.tc : Thread Cert.DprojRefIdeal.nD Cert.DprojRefIdeal.τ).loc Cert.DprojRefIdeal.main_arg5) = m ((c.tc : Thread Cert.DprojRefIdeal.nD Cert.DprojRefIdeal.τ).loc Cert.DprojRefIdeal.main_arg5)
      ∧ r.2.mem ((c.tc : Thread Cert.DprojRefIdeal.nD Cert.DprojRefIdeal.τ).loc Cert.DprojRefIdeal.main_arg6) = m ((c.tc : Thread Cert.DprojRefIdeal.nD Cert.DprojRefIdeal.τ).loc Cert.DprojRefIdeal.main_arg6)
      ∧ r.2.mem ((c.tc : Thread Cert.DprojRefIdeal.nD Cert.DprojRefIdeal.τ).loc Cert.DprojRefIdeal.main_arg7) = m ((c.tc : Thread Cert.DprojRefIdeal.nD Cert.DprojRefIdeal.τ).loc Cert.DprojRefIdeal.main_arg7)
      ∧ r.2.mem ((c.tc : Thread Cert.DprojRefIdeal.nD Cert.DprojRefIdeal.τ).loc Cert.DprojRefIdeal.main_arg8) = m ((c.tc : Thread Cert.DprojRefIdeal.nD Cert.DprojRefIdeal.τ).loc Cert.DprojRefIdeal.main_arg8))
      ∧ r.2.sem = fun _ => 0)

def preserves_Fwd_FwdIdeal : Prop :=
  True

def algebraic_FwdIdeal_FwdRefIdeal_on_causal [hFwdIdeal : Cert.FwdIdeal.Facts] [hFwdRefIdeal : Cert.FwdRefIdeal.Facts] [hOn_causal : Cert.On_causal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          (∀ i : (⟨2, ![8192, 1024]⟩ : Shape).Idx, (Cert.On_causal.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))).1 i = 1#1 → r.2.mem ((c.tc : Thread Cert.FwdIdeal.nD Cert.FwdIdeal.τ).loc Cert.FwdIdeal.main_v0_0) i = v0 c i)
          ∧ (∀ i : (⟨2, ![64, 1024]⟩ : Shape).Idx, (Cert.On_causal.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))).2.1 i = 1#1 → r.2.mem ((c.tc : Thread Cert.FwdIdeal.nD Cert.FwdIdeal.τ).loc Cert.FwdIdeal.main_v0_1) i = v1 c i)
          ∧ (∀ i : (⟨2, ![1024, 1024]⟩ : Shape).Idx, (Cert.On_causal.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))).2.2 i = 1#1 → r.2.mem ((c.tc : Thread Cert.FwdIdeal.nD Cert.FwdIdeal.τ).loc Cert.FwdIdeal.main_v0_2) i = v2 c i)
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          (∀ i : (⟨2, ![8192, 1024]⟩ : Shape).Idx, (Cert.On_causal.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))).1 i = 1#1 → r.2.mem ((c.tc : Thread Cert.FwdRefIdeal.nD Cert.FwdRefIdeal.τ).loc Cert.FwdRefIdeal.main_v0_0) i = v0 c i)
          ∧ (∀ i : (⟨2, ![64, 1024]⟩ : Shape).Idx, (Cert.On_causal.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))).2.1 i = 1#1 → r.2.mem ((c.tc : Thread Cert.FwdRefIdeal.nD Cert.FwdRefIdeal.τ).loc Cert.FwdRefIdeal.main_v0_1) i = v1 c i)
          ∧ (∀ i : (⟨2, ![1024, 1024]⟩ : Shape).Idx, (Cert.On_causal.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))).2.2 i = 1#1 → r.2.mem ((c.tc : Thread Cert.FwdRefIdeal.nD Cert.FwdRefIdeal.τ).loc Cert.FwdRefIdeal.main_v0_2) i = v2 c i)
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6))

def preserves_Bwd_BwdIdeal : Prop :=
  True

def algebraic_BwdIdeal_BwdRefIdeal_pre_masked_and_scaled [hBwdIdeal : Cert.BwdIdeal.Facts] [hBwdRefIdeal : Cert.BwdRefIdeal.Facts] [hPre_masked_and_scaled : Cert.Pre_masked_and_scaled.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal_masked_and_scaled m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)
      ∧ m' ((c.tc : Thread Cert.BwdRefIdeal.nD Cert.BwdRefIdeal.τ).loc Cert.BwdRefIdeal.main_arg7) = m ((c.tc : Thread Cert.BwdIdeal.nD Cert.BwdIdeal.τ).loc Cert.BwdIdeal.main_arg7)
      ∧ m' ((c.tc : Thread Cert.BwdRefIdeal.nD Cert.BwdRefIdeal.τ).loc Cert.BwdRefIdeal.main_arg8) = m ((c.tc : Thread Cert.BwdIdeal.nD Cert.BwdIdeal.τ).loc Cert.BwdIdeal.main_arg8)) →
    ∃ (v0 : (c : Dev Cert.BwdIdeal.nD) → Buf (Elt Ideal) ((c.tc : Thread Cert.BwdIdeal.nD Cert.BwdIdeal.τ).loc Cert.BwdIdeal.main_v0_0)) (v1 : (c : Dev Cert.BwdIdeal.nD) → Buf (Elt Ideal) ((c.tc : Thread Cert.BwdIdeal.nD Cert.BwdIdeal.τ).loc Cert.BwdIdeal.main_v0_1)) (v2 : (c : Dev Cert.BwdIdeal.nD) → Buf (Elt Ideal) ((c.tc : Thread Cert.BwdIdeal.nD Cert.BwdIdeal.τ).loc Cert.BwdIdeal.main_v0_2)) (v3 : (c : Dev Cert.BwdIdeal.nD) → Buf (Elt Ideal) ((c.tc : Thread Cert.BwdIdeal.nD Cert.BwdIdeal.τ).loc Cert.BwdIdeal.main_v0_3)) (v4 : (c : Dev Cert.BwdIdeal.nD) → Buf (Elt Ideal) ((c.tc : Thread Cert.BwdIdeal.nD Cert.BwdIdeal.τ).loc Cert.BwdIdeal.main_v0_4)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v0_0) = v0 c
          ∧ r.2.mem ((c.tc : Thread Cert.BwdIdeal.nD Cert.BwdIdeal.τ).loc Cert.BwdIdeal.main_v0_1) = v1 c
          ∧ r.2.mem ((c.tc : Thread Cert.BwdIdeal.nD Cert.BwdIdeal.τ).loc Cert.BwdIdeal.main_v0_2) = v2 c
          ∧ r.2.mem ((c.tc : Thread Cert.BwdIdeal.nD Cert.BwdIdeal.τ).loc Cert.BwdIdeal.main_v0_3) = v3 c
          ∧ r.2.mem ((c.tc : Thread Cert.BwdIdeal.nD Cert.BwdIdeal.τ).loc Cert.BwdIdeal.main_v0_4) = v4 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
          ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v0_0) = v0 c
          ∧ r.2.mem ((c.tc : Thread Cert.BwdRefIdeal.nD Cert.BwdRefIdeal.τ).loc Cert.BwdRefIdeal.main_v0_1) = v1 c
          ∧ r.2.mem ((c.tc : Thread Cert.BwdRefIdeal.nD Cert.BwdRefIdeal.τ).loc Cert.BwdRefIdeal.main_v0_2) = v2 c
          ∧ r.2.mem ((c.tc : Thread Cert.BwdRefIdeal.nD Cert.BwdRefIdeal.τ).loc Cert.BwdRefIdeal.main_v0_3) = v3 c
          ∧ r.2.mem ((c.tc : Thread Cert.BwdRefIdeal.nD Cert.BwdRefIdeal.τ).loc Cert.BwdRefIdeal.main_v0_4) = v4 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6)
          ∧ r.2.mem ((c.tc : Thread Cert.BwdRefIdeal.nD Cert.BwdRefIdeal.τ).loc Cert.BwdRefIdeal.main_arg7) = m' ((c.tc : Thread Cert.BwdRefIdeal.nD Cert.BwdRefIdeal.τ).loc Cert.BwdRefIdeal.main_arg7)
          ∧ r.2.mem ((c.tc : Thread Cert.BwdRefIdeal.nD Cert.BwdRefIdeal.τ).loc Cert.BwdRefIdeal.main_arg8) = m' ((c.tc : Thread Cert.BwdRefIdeal.nD Cert.BwdRefIdeal.τ).loc Cert.BwdRefIdeal.main_arg8))

def preserves_Dproj_DprojIdeal : Prop :=
  True

def algebraic_DprojIdeal_DprojRefIdeal [hDprojIdeal : Cert.DprojIdeal.Facts] [hDprojRefIdeal : Cert.DprojRefIdeal.Facts] : Prop :=
  ∀ (m : (ℓ : Loc Cert.DprojIdeal.nD Cert.DprojIdeal.τ Cert.DprojIdeal.sig) → Buf (Elt Ideal) ℓ) (g : Dev Cert.DprojIdeal.nD → PrngReg)
    (m' : (ℓ : Loc Cert.DprojRefIdeal.nD Cert.DprojRefIdeal.τ Cert.DprojRefIdeal.sig) → Buf (Elt Ideal) ℓ) (g' : Dev Cert.DprojRefIdeal.nD → PrngReg), Pre_DprojIdeal m →
    (∀ c : Dev Cert.DprojIdeal.nD,
      m' ((c.tc : Thread Cert.DprojRefIdeal.nD Cert.DprojRefIdeal.τ).loc Cert.DprojRefIdeal.main_arg0) = m ((c.tc : Thread Cert.DprojIdeal.nD Cert.DprojIdeal.τ).loc Cert.DprojIdeal.main_arg0)
      ∧ m' ((c.tc : Thread Cert.DprojRefIdeal.nD Cert.DprojRefIdeal.τ).loc Cert.DprojRefIdeal.main_arg1) = m ((c.tc : Thread Cert.DprojIdeal.nD Cert.DprojIdeal.τ).loc Cert.DprojIdeal.main_arg1)
      ∧ m' ((c.tc : Thread Cert.DprojRefIdeal.nD Cert.DprojRefIdeal.τ).loc Cert.DprojRefIdeal.main_arg2) = m ((c.tc : Thread Cert.DprojIdeal.nD Cert.DprojIdeal.τ).loc Cert.DprojIdeal.main_arg2)
      ∧ m' ((c.tc : Thread Cert.DprojRefIdeal.nD Cert.DprojRefIdeal.τ).loc Cert.DprojRefIdeal.main_arg3) = m ((c.tc : Thread Cert.DprojIdeal.nD Cert.DprojIdeal.τ).loc Cert.DprojIdeal.main_arg3)
      ∧ m' ((c.tc : Thread Cert.DprojRefIdeal.nD Cert.DprojRefIdeal.τ).loc Cert.DprojRefIdeal.main_arg4) = m ((c.tc : Thread Cert.DprojIdeal.nD Cert.DprojIdeal.τ).loc Cert.DprojIdeal.main_arg4)
      ∧ m' ((c.tc : Thread Cert.DprojRefIdeal.nD Cert.DprojRefIdeal.τ).loc Cert.DprojRefIdeal.main_arg5) = m ((c.tc : Thread Cert.DprojIdeal.nD Cert.DprojIdeal.τ).loc Cert.DprojIdeal.main_arg5)
      ∧ m' ((c.tc : Thread Cert.DprojRefIdeal.nD Cert.DprojRefIdeal.τ).loc Cert.DprojRefIdeal.main_arg6) = m ((c.tc : Thread Cert.DprojIdeal.nD Cert.DprojIdeal.τ).loc Cert.DprojIdeal.main_arg6)
      ∧ m' ((c.tc : Thread Cert.DprojRefIdeal.nD Cert.DprojRefIdeal.τ).loc Cert.DprojRefIdeal.main_arg7) = m ((c.tc : Thread Cert.DprojIdeal.nD Cert.DprojIdeal.τ).loc Cert.DprojIdeal.main_arg7)
      ∧ m' ((c.tc : Thread Cert.DprojRefIdeal.nD Cert.DprojRefIdeal.τ).loc Cert.DprojRefIdeal.main_arg8) = m ((c.tc : Thread Cert.DprojIdeal.nD Cert.DprojIdeal.τ).loc Cert.DprojIdeal.main_arg8)) →
    ∃ (v0 : (c : Dev Cert.DprojIdeal.nD) → Buf (Elt Ideal) ((c.tc : Thread Cert.DprojIdeal.nD Cert.DprojIdeal.τ).loc Cert.DprojIdeal.main_v0_0)) (v1 : (c : Dev Cert.DprojIdeal.nD) → Buf (Elt Ideal) ((c.tc : Thread Cert.DprojIdeal.nD Cert.DprojIdeal.τ).loc Cert.DprojIdeal.main_v0_1)) (v2 : (c : Dev Cert.DprojIdeal.nD) → Buf (Elt Ideal) ((c.tc : Thread Cert.DprojIdeal.nD Cert.DprojIdeal.τ).loc Cert.DprojIdeal.main_v0_2)) (v3 : (c : Dev Cert.DprojIdeal.nD) → Buf (Elt Ideal) ((c.tc : Thread Cert.DprojIdeal.nD Cert.DprojIdeal.τ).loc Cert.DprojIdeal.main_v0_3)) (v4 : (c : Dev Cert.DprojIdeal.nD) → Buf (Elt Ideal) ((c.tc : Thread Cert.DprojIdeal.nD Cert.DprojIdeal.τ).loc Cert.DprojIdeal.main_v0_4)),
      θ_run (Cert.DprojIdeal.defs (F := Ideal)) (onTc (τ := Cert.DprojIdeal.τ) (Cert.DprojIdeal.main (F := Ideal))) ⟨m, fun _ => 0, g⟩ (fun r => ∀ c : Dev Cert.DprojIdeal.nD,
          r.2.mem ((c.tc : Thread Cert.DprojIdeal.nD Cert.DprojIdeal.τ).loc Cert.DprojIdeal.main_v0_0) = v0 c
          ∧ r.2.mem ((c.tc : Thread Cert.DprojIdeal.nD Cert.DprojIdeal.τ).loc Cert.DprojIdeal.main_v0_1) = v1 c
          ∧ r.2.mem ((c.tc : Thread Cert.DprojIdeal.nD Cert.DprojIdeal.τ).loc Cert.DprojIdeal.main_v0_2) = v2 c
          ∧ r.2.mem ((c.tc : Thread Cert.DprojIdeal.nD Cert.DprojIdeal.τ).loc Cert.DprojIdeal.main_v0_3) = v3 c
          ∧ r.2.mem ((c.tc : Thread Cert.DprojIdeal.nD Cert.DprojIdeal.τ).loc Cert.DprojIdeal.main_v0_4) = v4 c
          ∧ r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
          ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
          ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2)
          ∧ r.2.mem ((c.tc : Thread Cert.DprojIdeal.nD Cert.DprojIdeal.τ).loc Cert.DprojIdeal.main_arg3) = m ((c.tc : Thread Cert.DprojIdeal.nD Cert.DprojIdeal.τ).loc Cert.DprojIdeal.main_arg3)
          ∧ r.2.mem ((c.tc : Thread Cert.DprojIdeal.nD Cert.DprojIdeal.τ).loc Cert.DprojIdeal.main_arg4) = m ((c.tc : Thread Cert.DprojIdeal.nD Cert.DprojIdeal.τ).loc Cert.DprojIdeal.main_arg4)
          ∧ r.2.mem ((c.tc : Thread Cert.DprojIdeal.nD Cert.DprojIdeal.τ).loc Cert.DprojIdeal.main_arg5) = m ((c.tc : Thread Cert.DprojIdeal.nD Cert.DprojIdeal.τ).loc Cert.DprojIdeal.main_arg5)
          ∧ r.2.mem ((c.tc : Thread Cert.DprojIdeal.nD Cert.DprojIdeal.τ).loc Cert.DprojIdeal.main_arg6) = m ((c.tc : Thread Cert.DprojIdeal.nD Cert.DprojIdeal.τ).loc Cert.DprojIdeal.main_arg6)
          ∧ r.2.mem ((c.tc : Thread Cert.DprojIdeal.nD Cert.DprojIdeal.τ).loc Cert.DprojIdeal.main_arg7) = m ((c.tc : Thread Cert.DprojIdeal.nD Cert.DprojIdeal.τ).loc Cert.DprojIdeal.main_arg7)
          ∧ r.2.mem ((c.tc : Thread Cert.DprojIdeal.nD Cert.DprojIdeal.τ).loc Cert.DprojIdeal.main_arg8) = m ((c.tc : Thread Cert.DprojIdeal.nD Cert.DprojIdeal.τ).loc Cert.DprojIdeal.main_arg8))
      ∧ θ_run (Cert.DprojRefIdeal.defs (F := Ideal)) (onTc (τ := Cert.DprojRefIdeal.τ) (Cert.DprojRefIdeal.main (F := Ideal))) ⟨m', fun _ => 0, g'⟩ (fun r => ∀ c : Dev Cert.DprojRefIdeal.nD,
          r.2.mem ((c.tc : Thread Cert.DprojRefIdeal.nD Cert.DprojRefIdeal.τ).loc Cert.DprojRefIdeal.main_v0_0) = v0 c
          ∧ r.2.mem ((c.tc : Thread Cert.DprojRefIdeal.nD Cert.DprojRefIdeal.τ).loc Cert.DprojRefIdeal.main_v0_1) = v1 c
          ∧ r.2.mem ((c.tc : Thread Cert.DprojRefIdeal.nD Cert.DprojRefIdeal.τ).loc Cert.DprojRefIdeal.main_v0_2) = v2 c
          ∧ r.2.mem ((c.tc : Thread Cert.DprojRefIdeal.nD Cert.DprojRefIdeal.τ).loc Cert.DprojRefIdeal.main_v0_3) = v3 c
          ∧ r.2.mem ((c.tc : Thread Cert.DprojRefIdeal.nD Cert.DprojRefIdeal.τ).loc Cert.DprojRefIdeal.main_v0_4) = v4 c
          ∧ r.2.mem ((c.tc : Thread Cert.DprojRefIdeal.nD Cert.DprojRefIdeal.τ).loc Cert.DprojRefIdeal.main_arg0) = m' ((c.tc : Thread Cert.DprojRefIdeal.nD Cert.DprojRefIdeal.τ).loc Cert.DprojRefIdeal.main_arg0)
          ∧ r.2.mem ((c.tc : Thread Cert.DprojRefIdeal.nD Cert.DprojRefIdeal.τ).loc Cert.DprojRefIdeal.main_arg1) = m' ((c.tc : Thread Cert.DprojRefIdeal.nD Cert.DprojRefIdeal.τ).loc Cert.DprojRefIdeal.main_arg1)
          ∧ r.2.mem ((c.tc : Thread Cert.DprojRefIdeal.nD Cert.DprojRefIdeal.τ).loc Cert.DprojRefIdeal.main_arg2) = m' ((c.tc : Thread Cert.DprojRefIdeal.nD Cert.DprojRefIdeal.τ).loc Cert.DprojRefIdeal.main_arg2)
          ∧ r.2.mem ((c.tc : Thread Cert.DprojRefIdeal.nD Cert.DprojRefIdeal.τ).loc Cert.DprojRefIdeal.main_arg3) = m' ((c.tc : Thread Cert.DprojRefIdeal.nD Cert.DprojRefIdeal.τ).loc Cert.DprojRefIdeal.main_arg3)
          ∧ r.2.mem ((c.tc : Thread Cert.DprojRefIdeal.nD Cert.DprojRefIdeal.τ).loc Cert.DprojRefIdeal.main_arg4) = m' ((c.tc : Thread Cert.DprojRefIdeal.nD Cert.DprojRefIdeal.τ).loc Cert.DprojRefIdeal.main_arg4)
          ∧ r.2.mem ((c.tc : Thread Cert.DprojRefIdeal.nD Cert.DprojRefIdeal.τ).loc Cert.DprojRefIdeal.main_arg5) = m' ((c.tc : Thread Cert.DprojRefIdeal.nD Cert.DprojRefIdeal.τ).loc Cert.DprojRefIdeal.main_arg5)
          ∧ r.2.mem ((c.tc : Thread Cert.DprojRefIdeal.nD Cert.DprojRefIdeal.τ).loc Cert.DprojRefIdeal.main_arg6) = m' ((c.tc : Thread Cert.DprojRefIdeal.nD Cert.DprojRefIdeal.τ).loc Cert.DprojRefIdeal.main_arg6)
          ∧ r.2.mem ((c.tc : Thread Cert.DprojRefIdeal.nD Cert.DprojRefIdeal.τ).loc Cert.DprojRefIdeal.main_arg7) = m' ((c.tc : Thread Cert.DprojRefIdeal.nD Cert.DprojRefIdeal.τ).loc Cert.DprojRefIdeal.main_arg7)
          ∧ r.2.mem ((c.tc : Thread Cert.DprojRefIdeal.nD Cert.DprojRefIdeal.τ).loc Cert.DprojRefIdeal.main_arg8) = m' ((c.tc : Thread Cert.DprojRefIdeal.nD Cert.DprojRefIdeal.τ).loc Cert.DprojRefIdeal.main_arg8))

def Claim : Prop :=
  ∃ (hFwd : Cert.Fwd.Facts) (hFwdIdeal : Cert.FwdIdeal.Facts) (hFwdRefIdeal : Cert.FwdRefIdeal.Facts) (hBwd : Cert.Bwd.Facts) (hBwdIdeal : Cert.BwdIdeal.Facts) (hBwdRefIdeal : Cert.BwdRefIdeal.Facts) (hDproj : Cert.Dproj.Facts) (hDprojIdeal : Cert.DprojIdeal.Facts) (hDprojRefIdeal : Cert.DprojRefIdeal.Facts) (hPre_masked_and_scaled : Cert.Pre_masked_and_scaled.Facts) (hOn_causal : Cert.On_causal.Facts),
    quiescent_Fwd (hFwd := hFwd)
    ∧ quiescent_FwdIdeal (hFwdIdeal := hFwdIdeal)
    ∧ quiescent_FwdRefIdeal (hFwdRefIdeal := hFwdRefIdeal)
    ∧ quiescent_Bwd (hBwd := hBwd)
    ∧ quiescent_BwdIdeal (hBwdIdeal := hBwdIdeal)
    ∧ quiescent_BwdIdeal_pre_masked_and_scaled (hBwdIdeal := hBwdIdeal) (hPre_masked_and_scaled := hPre_masked_and_scaled)
    ∧ quiescent_BwdRefIdeal (hBwdRefIdeal := hBwdRefIdeal)
    ∧ quiescent_BwdRefIdeal_pre_masked_and_scaled (hBwdRefIdeal := hBwdRefIdeal) (hPre_masked_and_scaled := hPre_masked_and_scaled)
    ∧ quiescent_Dproj (hDproj := hDproj)
    ∧ quiescent_DprojIdeal (hDprojIdeal := hDprojIdeal)
    ∧ quiescent_DprojRefIdeal (hDprojRefIdeal := hDprojRefIdeal)
    ∧ preserves_Fwd_FwdIdeal
    ∧ algebraic_FwdIdeal_FwdRefIdeal_on_causal (hFwdIdeal := hFwdIdeal) (hFwdRefIdeal := hFwdRefIdeal) (hOn_causal := hOn_causal)
    ∧ preserves_Bwd_BwdIdeal
    ∧ algebraic_BwdIdeal_BwdRefIdeal_pre_masked_and_scaled (hBwdIdeal := hBwdIdeal) (hBwdRefIdeal := hBwdRefIdeal) (hPre_masked_and_scaled := hPre_masked_and_scaled)
    ∧ preserves_Dproj_DprojIdeal
    ∧ algebraic_DprojIdeal_DprojRefIdeal (hDprojIdeal := hDprojIdeal) (hDprojRefIdeal := hDprojRefIdeal)
-- ==== On_causal.lean ====
abbrev S12x64 : Shape := ⟨2, ![12, 64]⟩
abbrev S1536x8192 : Shape := ⟨2, ![1536, 8192]⟩
abbrev S1536x1024 : Shape := ⟨2, ![1536, 1024]⟩
abbrev S32x1024 : Shape := ⟨2, ![32, 1024]⟩
abbrev S1024x128 : Shape := ⟨2, ![1024, 128]⟩
abbrev S64x1024 : Shape := ⟨2, ![64, 1024]⟩
abbrev S1024x1024 : Shape := ⟨2, ![1024, 1024]⟩
abbrev S_ : Shape := ⟨0, ![]⟩
abbrev S8192x1024 : Shape := ⟨2, ![8192, 1024]⟩

class Facts : Prop where
  bcast_S_S8192x1024 : S_.BroadcastsInDim S8192x1024 (![] : Fin 0 → Fin S8192x1024.rank)
  bcast_S_S64x1024 : S_.BroadcastsInDim S64x1024 (![] : Fin 0 → Fin S64x1024.rank)

variable [Facts]

def fn {F : FTy → Type} [FloatOps F] (main_arg0 : FVec F S12x64 .f32) (main_arg1 : FVec F S1536x8192 .fp8e4m3) (main_arg2 : FVec F S1536x1024 .bf16) (main_arg3 : FVec F S32x1024 .f32) (main_arg4 : FVec F S32x1024 .f32) (main_arg5 : FVec F S1024x128 .fp8e4m3) (main_arg6 : FVec F S64x1024 .f32) : IVec S8192x1024 1 × IVec S64x1024 1 × IVec S1024x1024 1 :=
  let main_v0 : IVec S1024x1024 32 := iotaInDim S1024x1024 32 0
  let main_v1 : IVec S1024x1024 32 := iotaInDim S1024x1024 32 1
  let main_c : IVec S_ 1 := constantI S_ 1 1#1
  let main_v2 : IVec S8192x1024 1 := broadcastInDim S8192x1024 ![] bcast_S_S8192x1024 main_c
  let main_c_0 : IVec S_ 1 := constantI S_ 1 1#1
  let main_v3 : IVec S64x1024 1 := broadcastInDim S64x1024 ![] bcast_S_S64x1024 main_c_0
  let main_v4 : IVec S1024x1024 1 := cmpi .sle main_v0 main_v1
  (main_v2, main_v3, main_v4)
-- ==== Pre_masked_and_scaled.lean ====
abbrev S8192x1024 : Shape := ⟨2, ![8192, 1024]⟩
abbrev S64x1024 : Shape := ⟨2, ![64, 1024]⟩
abbrev S1024x128 : Shape := ⟨2, ![1024, 128]⟩
abbrev S128x1024 : Shape := ⟨2, ![128, 1024]⟩
abbrev S1024x1024 : Shape := ⟨2, ![1024, 1024]⟩
abbrev S1536x1024 : Shape := ⟨2, ![1536, 1024]⟩
abbrev S32x1024 : Shape := ⟨2, ![32, 1024]⟩
abbrev S_ : Shape := ⟨0, ![]⟩

class Facts : Prop where
  bcast_S_S1024x1024 : S_.BroadcastsInDim S1024x1024 (![] : Fin 0 → Fin S1024x1024.rank)
  bcast_S_S64x1024 : S_.BroadcastsInDim S64x1024 (![] : Fin 0 → Fin S64x1024.rank)

variable [Facts]

def fn {F : FTy → Type} [FloatOps F] (main_arg0 : FVec F S8192x1024 .fp8e4m3) (main_arg1 : FVec F S64x1024 .f32) (main_arg2 : FVec F S64x1024 .f32) (main_arg3 : FVec F S1024x128 .fp8e4m3) (main_arg4 : FVec F S128x1024 .bf16) (main_arg5 : FVec F S1024x1024 .f32) (main_arg6 : FVec F S1536x1024 .bf16) (main_arg7 : FVec F S32x1024 .f32) (main_arg8 : FVec F S32x1024 .f32) : IVec S1024x1024 1 × IVec S64x1024 1 :=
  let main_v0 : IVec S1024x1024 32 := iotaInDim S1024x1024 32 0
  let main_v1 : IVec S1024x1024 32 := iotaInDim S1024x1024 32 1
  let main_v2 : IVec S1024x1024 1 := cmpi .sle main_v0 main_v1
  let main_cst : FVec F S_ .f32 := constant S_ .f32 0x00000000#32
  let main_v3 : FVec F S1024x1024 .f32 := broadcastInDim S1024x1024 ![] bcast_S_S1024x1024 main_cst
  let main_v4 : IVec S1024x1024 1 := cmpf .oeq main_arg5 main_v3
  let main_v5 : IVec S1024x1024 1 := ori main_v2 main_v4
  let main_cst_0 : FVec F S_ .f32 := constant S_ .f32 0x00000000#32
  let main_v6 : FVec F S64x1024 .f32 := broadcastInDim S64x1024 ![] bcast_S_S64x1024 main_cst_0
  let main_v7 : IVec S64x1024 1 := cmpf .ogt main_arg1 main_v6
  let main_cst_1 : FVec F S_ .f32 := constant S_ .f32 0x7F800000#32
  let main_v8 : FVec F S64x1024 .f32 := broadcastInDim S64x1024 ![] bcast_S_S64x1024 main_cst_1
  let main_v9 : IVec S64x1024 1 := cmpf .olt main_arg1 main_v8
  let main_v10 : IVec S64x1024 1 := andi main_v7 main_v9
  (main_v5, main_v10)
-- ==== Fwd.lean ====
abbrev S12x64 : Shape := ⟨2, ![12, 64]⟩
abbrev S1536x8192 : Shape := ⟨2, ![1536, 8192]⟩
abbrev S1536x1024 : Shape := ⟨2, ![1536, 1024]⟩
abbrev S32x1024 : Shape := ⟨2, ![32, 1024]⟩
abbrev S1024x128 : Shape := ⟨2, ![1024, 128]⟩
abbrev S64x1024 : Shape := ⟨2, ![64, 1024]⟩
abbrev S8192x1024 : Shape := ⟨2, ![8192, 1024]⟩
abbrev S1024x1024 : Shape := ⟨2, ![1024, 1024]⟩
abbrev S1536x512 : Shape := ⟨2, ![1536, 512]⟩
abbrev S512x1024 : Shape := ⟨2, ![512, 1024]⟩
abbrev S1x1 : Shape := ⟨2, ![1, 1]⟩
abbrev S128x128 : Shape := ⟨2, ![128, 128]⟩
abbrev S128x1024 : Shape := ⟨2, ![128, 1024]⟩
abbrev S1024 : Shape := ⟨1, ![1024]⟩
abbrev S1x1024 : Shape := ⟨2, ![1, 1024]⟩
abbrev S256x256 : Shape := ⟨2, ![256, 256]⟩
abbrev S256x128 : Shape := ⟨2, ![256, 128]⟩
abbrev S128x256 : Shape := ⟨2, ![128, 256]⟩
abbrev S1x256 : Shape := ⟨2, ![1, 256]⟩
abbrev S512x256 : Shape := ⟨2, ![512, 256]⟩
abbrev S512x128 : Shape := ⟨2, ![512, 128]⟩
abbrev S768x256 : Shape := ⟨2, ![768, 256]⟩
abbrev S768x128 : Shape := ⟨2, ![768, 128]⟩
abbrev S1024x256 : Shape := ⟨2, ![1024, 256]⟩

abbrev nBuf : Space → Nat
  | .hbm => 10
  | .vmem => 13
  | .smem => 1
  | _ => 0

abbrev bufTy : (tb : Table) → Fin (tcTables nBuf tb) → BufTy
  | .hbm, ⟨0, _⟩ => ⟨S12x64, .f32⟩
  | .hbm, ⟨1, _⟩ => ⟨S1536x8192, .fp8e4m3⟩
  | .hbm, ⟨2, _⟩ => ⟨S1536x1024, .bf16⟩
  | .hbm, ⟨3, _⟩ => ⟨S32x1024, .f32⟩
  | .hbm, ⟨4, _⟩ => ⟨S32x1024, .f32⟩
  | .hbm, ⟨5, _⟩ => ⟨S1024x128, .fp8e4m3⟩
  | .hbm, ⟨6, _⟩ => ⟨S64x1024, .f32⟩
  | .hbm, ⟨7, _⟩ => ⟨S8192x1024, .fp8e4m3⟩
  | .hbm, ⟨8, _⟩ => ⟨S64x1024, .f32⟩
  | .hbm, ⟨9, _⟩ => ⟨S1024x1024, .f32⟩
  | .local _ .vmem, ⟨0, _⟩ => ⟨S1536x512, .fp8e4m3⟩
  | .local _ .vmem, ⟨1, _⟩ => ⟨S1536x512, .fp8e4m3⟩
  | .local _ .vmem, ⟨2, _⟩ => ⟨S1536x1024, .bf16⟩
  | .local _ .vmem, ⟨3, _⟩ => ⟨S32x1024, .f32⟩
  | .local _ .vmem, ⟨4, _⟩ => ⟨S32x1024, .f32⟩
  | .local _ .vmem, ⟨5, _⟩ => ⟨S1024x128, .fp8e4m3⟩
  | .local _ .vmem, ⟨6, _⟩ => ⟨S64x1024, .f32⟩
  | .local _ .vmem, ⟨7, _⟩ => ⟨S512x1024, .fp8e4m3⟩
  | .local _ .vmem, ⟨8, _⟩ => ⟨S512x1024, .fp8e4m3⟩
  | .local _ .vmem, ⟨9, _⟩ => ⟨S64x1024, .f32⟩
  | .local _ .vmem, ⟨10, _⟩ => ⟨S1024x1024, .f32⟩
  | .local _ .vmem, ⟨11, _⟩ => ⟨S1536x512, .bf16⟩
  | .local _ .vmem, ⟨12, _⟩ => ⟨S512x1024, .f32⟩
  | .local _ .smem, ⟨0, _⟩ => ⟨S12x64, .f32⟩
  | _, _ => ⟨S12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 2 → Nat :=
  let c0 : Index := 0#32
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![0, v2.toNat]
def k0_off2 (i : grid0.Coords) (c0_i32_5 : BitVec 32) : Fin 2 → Nat :=
  let c1 : Index := 1#32
  let arg0 : BitVec 32 := BitVec.ofNat 32 (i 0).val
  let c4_i32_4 : BitVec 32 := 4#32
  let v12 : BitVec 32 := Scalar.muli arg0 c4_i32_4
  let v13 : BitVec 32 := Scalar.addi v12 c0_i32_5
  let v14 : Index := Scalar.indexCast v13
  ![1, v14.toNat]
def k0_off3 (i : grid0.Coords) (c0_i32_10 : BitVec 32) : Fin 2 → Nat :=
  let c2 : Index := 2#32
  let arg0 : BitVec 32 := BitVec.ofNat 32 (i 0).val
  let c4_i32_9 : BitVec 32 := 4#32
  let v24 : BitVec 32 := Scalar.muli arg0 c4_i32_9
  let v25 : BitVec 32 := Scalar.addi v24 c0_i32_10
  let v26 : Index := Scalar.indexCast v25
  ![2, v26.toNat]
def k0_off4 (i : grid0.Coords) (c0_i32_15 : BitVec 32) : Fin 2 → Nat :=
  let c3 : Index := 3#32
  let arg0 : BitVec 32 := BitVec.ofNat 32 (i 0).val
  let c4_i32_14 : BitVec 32 := 4#32
  let v36 : BitVec 32 := Scalar.muli arg0 c4_i32_14
  let v37 : BitVec 32 := Scalar.addi v36 c0_i32_15
  let v38 : Index := Scalar.indexCast v37
  ![3, v38.toNat]
def k0_off5 (i : grid0.Coords) (c0_i32_20 : BitVec 32) : Fin 2 → Nat :=
  let c4 : Index := 4#32
  let arg0 : BitVec 32 := BitVec.ofNat 32 (i 0).val
  let c4_i32_19 : BitVec 32 := 4#32
  let v48 : BitVec 32 := Scalar.muli arg0 c4_i32_19
  let v49 : BitVec 32 := Scalar.addi v48 c0_i32_20
  let v50 : Index := Scalar.indexCast v49
  ![4, v50.toNat]
def k0_off6 (i : grid0.Coords) (c0_i32_25 : BitVec 32) : Fin 2 → Nat :=
  let c5 : Index := 5#32
  let arg0 : BitVec 32 := BitVec.ofNat 32 (i 0).val
  let c4_i32_24 : BitVec 32 := 4#32
  let v60 : BitVec 32 := Scalar.muli arg0 c4_i32_24
  let v61 : BitVec 32 := Scalar.addi v60 c0_i32_25
  let v62 : Index := Scalar.indexCast v61
  ![5, v62.toNat]
def k0_off7 (i : grid0.Coords) (c0_i32_30 : BitVec 32) : Fin 2 → Nat :=
  let c6 : Index := 6#32
  let arg0 : BitVec 32 := BitVec.ofNat 32 (i 0).val
  let c4_i32_29 : BitVec 32 := 4#32
  let v72 : BitVec 32 := Scalar.muli arg0 c4_i32_29
  let v73 : BitVec 32 := Scalar.addi v72 c0_i32_30
  let v74 : Index := Scalar.indexCast v73
  ![6, v74.toNat]
def k0_off8 (i : grid0.Coords) (c0_i32_35 : BitVec 32) : Fin 2 → Nat :=
  let c7 : Index := 7#32
  let arg0 : BitVec 32 := BitVec.ofNat 32 (i 0).val
  let c4_i32_34 : BitVec 32 := 4#32
  let v84 : BitVec 32 := Scalar.muli arg0 c4_i32_34
  let v85 : BitVec 32 := Scalar.addi v84 c0_i32_35
  let v86 : Index := Scalar.indexCast v85
  ![7, v86.toNat]
def k0_off9 (i : grid0.Coords) (c0_i32_40 : BitVec 32) : Fin 2 → Nat :=
  let c8 : Index := 8#32
  let arg0 : BitVec 32 := BitVec.ofNat 32 (i 0).val
  let c4_i32_39 : BitVec 32 := 4#32
  let v96 : BitVec 32 := Scalar.muli arg0 c4_i32_39
  let v97 : BitVec 32 := Scalar.addi v96 c0_i32_40
  let v98 : Index := Scalar.indexCast v97
  ![8, v98.toNat]
def k0_off10 (i : grid0.Coords) (c0_i32_45 : BitVec 32) : Fin 2 → Nat :=
  let c9 : Index := 9#32
  let arg0 : BitVec 32 := BitVec.ofNat 32 (i 0).val
  let c4_i32_44 : BitVec 32 := 4#32
  let v108 : BitVec 32 := Scalar.muli arg0 c4_i32_44
  let v109 : BitVec 32 := Scalar.addi v108 c0_i32_45
  let v110 : Index := Scalar.indexCast v109
  ![9, v110.toNat]
def k0_off11 (i : grid0.Coords) (c0_i32_50 : BitVec 32) : Fin 2 → Nat :=
  let c10 : Index := 10#32
  let arg0 : BitVec 32 := BitVec.ofNat 32 (i 0).val
  let c4_i32_49 : BitVec 32 := 4#32
  let v120 : BitVec 32 := Scalar.muli arg0 c4_i32_49
  let v121 : BitVec 32 := Scalar.addi v120 c0_i32_50
  let v122 : Index := Scalar.indexCast v121
  ![10, v122.toNat]
def k0_off12 (i : grid0.Coords) (c0_i32_55 : BitVec 32) : Fin 2 → Nat :=
  let c11 : Index := 11#32
  let arg0 : BitVec 32 := BitVec.ofNat 32 (i 0).val
  let c4_i32_54 : BitVec 32 := 4#32
  let v132 : BitVec 32 := Scalar.muli arg0 c4_i32_54
  let v133 : BitVec 32 := Scalar.addi v132 c0_i32_55
  let v134 : Index := Scalar.indexCast v133
  ![11, v134.toNat]
def k0_off13 (i : grid0.Coords) (c0_i32_329 : BitVec 32) : Fin 2 → Nat :=
  let arg0 : BitVec 32 := BitVec.ofNat 32 (i 0).val
  let c4_i32_328 : BitVec 32 := 4#32
  let v612 : BitVec 32 := Scalar.muli arg0 c4_i32_328
  let v613 : BitVec 32 := Scalar.addi v612 c0_i32_329
  let v614 : Index := Scalar.indexCast v613
  let c0_330 : Index := 0#32
  ![v614.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FwdRefIdeal.lean ====
abbrev S12x64 : Shape := ⟨2, ![12, 64]⟩
abbrev S1536x8192 : Shape := ⟨2, ![1536, 8192]⟩
abbrev S1536x1024 : Shape := ⟨2, ![1536, 1024]⟩
abbrev S32x1024 : Shape := ⟨2, ![32, 1024]⟩
abbrev S1024x128 : Shape := ⟨2, ![1024, 128]⟩
abbrev S64x1024 : Shape := ⟨2, ![64, 1024]⟩
abbrev S8192x1024 : Shape := ⟨2, ![8192, 1024]⟩
abbrev S1024x1024 : Shape := ⟨2, ![1024, 1024]⟩
abbrev S12x128x64x128 : Shape := ⟨4, ![12, 128, 64, 128]⟩
abbrev S12x1x64x1 : Shape := ⟨4, ![12, 1, 64, 1]⟩
abbrev S64x128x1024 : Shape := ⟨3, ![64, 128, 1024]⟩
abbrev S1x32x1024 : Shape := ⟨3, ![1, 32, 1024]⟩
abbrev S64x32x1024 : Shape := ⟨3, ![64, 32, 1024]⟩
abbrev S64x64x1024 : Shape := ⟨3, ![64, 64, 1024]⟩
abbrev S64x1x1024 : Shape := ⟨3, ![64, 1, 1024]⟩
abbrev S1x1024x128 : Shape := ⟨3, ![1, 1024, 128]⟩
abbrev S64x1024x128 : Shape := ⟨3, ![64, 1024, 128]⟩
abbrev S64x1024x1024 : Shape := ⟨3, ![64, 1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S12x64, .f32⟩
  | .hbm, ⟨1, _⟩ => ⟨S1536x8192, .fp8e4m3⟩
  | .hbm, ⟨2, _⟩ => ⟨S1536x1024, .bf16⟩
  | .hbm, ⟨3, _⟩ => ⟨S32x1024, .f32⟩
  | .hbm, ⟨4, _⟩ => ⟨S32x1024, .f32⟩
  | .hbm, ⟨5, _⟩ => ⟨S1024x128, .fp8e4m3⟩
  | .hbm, ⟨6, _⟩ => ⟨S64x1024, .f32⟩
  | .hbm, ⟨7, _⟩ => ⟨S8192x1024, .fp8e4m3⟩
  | .hbm, ⟨8, _⟩ => ⟨S64x1024, .f32⟩
  | .hbm, ⟨9, _⟩ => ⟨S1024x1024, .f32⟩
  | .local _ .vmem, ⟨0, _⟩ => ⟨S12x64, .f32⟩
  | .local _ .vmem, ⟨1, _⟩ => ⟨S1536x8192, .fp8e4m3⟩
  | .local _ .vmem, ⟨2, _⟩ => ⟨S1536x1024, .bf16⟩
  | .local _ .vmem, ⟨3, _⟩ => ⟨S32x1024, .f32⟩
  | .local _ .vmem, ⟨4, _⟩ => ⟨S32x1024, .f32⟩
  | .local _ .vmem, ⟨5, _⟩ => ⟨S1024x128, .fp8e4m3⟩
  | .local _ .vmem, ⟨6, _⟩ => ⟨S64x1024, .f32⟩
  | .local _ .vmem, ⟨7, _⟩ => ⟨S8192x1024, .fp8e4m3⟩
  | .local _ .vmem, ⟨8, _⟩ => ⟨S64x1024, .f32⟩
  | .local _ .vmem, ⟨9, _⟩ => ⟨S1024x1024, .f32⟩
  | _, _ => ⟨S12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Bwd.lean ====
abbrev S8192x1024 : Shape := ⟨2, ![8192, 1024]⟩
abbrev S64x1024 : Shape := ⟨2, ![64, 1024]⟩
abbrev S1024x128 : Shape := ⟨2, ![1024, 128]⟩
abbrev S128x1024 : Shape := ⟨2, ![128, 1024]⟩
abbrev S1024x1024 : Shape := ⟨2, ![1024, 1024]⟩
abbrev S1536x1024 : Shape := ⟨2, ![1536, 1024]⟩
abbrev S32x1024 : Shape := ⟨2, ![32, 1024]⟩
abbrev S1024x8192 : Shape := ⟨2, ![1024, 8192]⟩
abbrev S8x8192 : Shape := ⟨2, ![8, 8192]⟩
abbrev S1536x8192 : Shape := ⟨2, ![1536, 8192]⟩
abbrev S256x1024 : Shape := ⟨2, ![256, 1024]⟩
abbrev S1024x256 : Shape := ⟨2, ![1024, 256]⟩
abbrev S8x256 : Shape := ⟨2, ![8, 256]⟩
abbrev S1536x256 : Shape := ⟨2, ![1536, 256]⟩
abbrev S1x1024 : Shape := ⟨2, ![1, 1024]⟩
abbrev S128x256 : Shape := ⟨2, ![128, 256]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S512x128 : Shape := ⟨2, ![512, 128]⟩
abbrev S512x256 : Shape := ⟨2, ![512, 256]⟩
abbrev S128x512 : Shape := ⟨2, ![128, 512]⟩
abbrev S768x128 : Shape := ⟨2, ![768, 128]⟩
abbrev S768x256 : Shape := ⟨2, ![768, 256]⟩
abbrev S128x768 : Shape := ⟨2, ![128, 768]⟩
abbrev S128x128 : Shape := ⟨2, ![128, 128]⟩
abbrev S128 : Shape := ⟨1, ![128]⟩
abbrev S1x128 : Shape := ⟨2, ![1, 128]⟩
abbrev S248x128 : Shape := ⟨2, ![248, 128]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .fp8e4m3⟩
  | .hbm, ⟨1, _⟩ => ⟨S64x1024, .f32⟩
  | .hbm, ⟨2, _⟩ => ⟨S64x1024, .f32⟩
  | .hbm, ⟨3, _⟩ => ⟨S1024x128, .fp8e4m3⟩
  | .hbm, ⟨4, _⟩ => ⟨S128x1024, .bf16⟩
  | .hbm, ⟨5, _⟩ => ⟨S1024x1024, .f32⟩
  | .hbm, ⟨6, _⟩ => ⟨S1536x1024, .bf16⟩
  | .hbm, ⟨7, _⟩ => ⟨S32x1024, .f32⟩
  | .hbm, ⟨8, _⟩ => ⟨S32x1024, .f32⟩
  | .hbm, ⟨9, _⟩ => ⟨S64x1024, .f32⟩
  | .hbm, ⟨10, _⟩ => ⟨S1024x128, .f32⟩
  | .hbm, ⟨11, _⟩ => ⟨S1024x8192, .fp8e4m3⟩
  | .hbm, ⟨12, _⟩ => ⟨S8x8192, .f32⟩
  | .hbm, ⟨13, _⟩ => ⟨S1536x8192, .f32⟩
  | .local _ .vmem, ⟨0, _⟩ => ⟨S256x1024, .fp8e4m3⟩
  | .local _ .vmem, ⟨1, _⟩ => ⟨S256x1024, .fp8e4m3⟩
  | .local _ .vmem, ⟨2, _⟩ => ⟨S64x1024, .f32⟩
  | .local _ .vmem, ⟨3, _⟩ => ⟨S64x1024, .f32⟩
  | .local _ .vmem, ⟨4, _⟩ => ⟨S1024x128, .fp8e4m3⟩
  | .local _ .vmem, ⟨5, _⟩ => ⟨S128x1024, .bf16⟩
  | .local _ .vmem, ⟨6, _⟩ => ⟨S1024x1024, .f32⟩
  | .local _ .vmem, ⟨7, _⟩ => ⟨S1536x1024, .bf16⟩
  | .local _ .vmem, ⟨8, _⟩ => ⟨S32x1024, .f32⟩
  | .local _ .vmem, ⟨9, _⟩ => ⟨S32x1024, .f32⟩
  | .local _ .vmem, ⟨10, _⟩ => ⟨S64x1024, .f32⟩
  | .local _ .vmem, ⟨11, _⟩ => ⟨S1024x128, .f32⟩
  | .local _ .vmem, ⟨12, _⟩ => ⟨S1024x256, .fp8e4m3⟩
  | .local _ .vmem, ⟨13, _⟩ => ⟨S1024x256, .fp8e4m3⟩
  | .local _ .vmem, ⟨14, _⟩ => ⟨S8x256, .f32⟩
  | .local _ .vmem, ⟨15, _⟩ => ⟨S8x256, .f32⟩
  | .local _ .vmem, ⟨16, _⟩ => ⟨S1536x256, .f32⟩
  | .local _ .vmem, ⟨17, _⟩ => ⟨S1536x256, .f32⟩
  | .local _ .vmem, ⟨18, _⟩ => ⟨S256x1024, .f32⟩
  | .local _ .vmem, ⟨19, _⟩ => ⟨S1024x256, .bf16⟩
  | _, _ => ⟨S8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def k0_off1 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v5 : Index := Scalar.indexCast v4
  let c0 : Index := 0#32
  ![v5.toNat, 0]
def k0_off2 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v23 : Index := Scalar.indexCast v4
  let c0_12 : Index := 0#32
  ![v23.toNat, 0]
def k0_off3 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v57 : Index := Scalar.indexCast v4
  let c256_32 : Index := 256#32
  ![v57.toNat, 256]
def k0_off4 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v91 : Index := Scalar.indexCast v4
  let c512_52 : Index := 512#32
  ![v91.toNat, 512]
def k0_off5 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v125 : Index := Scalar.indexCast v4
  let c768_72 : Index := 768#32
  ![v125.toNat, 768]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1536x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== BwdRefIdeal.lean ====
abbrev S8192x1024 : Shape := ⟨2, ![8192, 1024]⟩
abbrev S64x1024 : Shape := ⟨2, ![64, 1024]⟩
abbrev S1024x128 : Shape := ⟨2, ![1024, 128]⟩
abbrev S128x1024 : Shape := ⟨2, ![128, 1024]⟩
abbrev S1024x1024 : Shape := ⟨2, ![1024, 1024]⟩
abbrev S1536x1024 : Shape := ⟨2, ![1536, 1024]⟩
abbrev S32x1024 : Shape := ⟨2, ![32, 1024]⟩
abbrev S1024x8192 : Shape := ⟨2, ![1024, 8192]⟩
abbrev S8x8192 : Shape := ⟨2, ![8, 8192]⟩
abbrev S1536x8192 : Shape := ⟨2, ![1536, 8192]⟩
abbrev S64x128x1024 : Shape := ⟨3, ![64, 128, 1024]⟩
abbrev S1x1024x1024 : Shape := ⟨3, ![1, 1024, 1024]⟩
abbrev S64x1x1024 : Shape := ⟨3, ![64, 1, 1024]⟩
abbrev S1x1024x128 : Shape := ⟨3, ![1, 1024, 128]⟩
abbrev S64x1024x128 : Shape := ⟨3, ![64, 1024, 128]⟩
abbrev S64x1024x1024 : Shape := ⟨3, ![64, 1024, 1024]⟩
abbrev S1x128x1024 : Shape := ⟨3, ![1, 128, 1024]⟩
abbrev S1x32x1024 : Shape := ⟨3, ![1, 32, 1024]⟩
abbrev S64x32x1024 : Shape := ⟨3, ![64, 32, 1024]⟩
abbrev S64x64x1024 : Shape := ⟨3, ![64, 64, 1024]⟩
abbrev S8x128x8192 : Shape := ⟨3, ![8, 128, 8192]⟩
abbrev S8x1x8192 : Shape := ⟨3, ![8, 1, 8192]⟩
abbrev S8x248x8192 : Shape := ⟨3, ![8, 248, 8192]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .fp8e4m3⟩
  | .hbm, ⟨1, _⟩ => ⟨S64x1024, .f32⟩
  | .hbm, ⟨2, _⟩ => ⟨S64x1024, .f32⟩
  | .hbm, ⟨3, _⟩ => ⟨S1024x128, .fp8e4m3⟩
  | .hbm, ⟨4, _⟩ => ⟨S128x1024, .bf16⟩
  | .hbm, ⟨5, _⟩ => ⟨S1024x1024, .f32⟩
  | .hbm, ⟨6, _⟩ => ⟨S1536x1024, .bf16⟩
  | .hbm, ⟨7, _⟩ => ⟨S32x1024, .f32⟩
  | .hbm, ⟨8, _⟩ => ⟨S32x1024, .f32⟩
  | .hbm, ⟨9, _⟩ => ⟨S64x1024, .f32⟩
  | .hbm, ⟨10, _⟩ => ⟨S1024x128, .f32⟩
  | .hbm, ⟨11, _⟩ => ⟨S1024x8192, .fp8e4m3⟩
  | .hbm, ⟨12, _⟩ => ⟨S8x8192, .f32⟩
  | .hbm, ⟨13, _⟩ => ⟨S1536x8192, .f32⟩
  | .local _ .vmem, ⟨0, _⟩ => ⟨S8192x1024, .fp8e4m3⟩
  | .local _ .vmem, ⟨1, _⟩ => ⟨S64x1024, .f32⟩
  | .local _ .vmem, ⟨2, _⟩ => ⟨S64x1024, .f32⟩
  | .local _ .vmem, ⟨3, _⟩ => ⟨S1024x128, .fp8e4m3⟩
  | .local _ .vmem, ⟨4, _⟩ => ⟨S128x1024, .bf16⟩
  | .local _ .vmem, ⟨5, _⟩ => ⟨S1024x1024, .f32⟩
  | .local _ .vmem, ⟨6, _⟩ => ⟨S1536x1024, .bf16⟩
  | .local _ .vmem, ⟨7, _⟩ => ⟨S32x1024, .f32⟩
  | .local _ .vmem, ⟨8, _⟩ => ⟨S32x1024, .f32⟩
  | .local _ .vmem, ⟨9, _⟩ => ⟨S64x1024, .f32⟩
  | .local _ .vmem, ⟨10, _⟩ => ⟨S1024x128, .f32⟩
  | .local _ .vmem, ⟨11, _⟩ => ⟨S1024x8192, .fp8e4m3⟩
  | .local _ .vmem, ⟨12, _⟩ => ⟨S8x8192, .f32⟩
  | .local _ .vmem, ⟨13, _⟩ => ⟨S1536x8192, .f32⟩
  | _, _ => ⟨S8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S8192x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x8192 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x8192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Dproj.lean ====
abbrev S1024x7168 : Shape := ⟨2, ![1024, 7168]⟩
abbrev S1024x128 : Shape := ⟨2, ![1024, 128]⟩
abbrev S1x1024 : Shape := ⟨2, ![1, 1024]⟩
abbrev S64x1024 : Shape := ⟨2, ![64, 1024]⟩
abbrev S128x1024 : Shape := ⟨2, ![128, 1024]⟩
abbrev S32x1024 : Shape := ⟨2, ![32, 1024]⟩
abbrev S1x128 : Shape := ⟨2, ![1, 128]⟩
abbrev S7168x128 : Shape := ⟨2, ![7168, 128]⟩
abbrev S64x7168 : Shape := ⟨2, ![64, 7168]⟩
abbrev S1024x1024 : Shape := ⟨2, ![1024, 1024]⟩
abbrev S192x1024 : Shape := ⟨2, ![192, 1024]⟩
abbrev S128 : Shape := ⟨1, ![128]⟩
abbrev S128x128 : Shape := ⟨2, ![128, 128]⟩
abbrev S128x1 : Shape := ⟨2, ![128, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S1024x7168, .bf16⟩
  | .hbm, ⟨1, _⟩ => ⟨S1024x128, .f32⟩
  | .hbm, ⟨2, _⟩ => ⟨S1x1024, .f32⟩
  | .hbm, ⟨3, _⟩ => ⟨S64x1024, .f32⟩
  | .hbm, ⟨4, _⟩ => ⟨S128x1024, .f32⟩
  | .hbm, ⟨5, _⟩ => ⟨S1x1024, .f32⟩
  | .hbm, ⟨6, _⟩ => ⟨S32x1024, .f32⟩
  | .hbm, ⟨7, _⟩ => ⟨S32x1024, .f32⟩
  | .hbm, ⟨8, _⟩ => ⟨S1x128, .f32⟩
  | .hbm, ⟨9, _⟩ => ⟨S7168x128, .f32⟩
  | .hbm, ⟨10, _⟩ => ⟨S64x7168, .f32⟩
  | .hbm, ⟨11, _⟩ => ⟨S1x128, .f32⟩
  | .hbm, ⟨12, _⟩ => ⟨S1x128, .f32⟩
  | .hbm, ⟨13, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1x1024, .f32⟩
  | .local _ .vmem, ⟨4, _⟩ => ⟨S64x1024, .f32⟩
  | .local _ .vmem, ⟨5, _⟩ => ⟨S128x1024, .f32⟩
  | .local _ .vmem, ⟨6, _⟩ => ⟨S1x1024, .f32⟩
  | .local _ .vmem, ⟨7, _⟩ => ⟨S32x1024, .f32⟩
  | .local _ .vmem, ⟨8, _⟩ => ⟨S32x1024, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S64x1024, .f32⟩
  | .local _ .vmem, ⟨13, _⟩ => ⟨S64x1024, .f32⟩
  | .local _ .vmem, ⟨14, _⟩ => ⟨S1x128, .f32⟩
  | .local _ .vmem, ⟨15, _⟩ => ⟨S1x128, .f32⟩
  | .local _ .vmem, ⟨16, _⟩ => ⟨S1024x128, .f32⟩
  | .local _ .vmem, ⟨17, _⟩ => ⟨S192x1024, .bf16⟩
  | _, _ => ⟨S1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DprojRefIdeal.lean ====
abbrev S1024x7168 : Shape := ⟨2, ![1024, 7168]⟩
abbrev S1024x128 : Shape := ⟨2, ![1024, 128]⟩
abbrev S1x1024 : Shape := ⟨2, ![1, 1024]⟩
abbrev S64x1024 : Shape := ⟨2, ![64, 1024]⟩
abbrev S128x1024 : Shape := ⟨2, ![128, 1024]⟩
abbrev S32x1024 : Shape := ⟨2, ![32, 1024]⟩
abbrev S1x128 : Shape := ⟨2, ![1, 128]⟩
abbrev S7168x128 : Shape := ⟨2, ![7168, 128]⟩
abbrev S64x7168 : Shape := ⟨2, ![64, 7168]⟩
abbrev S1024x1 : Shape := ⟨2, ![1024, 1]⟩
abbrev S1024x32 : Shape := ⟨2, ![1024, 32]⟩
abbrev S1024x64 : Shape := ⟨2, ![1024, 64]⟩
abbrev S128 : Shape := ⟨1, ![128]⟩
abbrev S1024 : Shape := ⟨1, ![1024]⟩

abbrev nBuf : Space → Nat
  | .hbm => 14
  | .vmem => 14
  | .smem => 0
  | _ => 0

abbrev bufTy : (tb : Table) → Fin (tcTables nBuf tb) → BufTy
  | .hbm, ⟨0, _⟩ => ⟨S1024x7168, .bf16⟩
  | .hbm, ⟨1, _⟩ => ⟨S1024x128, .f32⟩
  | .hbm, ⟨2, _⟩ => ⟨S1x1024, .f32⟩
  | .hbm, ⟨3, _⟩ => ⟨S64x1024, .f32⟩
  | .hbm, ⟨4, _⟩ => ⟨S128x1024, .f32⟩
  | .hbm, ⟨5, _⟩ => ⟨S1x1024, .f32⟩
  | .hbm, ⟨6, _⟩ => ⟨S32x1024, .f32⟩
  | .hbm, ⟨7, _⟩ => ⟨S32x1024, .f32⟩
  | .hbm, ⟨8, _⟩ => ⟨S1x128, .f32⟩
  | .hbm, ⟨9, _⟩ => ⟨S7168x128, .f32⟩
  | .hbm, ⟨10, _⟩ => ⟨S64x7168, .f32⟩
  | .hbm, ⟨11, _⟩ => ⟨S1x128, .f32⟩
  | .hbm, ⟨12, _⟩ => ⟨S1x128, .f32⟩
  | .hbm, ⟨13, _⟩ => ⟨S1024x128, .f32⟩
  | .local _ .vmem, ⟨0, _⟩ => ⟨S1024x7168, .bf16⟩
  | .local _ .vmem, ⟨1, _⟩ => ⟨S1024x128, .f32⟩
  | .local _ .vmem, ⟨2, _⟩ => ⟨S1x1024, .f32⟩
  | .local _ .vmem, ⟨3, _⟩ => ⟨S64x1024, .f32⟩
  | .local _ .vmem, ⟨4, _⟩ => ⟨S128x1024, .f32⟩
  | .local _ .vmem, ⟨5, _⟩ => ⟨S1x1024, .f32⟩
  | .local _ .vmem, ⟨6, _⟩ => ⟨S32x1024, .f32⟩
  | .local _ .vmem, ⟨7, _⟩ => ⟨S32x1024, .f32⟩
  | .local _ .vmem, ⟨8, _⟩ => ⟨S1x128, .f32⟩
  | .local _ .vmem, ⟨9, _⟩ => ⟨S7168x128, .f32⟩
  | .local _ .vmem, ⟨10, _⟩ => ⟨S64x7168, .f32⟩
  | .local _ .vmem, ⟨11, _⟩ => ⟨S1x128, .f32⟩
  | .local _ .vmem, ⟨12, _⟩ => ⟨S1x128, .f32⟩
  | .local _ .vmem, ⟨13, _⟩ => ⟨S1024x128, .f32⟩
  | _, _ => ⟨S1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1024x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Fwd.Run.lean ====
module

public import proofs.«01_k».proof.Proof.Gen.FwdIdeal.Frame
public import proofs.«01_k».proof.Proof.Gen.FwdIdeal.Skeleton

@[expose] public section

-- membership in a rectangle of production extents (`View.cover_of_tiled`): the elaborator's structural look
-- recurses once per coordinate of the long axes
set_option maxRecDepth 16384

/-! One run of the forward kernel's body, with the stores it makes into its outputs. -/

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2152000 in
/-- What one grid point does: run on whole staging memrefs whose inputs hold `x0`, …, `x6`, the codes' block anything,
    the scales `x8` and the scores `x9`, the body leaves its inputs in place and its three outputs with the stores
    `L7`, `L8`, `L9` made into them in order, the last first. The lists are found by the execution. -/
noncomputable def kernelRun0 (c : Dev nD) (i : grid0.Coords) (arg1 : Memref sig .tc .smem S12x64 .f32) (harg1 : arg1.IsWhole) (arg2 : Memref sig .tc .vmem S1536x512 .fp8e4m3) (harg2 : arg2.IsWhole) (arg3 : Memref sig .tc .vmem S1536x1024 .bf16) (harg3 : arg3.IsWhole) (arg4 : Memref sig .tc .vmem S32x1024 .f32) (harg4 : arg4.IsWhole) (arg5 : Memref sig .tc .vmem S32x1024 .f32) (harg5 : arg5.IsWhole) (arg6 : Memref sig .tc .vmem S1024x128 .fp8e4m3) (harg6 : arg6.IsWhole) (arg7 : Memref sig .tc .vmem S64x1024 .f32) (harg7 : arg7.IsWhole) (arg8 : Memref sig .tc .vmem S512x1024 .fp8e4m3) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S1536x512 .bf16) (harg11 : arg11.IsWhole) (arg12 : Memref sig .tc .vmem S512x1024 .f32) (harg12 : arg12.IsWhole)
    (x0 : Vec F S12x64 .f32) (x1 : Vec F S1536x512 .fp8e4m3) (x2 : Vec F S1536x1024 .bf16) (x3 : Vec F S32x1024 .f32) (x4 : Vec F S32x1024 .f32) (x5 : Vec F S1024x128 .fp8e4m3) (x6 : Vec F S64x1024 .f32) (x8 : Vec F S64x1024 .f32) (x9 : Vec F S1024x1024 .f32) :
    Σ' (L7 : List (View.Piece (Elt F) S512x1024 .fp8e4m3)) (L8 : List (View.Piece (Elt F) S64x1024 .f32)),
      { L9 : List (View.Piece (Elt F) S1024x1024 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ owns (c : Thread nD τ) arg10 fullShare x9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, owns (c : Thread nD τ) arg8 fullShare (arg8.view.read (Elt F) (arg8.view.writes (Elt F) f L7))) ∗ owns (c : Thread nD τ) arg9 fullShare (arg9.view.read (Elt F) (arg9.view.writes (Elt F) (harg9.unread x8) L8)) ∗ owns (c : Thread nD τ) arg10 fullShare (arg10.view.read (Elt F) (arg10.view.writes (Elt F) (harg10.unread x9) L9)) ∗ (∃ d, owns (c : Thread nD τ) arg11 fullShare d) ∗ (∃ d, owns (c : Thread nD τ) arg12 fullShare d)) -∗ K ⟨⟩))
          ⊢ wp frame (wpE (defs₀ (F := F)) Variants.none c none) E (cc0_fwd i arg1 harg1 arg2 harg2 arg3 harg3 arg4 harg4 arg5 harg5 arg6 harg6 arg7 harg7 arg8 harg8 arg9 harg9 arg10 harg10 arg11 harg11 arg12 harg12) K } := by
    refine ⟨?_, ?_, ?_, fun E K => ?_⟩
    rotate_left 3
    simp only [cc0_fwd_eq_skeleton]; unfold cc0_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _; isplitr; swap; · iexact H8
      ipureintro; rfl
    isplitl [H9]
    · iexists _; isplitr; swap; · iexact H9
      ipureintro; rfl
    isplitl [HS0]
    · iexists _, _; isplitr; swap; · iexact HS0
      ipureintro; rfl
    iexists _, _; isplitr; swap; · iexact HS1
    ipureintro; rfl

end Cert.FwdIdeal.Gen

end
-- ==== Proof.Fwd.Math.lean ====
module

public import Idealize.ShloMosaic.Lib.Pointwise

@[expose] public section

/-! The mathematics of the forward pass over the extended reals, one token column at a time: the rotary embedding of a
head's query, the quantiser of a column, and the score of a key against a token. Kernel and reference are both read
down to these functions. -/

noncomputable section

namespace Cert.FwdMath

open Idealize.ShloMosaic

/-- The rotary embedding of one column of 128 features: the first 32 features and the next 32 are rotated as pairs by
    the column's cosines `c` and sines `s`, the last 64 pass through. -/
def rope (q : Fin 128 → EReal) (c s : Fin 32 → EReal) (d : Fin 128) : EReal :=
  if h : d.val < 32 then q d * c ⟨d.val, h⟩ - q ⟨32 + d.val, by omega⟩ * s ⟨d.val, h⟩
  else if h : d.val - 32 < 32 then
    q ⟨32 + (d.val - 32), by omega⟩ * c ⟨d.val - 32, h⟩ + q ⟨d.val - 32, by omega⟩ * s ⟨d.val - 32, h⟩
  else q ⟨64 + (d.val - 32 - 32), by omega⟩

/-- The largest magnitude of a column. -/
def amax (v : Fin 128 → EReal) : EReal :=
  Finset.fold max (Ideal.ofBits .f32 4286578688#32) (fun x => FloatOps.absf (F := Ideal) (φ := .f32) (v x)) Finset.univ

/-- The quantiser's scale of a column: its largest magnitude over 448, and 1 for a column of zeros. -/
def scl (v : Fin 128 → EReal) : EReal :=
  if amax v = 0 then 1 else Ideal.div (amax v) (Ideal.ofBits .f32 1138753536#32)

/-- The quantiser's code of an entry: the entry over the column's scale, clipped to [-448, 448]. -/
def code (v : Fin 128 → EReal) (d : Fin 128) : EReal :=
  min (Ideal.ofBits .f32 1138753536#32) (max (Ideal.ofBits .f32 3286237184#32) (Ideal.div (v d) (scl v)))

/-- One head's part of the score of a key `k` against a column `v` with head weight `w`, as the kernel multiplies it:
    the rectified product of the codes, times the column's scale and the weight. -/
def part (k v : Fin 128 → EReal) (w : EReal) : EReal :=
  max (∑ d, k d * code v d) 0 * (scl v * w)

end Cert.FwdMath

end
-- ==== Proof.Fwd.Pay.lean ====
module

public import proofs.«01_k».proof.Proof.Fwd.Math
public import proofs.«01_k».proof.Proof.Gen.FwdIdeal.Skeleton

@[expose] public section

set_option maxRecDepth 16384

/-! What the kernel body's stored and intermediate vectors hold at an index, over the extended reals, in terms of the
vectors they are computed from. -/

noncomputable section

namespace Cert.FwdIdeal.Gen

open Idealize.ShloMosaic Idealize.ShloMosaic.TcCoe
open Cert.FwdMath

/-- A column of a block of head rows. -/
abbrev colOf (q : Vec Ideal S128x1024 .f32) (t : Fin 1024) : Fin 128 → EReal := fun d => q (ix2 d t)
/-- A column of a table of 32 rows. -/
abbrev tabOf (c : Vec Ideal S32x1024 .f32) (t : Fin 1024) : Fin 32 → EReal := fun k => c (ix2 k t)

/-- A tile of the dequantised weight: the stored codes times the tile's scale. -/
theorem deq_at (b : Elt Ideal .f32) (w : Vec Ideal S128x128 .fp8e4m3) (d t : Fin 128) :
    k0_pay2 (F := Ideal) b w (ix2 d t) = (w (ix2 d t) * b : EReal) := by
  pointwise [k0_pay2]

/-- The projection: the dequantised weight transposed times the input. -/
theorem proj_at (q : Vec Ideal S1536x512 .bf16) (c : Vec Ideal S1536x1024 .bf16) (d : Fin 512) (t : Fin 1024) :
    k0_pay50 (F := Ideal) q c (ix2 d t) = (∑ x, q (ix2 x d) * c (ix2 x t) : EReal) := by
  pointwise [k0_pay50]

/-- A head's rotated query. -/
theorem rope_at (q : Vec Ideal S128x1024 .f32) (c s : Vec Ideal S32x1024 .f32) (d : Fin 128) (t : Fin 1024) :
    k0_pay51 (F := Ideal) q c s (ix2 d t) = rope (colOf q t) (tabOf c t) (tabOf s t) d := by
  pointwise [k0_pay51, rope]

/-- A head's row of scales. -/
theorem scl_at (q : Vec Ideal S128x1024 .f32) (c s : Vec Ideal S32x1024 .f32) (t : Fin 1024) :
    k0_pay52 (F := Ideal) q c s (ix2 0 t) = scl (rope (colOf q t) (tabOf c t) (tabOf s t)) := by
  have h : (fun x : Fin 128 => FloatOps.absf (F := Ideal) (φ := .f32) (k0_pay51 (F := Ideal) q c s (ix2 x t)))
      = fun x => FloatOps.absf (F := Ideal) (φ := .f32) (rope (colOf q t) (tabOf c t) (tabOf s t) x) :=
    funext fun x => by rw [rope_at]
  pointwise [k0_pay52]
  simp only [scl, amax, ← h]

/-- A head's codes. -/
theorem code_at (q : Vec Ideal S128x1024 .f32) (c s : Vec Ideal S32x1024 .f32) (d : Fin 128) (t : Fin 1024) :
    k0_pay53 (F := Ideal) q c s (ix2 d t) = code (rope (colOf q t) (tabOf c t) (tabOf s t)) d := by
  pointwise [k0_pay53]
  simp only [code, rope_at, scl_at]

/-- A head's factors: its scales times its weights. -/
theorem fac_at (a b : Vec Ideal S1x1024 .f32) (t : Fin 1024) :
    k0_pay54 (F := Ideal) a b (ix2 0 t) = (a (ix2 0 t) * b (ix2 0 t) : EReal) := by
  pointwise [k0_pay54]

end Cert.FwdIdeal.Gen

end
-- ==== Proof.Fwd.Block.lean ====
module

public import proofs.«01_k».proof.Proof.Fwd.Run
public import proofs.«01_k».proof.Proof.Fwd.Pay
public import Idealize.ShloMosaic.Lib.WholeRead

@[expose] public section

set_option maxRecDepth 16384

/-! What one grid point leaves in the scratch buffers and in the codes' block: the dequantised weight, the projection,
and each head's rotated and quantised query. -/

noncomputable section

namespace Cert.FwdIdeal.Gen

open Idealize.ShloMosaic Idealize.ShloMosaic.TcCoe
open Cert.FwdMath

/-- The index a unit-stride rectangle of a matrix gives its entry `(x, y)`. -/
theorem unit_idx2 {m n a b p q : ℕ} (inb : ∀ k, (![a, b] : Fin 2 → ℕ) k + (![p, q] : Fin 2 → ℕ) k ≤ (⟨2, ![m, n]⟩ : Shape).size k)
    (x : Fin p) (y : Fin q) (hx : a + x.val < m) (hy : b + y.val < n) :
    (Rect.unit (s := ⟨2, ![m, n]⟩) ![a, b] ![p, q] inb).idx (ix2 x y) = ix2 ⟨a + x.val, hx⟩ ⟨b + y.val, hy⟩ := by
  funext k
  match k with
  | ⟨0, _⟩ => exact Fin.ext (congrArg (a + ·) (Nat.one_mul _))
  | ⟨1, _⟩ => exact Fin.ext (congrArg (b + ·) (Nat.one_mul _))

/-- A rectangle that is the whole matrix gives every index itself. -/
theorem unit_idx2_whole {m n : ℕ} (inb : ∀ k, (![0, 0] : Fin 2 → ℕ) k + (![m, n] : Fin 2 → ℕ) k ≤ (⟨2, ![m, n]⟩ : Shape).size k)
    (x : (⟨2, ![m, n]⟩ : Shape).Idx) : (Rect.unit (s := ⟨2, ![m, n]⟩) ![0, 0] ![m, n] inb).idx x = x := by
  funext k
  match k with
  | ⟨0, _⟩ => exact Fin.ext ((Nat.zero_add _).trans (Nat.one_mul _))
  | ⟨1, _⟩ => exact Fin.ext ((Nat.zero_add _).trans (Nat.one_mul _))

/-- A whole buffer, loaded whole, is its contents. -/
theorem whole_read {κ : Kind} {sp : Space} {e : EltTy} {m n : ℕ} (arg : Memref sig κ sp ⟨2, ![m, n]⟩ e) (harg : arg.IsWhole)
    (x : Vec Ideal ⟨2, ![m, n]⟩ e) (inb) :
    View.readAt (Elt Ideal) arg.view (Rect.unit (s := ⟨2, ![m, n]⟩) ![0, 0] ![m, n] inb).toLoadRect (harg.unread x) = x :=
  funext fun y => (harg.readAt_unread x _ y).trans (congrArg x (unit_idx2_whole inb y))

/-- The head number `4 i + h` as the body computes it. -/
theorem word_eq (n h : ℕ) (hn : n < 16) (hh : h < 4) :
    (Scalar.indexCast (Scalar.addi (Scalar.muli (BitVec.ofNat 32 n) 4#32) (BitVec.ofNat 32 h))).toNat = 4 * n + h := by
  interval_cases n <;> interval_cases h <;> rfl

/-- The grid point's number is below 16. -/
theorem pt_lt (i : grid0.Coords) : (i 0).val < 16 := (i 0).isLt

variable (c : Dev nD) (i : grid0.Coords) (arg1 : Memref sig .tc .smem S12x64 .f32) (harg1 : arg1.IsWhole) (arg2 : Memref sig .tc .vmem S1536x512 .fp8e4m3) (harg2 : arg2.IsWhole) (arg3 : Memref sig .tc .vmem S1536x1024 .bf16) (harg3 : arg3.IsWhole) (arg4 : Memref sig .tc .vmem S32x1024 .f32) (harg4 : arg4.IsWhole) (arg5 : Memref sig .tc .vmem S32x1024 .f32) (harg5 : arg5.IsWhole) (arg8 : Memref sig .tc .vmem S512x1024 .fp8e4m3) (arg11 : Memref sig .tc .vmem S1536x512 .bf16) (arg12 : Memref sig .tc .vmem S512x1024 .f32)
    (x0 : Vec Ideal S12x64 .f32) (x1 : Vec Ideal S1536x512 .fp8e4m3) (x2 : Vec Ideal S1536x1024 .bf16) (x3 : Vec Ideal S32x1024 .f32) (x4 : Vec Ideal S32x1024 .f32)

/-- The dequantised weight of a grid point's four heads: the code times the scale of its 128 by 128 tile. -/
def wdq (y : S1536x512.Idx) : EReal :=
  x1 y * x0 (ix2 (n0 := 12) (n1 := 64) ⟨(y 0).val / 128, by have : (y 0).val < 1536 := (y 0).isLt; omega⟩
    ⟨4 * (i 0).val + (y 1).val / 128, by have : (y 1).val < 512 := (y 1).isLt; have := pt_lt i; omega⟩)

/-- A head's query before rotation at a token. -/
def qry (h : Fin 4) (t : Fin 1024) (d : Fin 128) : EReal :=
  ∑ x : Fin 1536, wdq i x0 x1 (ix2 x ⟨128 * h.val + d.val, by omega⟩) * x2 (ix2 x t)

/-- A head's rotated query at a token. -/
def vcol (h : Fin 4) (t : Fin 1024) : Fin 128 → EReal := rope (qry i x0 x1 x2 h t) (tabOf x3 t) (tabOf x4 t)

/-- One tile the body stores into the weight scratch is the tile of the dequantised weight. -/
theorem wdq_piece (a b : ℕ) (off : Fin 2 → ℕ) (inb1 inb2 pf) (ha : a % 128 = 0) (hb : b % 128 = 0) (ha' : a < 1536) (hb' : b < 512)
    (hoff : off = ![a / 128, (Scalar.indexCast (Scalar.addi (Scalar.muli (BitVec.ofNat 32 (i 0).val) 4#32) (BitVec.ofNat 32 (b / 128)))).toNat])
    (x : S128x128.Idx) :
    k0_pay2 (F := Ideal)
      (View.readAt (Elt Ideal) arg1.view (Rect.unit (s := S12x64) off S1x1.size inb1).toLoadRect (harg1.unread x0) (Shape.Idx.first pf))
      (View.readAt (Elt Ideal) arg2.view (Rect.unit (s := S1536x512) ![a, b] S128x128.size inb2).toLoadRect (harg2.unread x1)) x
      = wdq i x0 x1 ((Rect.unit (s := S1536x512) ![a, b] S128x128.size inb2).emb x) := by
  rw [word_eq _ _ (pt_lt i) (by omega)] at hoff
  subst hoff
  obtain ⟨d, t, rfl⟩ : ∃ d t, x = ix2 d t := ⟨x 0, x 1, (ix2_eta x).symm⟩
  have h2 : (Rect.unit (s := S1536x512) ![a, b] S128x128.size inb2).idx (ix2 d t) = ix2 ⟨a + d.val, by omega⟩ ⟨b + t.val, by omega⟩ :=
    unit_idx2 _ _ _ _ _
  have e : (Rect.unit (s := S1536x512) ![a, b] S128x128.size inb2).emb (ix2 d t) = ix2 ⟨a + d.val, by omega⟩ ⟨b + t.val, by omega⟩ := h2
  rw [deq_at, harg1.readAt_unread, harg2.readAt_unread, e]
  unfold wdq
  refine congrArg₂ (· * ·) (congrArg x1 h2) (congrArg x0 ?_)
  funext k
  match k with
  | ⟨0, _⟩ => exact Fin.ext (show a / 128 + 1 * 0 = (a + d.val) / 128 by omega)
  | ⟨1, _⟩ => exact Fin.ext (show 4 * (i 0).val + b / 128 + 1 * 0 = 4 * (i 0).val + (b + t.val) / 128 by omega)

set_option maxHeartbeats 1000000 in
/-- Every tile stored into the weight scratch is a tile of the dequantised weight. -/
theorem wdq_pieces : ∀ p ∈ kernelRun0.sl.HS0_48 (F := Ideal) c i arg1 harg1 arg2 harg2 x0 x1,
    ∀ x : p.1.shape.Idx, p.2 x = wdq i x0 x1 (p.1.emb x) := by
  unfold kernelRun0.sl.HS0_48
  repeat refine List.forall_mem_cons.2 ⟨wdq_piece i arg1 harg1 arg2 harg2 x0 x1 _ _ _ _ _ _ (by decide) (by decide) (by decide) (by decide) rfl, ?_⟩
  intro p hp
  exact absurd hp List.not_mem_nil

/-- The weight scratch, read whole, holds the dequantised weight. -/
theorem wdq_at (x : Fin 1536) (l : Fin 512) :
    kernelRun0.sl.v576 (F := Ideal) c i arg1 harg1 arg2 harg2 arg11 x0 x1 (ix2 x l) = wdq i x0 x1 (ix2 x l) := by
  have hc := View.cover_of_tiled (kernelRun0.sl.HS0_48 (F := Ideal) c i arg1 harg1 arg2 harg2 x0 x1) ![128, 128] rfl (ix2 x l)
  have h := View.read_writes_apply_of_pieces (v := arg11.view) (f := arg11.view.junk) (wdq i x0 x1) _
    (wdq_pieces c i arg1 harg1 arg2 harg2 x0 x1) (ix2 x l) hc
  refine Eq.trans (congrArg (arg11.view.read (Elt Ideal) _) ?_) h
  exact unit_idx2_whole (m := 1536) (n := 512) _ _

/-- The one store into the projection scratch is the projection. -/
theorem proj_pieces : ∀ p ∈ kernelRun0.sl.HS1_1 (F := Ideal) c i arg1 harg1 arg2 harg2 arg3 harg3 arg11 x0 x1 x2,
    ∀ x : p.1.shape.Idx, p.2 x
      = k0_pay50 (F := Ideal) (kernelRun0.sl.v576 c i arg1 harg1 arg2 harg2 arg11 x0 x1) x2 (p.1.emb x) := by
  unfold kernelRun0.sl.HS1_1
  refine List.forall_mem_cons.2 ⟨fun x => ?_, fun p hp => absurd hp List.not_mem_nil⟩
  have hr := whole_read (m := 1536) (n := 1024) arg3 harg3 x2 inb_S1536x1024_S1536x1024_0_0
  have e := unit_idx2_whole (m := 512) (n := 1024) inb_S512x1024_S512x1024_0_0 x
  exact (congrFun (congrArg (k0_pay50 (F := Ideal) (kernelRun0.sl.v576 c i arg1 harg1 arg2 harg2 arg11 x0 x1)) hr) x).trans
    (congrArg (k0_pay50 (F := Ideal) (kernelRun0.sl.v576 c i arg1 harg1 arg2 harg2 arg11 x0 x1) x2) e.symm)

/-- The projection scratch, read at a head's rows, holds the head's query. -/
theorem rows_at (h : Fin 4) (a : ℕ) (ha : a = 128 * h.val) (inb) (d : Fin 128) (t : Fin 1024) :
    arg12.view.readCov (kernelRun0.sl.HS1_1 (F := Ideal) c i arg1 harg1 arg2 harg2 arg3 harg3 arg11 x0 x1 x2)
      (Rect.unit (s := S512x1024) ![a, 0] S128x1024.size inb).toLoadRect (ix2 d t) = qry i x0 x1 x2 h t d := by
  subst ha
  have hp := proj_pieces c i arg1 harg1 arg2 harg2 arg3 harg3 arg11 x0 x1 x2
  have hx : (Rect.unit (s := S512x1024) ![128 * h.val, 0] S128x1024.size inb).toLoadRect.idx (ix2 d t)
      = ix2 ⟨128 * h.val + d.val, by omega⟩ t :=
    (unit_idx2 (m := 512) (n := 1024) _ d t (by omega) (by omega)).trans (congrArg (ix2 _) (Fin.ext (Nat.zero_add _)))
  have hh := View.read_writes_apply_of_pieces (v := arg12.view) (f := arg12.view.junk) _ _ hp (ix2 ⟨128 * h.val + d.val, by omega⟩ t)
    (View.cover_of_tiled (kernelRun0.sl.HS1_1 (F := Ideal) c i arg1 harg1 arg2 harg2 arg3 harg3 arg11 x0 x1 x2) ![512, 1024] rfl _)
  refine (congrArg (arg12.view.read (Elt Ideal) _) hx).trans (hh.trans ?_)
  refine (proj_at _ _ _ _).trans (Finset.sum_congr rfl fun x _ => ?_)
  rw [wdq_at]

/-- A table of the rotation, read whole. -/
theorem tab_read (arg : Memref sig .tc .vmem S32x1024 .f32) (harg : arg.IsWhole) (x : Vec Ideal S32x1024 .f32) :
    View.readAt (Elt Ideal) arg.view (Rect.unit (s := S32x1024) ![0, 0] S32x1024.size inb_S32x1024_S32x1024_0_0).toLoadRect (harg.unread x) = x :=
  whole_read (m := 32) (n := 1024) arg harg x _

/-- A head's codes as the body computes them from the head's query and the tables. -/
theorem code_piece (h : Fin 4) (q : Vec Ideal S128x1024 .f32) (hq : ∀ d t, q (ix2 d t) = qry i x0 x1 x2 h t d) (d : Fin 128) (t : Fin 1024) :
    k0_pay53 (F := Ideal) q
      (View.readAt (Elt Ideal) arg4.view (Rect.unit (s := S32x1024) ![0, 0] S32x1024.size inb_S32x1024_S32x1024_0_0).toLoadRect (harg4.unread x3))
      (View.readAt (Elt Ideal) arg5.view (Rect.unit (s := S32x1024) ![0, 0] S32x1024.size inb_S32x1024_S32x1024_0_0).toLoadRect (harg5.unread x4))
      (ix2 d t) = code (vcol i x0 x1 x2 x3 x4 h t) d := by
  rw [tab_read, tab_read, code_at]
  exact congrArg (fun v => code (rope v (tabOf x3 t) (tabOf x4 t)) d) (funext fun d => hq d t)

/-- A head's scales as the body computes them from the head's query and the tables. -/
theorem scl_piece (h : Fin 4) (q : Vec Ideal S128x1024 .f32) (hq : ∀ d t, q (ix2 d t) = qry i x0 x1 x2 h t d) (t : Fin 1024) :
    k0_pay52 (F := Ideal) q
      (View.readAt (Elt Ideal) arg4.view (Rect.unit (s := S32x1024) ![0, 0] S32x1024.size inb_S32x1024_S32x1024_0_0).toLoadRect (harg4.unread x3))
      (View.readAt (Elt Ideal) arg5.view (Rect.unit (s := S32x1024) ![0, 0] S32x1024.size inb_S32x1024_S32x1024_0_0).toLoadRect (harg5.unread x4))
      (ix2 0 t) = scl (vcol i x0 x1 x2 x3 x4 h t) := by
  rw [tab_read, tab_read, scl_at]
  exact congrArg (fun v => scl (rope v (tabOf x3 t) (tabOf x4 t))) (funext fun d => hq d t)

/-- The block of codes a grid point leaves: its four heads' codes, 128 rows each. -/
def codes (y : S512x1024.Idx) : EReal :=
  code (vcol i x0 x1 x2 x3 x4 ⟨(y 0).val / 128, by have : (y 0).val < 512 := (y 0).isLt; omega⟩ (y 1))
    ⟨(y 0).val % 128, Nat.mod_lt _ (by decide)⟩

/-- One head's store into the codes' block is its rows of the codes. -/
theorem codes_piece (h : Fin 4) (a : ℕ) (ha : a = 128 * h.val) (inb) (q : Vec Ideal S128x1024 .f32) (hq : ∀ d t, q (ix2 d t) = qry i x0 x1 x2 h t d)
    (x : S128x1024.Idx) :
    k0_pay53 (F := Ideal) q
      (View.readAt (Elt Ideal) arg4.view (Rect.unit (s := S32x1024) ![0, 0] S32x1024.size inb_S32x1024_S32x1024_0_0).toLoadRect (harg4.unread x3))
      (View.readAt (Elt Ideal) arg5.view (Rect.unit (s := S32x1024) ![0, 0] S32x1024.size inb_S32x1024_S32x1024_0_0).toLoadRect (harg5.unread x4))
      x = codes i x0 x1 x2 x3 x4 ((Rect.unit (s := S512x1024) ![a, 0] S128x1024.size inb).emb x) := by
  subst ha
  obtain ⟨d, t, rfl⟩ : ∃ d t, x = ix2 d t := ⟨x 0, x 1, (ix2_eta x).symm⟩
  have e : (Rect.unit (s := S512x1024) ![128 * h.val, 0] S128x1024.size inb).emb (ix2 d t) = ix2 ⟨128 * h.val + d.val, by omega⟩ ⟨0 + t.val, by omega⟩ :=
    unit_idx2 _ _ _ _ _
  rw [code_piece i arg4 harg4 arg5 harg5 x0 x1 x2 x3 x4 h q hq, e]
  unfold codes
  have e1 : (128 * h.val + d.val) / 128 = h.val := by omega
  have e2 : (128 * h.val + d.val) % 128 = d.val := by omega
  simp only [ix2_0, ix2_1, e1, e2, Nat.zero_add]

/-- Every store into the codes' block is its rows of the codes. -/
theorem codes_pieces : ∀ p ∈ kernelRun0.sl.H7_4 (F := Ideal) c i arg1 harg1 arg2 harg2 arg3 harg3 arg4 harg4 arg5 harg5 arg11 arg12 x0 x1 x2 x3 x4,
    ∀ x : p.1.shape.Idx, p.2 x = codes i x0 x1 x2 x3 x4 (p.1.emb x) := by
  have hq := fun (h : Fin 4) (a) (ha) (inb) (d) (t) => rows_at c i arg1 harg1 arg2 harg2 arg3 harg3 arg11 arg12 x0 x1 x2 h a ha inb d t
  unfold kernelRun0.sl.H7_4
  refine List.forall_mem_cons.2 ⟨codes_piece i arg4 harg4 arg5 harg5 x0 x1 x2 x3 x4 3 384 rfl inb_S512x1024_S128x1024_384_0 _ (hq 3 384 rfl inb_S512x1024_S128x1024_384_0), ?_⟩
  refine List.forall_mem_cons.2 ⟨codes_piece i arg4 harg4 arg5 harg5 x0 x1 x2 x3 x4 2 256 rfl inb_S512x1024_S128x1024_256_0 _ (hq 2 256 rfl inb_S512x1024_S128x1024_256_0), ?_⟩
  refine List.forall_mem_cons.2 ⟨codes_piece i arg4 harg4 arg5 harg5 x0 x1 x2 x3 x4 1 128 rfl inb_S512x1024_S128x1024_128_0 _ (hq 1 128 rfl inb_S512x1024_S128x1024_128_0), ?_⟩
  refine List.forall_mem_cons.2 ⟨codes_piece i arg4 harg4 arg5 harg5 x0 x1 x2 x3 x4 0 0 rfl inb_S512x1024_S128x1024_0_0 _ (hq 0 0 rfl inb_S512x1024_S128x1024_0_0), ?_⟩
  exact fun p hp => absurd hp List.not_mem_nil

/-- The codes' block, whatever it held, holds the codes after the stores. -/
theorem codes_read (f : arg8.view.ty.Contents (Elt Ideal)) (y : S512x1024.Idx) :
    arg8.view.read (Elt Ideal) (arg8.view.writes (Elt Ideal) f
      (kernelRun0.sl.H7_4 (F := Ideal) c i arg1 harg1 arg2 harg2 arg3 harg3 arg4 harg4 arg5 harg5 arg11 arg12 x0 x1 x2 x3 x4)) y
      = codes i x0 x1 x2 x3 x4 y :=
  View.read_writes_apply_of_pieces (v := arg8.view) (f := f) (codes i x0 x1 x2 x3 x4) _
    (codes_pieces c i arg1 harg1 arg2 harg2 arg3 harg3 arg4 harg4 arg5 harg5 arg11 arg12 x0 x1 x2 x3 x4) y
    (View.cover_of_tiled (kernelRun0.sl.H7_4 (F := Ideal) c i arg1 harg1 arg2 harg2 arg3 harg3 arg4 harg4 arg5 harg5 arg11 arg12 x0 x1 x2 x3 x4)
      ![128, 1024] rfl y)

/-- A tile of a head's codes, read back from the codes' block. -/
theorem codes_tile (h : Fin 4) (a b : ℕ) (ha : a = 128 * h.val) (inb) (d : Fin 128) (t : Fin 256) (hb : b + t.val < 1024) :
    arg8.view.readCov (kernelRun0.sl.H7_4 (F := Ideal) c i arg1 harg1 arg2 harg2 arg3 harg3 arg4 harg4 arg5 harg5 arg11 arg12 x0 x1 x2 x3 x4)
      (Rect.unit (s := S512x1024) ![a, b] S128x256.size inb).toLoadRect (ix2 d t)
      = code (vcol i x0 x1 x2 x3 x4 h ⟨b + t.val, hb⟩) d := by
  subst ha
  have hx : (Rect.unit (s := S512x1024) ![128 * h.val, b] S128x256.size inb).toLoadRect.idx (ix2 d t)
      = ix2 ⟨128 * h.val + d.val, by omega⟩ ⟨b + t.val, hb⟩ := unit_idx2 (m := 512) (n := 1024) _ d t _ _
  refine (congrArg (arg8.view.read (Elt Ideal) _) hx).trans
    ((codes_read c i arg1 harg1 arg2 harg2 arg3 harg3 arg4 harg4 arg5 harg5 arg8 arg11 arg12 x0 x1 x2 x3 x4 _ _).trans ?_)
  unfold codes
  have e1 : (128 * h.val + d.val) / 128 = h.val := by omega
  have e2 : (128 * h.val + d.val) % 128 = d.val := by omega
  simp only [ix2_0, ix2_1, e1, e2]

end Cert.FwdIdeal.Gen

end
-- ==== Proof.Fwd.PayScore.lean ====
module

public import proofs.«01_k».proof.Proof.Fwd.Math
public import proofs.«01_k».proof.Proof.Gen.FwdIdeal.Skeleton

@[expose] public section

set_option maxRecDepth 16384

/-! What the four score tiles of one grid point hold at an index: what the tile held before (nothing at the first
point), and the four heads' parts added in order. -/

noncomputable section

namespace Cert.FwdIdeal.Gen

open Idealize.ShloMosaic Idealize.ShloMosaic.TcCoe

/-- The four heads' parts added to what was there: each the rectified product of a key row and a column of codes, times
    the head's factor of that column. -/
abbrev sum4 (b : BitVec 1) (x : EReal) (k : Fin 128 → EReal) (c0 c1 c2 c3 : Fin 128 → EReal) (f0 f1 f2 f3 : EReal) : EReal :=
  (((Scalar.select b 0 x + max (∑ d, k d * c0 d) 0 * f0) + max (∑ d, k d * c1 d) 0 * f1)
    + max (∑ d, k d * c2 d) 0 * f2) + max (∑ d, k d * c3 d) 0 * f3

/-- The first 256 tokens against the first 256 keys. -/
theorem tile0_at (a : BitVec 32) (f0 f1 f2 f3 : Vec Ideal S1x1024 .f32) (x : Vec Ideal S256x256 .f32)
    (k : Vec Ideal S256x128 .fp8e4m3) (c0 c1 c2 c3 : Vec Ideal S128x256 .fp8e4m3) (s t : Fin 256) :
    k0_pay68 (F := Ideal) f3 (k0_pay67 (F := Ideal) a f0 f1 f2 x k c0 k c1 k c2) k c3 (ix2 s t)
      = sum4 (Scalar.cmpi .eq a 0#32) (x (ix2 s t)) (fun d => k (ix2 s d)) (fun d => c0 (ix2 d t)) (fun d => c1 (ix2 d t))
          (fun d => c2 (ix2 d t)) (fun d => c3 (ix2 d t)) (f0 (ix2 0 ⟨0 + t.val, by omega⟩)) (f1 (ix2 0 ⟨0 + t.val, by omega⟩))
          (f2 (ix2 0 ⟨0 + t.val, by omega⟩)) (f3 (ix2 0 ⟨0 + t.val, by omega⟩)) := by
  pointwise [k0_pay68, k0_pay67]

/-- The next 256 tokens against the first 512 keys. -/
theorem tile1_at (a : BitVec 32) (f0 f1 f2 f3 : Vec Ideal S1x1024 .f32) (x : Vec Ideal S512x256 .f32)
    (k : Vec Ideal S512x128 .fp8e4m3) (c0 c1 c2 c3 : Vec Ideal S128x256 .fp8e4m3) (s : Fin 512) (t : Fin 256) :
    k0_pay71 (F := Ideal) f2 f3 (k0_pay69 (F := Ideal) a f0 x k c0) (k0_pay70 (F := Ideal) f1 k c1) k c2 k c3 (ix2 s t)
      = sum4 (Scalar.cmpi .eq a 0#32) (x (ix2 s t)) (fun d => k (ix2 s d)) (fun d => c0 (ix2 d t)) (fun d => c1 (ix2 d t))
          (fun d => c2 (ix2 d t)) (fun d => c3 (ix2 d t)) (f0 (ix2 0 ⟨256 + t.val, by omega⟩)) (f1 (ix2 0 ⟨256 + t.val, by omega⟩))
          (f2 (ix2 0 ⟨256 + t.val, by omega⟩)) (f3 (ix2 0 ⟨256 + t.val, by omega⟩)) := by
  pointwise [k0_pay71, k0_pay69, k0_pay70]

/-- The third 256 tokens against the first 768 keys. -/
theorem tile2_at (a : BitVec 32) (f0 f1 f2 f3 : Vec Ideal S1x1024 .f32) (x : Vec Ideal S768x256 .f32)
    (k : Vec Ideal S768x128 .fp8e4m3) (c0 c1 c2 c3 : Vec Ideal S128x256 .fp8e4m3) (s : Fin 768) (t : Fin 256) :
    k0_pay75 (F := Ideal) f1 f2 f3 (k0_pay72 (F := Ideal) a x) (k0_pay73 (F := Ideal) k c0) (k0_pay74 (F := Ideal) f0) k c1 k c2 k c3 (ix2 s t)
      = sum4 (Scalar.cmpi .eq a 0#32) (x (ix2 s t)) (fun d => k (ix2 s d)) (fun d => c0 (ix2 d t)) (fun d => c1 (ix2 d t))
          (fun d => c2 (ix2 d t)) (fun d => c3 (ix2 d t)) (f0 (ix2 0 ⟨512 + t.val, by omega⟩)) (f1 (ix2 0 ⟨512 + t.val, by omega⟩))
          (f2 (ix2 0 ⟨512 + t.val, by omega⟩)) (f3 (ix2 0 ⟨512 + t.val, by omega⟩)) := by
  pointwise [k0_pay75, k0_pay72, k0_pay73, k0_pay74]

/-- The last 256 tokens against all 1024 keys. -/
theorem tile3_at (a : BitVec 32) (f0 f1 f2 f3 : Vec Ideal S1x1024 .f32) (x : Vec Ideal S1024x256 .f32)
    (k : Vec Ideal S1024x128 .fp8e4m3) (c0 c1 c2 c3 : Vec Ideal S128x256 .fp8e4m3) (s : Fin 1024) (t : Fin 256) :
    k0_pay1 (F := Ideal) f3 (k0_pay77 (F := Ideal) f0 f1 f2 (Scalar.cmpi .eq a 0#32) (k0_pay76 (F := Ideal) x) k c0 k c1 k c2)
        (k0_pay78 (F := Ideal) k c3) (ix2 s t)
      = sum4 (Scalar.cmpi .eq a 0#32) (x (ix2 s t)) (fun d => k (ix2 s d)) (fun d => c0 (ix2 d t)) (fun d => c1 (ix2 d t))
          (fun d => c2 (ix2 d t)) (fun d => c3 (ix2 d t)) (f0 (ix2 0 ⟨768 + t.val, by omega⟩)) (f1 (ix2 0 ⟨768 + t.val, by omega⟩))
          (f2 (ix2 0 ⟨768 + t.val, by omega⟩)) (f3 (ix2 0 ⟨768 + t.val, by omega⟩)) := by
  pointwise [k0_pay1, k0_pay77, k0_pay76, k0_pay78]

end Cert.FwdIdeal.Gen

end
-- ==== Proof.Fwd.Score.lean ====
module

public import proofs.«01_k».proof.Proof.Fwd.Block
public import proofs.«01_k».proof.Proof.Fwd.PayScore

@[expose] public section

set_option maxRecDepth 16384

/-! What one grid point's stores into the scales and the scores leave there. -/

noncomputable section

namespace Cert.FwdIdeal.Gen

open Idealize.ShloMosaic Idealize.ShloMosaic.TcCoe
open Cert.FwdMath

variable (c : Dev nD) (i : grid0.Coords) (arg1 : Memref sig .tc .smem S12x64 .f32) (harg1 : arg1.IsWhole) (arg2 : Memref sig .tc .vmem S1536x512 .fp8e4m3) (harg2 : arg2.IsWhole) (arg3 : Memref sig .tc .vmem S1536x1024 .bf16) (harg3 : arg3.IsWhole) (arg4 : Memref sig .tc .vmem S32x1024 .f32) (harg4 : arg4.IsWhole) (arg5 : Memref sig .tc .vmem S32x1024 .f32) (harg5 : arg5.IsWhole) (arg6 : Memref sig .tc .vmem S1024x128 .fp8e4m3) (harg6 : arg6.IsWhole) (arg7 : Memref sig .tc .vmem S64x1024 .f32) (harg7 : arg7.IsWhole) (arg8 : Memref sig .tc .vmem S512x1024 .fp8e4m3) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S1536x512 .bf16) (harg11 : arg11.IsWhole) (arg12 : Memref sig .tc .vmem S512x1024 .f32) (harg12 : arg12.IsWhole)
    (x0 : Vec Ideal S12x64 .f32) (x1 : Vec Ideal S1536x512 .fp8e4m3) (x2 : Vec Ideal S1536x1024 .bf16) (x3 : Vec Ideal S32x1024 .f32) (x4 : Vec Ideal S32x1024 .f32) (x5 : Vec Ideal S1024x128 .fp8e4m3) (x6 : Vec Ideal S64x1024 .f32) (x8 : Vec Ideal S64x1024 .f32) (x9 : Vec Ideal S1024x1024 .f32)

/-- A load through a unit-stride rectangle of a matrix held whole reads the matrix there. -/
theorem unit_read {κ : Kind} {sp : Space} {e : EltTy} {m n a b p q : ℕ} (arg : Memref sig κ sp ⟨2, ![m, n]⟩ e) (harg : arg.IsWhole)
    (x : Vec Ideal ⟨2, ![m, n]⟩ e) (inb) (s : Fin p) (t : Fin q) (hs : a + s.val < m) (ht : b + t.val < n) :
    View.readAt (Elt Ideal) arg.view (Rect.unit (s := ⟨2, ![m, n]⟩) ![a, b] ![p, q] inb).toLoadRect (harg.unread x) (ix2 s t)
      = x (ix2 ⟨a + s.val, hs⟩ ⟨b + t.val, ht⟩) :=
  (harg.readAt_unread x _ _).trans (congrArg x (unit_idx2 inb s t hs ht))

/-- The scales as a function of the row: the head of the row modulo four. -/
def scales (y : S64x1024.Idx) : EReal := scl (vcol i x0 x1 x2 x3 x4 ⟨(y 0).val % 4, Nat.mod_lt _ (by decide)⟩ (y 1))

/-- A head's factor at a token: its scale times its weight. -/
def fac (h : Fin 4) (t : Fin 1024) : EReal :=
  scl (vcol i x0 x1 x2 x3 x4 h t) * x6 (ix2 (n0 := 64) (n1 := 1024) ⟨4 * (i 0).val + h.val, by have := pt_lt i; omega⟩ t)

/-- The factor as the body computes it. -/
theorem fac_piece (h : Fin 4) (q : Vec Ideal S128x1024 .f32) (hq : ∀ d t, q (ix2 d t) = qry i x0 x1 x2 h t d) (off : Fin 2 → ℕ) (inb)
    (hoff : off = ![(Scalar.indexCast (Scalar.addi (Scalar.muli (BitVec.ofNat 32 (i 0).val) 4#32) (BitVec.ofNat 32 h.val))).toNat, 0])
    (t : Fin 1024) :
    k0_pay54 (F := Ideal) (k0_pay52 (F := Ideal) q
      (View.readAt (Elt Ideal) arg4.view (Rect.unit (s := S32x1024) ![0, 0] S32x1024.size inb_S32x1024_S32x1024_0_0).toLoadRect (harg4.unread x3))
      (View.readAt (Elt Ideal) arg5.view (Rect.unit (s := S32x1024) ![0, 0] S32x1024.size inb_S32x1024_S32x1024_0_0).toLoadRect (harg5.unread x4)))
      (View.readAt (Elt Ideal) arg7.view (Rect.unit (s := S64x1024) off S1x1024.size inb).toLoadRect (harg7.unread x6)) (ix2 0 t)
      = fac i x0 x1 x2 x3 x4 x6 h t := by
  rw [word_eq _ _ (pt_lt i) h.isLt] at hoff
  subst hoff
  rw [fac_at, scl_piece i arg4 harg4 arg5 harg5 x0 x1 x2 x3 x4 h q hq]
  refine congrArg (scl (vcol i x0 x1 x2 x3 x4 h t) * ·) ?_
  refine (unit_read (m := 64) (n := 1024) (p := 1) (q := 1024) arg7 harg7 x6 _ 0 t (by have := pt_lt i; simp; omega) (by omega)).trans ?_
  exact congrArg x6 (congrArg (ix2 _) (Fin.ext (Nat.zero_add _)))

/-- One head's store into the scales is its row of them. -/
theorem scl_store (h : Fin 4) (q : Vec Ideal S128x1024 .f32) (hq : ∀ d t, q (ix2 d t) = qry i x0 x1 x2 h t d) (off : Fin 2 → ℕ) (inb)
    (hoff : off = ![(Scalar.indexCast (Scalar.addi (Scalar.muli (BitVec.ofNat 32 (i 0).val) 4#32) (BitVec.ofNat 32 h.val))).toNat, 0])
    (x : S1x1024.Idx) :
    k0_pay52 (F := Ideal) q
      (View.readAt (Elt Ideal) arg4.view (Rect.unit (s := S32x1024) ![0, 0] S32x1024.size inb_S32x1024_S32x1024_0_0).toLoadRect (harg4.unread x3))
      (View.readAt (Elt Ideal) arg5.view (Rect.unit (s := S32x1024) ![0, 0] S32x1024.size inb_S32x1024_S32x1024_0_0).toLoadRect (harg5.unread x4)) x
      = scales i x0 x1 x2 x3 x4 ((Rect.unit (s := S64x1024) off S1x1024.size inb).emb x) := by
  rw [word_eq _ _ (pt_lt i) h.isLt] at hoff
  subst hoff
  obtain ⟨z, t, rfl⟩ : ∃ d t, x = ix2 d t := ⟨x 0, x 1, (ix2_eta x).symm⟩
  obtain rfl : z = 0 := Subsingleton.elim _ _
  have e : (Rect.unit (s := S64x1024) ![4 * (i 0).val + h.val, 0] S1x1024.size inb).emb (ix2 0 t)
      = ix2 ⟨4 * (i 0).val + h.val + (0 : Fin 1).val, by have := pt_lt i; simp; omega⟩ ⟨0 + t.val, by omega⟩ := unit_idx2 _ _ _ _ _
  rw [scl_piece i arg4 harg4 arg5 harg5 x0 x1 x2 x3 x4 h q hq, e]
  unfold scales
  have e1 : (4 * (i 0).val + h.val) % 4 = h.val := by omega
  simp only [ix2_0, ix2_1, e1, Nat.zero_add, Fin.val_zero, Nat.add_zero]

/-- The stores one grid point makes into the scales. -/
abbrev scaleStores := (kernelRun0 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x8 x9).2.1

/-- The stores one grid point makes into the scores. -/
abbrev scoreStores := (kernelRun0 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x8 x9).2.2.1

/-- The row of a head, as the body computes it. -/
theorem off13_eq (h : Fin 4) : k0_off13 i (BitVec.ofNat 32 h.val)
    = ![(Scalar.indexCast (Scalar.addi (Scalar.muli (BitVec.ofNat 32 (i 0).val) 4#32) (BitVec.ofNat 32 h.val))).toNat, 0] := rfl

/-- Every store into the scales is its rows of them. -/
theorem scale_pieces : ∀ p ∈ scaleStores c i arg1 harg1 arg2 harg2 arg3 harg3 arg4 harg4 arg5 harg5 arg6 harg6 arg7 harg7 arg8 harg8 arg9 harg9 arg10 harg10 arg11 harg11 arg12 harg12 x0 x1 x2 x3 x4 x5 x6 x8 x9,
    ∀ x : p.1.shape.Idx, p.2 x = scales i x0 x1 x2 x3 x4 (p.1.emb x) := by
  have hq := fun (h : Fin 4) (a) (ha) (inb) (d) (t) => rows_at c i arg1 harg1 arg2 harg2 arg3 harg3 arg11 arg12 x0 x1 x2 h a ha inb d t
  dsimp only [scaleStores, kernelRun0]
  refine List.forall_mem_cons.2 ⟨?_, ?_⟩
  · intro x; dsimp only
    exact scl_store i arg4 harg4 arg5 harg5 x0 x1 x2 x3 x4 3 (kernelRun0.sl.v693 c i arg1 harg1 arg2 harg2 arg3 harg3 arg11 arg12 x0 x1 x2)
      (hq 3 384 rfl inb_S512x1024_S128x1024_384_0) (k0_off13 i 3#32) _ (off13_eq i 3) x
  refine List.forall_mem_cons.2 ⟨?_, ?_⟩
  · intro x; dsimp only
    exact scl_store i arg4 harg4 arg5 harg5 x0 x1 x2 x3 x4 2 (kernelRun0.sl.v656 c i arg1 harg1 arg2 harg2 arg3 harg3 arg11 arg12 x0 x1 x2)
      (hq 2 256 rfl inb_S512x1024_S128x1024_256_0) (k0_off13 i 2#32) _ (off13_eq i 2) x
  refine List.forall_mem_cons.2 ⟨?_, ?_⟩
  · intro x; dsimp only
    exact scl_store i arg4 harg4 arg5 harg5 x0 x1 x2 x3 x4 1 (kernelRun0.sl.v619 c i arg1 harg1 arg2 harg2 arg3 harg3 arg11 arg12 x0 x1 x2)
      (hq 1 128 rfl inb_S512x1024_S128x1024_128_0) (k0_off13 i 1#32) _ (off13_eq i 1) x
  refine List.forall_mem_cons.2 ⟨?_, ?_⟩
  · intro x; dsimp only
    exact scl_store i arg4 harg4 arg5 harg5 x0 x1 x2 x3 x4 0 (kernelRun0.sl.v582 c i arg1 harg1 arg2 harg2 arg3 harg3 arg11 arg12 x0 x1 x2)
      (hq 0 0 rfl inb_S512x1024_S128x1024_0_0) (k0_off13 i 0#32) _ (off13_eq i 0) x
  exact fun p hp => absurd hp List.not_mem_nil

/-- A row of one of the point's four heads is in some store into the scales. -/
theorem scale_cover (g : Fin 64) (t : Fin 1024) (hg : g.val / 4 = (i 0).val) :
    ∃ p ∈ scaleStores c i arg1 harg1 arg2 harg2 arg3 harg3 arg4 harg4 arg5 harg5 arg6 harg6 arg7 harg7 arg8 harg8 arg9 harg9 arg10 harg10 arg11 harg11 arg12 harg12 x0 x1 x2 x3 x4 x5 x6 x8 x9, (ix2 g t : S64x1024.Idx) ∈ p.1.set := by
  have key : ∀ (h : Fin 4) (off : Fin 2 → ℕ) (inb : ∀ a, off a + S1x1024.size a ≤ S64x1024.size a),
      off = ![(Scalar.indexCast (Scalar.addi (Scalar.muli (BitVec.ofNat 32 (i 0).val) 4#32) (BitVec.ofNat 32 h.val))).toNat, 0] →
      g.val % 4 = h.val → (ix2 g t : S64x1024.Idx) ∈ (Rect.unit (s := S64x1024) off S1x1024.size inb).set := by
    intro h off inb hoff hh
    rw [word_eq _ _ (pt_lt i) h.isLt] at hoff
    subst hoff
    refine Rect.mem_set_unit.2 fun a => ?_
    match a with
    | ⟨0, _⟩ => exact ⟨show 4 * (i 0).val + h.val ≤ g.val by omega, show g.val < 4 * (i 0).val + h.val + 1 by omega⟩
    | ⟨1, _⟩ => exact ⟨Nat.zero_le _, show t.val < 0 + 1024 by omega⟩
  dsimp only [scaleStores, kernelRun0]
  have h4 : g.val % 4 = 0 ∨ g.val % 4 = 1 ∨ g.val % 4 = 2 ∨ g.val % 4 = 3 := by omega
  rcases h4 with h | h | h | h
  · exact ⟨_, List.mem_cons_of_mem _ (List.mem_cons_of_mem _ (List.mem_cons_of_mem _ List.mem_cons_self)), by dsimp only; exact key 0 _ _ (off13_eq i 0) h⟩
  · exact ⟨_, List.mem_cons_of_mem _ (List.mem_cons_of_mem _ List.mem_cons_self), by dsimp only; exact key 1 _ _ (off13_eq i 1) h⟩
  · exact ⟨_, List.mem_cons_of_mem _ List.mem_cons_self, by dsimp only; exact key 2 _ _ (off13_eq i 2) h⟩
  · exact ⟨_, List.mem_cons_self, by dsimp only; exact key 3 _ _ (off13_eq i 3) h⟩

/-- A row of another head is in no store into the scales. -/
theorem scale_miss (g : Fin 64) (t : Fin 1024) (hg : g.val / 4 ≠ (i 0).val) :
    ∀ p ∈ scaleStores c i arg1 harg1 arg2 harg2 arg3 harg3 arg4 harg4 arg5 harg5 arg6 harg6 arg7 harg7 arg8 harg8 arg9 harg9 arg10 harg10 arg11 harg11 arg12 harg12 x0 x1 x2 x3 x4 x5 x6 x8 x9, (ix2 g t : S64x1024.Idx) ∉ p.1.set := by
  have key : ∀ (h : Fin 4) (off : Fin 2 → ℕ) (inb : ∀ a, off a + S1x1024.size a ≤ S64x1024.size a),
      off = ![(Scalar.indexCast (Scalar.addi (Scalar.muli (BitVec.ofNat 32 (i 0).val) 4#32) (BitVec.ofNat 32 h.val))).toNat, 0] →
      (ix2 g t : S64x1024.Idx) ∉ (Rect.unit (s := S64x1024) off S1x1024.size inb).set := by
    intro h off inb hoff hm
    rw [word_eq _ _ (pt_lt i) h.isLt] at hoff
    subst hoff
    have h0 : 4 * (i 0).val + h.val ≤ g.val ∧ g.val < 4 * (i 0).val + h.val + 1 := Rect.mem_set_unit.1 hm 0
    omega
  dsimp only [scaleStores, kernelRun0]
  refine List.forall_mem_cons.2 ⟨by dsimp only; exact key 3 _ _ (off13_eq i 3), ?_⟩
  refine List.forall_mem_cons.2 ⟨by dsimp only; exact key 2 _ _ (off13_eq i 2), ?_⟩
  refine List.forall_mem_cons.2 ⟨by dsimp only; exact key 1 _ _ (off13_eq i 1), ?_⟩
  refine List.forall_mem_cons.2 ⟨by dsimp only; exact key 0 _ _ (off13_eq i 0), ?_⟩
  exact fun p hp => absurd hp List.not_mem_nil

/-- After one grid point the scales hold the point's four rows, and elsewhere what they held. -/
theorem scale_read (g : Fin 64) (t : Fin 1024) :
    arg9.view.read (Elt Ideal) (arg9.view.writes (Elt Ideal) (harg9.unread x8) (scaleStores c i arg1 harg1 arg2 harg2 arg3 harg3 arg4 harg4 arg5 harg5 arg6 harg6 arg7 harg7 arg8 harg8 arg9 harg9 arg10 harg10 arg11 harg11 arg12 harg12 x0 x1 x2 x3 x4 x5 x6 x8 x9)) (ix2 g t)
      = if g.val / 4 = (i 0).val then scales i x0 x1 x2 x3 x4 (ix2 g t) else x8 (ix2 g t) := by
  by_cases hg : g.val / 4 = (i 0).val
  · rw [if_pos hg]
    exact View.read_writes_apply_of_pieces (v := arg9.view) (f := harg9.unread x8) (scales i x0 x1 x2 x3 x4) _
      (scale_pieces c i arg1 harg1 arg2 harg2 arg3 harg3 arg4 harg4 arg5 harg5 arg6 harg6 arg7 harg7 arg8 harg8 arg9 harg9 arg10 harg10 arg11 harg11 arg12 harg12 x0 x1 x2 x3 x4 x5 x6 x8 x9) (ix2 g t) (scale_cover c i arg1 harg1 arg2 harg2 arg3 harg3 arg4 harg4 arg5 harg5 arg6 harg6 arg7 harg7 arg8 harg8 arg9 harg9 arg10 harg10 arg11 harg11 arg12 harg12 x0 x1 x2 x3 x4 x5 x6 x8 x9 g t hg)
  · rw [if_neg hg]
    refine (View.read_writes_apply_of_forall_not_mem (v := arg9.view) (f := harg9.unread x8) (ix2 g t) _ (scale_miss c i arg1 harg1 arg2 harg2 arg3 harg3 arg4 harg4 arg5 harg5 arg6 harg6 arg7 harg7 arg8 harg8 arg9 harg9 arg10 harg10 arg11 harg11 arg12 harg12 x0 x1 x2 x3 x4 x5 x6 x8 x9 g t hg)).trans ?_
    exact congrFun (harg9.read_unread x8) _

/-- What one grid point leaves in a score: what was there (nothing at the first point) and the four heads' parts. -/
def scoreVal (y : S1024x1024.Idx) : EReal :=
  sum4 (Scalar.cmpi .eq (BitVec.ofNat 32 (i 0).val) 0#32) (x9 y) (fun d => x5 (ix2 (n0 := 1024) (n1 := 128) (y 0) d))
    (code (vcol i x0 x1 x2 x3 x4 0 (y 1))) (code (vcol i x0 x1 x2 x3 x4 1 (y 1)))
    (code (vcol i x0 x1 x2 x3 x4 2 (y 1))) (code (vcol i x0 x1 x2 x3 x4 3 (y 1)))
    (fac i x0 x1 x2 x3 x4 x6 0 (y 1)) (fac i x0 x1 x2 x3 x4 x6 1 (y 1))
    (fac i x0 x1 x2 x3 x4 x6 2 (y 1)) (fac i x0 x1 x2 x3 x4 x6 3 (y 1))

/-- Equal parts have equal sums. -/
theorem sum4_congr {b : BitVec 1} {x x' : EReal} {k k' c0 c0' c1 c1' c2 c2' c3 c3' : Fin 128 → EReal} {f0 f0' f1 f1' f2 f2' f3 f3' : EReal}
    (hx : x = x') (hk : ∀ d, k d = k' d) (h0 : ∀ d, c0 d = c0' d) (h1 : ∀ d, c1 d = c1' d) (h2 : ∀ d, c2 d = c2' d) (h3 : ∀ d, c3 d = c3' d)
    (g0 : f0 = f0') (g1 : f1 = f1') (g2 : f2 = f2') (g3 : f3 = f3') :
    sum4 b x k c0 c1 c2 c3 f0 f1 f2 f3 = sum4 b x' k' c0' c1' c2' c3' f0' f1' f2' f3' := by
  obtain rfl := funext hk; obtain rfl := funext h0; obtain rfl := funext h1; obtain rfl := funext h2; obtain rfl := funext h3
  rw [hx, g0, g1, g2, g3]

/-- A tile of scores, `p` keys by 256 tokens from token `b` on, is the tile of `scoreVal` when its vectors are the
    tile's: the scores there, the keys' rows, the four heads' codes and factors. -/
theorem score_tile {p : ℕ} (b : ℕ) (hp : p ≤ 1024) (hb : b + 256 ≤ 1024) (inb) (x : Fin p → Fin 256 → EReal) (k : Fin p → Fin 128 → EReal)
    (c0 c1 c2 c3 : Fin 128 → Fin 256 → EReal) (f0 f1 f2 f3 : Fin 1024 → EReal)
    (hx : ∀ s t, x s t = x9 (ix2 (n0 := 1024) (n1 := 1024) ⟨0 + s.val, by omega⟩ ⟨b + t.val, by omega⟩))
    (hk : ∀ s d, k s d = x5 (ix2 (n0 := 1024) (n1 := 128) ⟨0 + s.val, by omega⟩ ⟨0 + d.val, by omega⟩))
    (h0 : ∀ d (t : Fin 256), c0 d t = code (vcol i x0 x1 x2 x3 x4 0 ⟨b + t.val, by omega⟩) d)
    (h1 : ∀ d (t : Fin 256), c1 d t = code (vcol i x0 x1 x2 x3 x4 1 ⟨b + t.val, by omega⟩) d)
    (h2 : ∀ d (t : Fin 256), c2 d t = code (vcol i x0 x1 x2 x3 x4 2 ⟨b + t.val, by omega⟩) d)
    (h3 : ∀ d (t : Fin 256), c3 d t = code (vcol i x0 x1 x2 x3 x4 3 ⟨b + t.val, by omega⟩) d)
    (g0 : ∀ t, f0 t = fac i x0 x1 x2 x3 x4 x6 0 t) (g1 : ∀ t, f1 t = fac i x0 x1 x2 x3 x4 x6 1 t)
    (g2 : ∀ t, f2 t = fac i x0 x1 x2 x3 x4 x6 2 t) (g3 : ∀ t, f3 t = fac i x0 x1 x2 x3 x4 x6 3 t) (s : Fin p) (t : Fin 256) :
    sum4 (Scalar.cmpi .eq (BitVec.ofNat 32 (i 0).val) 0#32) (x s t) (k s) (fun d => c0 d t) (fun d => c1 d t) (fun d => c2 d t) (fun d => c3 d t)
        (f0 ⟨b + t.val, by omega⟩) (f1 ⟨b + t.val, by omega⟩) (f2 ⟨b + t.val, by omega⟩) (f3 ⟨b + t.val, by omega⟩)
      = scoreVal i x0 x1 x2 x3 x4 x5 x6 x9 ((Rect.unit (s := S1024x1024) ![0, b] ![p, 256] inb).emb (ix2 s t)) := by
  have e : (Rect.unit (s := S1024x1024) ![0, b] ![p, 256] inb).emb (ix2 s t) = ix2 ⟨0 + s.val, by omega⟩ ⟨b + t.val, by omega⟩ :=
    unit_idx2 _ _ _ _ _
  rw [e]
  refine sum4_congr (hx s t) (fun d => (hk s d).trans ?_) (fun d => h0 d t) (fun d => h1 d t) (fun d => h2 d t) (fun d => h3 d t)
    (g0 _) (g1 _) (g2 _) (g3 _)
  exact congrArg x5 (congrArg (ix2 _) (Fin.ext (Nat.zero_add _)))

/-- The head factors the body computes are the factors. -/
theorem fac0_at (t : Fin 1024) : kernelRun0.sl.r_65 (F := Ideal) c i arg1 harg1 arg2 harg2 arg3 harg3 arg4 harg4 arg5 harg5 arg7 harg7 arg11 arg12 x0 x1 x2 x3 x4 x6 (ix2 0 t) = fac i x0 x1 x2 x3 x4 x6 0 t :=
  fac_piece i arg4 harg4 arg5 harg5 arg7 harg7 x0 x1 x2 x3 x4 x6 0 (kernelRun0.sl.v582 c i arg1 harg1 arg2 harg2 arg3 harg3 arg11 arg12 x0 x1 x2)
    (fun d t => rows_at c i arg1 harg1 arg2 harg2 arg3 harg3 arg11 arg12 x0 x1 x2 0 0 rfl inb_S512x1024_S128x1024_0_0 d t)
    (k0_off13 i 0#32) _ (off13_eq i 0) t

theorem fac1_at (t : Fin 1024) : kernelRun0.sl.r_67 (F := Ideal) c i arg1 harg1 arg2 harg2 arg3 harg3 arg4 harg4 arg5 harg5 arg7 harg7 arg11 arg12 x0 x1 x2 x3 x4 x6 (ix2 0 t) = fac i x0 x1 x2 x3 x4 x6 1 t :=
  fac_piece i arg4 harg4 arg5 harg5 arg7 harg7 x0 x1 x2 x3 x4 x6 1 (kernelRun0.sl.v619 c i arg1 harg1 arg2 harg2 arg3 harg3 arg11 arg12 x0 x1 x2)
    (fun d t => rows_at c i arg1 harg1 arg2 harg2 arg3 harg3 arg11 arg12 x0 x1 x2 1 128 rfl inb_S512x1024_S128x1024_128_0 d t)
    (k0_off13 i 1#32) _ (off13_eq i 1) t

theorem fac2_at (t : Fin 1024) : kernelRun0.sl.r_69 (F := Ideal) c i arg1 harg1 arg2 harg2 arg3 harg3 arg4 harg4 arg5 harg5 arg7 harg7 arg11 arg12 x0 x1 x2 x3 x4 x6 (ix2 0 t) = fac i x0 x1 x2 x3 x4 x6 2 t :=
  fac_piece i arg4 harg4 arg5 harg5 arg7 harg7 x0 x1 x2 x3 x4 x6 2 (kernelRun0.sl.v656 c i arg1 harg1 arg2 harg2 arg3 harg3 arg11 arg12 x0 x1 x2)
    (fun d t => rows_at c i arg1 harg1 arg2 harg2 arg3 harg3 arg11 arg12 x0 x1 x2 2 256 rfl inb_S512x1024_S128x1024_256_0 d t)
    (k0_off13 i 2#32) _ (off13_eq i 2) t

theorem fac3_at (t : Fin 1024) : kernelRun0.sl.r_71 (F := Ideal) c i arg1 harg1 arg2 harg2 arg3 harg3 arg4 harg4 arg5 harg5 arg7 harg7 arg11 arg12 x0 x1 x2 x3 x4 x6 (ix2 0 t) = fac i x0 x1 x2 x3 x4 x6 3 t :=
  fac_piece i arg4 harg4 arg5 harg5 arg7 harg7 x0 x1 x2 x3 x4 x6 3 (kernelRun0.sl.v693 c i arg1 harg1 arg2 harg2 arg3 harg3 arg11 arg12 x0 x1 x2)
    (fun d t => rows_at c i arg1 harg1 arg2 harg2 arg3 harg3 arg11 arg12 x0 x1 x2 3 384 rfl inb_S512x1024_S128x1024_384_0 d t)
    (k0_off13 i 3#32) _ (off13_eq i 3) t

/-- Every store into the scores is its tile of them. -/
theorem score_pieces : ∀ p ∈ scoreStores c i arg1 harg1 arg2 harg2 arg3 harg3 arg4 harg4 arg5 harg5 arg6 harg6 arg7 harg7 arg8 harg8 arg9 harg9 arg10 harg10 arg11 harg11 arg12 harg12 x0 x1 x2 x3 x4 x5 x6 x8 x9,
    ∀ x : p.1.shape.Idx, p.2 x = scoreVal i x0 x1 x2 x3 x4 x5 x6 x9 (p.1.emb x) := by
  have hc := fun (h : Fin 4) (a b) (ha : a = 128 * h.val) (hb : b + 256 ≤ 1024) (inb) (d : Fin 128) (t : Fin 256) =>
    codes_tile c i arg1 harg1 arg2 harg2 arg3 harg3 arg4 harg4 arg5 harg5 arg8 arg11 arg12 x0 x1 x2 x3 x4 h a b ha inb d t (by omega)
  have hf0 := fac0_at c i arg1 harg1 arg2 harg2 arg3 harg3 arg4 harg4 arg5 harg5 arg7 harg7 arg11 arg12 x0 x1 x2 x3 x4 x6
  have hf1 := fac1_at c i arg1 harg1 arg2 harg2 arg3 harg3 arg4 harg4 arg5 harg5 arg7 harg7 arg11 arg12 x0 x1 x2 x3 x4 x6
  have hf2 := fac2_at c i arg1 harg1 arg2 harg2 arg3 harg3 arg4 harg4 arg5 harg5 arg7 harg7 arg11 arg12 x0 x1 x2 x3 x4 x6
  have hf3 := fac3_at c i arg1 harg1 arg2 harg2 arg3 harg3 arg4 harg4 arg5 harg5 arg7 harg7 arg11 arg12 x0 x1 x2 x3 x4 x6
  dsimp only [scoreStores, kernelRun0]
  refine List.forall_mem_cons.2 ⟨?_, ?_⟩
  · intro x
    obtain ⟨s, t, rfl⟩ : ∃ s t, x = ix2 (n0 := 1024) (n1 := 256) s t := ⟨x 0, x 1, (ix2_eta x).symm⟩
    dsimp only
    refine (tile3_at _ _ _ _ _ _ _ _ _ _ _ s t).trans ?_
    exact score_tile i x0 x1 x2 x3 x4 x5 x6 x9 (p := 1024) 768 (by omega) (by omega) inb_S1024x1024_S1024x256_0_768
      (fun s t => View.readAt (Elt Ideal) arg10.view (Rect.unit (s := S1024x1024) ![0, 768] S1024x256.size inb_S1024x1024_S1024x256_0_768).toLoadRect (harg10.unread x9) (ix2 s t))
      (fun s d => View.readAt (Elt Ideal) arg6.view (Rect.unit (s := S1024x128) ![0, 0] S1024x128.size inb_S1024x128_S1024x128_0_0).toLoadRect (harg6.unread x5) (ix2 s d))
      (fun d t => kernelRun0.sl.v874 (F := Ideal) c i arg1 harg1 arg2 harg2 arg3 harg3 arg4 harg4 arg5 harg5 arg8 arg11 arg12 x0 x1 x2 x3 x4 (ix2 d t))
      (fun d t => kernelRun0.sl.v884 (F := Ideal) c i arg1 harg1 arg2 harg2 arg3 harg3 arg4 harg4 arg5 harg5 arg8 arg11 arg12 x0 x1 x2 x3 x4 (ix2 d t))
      (fun d t => kernelRun0.sl.v894 (F := Ideal) c i arg1 harg1 arg2 harg2 arg3 harg3 arg4 harg4 arg5 harg5 arg8 arg11 arg12 x0 x1 x2 x3 x4 (ix2 d t))
      (fun d t => kernelRun0.sl.v904 (F := Ideal) c i arg1 harg1 arg2 harg2 arg3 harg3 arg4 harg4 arg5 harg5 arg8 arg11 arg12 x0 x1 x2 x3 x4 (ix2 d t))
      (fun t => kernelRun0.sl.r_65 (F := Ideal) c i arg1 harg1 arg2 harg2 arg3 harg3 arg4 harg4 arg5 harg5 arg7 harg7 arg11 arg12 x0 x1 x2 x3 x4 x6 (ix2 0 t))
      (fun t => kernelRun0.sl.r_67 (F := Ideal) c i arg1 harg1 arg2 harg2 arg3 harg3 arg4 harg4 arg5 harg5 arg7 harg7 arg11 arg12 x0 x1 x2 x3 x4 x6 (ix2 0 t))
      (fun t => kernelRun0.sl.r_69 (F := Ideal) c i arg1 harg1 arg2 harg2 arg3 harg3 arg4 harg4 arg5 harg5 arg7 harg7 arg11 arg12 x0 x1 x2 x3 x4 x6 (ix2 0 t))
      (fun t => kernelRun0.sl.r_71 (F := Ideal) c i arg1 harg1 arg2 harg2 arg3 harg3 arg4 harg4 arg5 harg5 arg7 harg7 arg11 arg12 x0 x1 x2 x3 x4 x6 (ix2 0 t))
      (fun s t => unit_read (m := 1024) (n := 1024) arg10 harg10 x9 _ s t _ _) (fun s d => unit_read (m := 1024) (n := 128) arg6 harg6 x5 _ s d _ _)
      (hc 0 0 768 rfl (by omega) inb_S512x1024_S128x256_0_768) (hc 1 128 768 rfl (by omega) inb_S512x1024_S128x256_128_768) (hc 2 256 768 rfl (by omega) inb_S512x1024_S128x256_256_768) (hc 3 384 768 rfl (by omega) inb_S512x1024_S128x256_384_768)
      hf0 hf1 hf2 hf3 s t
  refine List.forall_mem_cons.2 ⟨?_, ?_⟩
  · intro x
    obtain ⟨s, t, rfl⟩ : ∃ s t, x = ix2 (n0 := 768) (n1 := 256) s t := ⟨x 0, x 1, (ix2_eta x).symm⟩
    dsimp only
    refine (tile2_at _ _ _ _ _ _ _ _ _ _ _ s t).trans ?_
    exact score_tile i x0 x1 x2 x3 x4 x5 x6 x9 (p := 768) 512 (by omega) (by omega) inb_S1024x1024_S768x256_0_512
      (fun s t => View.readAt (Elt Ideal) arg10.view (Rect.unit (s := S1024x1024) ![0, 512] S768x256.size inb_S1024x1024_S768x256_0_512).toLoadRect (harg10.unread x9) (ix2 s t))
      (fun s d => View.readAt (Elt Ideal) arg6.view (Rect.unit (s := S1024x128) ![0, 0] S768x128.size inb_S1024x128_S768x128_0_0).toLoadRect (harg6.unread x5) (ix2 s d))
      (fun d t => kernelRun0.sl.v828 (F := Ideal) c i arg1 harg1 arg2 harg2 arg3 harg3 arg4 harg4 arg5 harg5 arg8 arg11 arg12 x0 x1 x2 x3 x4 (ix2 d t))
      (fun d t => kernelRun0.sl.v838 (F := Ideal) c i arg1 harg1 arg2 harg2 arg3 harg3 arg4 harg4 arg5 harg5 arg8 arg11 arg12 x0 x1 x2 x3 x4 (ix2 d t))
      (fun d t => kernelRun0.sl.v848 (F := Ideal) c i arg1 harg1 arg2 harg2 arg3 harg3 arg4 harg4 arg5 harg5 arg8 arg11 arg12 x0 x1 x2 x3 x4 (ix2 d t))
      (fun d t => kernelRun0.sl.v858 (F := Ideal) c i arg1 harg1 arg2 harg2 arg3 harg3 arg4 harg4 arg5 harg5 arg8 arg11 arg12 x0 x1 x2 x3 x4 (ix2 d t))
      (fun t => kernelRun0.sl.r_65 (F := Ideal) c i arg1 harg1 arg2 harg2 arg3 harg3 arg4 harg4 arg5 harg5 arg7 harg7 arg11 arg12 x0 x1 x2 x3 x4 x6 (ix2 0 t))
      (fun t => kernelRun0.sl.r_67 (F := Ideal) c i arg1 harg1 arg2 harg2 arg3 harg3 arg4 harg4 arg5 harg5 arg7 harg7 arg11 arg12 x0 x1 x2 x3 x4 x6 (ix2 0 t))
      (fun t => kernelRun0.sl.r_69 (F := Ideal) c i arg1 harg1 arg2 harg2 arg3 harg3 arg4 harg4 arg5 harg5 arg7 harg7 arg11 arg12 x0 x1 x2 x3 x4 x6 (ix2 0 t))
      (fun t => kernelRun0.sl.r_71 (F := Ideal) c i arg1 harg1 arg2 harg2 arg3 harg3 arg4 harg4 arg5 harg5 arg7 harg7 arg11 arg12 x0 x1 x2 x3 x4 x6 (ix2 0 t))
      (fun s t => unit_read (m := 1024) (n := 1024) arg10 harg10 x9 _ s t _ _) (fun s d => unit_read (m := 1024) (n := 128) arg6 harg6 x5 _ s d _ _)
      (hc 0 0 512 rfl (by omega) inb_S512x1024_S128x256_0_512) (hc 1 128 512 rfl (by omega) inb_S512x1024_S128x256_128_512) (hc 2 256 512 rfl (by omega) inb_S512x1024_S128x256_256_512) (hc 3 384 512 rfl (by omega) inb_S512x1024_S128x256_384_512)
      hf0 hf1 hf2 hf3 s t
  refine List.forall_mem_cons.2 ⟨?_, ?_⟩
  · intro x
    obtain ⟨s, t, rfl⟩ : ∃ s t, x = ix2 (n0 := 512) (n1 := 256) s t := ⟨x 0, x 1, (ix2_eta x).symm⟩
    dsimp only
    refine (tile1_at _ _ _ _ _ _ _ _ _ _ _ s t).trans ?_
    exact score_tile i x0 x1 x2 x3 x4 x5 x6 x9 (p := 512) 256 (by omega) (by omega) inb_S1024x1024_S512x256_0_256
      (fun s t => View.readAt (Elt Ideal) arg10.view (Rect.unit (s := S1024x1024) ![0, 256] S512x256.size inb_S1024x1024_S512x256_0_256).toLoadRect (harg10.unread x9) (ix2 s t))
      (fun s d => View.readAt (Elt Ideal) arg6.view (Rect.unit (s := S1024x128) ![0, 0] S512x128.size inb_S1024x128_S512x128_0_0).toLoadRect (harg6.unread x5) (ix2 s d))
      (fun d t => kernelRun0.sl.v782 (F := Ideal) c i arg1 harg1 arg2 harg2 arg3 harg3 arg4 harg4 arg5 harg5 arg8 arg11 arg12 x0 x1 x2 x3 x4 (ix2 d t))
      (fun d t => kernelRun0.sl.v792 (F := Ideal) c i arg1 harg1 arg2 harg2 arg3 harg3 arg4 harg4 arg5 harg5 arg8 arg11 arg12 x0 x1 x2 x3 x4 (ix2 d t))
      (fun d t => kernelRun0.sl.v802 (F := Ideal) c i arg1 harg1 arg2 harg2 arg3 harg3 arg4 harg4 arg5 harg5 arg8 arg11 arg12 x0 x1 x2 x3 x4 (ix2 d t))
      (fun d t => kernelRun0.sl.v812 (F := Ideal) c i arg1 harg1 arg2 harg2 arg3 harg3 arg4 harg4 arg5 harg5 arg8 arg11 arg12 x0 x1 x2 x3 x4 (ix2 d t))
      (fun t => kernelRun0.sl.r_65 (F := Ideal) c i arg1 harg1 arg2 harg2 arg3 harg3 arg4 harg4 arg5 harg5 arg7 harg7 arg11 arg12 x0 x1 x2 x3 x4 x6 (ix2 0 t))
      (fun t => kernelRun0.sl.r_67 (F := Ideal) c i arg1 harg1 arg2 harg2 arg3 harg3 arg4 harg4 arg5 harg5 arg7 harg7 arg11 arg12 x0 x1 x2 x3 x4 x6 (ix2 0 t))
      (fun t => kernelRun0.sl.r_69 (F := Ideal) c i arg1 harg1 arg2 harg2 arg3 harg3 arg4 harg4 arg5 harg5 arg7 harg7 arg11 arg12 x0 x1 x2 x3 x4 x6 (ix2 0 t))
      (fun t => kernelRun0.sl.r_71 (F := Ideal) c i arg1 harg1 arg2 harg2 arg3 harg3 arg4 harg4 arg5 harg5 arg7 harg7 arg11 arg12 x0 x1 x2 x3 x4 x6 (ix2 0 t))
      (fun s t => unit_read (m := 1024) (n := 1024) arg10 harg10 x9 _ s t _ _) (fun s d => unit_read (m := 1024) (n := 128) arg6 harg6 x5 _ s d _ _)
      (hc 0 0 256 rfl (by omega) inb_S512x1024_S128x256_0_256) (hc 1 128 256 rfl (by omega) inb_S512x1024_S128x256_128_256) (hc 2 256 256 rfl (by omega) inb_S512x1024_S128x256_256_256) (hc 3 384 256 rfl (by omega) inb_S512x1024_S128x256_384_256)
      hf0 hf1 hf2 hf3 s t
  refine List.forall_mem_cons.2 ⟨?_, ?_⟩
  · intro x
    obtain ⟨s, t, rfl⟩ : ∃ s t, x = ix2 (n0 := 256) (n1 := 256) s t := ⟨x 0, x 1, (ix2_eta x).symm⟩
    dsimp only
    refine (tile0_at _ _ _ _ _ _ _ _ _ _ _ s t).trans ?_
    exact score_tile i x0 x1 x2 x3 x4 x5 x6 x9 (p := 256) 0 (by omega) (by omega) inb_S1024x1024_S256x256_0_0
      (fun s t => View.readAt (Elt Ideal) arg10.view (Rect.unit (s := S1024x1024) ![0, 0] S256x256.size inb_S1024x1024_S256x256_0_0).toLoadRect (harg10.unread x9) (ix2 s t))
      (fun s d => View.readAt (Elt Ideal) arg6.view (Rect.unit (s := S1024x128) ![0, 0] S256x128.size inb_S1024x128_S256x128_0_0).toLoadRect (harg6.unread x5) (ix2 s d))
      (fun d t => kernelRun0.sl.v736 (F := Ideal) c i arg1 harg1 arg2 harg2 arg3 harg3 arg4 harg4 arg5 harg5 arg8 arg11 arg12 x0 x1 x2 x3 x4 (ix2 d t))
      (fun d t => kernelRun0.sl.v746 (F := Ideal) c i arg1 harg1 arg2 harg2 arg3 harg3 arg4 harg4 arg5 harg5 arg8 arg11 arg12 x0 x1 x2 x3 x4 (ix2 d t))
      (fun d t => kernelRun0.sl.v756 (F := Ideal) c i arg1 harg1 arg2 harg2 arg3 harg3 arg4 harg4 arg5 harg5 arg8 arg11 arg12 x0 x1 x2 x3 x4 (ix2 d t))
      (fun d t => kernelRun0.sl.v766 (F := Ideal) c i arg1 harg1 arg2 harg2 arg3 harg3 arg4 harg4 arg5 harg5 arg8 arg11 arg12 x0 x1 x2 x3 x4 (ix2 d t))
      (fun t => kernelRun0.sl.r_65 (F := Ideal) c i arg1 harg1 arg2 harg2 arg3 harg3 arg4 harg4 arg5 harg5 arg7 harg7 arg11 arg12 x0 x1 x2 x3 x4 x6 (ix2 0 t))
      (fun t => kernelRun0.sl.r_67 (F := Ideal) c i arg1 harg1 arg2 harg2 arg3 harg3 arg4 harg4 arg5 harg5 arg7 harg7 arg11 arg12 x0 x1 x2 x3 x4 x6 (ix2 0 t))
      (fun t => kernelRun0.sl.r_69 (F := Ideal) c i arg1 harg1 arg2 harg2 arg3 harg3 arg4 harg4 arg5 harg5 arg7 harg7 arg11 arg12 x0 x1 x2 x3 x4 x6 (ix2 0 t))
      (fun t => kernelRun0.sl.r_71 (F := Ideal) c i arg1 harg1 arg2 harg2 arg3 harg3 arg4 harg4 arg5 harg5 arg7 harg7 arg11 arg12 x0 x1 x2 x3 x4 x6 (ix2 0 t))
      (fun s t => unit_read (m := 1024) (n := 1024) arg10 harg10 x9 _ s t _ _) (fun s d => unit_read (m := 1024) (n := 128) arg6 harg6 x5 _ s d _ _)
      (hc 0 0 0 rfl (by omega) inb_S512x1024_S128x256_0_0) (hc 1 128 0 rfl (by omega) inb_S512x1024_S128x256_128_0) (hc 2 256 0 rfl (by omega) inb_S512x1024_S128x256_256_0) (hc 3 384 0 rfl (by omega) inb_S512x1024_S128x256_384_0)
      hf0 hf1 hf2 hf3 s t
  exact fun p hp => absurd hp List.not_mem_nil

/-- A score whose key block is not after its token block is in some store into the scores. -/
theorem score_cover (s t : Fin 1024) (h : s.val / 256 ≤ t.val / 256) :
    ∃ p ∈ scoreStores c i arg1 harg1 arg2 harg2 arg3 harg3 arg4 harg4 arg5 harg5 arg6 harg6 arg7 harg7 arg8 harg8 arg9 harg9 arg10 harg10 arg11 harg11 arg12 harg12 x0 x1 x2 x3 x4 x5 x6 x8 x9, (ix2 s t : S1024x1024.Idx) ∈ p.1.set := by
  have key : ∀ (p b : ℕ) (inb), s.val < p → b ≤ t.val → t.val < b + 256 →
      (ix2 s t : S1024x1024.Idx) ∈ (Rect.unit (s := S1024x1024) ![0, b] ![p, 256] inb).set := by
    intro p b inb h1 h2 h3
    refine Rect.mem_set_unit.2 fun a => ?_
    match a with
    | ⟨0, _⟩ => exact ⟨Nat.zero_le _, show s.val < 0 + p by omega⟩
    | ⟨1, _⟩ => exact ⟨h2, h3⟩
  dsimp only [scoreStores, kernelRun0]
  have h4 : t.val / 256 = 0 ∨ t.val / 256 = 1 ∨ t.val / 256 = 2 ∨ t.val / 256 = 3 := by omega
  rcases h4 with g | g | g | g
  · exact ⟨_, List.mem_cons_of_mem _ (List.mem_cons_of_mem _ (List.mem_cons_of_mem _ List.mem_cons_self)), by dsimp only; exact key 256 0 _ (by omega) (by omega) (by omega)⟩
  · exact ⟨_, List.mem_cons_of_mem _ (List.mem_cons_of_mem _ List.mem_cons_self), by dsimp only; exact key 512 256 _ (by omega) (by omega) (by omega)⟩
  · exact ⟨_, List.mem_cons_of_mem _ List.mem_cons_self, by dsimp only; exact key 768 512 _ (by omega) (by omega) (by omega)⟩
  · exact ⟨_, List.mem_cons_self, by dsimp only; exact key 1024 768 _ (by omega) (by omega) (by omega)⟩

/-- After one grid point a score whose key block is not after its token block holds `scoreVal`. -/
theorem score_read (s t : Fin 1024) (h : s.val / 256 ≤ t.val / 256) :
    arg10.view.read (Elt Ideal) (arg10.view.writes (Elt Ideal) (harg10.unread x9) (scoreStores c i arg1 harg1 arg2 harg2 arg3 harg3 arg4 harg4 arg5 harg5 arg6 harg6 arg7 harg7 arg8 harg8 arg9 harg9 arg10 harg10 arg11 harg11 arg12 harg12 x0 x1 x2 x3 x4 x5 x6 x8 x9)) (ix2 s t)
      = scoreVal i x0 x1 x2 x3 x4 x5 x6 x9 (ix2 s t) :=
  View.read_writes_apply_of_pieces (v := arg10.view) (f := harg10.unread x9) (scoreVal i x0 x1 x2 x3 x4 x5 x6 x9) _
    (score_pieces c i arg1 harg1 arg2 harg2 arg3 harg3 arg4 harg4 arg5 harg5 arg6 harg6 arg7 harg7 arg8 harg8 arg9 harg9 arg10 harg10 arg11 harg11 arg12 harg12 x0 x1 x2 x3 x4 x5 x6 x8 x9) (ix2 s t) (score_cover c i arg1 harg1 arg2 harg2 arg3 harg3 arg4 harg4 arg5 harg5 arg6 harg6 arg7 harg7 arg8 harg8 arg9 harg9 arg10 harg10 arg11 harg11 arg12 harg12 x0 x1 x2 x3 x4 x5 x6 x8 x9 s t h)

end Cert.FwdIdeal.Gen

end
-- ==== Proof.Fwd.Data.lean ====
module

public import proofs.«01_k».proof.Proof.Fwd.Score
public import Idealize.ShloMosaic.Lib.Pipeline.ArrRel
public import Idealize.ShloMosaic.Lib.Claim

@[expose] public section

set_option maxRecDepth 16384

/-! The launch of the forward kernel over the extended reals: what each grid point leaves in the three output blocks,
stated as a relation to what it found there, and the run with its frame. -/

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-! ## The staging memrefs -/

/-- Each window's current staging memref at point `t`, as the pipeline passes it, and its wholeness. -/
abbrev ms0_0 (t : Fin cfg0.N) : Memref sig .tc .smem S12x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .f32 := win0_9.stage (cfg0.slots t 9)
abbrev hs0_9 (t : Fin cfg0.N) : (ms0_9 t).IsWhole := hstage0_9 ((cfg0.slots t 9).cast nbuf0_9)
/-- The two scratch buffers: the dequantised weight and the projection. -/
abbrev scM0_0 : Memref sig .tc .vmem S1536x512 .bf16 := Memref.whole cc0_scratch0
abbrev scM0_1 : Memref sig .tc .vmem S512x1024 .f32 := Memref.whole cc0_scratch1

/-- The frame's invariant: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The proof data -/

/-- What a grid point leaves in the codes' block: the codes of its four heads. -/
def rel7 (c : Dev nD) (t : Fin cfg0.N) (X : Vec Ideal S512x1024 .fp8e4m3) : Prop :=
  ∀ y, X y = codes (grid0.coords t) (iblk m c 0 t) (iblk m c 1 t) (iblk m c 2 t) (iblk m c 3 t) (iblk m c 4 t) y

/-- What a grid point leaves in the scales: those of its four heads, every other row as found. -/
def rel8 (c : Dev nD) (t : Fin cfg0.N) (Y X : Vec Ideal S64x1024 .f32) : Prop :=
  ∀ (g : Fin 64) (k : Fin 1024), X (ix2 g k) = if g.val / 4 = (grid0.coords t 0).val
    then scales (grid0.coords t) (iblk m c 0 t) (iblk m c 1 t) (iblk m c 2 t) (iblk m c 3 t) (iblk m c 4 t) (ix2 g k) else Y (ix2 g k)

/-- What a grid point leaves in the scores whose key block is not after their token block: what was there (nothing at
    the first point) plus its four heads' parts. -/
def rel9 (c : Dev nD) (t : Fin cfg0.N) (Y X : Vec Ideal S1024x1024 .f32) : Prop :=
  ∀ (s k : Fin 1024), s.val / 256 ≤ k.val / 256 → X (ix2 s k)
    = scoreVal (grid0.coords t) (iblk m c 0 t) (iblk m c 1 t) (iblk m c 2 t) (iblk m c 3 t) (iblk m c 4 t) (iblk m c 5 t) (iblk m c 6 t) Y (ix2 s k)

/-- The exact part of the proof data: every input's buffer at its block. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The outputs' relations; none for an input. -/
def ovr (c : Dev nD) : (w : Fin cfg0.W) → Option (Fin cfg0.N → (Y X : (cfg0.win w).block.Idx → Elt Ideal (cfg0.win w).elt) → Prop)
  | ⟨7, _⟩ => some fun t _ X => rel7 m c t X
  | ⟨8, _⟩ => some fun t Y X => rel8 m c t Y X
  | ⟨9, _⟩ => some fun t Y X => rel9 m c t Y X
  | _ => none

/-- The proof data: the inputs exact, each output in its relation. -/
def rdat (c : Dev nD) : RDat τ (Elt Ideal) Unit ℕ (UR sig nD τ) ℕ cfg0 c := (dats m c).toR.override (ovr m c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]

/-- What the body finds in each input's buffer: its block. -/
theorem find0 (c : Dev nD) (t : Fin cfg0.N) (Y : (cfg0.win 0).block.Idx → Elt Ideal (cfg0.win 0).elt) (h : (rdat m c).Finds 0 t Y) : Y = iblk m c 0 t :=
  let ⟨d, hd⟩ := (dats m c).toR_finds 0 t Y (((dats m c).toR.override_finds (ovr := ovr m c) (w := 0) rfl t Y).mp h)
  hd.trans (before0_0_of m (dats m c) (A_eq m c 0) (after0_0 m c) t d)
theorem find1 (c : Dev nD) (t : Fin cfg0.N) (Y : (cfg0.win 1).block.Idx → Elt Ideal (cfg0.win 1).elt) (h : (rdat m c).Finds 1 t Y) : Y = iblk m c 1 t :=
  let ⟨d, hd⟩ := (dats m c).toR_finds 1 t Y (((dats m c).toR.override_finds (ovr := ovr m c) (w := 1) rfl t Y).mp h)
  hd.trans (before0_1_of m (dats m c) (A_eq m c 1) (after0_1 m c) t d)
theorem find2 (c : Dev nD) (t : Fin cfg0.N) (Y : (cfg0.win 2).block.Idx → Elt Ideal (cfg0.win 2).elt) (h : (rdat m c).Finds 2 t Y) : Y = iblk m c 2 t :=
  let ⟨d, hd⟩ := (dats m c).toR_finds 2 t Y (((dats m c).toR.override_finds (ovr := ovr m c) (w := 2) rfl t Y).mp h)
  hd.trans (before0_2_of m (dats m c) (A_eq m c 2) (after0_2 m c) t d)
theorem find3 (c : Dev nD) (t : Fin cfg0.N) (Y : (cfg0.win 3).block.Idx → Elt Ideal (cfg0.win 3).elt) (h : (rdat m c).Finds 3 t Y) : Y = iblk m c 3 t :=
  let ⟨d, hd⟩ := (dats m c).toR_finds 3 t Y (((dats m c).toR.override_finds (ovr := ovr m c) (w := 3) rfl t Y).mp h)
  hd.trans (before0_3_of m (dats m c) (A_eq m c 3) (after0_3 m c) t d)
theorem find4 (c : Dev nD) (t : Fin cfg0.N) (Y : (cfg0.win 4).block.Idx → Elt Ideal (cfg0.win 4).elt) (h : (rdat m c).Finds 4 t Y) : Y = iblk m c 4 t :=
  let ⟨d, hd⟩ := (dats m c).toR_finds 4 t Y (((dats m c).toR.override_finds (ovr := ovr m c) (w := 4) rfl t Y).mp h)
  hd.trans (before0_4_of m (dats m c) (A_eq m c 4) (after0_4 m c) t d)
theorem find5 (c : Dev nD) (t : Fin cfg0.N) (Y : (cfg0.win 5).block.Idx → Elt Ideal (cfg0.win 5).elt) (h : (rdat m c).Finds 5 t Y) : Y = iblk m c 5 t :=
  let ⟨d, hd⟩ := (dats m c).toR_finds 5 t Y (((dats m c).toR.override_finds (ovr := ovr m c) (w := 5) rfl t Y).mp h)
  hd.trans (before0_5_of m (dats m c) (A_eq m c 5) (after0_5 m c) t d)
theorem find6 (c : Dev nD) (t : Fin cfg0.N) (Y : (cfg0.win 6).block.Idx → Elt Ideal (cfg0.win 6).elt) (h : (rdat m c).Finds 6 t Y) : Y = iblk m c 6 t :=
  let ⟨d, hd⟩ := (dats m c).toR_finds 6 t Y (((dats m c).toR.override_finds (ovr := ovr m c) (w := 6) rfl t Y).mp h)
  hd.trans (before0_6_of m (dats m c) (A_eq m c 6) (after0_6 m c) t d)

/-- An input's block left in place is what its relation asks. -/
theorem keep0 (c : Dev nD) (t : Fin cfg0.N) (Y : (cfg0.win 0).block.Idx → Elt Ideal (cfg0.win 0).elt) : (rdat m c).after 0 t Y (iblk m c 0 t) :=
  (after0_0 m c t).symm
theorem keep1 (c : Dev nD) (t : Fin cfg0.N) (Y : (cfg0.win 1).block.Idx → Elt Ideal (cfg0.win 1).elt) : (rdat m c).after 1 t Y (iblk m c 1 t) :=
  (after0_1 m c t).symm
theorem keep2 (c : Dev nD) (t : Fin cfg0.N) (Y : (cfg0.win 2).block.Idx → Elt Ideal (cfg0.win 2).elt) : (rdat m c).after 2 t Y (iblk m c 2 t) :=
  (after0_2 m c t).symm
theorem keep3 (c : Dev nD) (t : Fin cfg0.N) (Y : (cfg0.win 3).block.Idx → Elt Ideal (cfg0.win 3).elt) : (rdat m c).after 3 t Y (iblk m c 3 t) :=
  (after0_3 m c t).symm
theorem keep4 (c : Dev nD) (t : Fin cfg0.N) (Y : (cfg0.win 4).block.Idx → Elt Ideal (cfg0.win 4).elt) : (rdat m c).after 4 t Y (iblk m c 4 t) :=
  (after0_4 m c t).symm
theorem keep5 (c : Dev nD) (t : Fin cfg0.N) (Y : (cfg0.win 5).block.Idx → Elt Ideal (cfg0.win 5).elt) : (rdat m c).after 5 t Y (iblk m c 5 t) :=
  (after0_5 m c t).symm
theorem keep6 (c : Dev nD) (t : Fin cfg0.N) (Y : (cfg0.win 6).block.Idx → Elt Ideal (cfg0.win 6).elt) : (rdat m c).after 6 t Y (iblk m c 6 t) :=
  (after0_6 m c t).symm

/-! ## The body obligation -/

/-- One run of the body at point `t`, its inputs' blocks in place, the scales at `Y8` and the scores at `Y9`. -/
theorem sound_body (c : Dev nD) (t : Fin cfg0.N) (Y8 : Vec Ideal S64x1024 .f32) (Y9 : Vec Ideal S1024x1024 .f32) (O : sProp 𝕄) :
    iprop(Pipeline.ΦA spec0 c ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ (∃ d, owns (c : Thread nD τ) (ms0_7 t) fullShare d)
      ∗ owns (c : Thread nD τ) (ms0_8 t) fullShare Y8
      ∗ owns (c : Thread nD τ) (ms0_9 t) fullShare Y9)
    ⊢ wp frame (wpE (defs₀ (F := Ideal)) Variants.none c none) Set.univ (bodyAt0 t) (fun _ => iprop(Pipeline.ΦA spec0 c ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ (∃ X, ⌜rel7 m c t X⌝ ∗ owns (c : Thread nD τ) (ms0_7 t) fullShare X)
      ∗ (∃ X, ⌜rel8 m c t Y8 X⌝ ∗ owns (c : Thread nD τ) (ms0_8 t) fullShare X)
      ∗ (∃ X, ⌜rel9 m c t Y9 X⌝ ∗ owns (c : Thread nD τ) (ms0_9 t) fullShare X))) := by
  unfold bodyAt0
  rw [PhiA0_eq]
  iintro ⟨⟨⟨HS0, HS1⟩, Hg⟩, Ho, H0, H1, H2, H3, H4, H5, H6, H7, H8, H9⟩
  iapply ((kernelRun0 (F := Ideal) c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y8 Y9).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, ⟨%f, H7⟩, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; intro y; exact codes_read c _ _ _ _ _ _ _ _ _ _ _ _ _ _ _ _ _ _ _ f y
  isplitl [H8]
  · iexists _; isplitr; swap; · iexact H8
    ipureintro; intro g k; exact scale_read c _ _ _ _ _ _ _ _ _ _ _ _ _ _ _ _ _ _ _ _ _ _ _ _ _ _ _ _ _ _ _ _ _ _ g k
  iexists _; isplitr; swap; · iexact H9
  ipureintro; intro s k h; exact score_read c _ _ _ _ _ _ _ _ _ _ _ _ _ _ _ _ _ _ _ _ _ _ _ _ _ _ _ _ _ _ _ _ _ _ s k h

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Ideal)) Variants.none () Set.univ := fun t Y hY => by
  rw [bigSep_W0, bigSep_W0, defs₀_row]
  have e0 := find0 m c t (Y 0) (hY 0)
  have e1 := find1 m c t (Y 1) (hY 1)
  have e2 := find2 m c t (Y 2) (hY 2)
  have e3 := find3 m c t (Y 3) (hY 3)
  have e4 := find4 m c t (Y 4) (hY 4)
  have e5 := find5 m c t (Y 5) (hY 5)
  have e6 := find6 m c t (Y 6) (hY 6)
  rw [e0, e1, e2, e3, e4, e5, e6, show (rdat m c).Φ t.castSucc = Pipeline.ΦA spec0 c from rfl, show (rdat m c).Φ t.succ = Pipeline.ΦA spec0 c from rfl]
  refine triple_restated (sound_body m c t (Y 8) (Y 9) ((rdat m c).owesAt () t.castSucc)) rfl ?_ fun _ => ?_
  · iintro ⟨HA, Ho, H0, H1, H2, H3, H4, H5, H6, H7, H8, H9⟩
    isplitl [HA]; · iexact HA
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iexact H9
  · iintro ⟨HA, Ho, H0, H1, H2, H3, H4, H5, H6, ⟨%X7, %h7, H7⟩, ⟨%X8, %h8, H8⟩, ⟨%X9, %h9, H9⟩⟩
    isplitl [HA]; · iexact HA
    isplitl [Ho]; · iexact Ho
    isplitl [H0]
    · iexists (iblk m c 0 t); isplitr; · ipureintro; exact keep0 m c t _
      iexact H0
    isplitl [H1]
    · iexists (iblk m c 1 t); isplitr; · ipureintro; exact keep1 m c t _
      iexact H1
    isplitl [H2]
    · iexists (iblk m c 2 t); isplitr; · ipureintro; exact keep2 m c t _
      iexact H2
    isplitl [H3]
    · iexists (iblk m c 3 t); isplitr; · ipureintro; exact keep3 m c t _
      iexact H3
    isplitl [H4]
    · iexists (iblk m c 4 t); isplitr; · ipureintro; exact keep4 m c t _
      iexact H4
    isplitl [H5]
    · iexists (iblk m c 5 t); isplitr; · ipureintro; exact keep5 m c t _
      iexact H5
    isplitl [H6]
    · iexists (iblk m c 6 t); isplitr; · ipureintro; exact keep6 m c t _
      iexact H6
    isplitl [H7]
    · iexists X7; isplitr; · ipureintro; exact h7
      iexact H7
    isplitl [H8]
    · iexists X8; isplitr; · ipureintro; exact h8
      iexact H8
    iexists X9; isplitr; · ipureintro; exact h9
    iexact H9

/-! ## The run and the frame -/

set_option backward.isDefEq.respectTransparency.types false in
/-- Every execution terminates, with every array as the proof data say and every semaphore counter at zero. -/
theorem run_main : θ_run defs (onTc (τ := τ) (main (F := Ideal))) (s₀ m ρ)
    (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := body_obligation m) (hshare := fun c => (dats m c).share_full fun _ => rfl)
    (howed := fun _ _ => rfl) (V := V m) (hmain := hmain m Variants.none) (hA := A_eq m) (hΦ := fun _ _ => rfl)

/-- The argument arrays end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c))⟩, h.2⟩) (run_main m ρ)

end Cert.FwdIdeal.Gen

end
-- ==== Proof.Fwd.Spec.lean ====
module

public import proofs.«01_k».proof.Proof.Fwd.Math
public import Idealize.ShloMosaic.Lib.IdealHost

@[expose] public section

/-! What the forward pass computes over the extended reals, as functions of its seven argument arrays: the codes and
scales of the quantised queries, and the scores of every key against every token. -/

noncomputable section

namespace Cert.FwdMath

open Idealize.ShloMosaic

variable (a0 : Vec Ideal ⟨2, ![12, 64]⟩ .f32) (a1 : Vec Ideal ⟨2, ![1536, 8192]⟩ .fp8e4m3) (a2 : Vec Ideal ⟨2, ![1536, 1024]⟩ .bf16)
  (a3 a4 : Vec Ideal ⟨2, ![32, 1024]⟩ .f32) (a5 : Vec Ideal ⟨2, ![1024, 128]⟩ .fp8e4m3) (a6 : Vec Ideal ⟨2, ![64, 1024]⟩ .f32)

/-- A head's query at a token before rotation: the weight, each code times the scale of its 128 by 128 tile, transposed
    times the token's input. -/
def qcol (g : Fin 64) (t : Fin 1024) (d : Fin 128) : EReal :=
  ∑ x : Fin 1536, (a1 (ix2 (n0 := 1536) (n1 := 8192) x ⟨128 * g.val + d.val, by omega⟩) * a0 (ix2 (n0 := 12) (n1 := 64) ⟨x.val / 128, by omega⟩ g))
    * a2 (ix2 (n0 := 1536) (n1 := 1024) x t)

/-- A head's rotated query at a token. -/
def head (g : Fin 64) (t : Fin 1024) : Fin 128 → EReal :=
  rope (qcol a0 a1 a2 g t) (fun k => a3 (ix2 (n0 := 32) (n1 := 1024) k t)) (fun k => a4 (ix2 (n0 := 32) (n1 := 1024) k t))

/-- The codes of the quantised queries, head by head down the rows, token by token along the columns. -/
def codesOf (y : (⟨2, ![8192, 1024]⟩ : Shape).Idx) : EReal :=
  code (head a0 a1 a2 a3 a4 ⟨(y 0).val / 128, by have : (y 0).val < 8192 := (y 0).isLt; omega⟩ (y 1)) ⟨(y 0).val % 128, Nat.mod_lt _ (by decide)⟩

/-- The scales of the quantised queries. -/
def scalesOf (y : (⟨2, ![64, 1024]⟩ : Shape).Idx) : EReal := scl (head a0 a1 a2 a3 a4 (y 0) (y 1))

/-- One head's part of a score. -/
def headPart (s t : Fin 1024) (g : Fin 64) : EReal :=
  part (fun d => a5 (ix2 (n0 := 1024) (n1 := 128) s d)) (head a0 a1 a2 a3 a4 g t) (a6 (ix2 (n0 := 64) (n1 := 1024) g t))

/-- The scores: the sum of the heads' parts. -/
def scoreOf (y : (⟨2, ![1024, 1024]⟩ : Shape).Idx) : EReal := ∑ g : Fin 64, headPart a0 a1 a2 a3 a4 a5 a6 (y 0) (y 1) g

/-- The constant 448. -/
theorem c448 : Ideal.ofBits .f32 1138753536#32 = ((448 : ℝ) : EReal) := by
  rw [show (1138753536#32 : BitVec 32) = 0x43E00000#32 from rfl]
  simp [Ideal.ofBits, Ideal.ieee, -EReal.coe_mul]; norm_num

/-- The largest magnitude of a column is not negative. -/
theorem amax_nonneg (v : Fin 128 → EReal) : 0 ≤ amax v := by
  refine (Finset.le_fold_max (s := Finset.univ) (0 : EReal)).2 (Or.inr ⟨0, Finset.mem_univ _, ?_⟩)
  show (0 : EReal) ≤ max (v 0) (-(v 0))
  rcases le_total 0 (v 0) with h | h
  · exact le_max_of_le_left h
  · exact le_max_of_le_right (EReal.neg_nonneg.2 h)

/-- A column's scale is not negative. -/
theorem scl_nonneg (v : Fin 128 → EReal) : 0 ≤ scl v := by
  unfold scl
  split
  · exact zero_le_one
  · rw [c448, Ideal.div_coe (by norm_num)]
    exact mul_nonneg (amax_nonneg v) (EReal.coe_nonneg.2 (by norm_num))

/-- A factor that is not negative passes through the rectification. -/
theorem max_mul_nonneg (z s : EReal) (hs : 0 ≤ s) : max (z * s) 0 = max z 0 * s := by
  rcases le_total 0 z with h | h
  · rw [max_eq_left h, max_eq_left (mul_nonneg h hs)]
  · rw [max_eq_right h, zero_mul, max_eq_right]
    exact mul_nonpos_of_nonpos_of_nonneg h hs

/-- The reference's way to multiply a head's part: the weight times the rectified product of the codes and the scale. -/
theorem part_eq (k v : Fin 128 → EReal) (w : EReal) : part k v w = w * max ((∑ d, k d * code v d) * scl v) 0 := by
  rw [max_mul_nonneg _ _ (scl_nonneg v), part, ← mul_assoc, mul_comm]

end Cert.FwdMath

end
-- ==== Proof.Fwd.Point.lean ====
module

public import proofs.«01_k».proof.Proof.Fwd.Data
public import proofs.«01_k».proof.Proof.Fwd.Spec

@[expose] public section

set_option maxRecDepth 16384

/-! What one grid point of the forward kernel computes, in the functions of Spec: its four heads' codes, scales and
parts of the scores. -/

noncomputable section

namespace Cert.FwdIdeal.Gen

open Idealize.ShloMosaic Idealize.ShloMosaic.TcCoe
open Cert.FwdMath

/-- A column of a grid point's block of the weight is a column of the weight. -/
theorem col_lt (i : grid0.Coords) (l : Fin 512) : 512 * (i 0).val + l.val < 8192 := by have := pt_lt i; omega

variable (a0 : Vec Ideal S12x64 .f32) (a1 : Vec Ideal S1536x8192 .fp8e4m3) (a2 : Vec Ideal S1536x1024 .bf16)
  (a3 a4 : Vec Ideal S32x1024 .f32) (a5 : Vec Ideal S1024x128 .fp8e4m3) (a6 : Vec Ideal S64x1024 .f32)
  (i : grid0.Coords) (x1 : Vec Ideal S1536x512 .fp8e4m3)
  (hx : ∀ (x : Fin 1536) (l : Fin 512), x1 (ix2 x l) = a1 (ix2 x ⟨512 * (i 0).val + l.val, col_lt i l⟩))

include hx

/-- A grid point's rotated query is that of the head it stands for. -/
theorem vcol_eq (h : Fin 4) (t : Fin 1024) :
    vcol i a0 x1 a2 a3 a4 h t = head a0 a1 a2 a3 a4 ⟨4 * (i 0).val + h.val, by have := pt_lt i; omega⟩ t := by
  refine congrArg (fun q => rope q (tabOf a3 t) (tabOf a4 t)) (funext fun d => Finset.sum_congr rfl fun x _ => ?_)
  have hp := pt_lt i
  refine congrArg (· * a2 (ix2 x t)) (congrArg₂ (· * ·) ((hx _ _).trans (congrArg a1 (congrArg (ix2 x) (Fin.ext ?_)))) (congrArg a0 (congrArg (ix2 _) (Fin.ext ?_))))
  · show 512 * (i 0).val + (128 * h.val + d.val) = 128 * (4 * (i 0).val + h.val) + d.val
    omega
  · show 4 * (i 0).val + (128 * h.val + d.val) / 128 = 4 * (i 0).val + h.val
    omega

/-- The codes a grid point leaves are its heads' rows of the codes. -/
theorem codes_at (r : Fin 512) (t : Fin 1024) :
    codes i a0 x1 a2 a3 a4 (ix2 r t) = codesOf a0 a1 a2 a3 a4 (ix2 (n0 := 8192) (n1 := 1024) ⟨512 * (i 0).val + r.val, col_lt i r⟩ t) := by
  have hp := pt_lt i
  refine (congrArg (fun v => code v _) (vcol_eq a0 a1 a2 a3 a4 i x1 hx _ t)).trans ?_
  refine congr (congrArg (fun g => code (head a0 a1 a2 a3 a4 g t)) (Fin.ext ?_)) (Fin.ext ?_)
  · show 4 * (i 0).val + r.val / 128 = (512 * (i 0).val + r.val) / 128
    omega
  · show r.val % 128 = (512 * (i 0).val + r.val) % 128
    omega

/-- The scales a grid point leaves are its heads' rows of the scales. -/
theorem scales_at (g : Fin 64) (t : Fin 1024) (hg : g.val / 4 = (i 0).val) :
    scales i a0 x1 a2 a3 a4 (ix2 g t) = scalesOf a0 a1 a2 a3 a4 (ix2 g t) := by
  refine (congrArg scl (vcol_eq a0 a1 a2 a3 a4 i x1 hx _ t)).trans ?_
  refine congrArg (fun g => scl (head a0 a1 a2 a3 a4 g t)) (Fin.ext ?_)
  show 4 * (i 0).val + g.val % 4 = g.val
  omega

omit hx in
/-- The heads' parts of a score, numbered by natural numbers. -/
def partN (s t : Fin 1024) (n : ℕ) : EReal := if h : n < 64 then headPart a0 a1 a2 a3 a4 a5 a6 s t ⟨n, h⟩ else 0

omit hx in
/-- The body starts the scores from nothing at the first point only. -/
theorem start_eq (n : ℕ) (hn : n < 16) (x : EReal) :
    Scalar.select (Scalar.cmpi .eq (BitVec.ofNat 32 n) 0#32) (0 : EReal) x = if n = 0 then 0 else x := by
  have : ∀ n : Fin 16, Scalar.cmpi .eq (BitVec.ofNat 32 n.val) 0#32 = if n.val = 0 then 1#1 else 0#1 := by decide
  rw [this ⟨n, hn⟩]
  by_cases h : n = 0
  · simp [h, Scalar.select]
  · simp [h, Scalar.select]

/-- What a grid point leaves in a score: what it starts from and its four heads' parts. -/
theorem scoreVal_at (Y : Vec Ideal S1024x1024 .f32) (s t : Fin 1024) :
    scoreVal i a0 x1 a2 a3 a4 a5 a6 Y (ix2 s t)
      = (if (i 0).val = 0 then 0 else Y (ix2 s t)) + ∑ j ∈ Finset.range 4, partN a0 a1 a2 a3 a4 a5 a6 s t (4 * (i 0).val + j) := by
  have hp := pt_lt i
  have e : ∀ (j : ℕ) (hj : j < 4), max (∑ d, a5 (ix2 s d) * code (vcol i a0 x1 a2 a3 a4 ⟨j, hj⟩ t) d) 0 * fac i a0 x1 a2 a3 a4 a6 ⟨j, hj⟩ t
      = partN a0 a1 a2 a3 a4 a5 a6 s t (4 * (i 0).val + j) := fun j hj => by
    rw [fac, vcol_eq a0 a1 a2 a3 a4 i x1 hx, partN, dif_pos (show 4 * (i 0).val + j < 64 by omega)]
    rfl
  rw [Finset.sum_range_succ, Finset.sum_range_succ, Finset.sum_range_succ, Finset.sum_range_one, ← e 0 (by decide), ← e 1 (by decide), ← e 2 (by decide), ← e 3 (by decide),
    ← start_eq (i 0).val hp]
  simp only [← add_assoc]
  rfl

end Cert.FwdIdeal.Gen

end
-- ==== Proof.Fwd.Final.lean ====
module

public import proofs.«01_k».proof.Proof.Fwd.Point

@[expose] public section

set_option maxRecDepth 16384

/-! The result arrays of the forward kernel over the extended reals: the codes and scales of the queries, and the
scores wherever the key's block is not after the token's. -/

noncomputable section

namespace Cert.FwdIdeal.Gen

open Idealize.ShloMosaic Idealize.ShloMosaic.TcCoe Idealize.SL.Sem
open Idealize.ShloMosaic.Pipeline (Dat RDat)
open Cert.FwdMath

variable (m : (ℓ : Loc nD τ sig) → Buf (Elt Ideal) ℓ) (ρ : Dev nD → PrngReg)

/-! ## The input blocks -/

/-- The grid point's number is its coordinate. -/
theorem coord_val : ∀ t : Fin cfg0.N, (grid0.coords t 0).val = t.val :=
  (by decide +kernel : ∀ t : Fin grid0.N, (grid0.coords t 0).val = t.val)

theorem idx_0 : ∀ t : Fin cfg0.N, win0_0.index t 0 = 0 ∧ win0_0.index t 1 = 0 :=
  (by decide +kernel : ∀ t : Fin grid0.N, win0_0.index t 0 = 0 ∧ win0_0.index t 1 = 0)
theorem idx_1 : ∀ t : Fin cfg0.N, win0_1.index t 0 = 0 ∧ win0_1.index t 1 = (grid0.coords t 0).val :=
  (by decide +kernel : ∀ t : Fin grid0.N, win0_1.index t 0 = 0 ∧ win0_1.index t 1 = (grid0.coords t 0).val)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = 0 ∧ win0_6.index t 1 = 0 :=
  (by decide +kernel : ∀ t : Fin grid0.N, win0_6.index t 0 = 0 ∧ win0_6.index t 1 = 0)
theorem idx_7 : ∀ t : Fin cfg0.N, win0_7.index t 0 = (grid0.coords t 0).val ∧ win0_7.index t 1 = 0 :=
  (by decide +kernel : ∀ t : Fin grid0.N, win0_7.index t 0 = (grid0.coords t 0).val ∧ win0_7.index t 1 = 0)

/-- The scale table's block is the whole table. -/
theorem iblk_0 (c : Dev nD) (t : Fin cfg0.N) : iblk m c 0 t = V m c main_arg0 := by
  funext j
  refine congrArg (V m c main_arg0) (funext fun a => Fin.ext ?_)
  match a with
  | 0 => show win0_0.index t (0 : Fin 2) * 12 + 1 * (j 0).val = (j 0).val; have := (idx_0 t).1; omega
  | 1 => show win0_0.index t (1 : Fin 2) * 64 + 1 * (j 1).val = (j 1).val; have := (idx_0 t).2; omega

/-- The weight's block is 512 columns of the weight. -/
theorem iblk_1 (c : Dev nD) (t : Fin cfg0.N) (x : Fin 1536) (l : Fin 512) :
    (iblk m c 1 t : Vec Ideal S1536x512 .fp8e4m3) (ix2 x l)
      = (V m c main_arg1 : Vec Ideal S1536x8192 .fp8e4m3) (ix2 x ⟨512 * (grid0.coords t 0).val + l.val, col_lt (grid0.coords t) l⟩) := by
  refine congrArg (V m c main_arg1) (funext fun a => Fin.ext ?_)
  match a with
  | 0 => show win0_1.index t (0 : Fin 2) * 1536 + 1 * x.val = x.val; have := (idx_1 t).1; omega
  | 1 => show win0_1.index t (1 : Fin 2) * 512 + 1 * l.val = 512 * (grid0.coords t 0).val + l.val; have := (idx_1 t).2; omega

/-- The tokens' block is all of them. -/
theorem iblk_2 (c : Dev nD) (t : Fin cfg0.N) : iblk m c 2 t = V m c main_arg2 := by
  funext j
  refine congrArg (V m c main_arg2) (funext fun a => Fin.ext ?_)
  match a with
  | 0 => show win0_2.index t (0 : Fin 2) * 1536 + 1 * (j 0).val = (j 0).val; have := (idx_2 t).1; omega
  | 1 => show win0_2.index t (1 : Fin 2) * 1024 + 1 * (j 1).val = (j 1).val; have := (idx_2 t).2; omega

/-- The cosines' block is the whole table. -/
theorem iblk_3 (c : Dev nD) (t : Fin cfg0.N) : iblk m c 3 t = V m c main_arg3 := by
  funext j
  refine congrArg (V m c main_arg3) (funext fun a => Fin.ext ?_)
  match a with
  | 0 => show win0_3.index t (0 : Fin 2) * 32 + 1 * (j 0).val = (j 0).val; have := (idx_3 t).1; omega
  | 1 => show win0_3.index t (1 : Fin 2) * 1024 + 1 * (j 1).val = (j 1).val; have := (idx_3 t).2; omega

/-- The sines' block is the whole table. -/
theorem iblk_4 (c : Dev nD) (t : Fin cfg0.N) : iblk m c 4 t = V m c main_arg4 := by
  funext j
  refine congrArg (V m c main_arg4) (funext fun a => Fin.ext ?_)
  match a with
  | 0 => show win0_4.index t (0 : Fin 2) * 32 + 1 * (j 0).val = (j 0).val; have := (idx_4 t).1; omega
  | 1 => show win0_4.index t (1 : Fin 2) * 1024 + 1 * (j 1).val = (j 1).val; have := (idx_4 t).2; omega

/-- The keys' block is all of them. -/
theorem iblk_5 (c : Dev nD) (t : Fin cfg0.N) : iblk m c 5 t = V m c main_arg5 := by
  funext j
  refine congrArg (V m c main_arg5) (funext fun a => Fin.ext ?_)
  match a with
  | 0 => show win0_5.index t (0 : Fin 2) * 1024 + 1 * (j 0).val = (j 0).val; have := (idx_5 t).1; omega
  | 1 => show win0_5.index t (1 : Fin 2) * 128 + 1 * (j 1).val = (j 1).val; have := (idx_5 t).2; omega

/-- The head weights' block is all of them. -/
theorem iblk_6 (c : Dev nD) (t : Fin cfg0.N) : iblk m c 6 t = V m c main_arg6 := by
  funext j
  refine congrArg (V m c main_arg6) (funext fun a => Fin.ext ?_)
  match a with
  | 0 => show win0_6.index t (0 : Fin 2) * 64 + 1 * (j 0).val = (j 0).val; have := (idx_6 t).1; omega
  | 1 => show win0_6.index t (1 : Fin 2) * 1024 + 1 * (j 1).val = (j 1).val; have := (idx_6 t).2; omega

/-! ## What the points leave -/

/-- The codes of the launch's arguments. -/
def codesM (c : Dev nD) : S8192x1024.Idx → EReal := codesOf (V m c main_arg0) (V m c main_arg1) (V m c main_arg2) (V m c main_arg3) (V m c main_arg4)
/-- The scales of the launch's arguments. -/
def scalesM (c : Dev nD) : S64x1024.Idx → EReal := scalesOf (V m c main_arg0) (V m c main_arg1) (V m c main_arg2) (V m c main_arg3) (V m c main_arg4)
/-- The heads' parts of the scores of the launch's arguments. -/
def partM (c : Dev nD) : Fin 1024 → Fin 1024 → ℕ → EReal :=
  partN (V m c main_arg0) (V m c main_arg1) (V m c main_arg2) (V m c main_arg3) (V m c main_arg4) (V m c main_arg5) (V m c main_arg6)

/-- The codes' block after a point. -/
theorem leaves7 (c : Dev nD) (t : Fin cfg0.N) (X) (h : (rdat m c).Leaves 7 t X) (r : Fin 512) (k : Fin 1024) :
    (X : Vec Ideal S512x1024 .fp8e4m3) (ix2 r k) = codesM m c (ix2 (n0 := 8192) (n1 := 1024) ⟨512 * (grid0.coords t 0).val + r.val, col_lt (grid0.coords t) r⟩ k) := by
  obtain ⟨Y, -, hr⟩ := h
  have hr : rel7 m c t X := hr
  rw [hr, iblk_0, iblk_2, iblk_3, iblk_4]
  exact codes_at _ _ _ _ _ _ _ (iblk_1 m c t) r k

/-- After a point the scales of its heads and of all heads before are in place. -/
theorem leaves8 (c : Dev nD) : ∀ (n : ℕ) (t : Fin cfg0.N), t.val = n → ∀ X, (rdat m c).Leaves 8 t X → ∀ (g : Fin 64) (k : Fin 1024), g.val / 4 ≤ n →
    (X : Vec Ideal S64x1024 .f32) (ix2 g k) = scalesM m c (ix2 g k) := by
  intro n
  induction n with
  | zero =>
    rintro t ht X ⟨Y, -, hr⟩ g k hg
    have hr : rel8 m c t Y X := hr
    have hc := coord_val t
    have hg' : g.val / 4 = (grid0.coords t 0).val := by omega
    rw [hr, if_pos hg', iblk_0, iblk_2, iblk_3, iblk_4]
    exact scales_at _ _ _ _ _ _ _ (iblk_1 m c t) g k hg'
  | succ n ih =>
    rintro t ht X ⟨Y, hY, hr⟩ g k hg
    have hr : rel8 m c t Y X := hr
    have hc := coord_val t
    rw [hr]
    by_cases hg' : g.val / 4 = (grid0.coords t 0).val
    · rw [if_pos hg', iblk_0, iblk_2, iblk_3, iblk_4]
      exact scales_at _ _ _ _ _ _ _ (iblk_1 m c t) g k hg'
    · rw [if_neg hg']
      have hN : t.val < 16 := t.isLt
      rcases ((rdat m c).finds_of_pos ((cfg0.win 8).fetch_out rfl _) (by omega) Y).mp hY with hf | hL
      · have := (flush0_8 _).mp hf
        have : (t.val - 1) % 16 = 15 := this
        omega
      · exact ih _ (by show t.val - 1 = n; omega) Y hL g k (by omega)

/-- After a point the scores hold the parts of its heads and of all heads before. -/
theorem leaves9 (c : Dev nD) (s k : Fin 1024) (hsk : s.val / 256 ≤ k.val / 256) : ∀ (n : ℕ) (t : Fin cfg0.N), t.val = n → ∀ X, (rdat m c).Leaves 9 t X →
    (X : Vec Ideal S1024x1024 .f32) (ix2 s k) = ∑ j ∈ Finset.range (4 * n + 4), partM m c s k j := by
  have step : ∀ (t : Fin cfg0.N) (Y X), rel9 m c t Y X → (X : Vec Ideal S1024x1024 .f32) (ix2 s k)
      = (if t.val = 0 then 0 else Y (ix2 s k)) + ∑ j ∈ Finset.range 4, partM m c s k (4 * t.val + j) := fun t Y X hr => by
    rw [hr s k hsk, iblk_0, iblk_2, iblk_3, iblk_4, iblk_5, iblk_6, ← coord_val t]
    exact scoreVal_at _ _ _ _ _ _ _ _ _ (iblk_1 m c t) Y s k
  intro n
  induction n with
  | zero =>
    rintro t ht X ⟨Y, -, hr⟩
    rw [step t Y X hr, if_pos ht, ht, zero_add]
    simp only [Nat.mul_zero, Nat.zero_add]
  | succ n ih =>
    rintro t ht X ⟨Y, hY, hr⟩
    have hN : t.val < 16 := t.isLt
    rw [step t Y X hr, if_neg (by omega)]
    rcases ((rdat m c).finds_of_pos ((cfg0.win 9).fetch_out rfl _) (by omega) Y).mp hY with hf | hL
    · have := (flush0_9 _).mp hf
      have : (t.val - 1) % 16 = 15 := this
      omega
    · rw [ih _ (by show t.val - 1 = n; omega) Y hL, ht]
      exact (Finset.sum_range_add (partM m c s k) (4 * n + 4) 4).symm

/-! ## The result arrays -/

/-- The last grid point. -/
abbrev last : Fin cfg0.N := (⟨15, by decide⟩ : Fin grid0.N)

theorem whole8 : (cfg0.win 8).WholeAt last := (by decide +kernel : win0_8.WholeAt ⟨15, by decide⟩)
theorem whole9 : (cfg0.win 9).WholeAt last := (by decide +kernel : win0_9.WholeAt ⟨15, by decide⟩)

/-- The codes' array after the run. -/
theorem final7 (c : Dev nD) (after) (h : ∀ u : Fin cfg0.N, (cfg0.win 7).flush u = true → (rdat m c).Leaves 7 u (after 7 u)) :
    ((rdat m c).withAfter after).arrAt 7 cfg0.N = codesM m c := by
  refine ((rdat m c).withAfter after).arrAt_eq_of_covers 7 (codesM m c) (by decide +kernel) fun t hf y => ?_
  obtain ⟨r, k, rfl⟩ : ∃ (r : Fin 512) (k : Fin 1024), y = ix2 r k := ⟨y 0, y 1, (ix2_eta y).symm⟩
  refine (leaves7 m c t _ (h t hf) r k).trans (congrArg (codesM m c) (funext fun a => Fin.ext ?_))
  match a with
  | 0 => show 512 * (grid0.coords t 0).val + r.val = win0_7.index t (0 : Fin 2) * 512 + 1 * r.val; have := (idx_7 t).1; omega
  | 1 => show k.val = win0_7.index t (1 : Fin 2) * 1024 + 1 * k.val; have := (idx_7 t).2; omega

/-- The scales' array after the run. -/
theorem final8 (c : Dev nD) (after) (h : ∀ u : Fin cfg0.N, (cfg0.win 8).flush u = true → (rdat m c).Leaves 8 u (after 8 u)) :
    ((rdat m c).withAfter after).arrAt 8 cfg0.N = scalesM m c := by
  refine ((rdat m c).withAfter after).arrAt_eq_of_after_last 8 last whole8 (scalesM m c) fun y => ?_
  obtain ⟨g, k, rfl⟩ : ∃ (r : Fin 64) (k : Fin 1024), y = ix2 r k := ⟨y 0, y 1, (ix2_eta y).symm⟩
  exact leaves8 m c 15 last rfl _ (h last whole8.1) g k (by omega)

/-- The scores' array after the run, at a key whose block is not after the token's. -/
theorem final9 (c : Dev nD) (after) (h : ∀ u : Fin cfg0.N, (cfg0.win 9).flush u = true → (rdat m c).Leaves 9 u (after 9 u))
    (s k : Fin 1024) (hsk : s.val / 256 ≤ k.val / 256) :
    (((rdat m c).withAfter after).arrAt 9 cfg0.N : Vec Ideal S1024x1024 .f32) (ix2 s k)
      = scoreOf (V m c main_arg0) (V m c main_arg1) (V m c main_arg2) (V m c main_arg3) (V m c main_arg4) (V m c main_arg5) (V m c main_arg6) (ix2 s k) := by
  refine (((rdat m c).withAfter after).arrAt_emb_eq_after_last 9 last whole9 (ix2 s k)).trans ?_
  refine (leaves9 m c s k hsk 15 last rfl _ (h last whole9.1)).trans ?_
  exact (Finset.sum_range (partM m c s k)).trans (Finset.sum_congr rfl fun g _ => dif_pos g.isLt)

/-- Every run of the forward kernel over the extended reals ends with the codes and scales of its arguments, with their
    scores wherever the key's block is not after the token's, and with the arguments unchanged. -/
theorem kernel_run : θ_run defs (onTc (τ := τ) (main (F := Ideal))) ⟨m, fun _ => 0, ρ⟩ (fun r => ∀ c : Dev nD,
      r.2.mem ((c.tc : Thread nD τ).loc main_v0_0) = codesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_1) = scalesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ (∀ s k : Fin 1024, s.val / 256 ≤ k.val / 256 → (r.2.mem ((c.tc : Thread nD τ).loc main_v0_2) : Vec Ideal S1024x1024 .f32) (ix2 s k)
          = scoreOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 s k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  obtain ⟨after, hL, hA⟩ := Pipeline.RDat.FramePost.exists_exact h.1 c
  have e7 := (hA 7).trans (final7 m c after (hL 7))
  have e8 := (hA 8).trans (final8 m c after (hL 8))
  have e9 := fun s k hsk => (congrFun (hA 9) (ix2 (n0 := 1024) (n1 := 1024) s k)).trans (final9 m c after (hL 9) s k hsk)
  unfold codesM at e7
  unfold scalesM at e8
  rw [V_main_arg0, V_main_arg1, V_main_arg2, V_main_arg3, V_main_arg4] at e7 e8
  rw [V_main_arg0, V_main_arg1, V_main_arg2, V_main_arg3, V_main_arg4, V_main_arg5, V_main_arg6] at e9
  exact ⟨e7, e8, e9,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c))⟩

end Cert.FwdIdeal.Gen

end
-- ==== Proof.Fwd.Reference.lean ====
module

public import proofs.«01_k».proof.Proof.Fwd.Spec
public import proofs.«01_k».proof.Proof.Gen.FwdRefIdeal.Value

@[expose] public section

set_option maxRecDepth 16384

/-! What the reference computes over the extended reals: the functions of Spec. -/

noncomputable section

namespace Cert.FwdRefIdeal.Read

open Cert.FwdRefIdeal Cert.FwdRefIdeal.Gen Idealize.ShloMosaic Idealize.ShloMosaic.TcCoe
open Cert.FwdMath

variable (a0 : Vec Ideal S12x64 .f32) (a1 : Vec Ideal S1536x8192 .fp8e4m3) (a2 : Vec Ideal S1536x1024 .bf16)
  (a3 a4 : Vec Ideal S32x1024 .f32) (a5 : Vec Ideal S1024x128 .fp8e4m3) (a6 : Vec Ideal S64x1024 .f32)

/-- The dequantised weight, as the reference computes it. -/
def wdeq (a1 : Vec Ideal S1536x8192 .fp8e4m3) (a0 : Vec Ideal S12x64 .f32) : FVec Ideal S1536x8192 .bf16 :=
  shapeCast S1536x8192 (mulf (shapeCast S12x128x64x128 (extf .bf16 a1 bitsLt_fp8e4m3_bf16) shapeCasts_S1536x8192_S12x128x64x128)
    (broadcastTo S12x128x64x128 (shapeCast S12x1x64x1 (truncf .bf16 a0 bitsLt_bf16_f32) shapeCasts_S12x64_S12x1x64x1) broadcasts_S12x1x64x1_S12x128x64x128))
    shapeCasts_S12x128x64x128_S1536x8192

/-- The projection, as the reference computes it. -/
def proj (w : FVec Ideal S1536x8192 .bf16) (a2 : Vec Ideal S1536x1024 .bf16) : FVec Ideal S8192x1024 .f32 :=
  matmul (F := Ideal) (φ₁ := .bf16) (φ₂ := .bf16) dot_S1536x8192_S1536x1024_S8192x1024_0_0_1_1_n_n none w a2 (constant S8192x1024 .f32 0x00000000#32)

/-- The projection by heads. -/
def byHead (q : FVec Ideal S8192x1024 .f32) : FVec Ideal S64x128x1024 .f32 :=
  shapeCast S64x128x1024 q shapeCasts_S8192x1024_S64x128x1024

/-- The rotated queries of the projection, as the reference computes them. -/
def rotated (v11 : FVec Ideal S64x128x1024 .f32) (v12 v14 : Vec Ideal S32x1024 .f32) : FVec Ideal S64x128x1024 .f32 :=
  have v13 : FVec Ideal S1x32x1024 .f32 := shapeCast S1x32x1024 v12 shapeCasts_S32x1024_S1x32x1024
  have v15 : FVec Ideal S1x32x1024 .f32 := shapeCast S1x32x1024 v14 shapeCasts_S32x1024_S1x32x1024
  have v16 : FVec Ideal S64x32x1024 .f32 := extractStridedSlice S64x32x1024 ![0, 0, 0] v11 slices_S64x128x1024_o0_0_0_S64x32x1024
  have v17 : FVec Ideal S64x32x1024 .f32 := extractStridedSlice S64x32x1024 ![0, 32, 0] v11 slices_S64x128x1024_o0_32_0_S64x32x1024
  have v18 : FVec Ideal S64x32x1024 .f32 := broadcastTo S64x32x1024 v13 broadcasts_S1x32x1024_S64x32x1024
  have v19 : FVec Ideal S64x32x1024 .f32 := mulf v16 v18
  have v20 : FVec Ideal S64x32x1024 .f32 := broadcastTo S64x32x1024 v15 broadcasts_S1x32x1024_S64x32x1024
  have v21 : FVec Ideal S64x32x1024 .f32 := mulf v17 v20
  have v22 : FVec Ideal S64x32x1024 .f32 := subf v19 v21
  have v23 : FVec Ideal S64x32x1024 .f32 := broadcastTo S64x32x1024 v13 broadcasts_S1x32x1024_S64x32x1024
  have v24 : FVec Ideal S64x32x1024 .f32 := mulf v17 v23
  have v25 : FVec Ideal S64x32x1024 .f32 := broadcastTo S64x32x1024 v15 broadcasts_S1x32x1024_S64x32x1024
  have v26 : FVec Ideal S64x32x1024 .f32 := mulf v16 v25
  have v27 : FVec Ideal S64x32x1024 .f32 := addf v24 v26
  have v28 : FVec Ideal S64x64x1024 .f32 := extractStridedSlice S64x64x1024 ![0, 64, 0] v11 slices_S64x128x1024_o0_64_0_S64x64x1024
  concatenate S64x128x1024 1 [⟨S64x32x1024, v22⟩, ⟨S64x32x1024, v27⟩, ⟨S64x64x1024, v28⟩] concatenates_S64x32x1024_S64x32x1024_S64x64x1024_S64x128x1024_d1

/-- The reference's rotated queries in these steps. -/
theorem pay5_eq : k0_pay5 (F := Ideal) a1 a0 a2 a3 a4 = rotated (byHead (proj (wdeq a1 a0) a2)) a3 a4 := rfl

/-- The dequantised weight at an index. -/
theorem wdeq_at (r : Fin 1536) (n : Fin 8192) :
    wdeq a1 a0 (ix2 r n) = (a1 (ix2 r n) * a0 (ix2 (n0 := 12) (n1 := 64) ⟨r.val / 128, by omega⟩ ⟨n.val / 128, by omega⟩) : EReal) := by
  pointwise [wdeq]

/-- The projection at an index. -/
theorem proj_at (w : FVec Ideal S1536x8192 .bf16) (n : Fin 8192) (t : Fin 1024) :
    proj w a2 (ix2 n t) = (∑ x, w (ix2 x n) * a2 (ix2 x t) : EReal) := by
  pointwise [proj]

/-- The projection of a head. -/
theorem byHead_at (q : FVec Ideal S8192x1024 .f32) (h : Fin 64) (k : Fin 128) (t : Fin 1024) :
    byHead q (ix3 h k t) = q (ix2 (n0 := 8192) (n1 := 1024) ⟨h.val * 128 + k.val, by omega⟩ t) := by
  pointwise [byHead]

/-- The rotated query of a head. -/
theorem rotated_at (q : FVec Ideal S64x128x1024 .f32) (h : Fin 64) (k : Fin 128) (t : Fin 1024) :
    rotated q a3 a4 (ix3 h k t) = rope (fun d => q (ix3 h d t)) (fun d => a3 (ix2 d t)) (fun d => a4 (ix2 d t)) k := by
  pointwise [rotated, rope]

/-- The reference's rotated query is `head`. -/
theorem pay5_at (h : Fin 64) (k : Fin 128) (t : Fin 1024) :
    k0_pay5 (F := Ideal) a1 a0 a2 a3 a4 (ix3 h k t) = head a0 a1 a2 a3 a4 h t k := by
  rw [pay5_eq, rotated_at]
  refine congrArg (fun q => rope q _ _ k) (funext fun d => ?_)
  rw [byHead_at, proj_at]
  refine Finset.sum_congr rfl fun x _ => ?_
  rw [wdeq_at]
  have e1 : (⟨h.val * 128 + d.val, by omega⟩ : Fin 8192) = ⟨128 * h.val + d.val, by omega⟩ := Fin.ext (by show h.val * 128 + d.val = 128 * h.val + d.val; omega)
  have e2 : (⟨(h.val * 128 + d.val) / 128, by omega⟩ : Fin 64) = h := Fin.ext (by show (h.val * 128 + d.val) / 128 = h.val; omega)
  dsimp only
  rw [e2, e1]

/-- The largest magnitudes of any rotated queries. -/
def maxes (q : FVec Ideal S64x128x1024 .f32) : FVec Ideal S64x1024 .f32 :=
  multiReduction (F := Ideal) .maximumf [1] S64x1024 (absf q) 0xFF800000#32 reduces_S64x128x1024_S64x1024 (.inl rfl) rfl

/-- The same with a middle axis of one. -/
def spread (v : FVec Ideal S64x1024 .f32) : FVec Ideal S64x1x1024 .f32 := shapeCast S64x1x1024 v shapeCasts_S64x1024_S64x1x1024

/-- The scales of any largest magnitudes. -/
def scaled (v32 : FVec Ideal S64x1x1024 .f32) : FVec Ideal S64x1x1024 .f32 :=
  select (cmpf .oeq v32 (broadcast S64x1x1024 (Scalar.ofBits (F := Ideal) .f32 0x00000000#32)))
    (broadcast S64x1x1024 (Scalar.ofBits (F := Ideal) .f32 0x3F800000#32)) (divf v32 (broadcast S64x1x1024 (Scalar.ofBits (F := Ideal) .f32 0x43E00000#32)))

/-- The reference's quotients of any rotated queries and scales, clipped from below. -/
def quot (q : FVec Ideal S64x128x1024 .f32) (s : FVec Ideal S64x1x1024 .f32) : FVec Ideal S64x128x1024 .f32 :=
  maximumf (broadcast S64x128x1024 (Scalar.ofBits (F := Ideal) .f32 0xC3E00000#32)) (divf q (broadcastTo S64x128x1024 s broadcasts_S64x1x1024_S64x128x1024))

/-- The reference's scales in these steps. -/
theorem pay6_eq : k0_pay6 (F := Ideal) a1 a0 a2 a3 a4 = scaled (spread (maxes (k0_pay5 (F := Ideal) a1 a0 a2 a3 a4))) := rfl
/-- The reference's quotients in these steps. -/
theorem pay7_eq : k0_pay7 (F := Ideal) a1 a0 a2 a3 a4 = quot (k0_pay5 (F := Ideal) a1 a0 a2 a3 a4) (k0_pay6 (F := Ideal) a1 a0 a2 a3 a4) := rfl

/-- The largest magnitude of a head's query at a token. -/
theorem maxes_at (q : FVec Ideal S64x128x1024 .f32) (h : Fin 64) (t : Fin 1024) : maxes q (ix2 h t) = amax (fun x => q (ix3 h x t)) := by
  pointwise [maxes, amax]

theorem spread_at (v : FVec Ideal S64x1024 .f32) (h : Fin 64) (t : Fin 1024) : spread v (ix3 h 0 t) = v (ix2 h t) := by
  pointwise [spread]

/-- The scale at an index. -/
theorem scaled_at (v : FVec Ideal S64x1x1024 .f32) (h : Fin 64) (t : Fin 1024) :
    scaled v (ix3 h 0 t) = if v (ix3 h 0 t) = (0 : EReal) then 1 else Ideal.div (v (ix3 h 0 t)) (Ideal.ofBits .f32 1138753536#32) := by
  pointwise [scaled]

/-- The quotient at an index. -/
theorem quot_at (q : FVec Ideal S64x128x1024 .f32) (s : FVec Ideal S64x1x1024 .f32) (h : Fin 64) (k : Fin 128) (t : Fin 1024) :
    quot q s (ix3 h k t) = max (Ideal.ofBits .f32 3286237184#32) (Ideal.div (q (ix3 h k t)) (s (ix3 h 0 t))) := by
  pointwise [quot]

/-- The reference's scale. -/
theorem pay6_at (h : Fin 64) (t : Fin 1024) :
    k0_pay6 (F := Ideal) a1 a0 a2 a3 a4 (ix3 h 0 t) = scl (head a0 a1 a2 a3 a4 h t) := by
  rw [pay6_eq, scaled_at, spread_at, maxes_at, show (fun x => k0_pay5 (F := Ideal) a1 a0 a2 a3 a4 (ix3 h x t)) = head a0 a1 a2 a3 a4 h t from
    funext fun x => pay5_at a0 a1 a2 a3 a4 h x t]
  rfl

/-- The reference's quotients clipped from below. -/
theorem pay7_at (h : Fin 64) (k : Fin 128) (t : Fin 1024) :
    k0_pay7 (F := Ideal) a1 a0 a2 a3 a4 (ix3 h k t)
      = max (Ideal.ofBits .f32 3286237184#32) (Ideal.div (head a0 a1 a2 a3 a4 h t k) (scl (head a0 a1 a2 a3 a4 h t))) := by
  rw [pay7_eq, quot_at, pay5_at, pay6_at]

/-- Its codes. -/
theorem pay1_at (b : Ideal .f32) (v : FVec Ideal S64x128x1024 .f32) (h : Fin 64) (k : Fin 128) (t : Fin 1024) :
    k0_pay1 (F := Ideal) b v (ix3 h k t) = (min b (v (ix3 h k t)) : EReal) := by
  pointwise [k0_pay1]

/-- Its codes as rows. -/
theorem pay2_at (b : Ideal .f32) (v : FVec Ideal S64x128x1024 .f32) (n : Fin 8192) (t : Fin 1024) :
    k0_pay2 (F := Ideal) b v (ix2 n t) = (min b (v (ix3 (n0 := 64) (n1 := 128) (n2 := 1024) ⟨n.val / 128, by omega⟩ ⟨n.val % 128, Nat.mod_lt _ (by decide)⟩ t)) : EReal) := by
  pointwise [k0_pay2, k0_pay1]

/-- Its scales as rows. -/
theorem pay3_at (v : FVec Ideal S64x1x1024 .f32) (h : Fin 64) (t : Fin 1024) : k0_pay3 (F := Ideal) v (ix2 h t) = v (ix3 h 0 t) := by
  pointwise [k0_pay3]

/-- Its scores, of any scales, clipped quotients, keys and weights. -/
theorem pay4_at (v38 : FVec Ideal S64x1x1024 .f32) (b : Ideal .f32) (v42 : FVec Ideal S64x128x1024 .f32) (s t : Fin 1024) :
    k0_pay4 (F := Ideal) v38 b v42 a5 a6 (ix2 s t)
      = (∑ g, a6 (ix2 g t) * max ((∑ d, a5 (ix2 s d) * k0_pay1 (F := Ideal) b v42 (ix3 g d t)) * v38 (ix3 g 0 t)) 0 : EReal) := by
  pointwise [k0_pay4]

/-- The reference's scales, its arrays loaded whole. -/
theorem pay8_eq : k0_pay8 (F := Ideal) a0 a1 a2 a3 a4 a5 a6 = k0_pay6 (F := Ideal) a1 a0 a2 a3 a4 := by
  unfold k0_pay8
  rw [View.ld_unit_zero Value.hz7, View.ld_unit_zero Value.hz7, View.ld_unit_zero Value.hz7, View.ld_unit_zero Value.hz7, View.ld_unit_zero Value.hz7]

/-- The reference's quotients, its arrays loaded whole. -/
theorem pay9_eq : k0_pay9 (F := Ideal) a0 a1 a2 a3 a4 a5 a6 = k0_pay7 (F := Ideal) a1 a0 a2 a3 a4 := by
  unfold k0_pay9
  rw [View.ld_unit_zero Value.hz7, View.ld_unit_zero Value.hz7, View.ld_unit_zero Value.hz7, View.ld_unit_zero Value.hz7, View.ld_unit_zero Value.hz7]

/-- The reference's first result is the codes. -/
theorem codes_eq : Value.G7 (F := Ideal) a0 a1 a2 a3 a4 a5 a6 = codesOf a0 a1 a2 a3 a4 := by
  funext y
  obtain ⟨p, q, rfl⟩ : ∃ p q, y = ix2 p q := ⟨y 0, y 1, (ix2_eta y).symm⟩
  unfold Value.G7
  rw [pay9_eq, pay2_at, pay7_at]
  rfl

/-- Its second result is the scales. -/
theorem scales_eq : Value.G8 (F := Ideal) a0 a1 a2 a3 a4 a5 a6 = scalesOf a0 a1 a2 a3 a4 := by
  funext y
  obtain ⟨p, q, rfl⟩ : ∃ p q, y = ix2 p q := ⟨y 0, y 1, (ix2_eta y).symm⟩
  unfold Value.G8
  rw [pay8_eq, pay3_at, pay6_at]
  rfl

/-- Its third result is the scores. -/
theorem scores_eq : Value.G9 (F := Ideal) a0 a1 a2 a3 a4 a5 a6 = scoreOf a0 a1 a2 a3 a4 a5 a6 := by
  funext y
  obtain ⟨p, q, rfl⟩ : ∃ p q, y = ix2 p q := ⟨y 0, y 1, (ix2_eta y).symm⟩
  unfold Value.G9
  rw [pay8_eq, pay9_eq, pay4_at]
  refine Finset.sum_congr rfl fun g _ => ?_
  rw [pay6_at]
  refine Eq.trans ?_ (part_eq _ _ _).symm
  refine congrArg (fun u : EReal => a6 (ix2 g q) * max (u * scl (head a0 a1 a2 a3 a4 g q)) 0) (Finset.sum_congr rfl fun d _ => ?_)
  rw [pay1_at, pay7_at]
  rfl

end Cert.FwdRefIdeal.Read

end
-- ==== Proof.Fwd.Bits.lean ====
module

public import proofs.«01_k».proof.Proof.Gen.Fwd.Frame
public import proofs.«01_k».proof.Proof.Gen.Fwd.Skeleton
public import Idealize.ShloMosaic.Lib.Pipeline.ArrRel
public import Idealize.ShloMosaic.Lib.Claim
public import Idealize.ShloMosaic.PureOps.BitExact

@[expose] public section

set_option maxRecDepth 16384

/-! The forward kernel on machine floats: every execution ends, with its argument arrays unchanged and its counters at
zero. Nothing is said here of what it leaves in its results. -/

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Bits) ℕ (UR sig nD τ) ℕ

variable (m : (ℓ : Loc nD τ sig) → Buf (Elt Bits) ℓ) (ρ : Dev nD → PrngReg)

-- (the run's proof term is large: checking it walks past the default budget)
set_option maxHeartbeats 2152000 in
/-- One grid point, run on whole staging memrefs whose inputs hold `x0`, …, `x6`, ends and leaves its inputs in place. -/
theorem kernelRun0 (c : Dev nD) (i : grid0.Coords) (arg1 : Memref sig .tc .smem S12x64 .f32) (harg1 : arg1.IsWhole) (arg2 : Memref sig .tc .vmem S1536x512 .fp8e4m3) (harg2 : arg2.IsWhole) (arg3 : Memref sig .tc .vmem S1536x1024 .bf16) (harg3 : arg3.IsWhole) (arg4 : Memref sig .tc .vmem S32x1024 .f32) (harg4 : arg4.IsWhole) (arg5 : Memref sig .tc .vmem S32x1024 .f32) (harg5 : arg5.IsWhole) (arg6 : Memref sig .tc .vmem S1024x128 .fp8e4m3) (harg6 : arg6.IsWhole) (arg7 : Memref sig .tc .vmem S64x1024 .f32) (harg7 : arg7.IsWhole) (arg8 : Memref sig .tc .vmem S512x1024 .fp8e4m3) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S1536x512 .bf16) (harg11 : arg11.IsWhole) (arg12 : Memref sig .tc .vmem S512x1024 .f32) (harg12 : arg12.IsWhole)
    (x0 : Vec Bits S12x64 .f32) (x1 : Vec Bits S1536x512 .fp8e4m3) (x2 : Vec Bits S1536x1024 .bf16) (x3 : Vec Bits S32x1024 .f32) (x4 : Vec Bits S32x1024 .f32) (x5 : Vec Bits S1024x128 .fp8e4m3) (x6 : Vec Bits S64x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
    ⊢ wp frame (wpE (defs₀ (F := Bits)) Variants.none c none) E (cc0_fwd i arg1 harg1 arg2 harg2 arg3 harg3 arg4 harg4 arg5 harg5 arg6 harg6 arg7 harg7 arg8 harg8 arg9 harg9 arg10 harg10 arg11 harg11 arg12 harg12) K := by
  simp only [cc0_fwd_eq_skeleton]; unfold cc0_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [HS0]
  · iexists _, _; isplitr; swap; · iexact HS0
    ipureintro; rfl
  iexists _, _; isplitr; swap; · iexact HS1
  ipureintro; rfl

/-! ## The staging memrefs -/

/-- Each window's current staging memref at point `t`, as the pipeline passes it, and its wholeness. -/
abbrev ms0_0 (t : Fin cfg0.N) : Memref sig .tc .smem S12x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .f32 := win0_9.stage (cfg0.slots t 9)
abbrev hs0_9 (t : Fin cfg0.N) : (ms0_9 t).IsWhole := hstage0_9 ((cfg0.slots t 9).cast nbuf0_9)
/-- The two scratch buffers: the dequantised weight and the projection. -/
abbrev scM0_0 : Memref sig .tc .vmem S1536x512 .bf16 := Memref.whole cc0_scratch0
abbrev scM0_1 : Memref sig .tc .vmem S512x1024 .f32 := Memref.whole cc0_scratch1

/-- The frame's invariant: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The proof data -/

/-- The exact part of the proof data: every input's buffer at its block. -/
def dats (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The outputs' relations, which say nothing; none for an input. -/
def ovr (c : Dev nD) : (w : Fin cfg0.W) → Option (Fin cfg0.N → (Y X : (cfg0.win w).block.Idx → Elt Bits (cfg0.win w).elt) → Prop)
  | ⟨7, _⟩ => some fun _ _ _ => True
  | ⟨8, _⟩ => some fun _ _ _ => True
  | ⟨9, _⟩ => some fun _ _ _ => True
  | _ => none

/-- The proof data: the inputs exact, the outputs unconstrained. -/
def rdat (c : Dev nD) : RDat τ (Elt Bits) Unit ℕ (UR sig nD τ) ℕ cfg0 c := (dats m c).toR.override (ovr c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]

/-- What the body finds in each input's buffer: its block. -/
theorem find0 (c : Dev nD) (t : Fin cfg0.N) (Y : (cfg0.win 0).block.Idx → Elt Bits (cfg0.win 0).elt) (h : (rdat m c).Finds 0 t Y) : Y = iblk m c 0 t :=
  let ⟨d, hd⟩ := (dats m c).toR_finds 0 t Y (((dats m c).toR.override_finds (ovr := ovr c) (w := 0) rfl t Y).mp h)
  hd.trans (before0_0_of m (dats m c) (A_eq m c 0) (after0_0 m c) t d)
theorem find1 (c : Dev nD) (t : Fin cfg0.N) (Y : (cfg0.win 1).block.Idx → Elt Bits (cfg0.win 1).elt) (h : (rdat m c).Finds 1 t Y) : Y = iblk m c 1 t :=
  let ⟨d, hd⟩ := (dats m c).toR_finds 1 t Y (((dats m c).toR.override_finds (ovr := ovr c) (w := 1) rfl t Y).mp h)
  hd.trans (before0_1_of m (dats m c) (A_eq m c 1) (after0_1 m c) t d)
theorem find2 (c : Dev nD) (t : Fin cfg0.N) (Y : (cfg0.win 2).block.Idx → Elt Bits (cfg0.win 2).elt) (h : (rdat m c).Finds 2 t Y) : Y = iblk m c 2 t :=
  let ⟨d, hd⟩ := (dats m c).toR_finds 2 t Y (((dats m c).toR.override_finds (ovr := ovr c) (w := 2) rfl t Y).mp h)
  hd.trans (before0_2_of m (dats m c) (A_eq m c 2) (after0_2 m c) t d)
theorem find3 (c : Dev nD) (t : Fin cfg0.N) (Y : (cfg0.win 3).block.Idx → Elt Bits (cfg0.win 3).elt) (h : (rdat m c).Finds 3 t Y) : Y = iblk m c 3 t :=
  let ⟨d, hd⟩ := (dats m c).toR_finds 3 t Y (((dats m c).toR.override_finds (ovr := ovr c) (w := 3) rfl t Y).mp h)
  hd.trans (before0_3_of m (dats m c) (A_eq m c 3) (after0_3 m c) t d)
theorem find4 (c : Dev nD) (t : Fin cfg0.N) (Y : (cfg0.win 4).block.Idx → Elt Bits (cfg0.win 4).elt) (h : (rdat m c).Finds 4 t Y) : Y = iblk m c 4 t :=
  let ⟨d, hd⟩ := (dats m c).toR_finds 4 t Y (((dats m c).toR.override_finds (ovr := ovr c) (w := 4) rfl t Y).mp h)
  hd.trans (before0_4_of m (dats m c) (A_eq m c 4) (after0_4 m c) t d)
theorem find5 (c : Dev nD) (t : Fin cfg0.N) (Y : (cfg0.win 5).block.Idx → Elt Bits (cfg0.win 5).elt) (h : (rdat m c).Finds 5 t Y) : Y = iblk m c 5 t :=
  let ⟨d, hd⟩ := (dats m c).toR_finds 5 t Y (((dats m c).toR.override_finds (ovr := ovr c) (w := 5) rfl t Y).mp h)
  hd.trans (before0_5_of m (dats m c) (A_eq m c 5) (after0_5 m c) t d)
theorem find6 (c : Dev nD) (t : Fin cfg0.N) (Y : (cfg0.win 6).block.Idx → Elt Bits (cfg0.win 6).elt) (h : (rdat m c).Finds 6 t Y) : Y = iblk m c 6 t :=
  let ⟨d, hd⟩ := (dats m c).toR_finds 6 t Y (((dats m c).toR.override_finds (ovr := ovr c) (w := 6) rfl t Y).mp h)
  hd.trans (before0_6_of m (dats m c) (A_eq m c 6) (after0_6 m c) t d)

/-- An input's block left in place is what its relation asks. -/
theorem keep0 (c : Dev nD) (t : Fin cfg0.N) (Y : (cfg0.win 0).block.Idx → Elt Bits (cfg0.win 0).elt) : (rdat m c).after 0 t Y (iblk m c 0 t) :=
  (after0_0 m c t).symm
theorem keep1 (c : Dev nD) (t : Fin cfg0.N) (Y : (cfg0.win 1).block.Idx → Elt Bits (cfg0.win 1).elt) : (rdat m c).after 1 t Y (iblk m c 1 t) :=
  (after0_1 m c t).symm
theorem keep2 (c : Dev nD) (t : Fin cfg0.N) (Y : (cfg0.win 2).block.Idx → Elt Bits (cfg0.win 2).elt) : (rdat m c).after 2 t Y (iblk m c 2 t) :=
  (after0_2 m c t).symm
theorem keep3 (c : Dev nD) (t : Fin cfg0.N) (Y : (cfg0.win 3).block.Idx → Elt Bits (cfg0.win 3).elt) : (rdat m c).after 3 t Y (iblk m c 3 t) :=
  (after0_3 m c t).symm
theorem keep4 (c : Dev nD) (t : Fin cfg0.N) (Y : (cfg0.win 4).block.Idx → Elt Bits (cfg0.win 4).elt) : (rdat m c).after 4 t Y (iblk m c 4 t) :=
  (after0_4 m c t).symm
theorem keep5 (c : Dev nD) (t : Fin cfg0.N) (Y : (cfg0.win 5).block.Idx → Elt Bits (cfg0.win 5).elt) : (rdat m c).after 5 t Y (iblk m c 5 t) :=
  (after0_5 m c t).symm
theorem keep6 (c : Dev nD) (t : Fin cfg0.N) (Y : (cfg0.win 6).block.Idx → Elt Bits (cfg0.win 6).elt) : (rdat m c).after 6 t Y (iblk m c 6 t) :=
  (after0_6 m c t).symm

/-! ## The body obligation -/

/-- One run of the body at point `t`, its inputs' blocks in place. -/
theorem sound_body (c : Dev nD) (t : Fin cfg0.N) (O : sProp 𝕄) :
    iprop(Pipeline.ΦA spec0 c ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ (∃ d, owns (c : Thread nD τ) (ms0_7 t) fullShare d)
      ∗ (∃ d, owns (c : Thread nD τ) (ms0_8 t) fullShare d)
      ∗ (∃ d, owns (c : Thread nD τ) (ms0_9 t) fullShare d))
    ⊢ wp frame (wpE (defs₀ (F := Bits)) Variants.none c none) Set.univ (bodyAt0 t) (fun _ => iprop(Pipeline.ΦA spec0 c ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ (∃ d, owns (c : Thread nD τ) (ms0_7 t) fullShare d)
      ∗ (∃ d, owns (c : Thread nD τ) (ms0_8 t) fullShare d)
      ∗ (∃ d, owns (c : Thread nD τ) (ms0_9 t) fullShare d))) := by
  unfold bodyAt0
  rw [PhiA0_eq]
  iintro ⟨⟨⟨HS0, HS1⟩, Hg⟩, Ho, H0, H1, H2, H3, H4, H5, H6, H7, H8, H9⟩
  iapply (kernelRun0 c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := Bits) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Bits)) Variants.none () Set.univ := fun t Y hY => by
  rw [bigSep_W0, bigSep_W0, defs₀_row]
  have e0 := find0 m c t (Y 0) (hY 0)
  have e1 := find1 m c t (Y 1) (hY 1)
  have e2 := find2 m c t (Y 2) (hY 2)
  have e3 := find3 m c t (Y 3) (hY 3)
  have e4 := find4 m c t (Y 4) (hY 4)
  have e5 := find5 m c t (Y 5) (hY 5)
  have e6 := find6 m c t (Y 6) (hY 6)
  rw [e0, e1, e2, e3, e4, e5, e6, show (rdat m c).Φ t.castSucc = Pipeline.ΦA spec0 c from rfl, show (rdat m c).Φ t.succ = Pipeline.ΦA spec0 c from rfl]
  refine triple_restated (sound_body m c t ((rdat m c).owesAt () t.castSucc)) rfl ?_ fun _ => ?_
  · iintro ⟨HA, Ho, H0, H1, H2, H3, H4, H5, H6, H7, H8, H9⟩
    isplitl [HA]; · iexact HA
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9
  · iintro ⟨HA, Ho, H0, H1, H2, H3, H4, H5, H6, ⟨%X7, H7⟩, ⟨%X8, H8⟩, ⟨%X9, H9⟩⟩
    isplitl [HA]; · iexact HA
    isplitl [Ho]; · iexact Ho
    isplitl [H0]
    · iexists (iblk m c 0 t); isplitr; · ipureintro; exact keep0 m c t _
      iexact H0
    isplitl [H1]
    · iexists (iblk m c 1 t); isplitr; · ipureintro; exact keep1 m c t _
      iexact H1
    isplitl [H2]
    · iexists (iblk m c 2 t); isplitr; · ipureintro; exact keep2 m c t _
      iexact H2
    isplitl [H3]
    · iexists (iblk m c 3 t); isplitr; · ipureintro; exact keep3 m c t _
      iexact H3
    isplitl [H4]
    · iexists (iblk m c 4 t); isplitr; · ipureintro; exact keep4 m c t _
      iexact H4
    isplitl [H5]
    · iexists (iblk m c 5 t); isplitr; · ipureintro; exact keep5 m c t _
      iexact H5
    isplitl [H6]
    · iexists (iblk m c 6 t); isplitr; · ipureintro; exact keep6 m c t _
      iexact H6
    isplitl [H7]
    · iexists X7; isplitr; · ipureintro; exact trivial
      iexact H7
    isplitl [H8]
    · iexists X8; isplitr; · ipureintro; exact trivial
      iexact H8
    iexists X9; isplitr; · ipureintro; exact trivial
    iexact H9

/-! ## The run and the frame -/

set_option backward.isDefEq.respectTransparency.types false in
/-- Every execution terminates, with every array as the proof data say and every semaphore counter at zero. -/
theorem run_main : θ_run defs (onTc (τ := τ) (main (F := Bits))) (s₀ m ρ)
    (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := body_obligation m) (hshare := fun c => (dats m c).share_full fun _ => rfl)
    (howed := fun _ _ => rfl) (V := V m) (hmain := hmain m Variants.none) (hA := A_eq m) (hΦ := fun _ _ => rfl)

/-- The argument arrays end unchanged and every semaphore counter at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c))⟩, h.2⟩) (run_main m ρ)

end Cert.Fwd.Gen

end
-- ==== Proof.Fwd.Mask.lean ====
module

public import proofs.«01_k».proof.Proof.Gen.On_causal
public import Idealize.ShloMosaic.Lib.Pointwise

@[expose] public section

/-! The causal mask selects a score only where the key is not after the token. -/

noncomputable section

namespace Cert.On_causal

open Idealize.ShloMosaic

/-- Where the comparison of row and column numbers holds, the row is at most the column. -/
theorem le_of_set (s k : Fin 1024) (h : cmpi .sle (iotaInDim S1024x1024 32 0) (iotaInDim S1024x1024 32 1) (ix2 s k) = 1#1) : s.val ≤ k.val := by
  have e : cmpi .sle (iotaInDim S1024x1024 32 0) (iotaInDim S1024x1024 32 1) (ix2 s k)
      = BitVec.ofBool ((BitVec.ofNat 32 s.val).sle (BitVec.ofNat 32 k.val)) := rfl
  rw [e] at h
  by_contra hn
  have hf : (BitVec.ofNat 32 s.val).sle (BitVec.ofNat 32 k.val) = false := by
    rw [BitVec.sle_eq_decide, decide_eq_false_iff_not]
    have hs : (BitVec.ofNat 32 s.val).toInt = s.val := by
      rw [BitVec.toInt_eq_toNat_of_lt] <;> simp [BitVec.toNat_ofNat] <;> omega
    have hk : (BitVec.ofNat 32 k.val).toInt = k.val := by
      rw [BitVec.toInt_eq_toNat_of_lt] <;> simp [BitVec.toNat_ofNat] <;> omega
    rw [hs, hk]
    omega
  rw [hf] at h
  exact absurd h (by decide)

end Cert.On_causal

end
-- ==== Proof.Bwd.Math.lean ====
module

public import proofs.«01_k».proof.Proof.Fwd.Math

@[expose] public section

/-! The mathematics of the backward pass over the extended reals: one token column of one head at a time, then the
quantiser of a column of 128 tokens. Kernel and reference are both read down to these functions. -/

noncomputable section

namespace Cert.BwdMath

open Idealize.ShloMosaic

/-- The product of a key row and a query column. -/
def dot (k q : Fin 128 → EReal) : EReal := ∑ x, k x * q x

/-- The gradient of the logits `d` where the score `z` is positive, nothing elsewhere. -/
def gate (z d : EReal) : EReal := if z > 0 then d else 0

/-- The gradient of a head's weight at a token: the gated gradients times the scores, summed over `n` keys, times the
    query's scale. -/
def wgrad {n : ℕ} (k : Fin n → Fin 128 → EReal) (q : Fin 128 → EReal) (d : Fin n → EReal) (f : EReal) : EReal :=
  (∑ s, gate (dot (k s) q) (d s) * dot (k s) q) * f

/-- The gradient of one feature of a head's query at a token: the feature of `n` keys times the gated gradients and the
    head's weight. -/
def qgrad {n : ℕ} (k : Fin n → Fin 128 → EReal) (q : Fin 128 → EReal) (d : Fin n → EReal) (f : EReal) (kt : Fin n → EReal) : EReal :=
  ∑ s, kt s * (gate (dot (k s) q) (d s) * f)

/-- What `n` tokens of a head add to one feature of a key's gradient: the gated gradients times the scale and the
    weight, times the feature of the query. -/
def kgrad {n : ℕ} (k : Fin 128 → EReal) (q : Fin n → Fin 128 → EReal) (d f w : Fin n → EReal) (qe : Fin n → EReal) : EReal :=
  ∑ t, gate (dot k (q t)) (d t) * (f t * w t) * qe t

/-- The inverse of the rotary embedding of one column of 128 features. -/
def ropeInv (u : Fin 128 → EReal) (c s : Fin 32 → EReal) (e : Fin 128) : EReal :=
  if h : e.val < 32 then u e * c ⟨e.val, h⟩ + u ⟨32 + e.val, by omega⟩ * s ⟨e.val, h⟩
  else if h : e.val - 32 < 32 then
    u ⟨32 + (e.val - 32), by omega⟩ * c ⟨e.val - 32, h⟩ - u ⟨e.val - 32, by omega⟩ * s ⟨e.val - 32, h⟩
  else u ⟨64 + (e.val - 32 - 32), by omega⟩

/-- Terms past `n` may be added when they are nothing. -/
theorem sum_below {n : ℕ} (hn : n ≤ 1024) (f : Fin 1024 → EReal) :
    (∑ s : Fin n, f ⟨s.val, lt_of_lt_of_le s.isLt hn⟩) = ∑ s : Fin 1024, if s.val < n then f s else 0 := by
  rw [← Finset.sum_filter]
  refine Finset.sum_bij (fun s _ => ⟨s.val, lt_of_lt_of_le s.isLt hn⟩) ?_ ?_ ?_ ?_
  · intro s _; exact Finset.mem_filter.2 ⟨Finset.mem_univ _, s.isLt⟩
  · intro a _ b _ h; exact Fin.ext (Fin.mk.inj h)
  · intro b hb; exact ⟨⟨b.val, (Finset.mem_filter.1 hb).2⟩, Finset.mem_univ _, rfl⟩
  · intro _ _; rfl

/-- A matrix of gradients without its part below the diagonal blocks of 256. -/
def upper (d : Fin 1024 → Fin 1024 → EReal) (s t : Fin 1024) : EReal := if s.val < 256 * (t.val / 256 + 1) then d s t else 0

theorem gate_zero (z : EReal) : gate z 0 = 0 := by unfold gate; split <;> rfl

theorem gate_upper (z : EReal) (d : Fin 1024 → Fin 1024 → EReal) (s t : Fin 1024) :
    gate z (upper d s t) = if s.val < 256 * (t.val / 256 + 1) then gate z (d s t) else 0 := by
  unfold upper; split
  · rfl
  · exact gate_zero z

/-- The weight's gradient over the keys of a block of tokens is that over all keys. -/
theorem wgrad_upper (k : Fin 1024 → Fin 128 → EReal) (q : Fin 128 → EReal) (d : Fin 1024 → Fin 1024 → EReal) (f : EReal) (t : Fin 1024) (n : ℕ)
    (hn : n ≤ 1024) (ht : n = 256 * (t.val / 256 + 1)) :
    wgrad (n := n) (fun s => k ⟨s.val, lt_of_lt_of_le s.isLt hn⟩) q (fun s => d ⟨s.val, lt_of_lt_of_le s.isLt hn⟩ t) f = wgrad k q (fun s => upper d s t) f := by
  unfold wgrad
  rw [sum_below hn (fun s => gate (dot (k s) q) (d s t) * dot (k s) q)]
  refine congrArg (· * f) (Finset.sum_congr rfl fun s _ => ?_)
  rw [gate_upper, ← ht]
  split
  · rfl
  · exact (zero_mul _).symm

/-- The query's gradient over the keys of a block of tokens is that over all keys. -/
theorem qgrad_upper (k : Fin 1024 → Fin 128 → EReal) (q : Fin 128 → EReal) (d : Fin 1024 → Fin 1024 → EReal) (f : EReal) (kt : Fin 1024 → EReal) (t : Fin 1024) (n : ℕ)
    (hn : n ≤ 1024) (ht : n = 256 * (t.val / 256 + 1)) :
    qgrad (n := n) (fun s => k ⟨s.val, lt_of_lt_of_le s.isLt hn⟩) q (fun s => d ⟨s.val, lt_of_lt_of_le s.isLt hn⟩ t) f (fun s => kt ⟨s.val, lt_of_lt_of_le s.isLt hn⟩)
      = qgrad k q (fun s => upper d s t) f kt := by
  unfold qgrad
  rw [sum_below hn (fun s => kt s * (gate (dot (k s) q) (d s t) * f))]
  refine Finset.sum_congr rfl fun s _ => ?_
  rw [gate_upper, ← ht]
  split
  · rfl
  · rw [zero_mul, mul_zero]

/-- A key after a block of tokens gets nothing from it. -/
theorem kgrad_upper_zero (k : Fin 128 → EReal) (q : Fin 256 → Fin 128 → EReal) (d : Fin 1024 → Fin 1024 → EReal) (f w qe : Fin 256 → EReal) (s : Fin 1024)
    (j : ℕ) (hj : j < 4) (hs : ¬ s.val < 256 * (j + 1)) :
    kgrad k q (fun t => upper d s ⟨256 * j + t.val, by omega⟩) f w qe = 0 := by
  unfold kgrad
  refine Finset.sum_eq_zero fun t _ => ?_
  rw [gate_upper, if_neg (by show ¬ s.val < 256 * ((256 * j + t.val) / 256 + 1); omega), zero_mul, zero_mul]

/-- A key of a block of tokens or before it gets the same from the whole matrix. -/
theorem kgrad_upper_eq (k : Fin 128 → EReal) (q : Fin 256 → Fin 128 → EReal) (d : Fin 1024 → Fin 1024 → EReal) (f w qe : Fin 256 → EReal) (s : Fin 1024)
    (j : ℕ) (hj : j < 4) (hs : s.val < 256 * (j + 1)) :
    kgrad k q (fun t => upper d s ⟨256 * j + t.val, by omega⟩) f w qe = kgrad k q (fun t => d s ⟨256 * j + t.val, by omega⟩) f w qe := by
  unfold kgrad
  refine Finset.sum_congr rfl fun t _ => ?_
  rw [gate_upper, if_pos (by show s.val < 256 * ((256 * j + t.val) / 256 + 1); omega)]

/-- A sum over 1024 tokens is that over four blocks of 256. -/
theorem sum_blocks (f : Fin 1024 → EReal) :
    ((((∑ t : Fin 256, f ⟨256 * 0 + t.val, by omega⟩) + ∑ t : Fin 256, f ⟨256 * 1 + t.val, by omega⟩)
      + ∑ t : Fin 256, f ⟨256 * 2 + t.val, by omega⟩) + ∑ t : Fin 256, f ⟨256 * 3 + t.val, by omega⟩) = ∑ t, f t := by
  have e := Fintype.sum_equiv (finProdFinEquiv (m := 4) (n := 256)) (fun p => f (finProdFinEquiv p)) f (fun _ => rfl)
  rw [← e, Fintype.sum_prod_type]
  rw [Fin.sum_univ_four]
  refine congrArg₂ (· + ·) (congrArg₂ (· + ·) (congrArg₂ (· + ·) ?_ ?_) ?_) ?_ <;>
  exact Finset.sum_congr rfl fun t _ => congrArg f (Fin.ext (by simp [finProdFinEquiv]; try omega))

end Cert.BwdMath

end
-- ==== Proof.Bwd.Pay.lean ====
module

public import proofs.«01_k».proof.Proof.Bwd.Math
public import proofs.«01_k».proof.Proof.Gen.BwdIdeal.Skeleton

@[expose] public section

set_option maxRecDepth 16384

/-! What the strips of 256 tokens the backward body computes hold at an index, of any arrays loaded: the strip's first
keys `k`, its queries `q`, its gradients `d`, the head's scales `f` and weights `w`. The `j`th strip has 256 (j + 1)
keys. -/

noncomputable section

namespace Cert.BwdIdeal.Gen

open Idealize.ShloMosaic Idealize.ShloMosaic.TcCoe Cert.BwdMath

variable (q : Vec Ideal S128x256 .fp8e4m3) (f w : Vec Ideal S1x1024 .f32) (t : Fin 256) (e : Fin 128)

/-- The first strip of the weight's gradient. -/
theorem w256_at (k : Vec Ideal S256x128 .fp8e4m3) (d : Vec Ideal S256x256 .f32) :
    k0_pay7 (F := Ideal) f q k d (ix2 0 t)
      = wgrad (fun s x => k (ix2 s x)) (fun x => q (ix2 x t)) (fun s => d (ix2 s t)) (f (ix2 0 ⟨0 + t.val, by omega⟩)) := by
  pointwise [k0_pay7, k0_pay6, k0_pay5, wgrad, gate, dot]

/-- The first strip of the query's gradient. -/
theorem u256_at (k : Vec Ideal S256x128 .fp8e4m3) (d : Vec Ideal S256x256 .f32) (kt : Vec Ideal S128x256 .bf16) :
    k0_pay10 (F := Ideal) (k0_pay9 (F := Ideal) w q k d kt) (ix2 e t)
      = qgrad (fun s x => k (ix2 s x)) (fun x => q (ix2 x t)) (fun s => d (ix2 s t)) (w (ix2 0 ⟨0 + t.val, by omega⟩)) (fun s => kt (ix2 e s)) := by
  pointwise [k0_pay10, k0_pay9, k0_pay6, k0_pay5, qgrad, gate, dot]

/-- What the first strip adds to the keys' gradient `o`. -/
theorem k256_at (k : Vec Ideal S256x128 .fp8e4m3) (d : Vec Ideal S256x256 .f32) (o : Vec Ideal S256x128 .f32) (s : Fin 256) :
    k0_pay11 (F := Ideal) q (k0_pay8 (F := Ideal) f w q k d) o (ix2 s e)
      = (o (ix2 s e) + kgrad (fun x => k (ix2 s x)) (fun t x => q (ix2 x t)) (fun t => d (ix2 s t)) (fun t => f (ix2 0 ⟨0 + t.val, by omega⟩))
          (fun t => w (ix2 0 ⟨0 + t.val, by omega⟩)) (fun t => q (ix2 e t)) : EReal) := by
  pointwise [k0_pay11, k0_pay8, k0_pay4, k0_pay6, k0_pay5, kgrad, gate, dot]

/-- The second strip of the weight's gradient. -/
theorem w512_at (k : Vec Ideal S512x128 .fp8e4m3) (d : Vec Ideal S512x256 .f32) :
    k0_pay14 (F := Ideal) f q k d (ix2 0 t)
      = wgrad (fun s x => k (ix2 s x)) (fun x => q (ix2 x t)) (fun s => d (ix2 s t)) (f (ix2 0 ⟨256 + t.val, by omega⟩)) := by
  pointwise [k0_pay14, k0_pay13, k0_pay12, wgrad, gate, dot]

/-- The second strip of the query's gradient. -/
theorem u512_at (k : Vec Ideal S512x128 .fp8e4m3) (d : Vec Ideal S512x256 .f32) (kt : Vec Ideal S128x512 .bf16) :
    k0_pay17 (F := Ideal) (k0_pay16 (F := Ideal) w q k d kt) (ix2 e t)
      = qgrad (fun s x => k (ix2 s x)) (fun x => q (ix2 x t)) (fun s => d (ix2 s t)) (w (ix2 0 ⟨256 + t.val, by omega⟩)) (fun s => kt (ix2 e s)) := by
  pointwise [k0_pay17, k0_pay16, k0_pay13, k0_pay12, qgrad, gate, dot]

/-- What the second strip adds to the keys' gradient `o`. -/
theorem k512_at (k : Vec Ideal S512x128 .fp8e4m3) (d : Vec Ideal S512x256 .f32) (o : Vec Ideal S512x128 .f32) (s : Fin 512) :
    k0_pay18 (F := Ideal) q (k0_pay15 (F := Ideal) (k0_pay4 f w) q k d) o (ix2 s e)
      = (o (ix2 s e) + kgrad (fun x => k (ix2 s x)) (fun t x => q (ix2 x t)) (fun t => d (ix2 s t)) (fun t => f (ix2 0 ⟨256 + t.val, by omega⟩))
          (fun t => w (ix2 0 ⟨256 + t.val, by omega⟩)) (fun t => q (ix2 e t)) : EReal) := by
  pointwise [k0_pay18, k0_pay15, k0_pay4, k0_pay13, k0_pay12, kgrad, gate, dot]

/-- The third strip of the weight's gradient. -/
theorem w768_at (k : Vec Ideal S768x128 .fp8e4m3) (d : Vec Ideal S768x256 .f32) :
    k0_pay21 (F := Ideal) f q k d (ix2 0 t)
      = wgrad (fun s x => k (ix2 s x)) (fun x => q (ix2 x t)) (fun s => d (ix2 s t)) (f (ix2 0 ⟨512 + t.val, by omega⟩)) := by
  pointwise [k0_pay21, k0_pay20, k0_pay19, wgrad, gate, dot]

/-- The third strip of the query's gradient. -/
theorem u768_at (k : Vec Ideal S768x128 .fp8e4m3) (d : Vec Ideal S768x256 .f32) (kt : Vec Ideal S128x768 .bf16) :
    k0_pay23 (F := Ideal) w q k d kt (ix2 e t)
      = qgrad (fun s x => k (ix2 s x)) (fun x => q (ix2 x t)) (fun s => d (ix2 s t)) (w (ix2 0 ⟨512 + t.val, by omega⟩)) (fun s => kt (ix2 e s)) := by
  pointwise [k0_pay23, k0_pay20, k0_pay19, qgrad, gate, dot]

/-- What the third strip adds to the keys' gradient `o`. -/
theorem k768_at (k : Vec Ideal S768x128 .fp8e4m3) (d : Vec Ideal S768x256 .f32) (o : Vec Ideal S768x128 .f32) (s : Fin 768) :
    k0_pay24 (F := Ideal) q (k0_pay22 (F := Ideal) (k0_pay4 f w) q k d) o (ix2 s e)
      = (o (ix2 s e) + kgrad (fun x => k (ix2 s x)) (fun t x => q (ix2 x t)) (fun t => d (ix2 s t)) (fun t => f (ix2 0 ⟨512 + t.val, by omega⟩))
          (fun t => w (ix2 0 ⟨512 + t.val, by omega⟩)) (fun t => q (ix2 e t)) : EReal) := by
  pointwise [k0_pay24, k0_pay22, k0_pay4, k0_pay20, k0_pay19, kgrad, gate, dot]

/-- The last strip of the weight's gradient. -/
theorem w1024_at (k : Vec Ideal S1024x128 .fp8e4m3) (d : Vec Ideal S1024x256 .f32) :
    k0_pay27 (F := Ideal) f q k d (ix2 0 t)
      = wgrad (fun s x => k (ix2 s x)) (fun x => q (ix2 x t)) (fun s => d (ix2 s t)) (f (ix2 0 ⟨768 + t.val, by omega⟩)) := by
  pointwise [k0_pay27, k0_pay26, k0_pay25, wgrad, gate, dot]

/-- The last strip of the query's gradient. -/
theorem u1024_at (k : Vec Ideal S1024x128 .fp8e4m3) (d : Vec Ideal S1024x256 .f32) (kt : Vec Ideal S128x1024 .bf16) :
    k0_pay29 (F := Ideal) w q k d kt (ix2 e t)
      = qgrad (fun s x => k (ix2 s x)) (fun x => q (ix2 x t)) (fun s => d (ix2 s t)) (w (ix2 0 ⟨768 + t.val, by omega⟩)) (fun s => kt (ix2 e s)) := by
  pointwise [k0_pay29, k0_pay26, k0_pay25, qgrad, gate, dot]

/-- What the last strip adds to the keys' gradient `o`. -/
theorem k1024_at (k : Vec Ideal S1024x128 .fp8e4m3) (d : Vec Ideal S1024x256 .f32) (o : Vec Ideal S1024x128 .f32) (s : Fin 1024) :
    k0_pay30 (F := Ideal) q (k0_pay28 (F := Ideal) (k0_pay4 f w) q k d) o (ix2 s e)
      = (o (ix2 s e) + kgrad (fun x => k (ix2 s x)) (fun t x => q (ix2 x t)) (fun t => d (ix2 s t)) (fun t => f (ix2 0 ⟨768 + t.val, by omega⟩))
          (fun t => w (ix2 0 ⟨768 + t.val, by omega⟩)) (fun t => q (ix2 e t)) : EReal) := by
  pointwise [k0_pay30, k0_pay28, k0_pay4, k0_pay26, k0_pay25, kgrad, gate, dot]

end Cert.BwdIdeal.Gen

end
-- ==== Proof.Bwd.PayQuant.lean ====
module

public import proofs.«01_k».proof.Proof.Bwd.Math
public import proofs.«01_k».proof.Proof.Gen.BwdIdeal.Skeleton

@[expose] public section

set_option maxRecDepth 16384

/-! The quantiser of the query's gradient as the backward body computes it, of any slice `x` of 128 tokens by 128
features: every one of the body's sixteen slices goes through these functions. -/

noncomputable section

namespace Cert.BwdIdeal.Gen

open Idealize.ShloMosaic Idealize.ShloMosaic.TcCoe Cert.BwdMath

variable {F : FTy → Type} [FloatOps F]

/-- The largest magnitude of each column of a slice. -/
def colMax (x : FVec F S128x128 .f32) : FVec F S1x128 .f32 :=
  shapeCast S1x128 (multiReduction .maximumf [0] S128 (absf x) 0xFF800000#32 reduces_S128x128_S128 (.inl rfl) rfl) shapeCasts_S128_S1x128

/-- 0 and the powers of two from 2^-126 to 2^120, one per row. -/
def ladder : FVec F S248x128 .f32 :=
  bitcastToFloat .f32 (shli (iota .tc S248x128 32 [0] iota_S248x128_d0_w32) (broadcast S248x128 23#32))

/-- How many rungs of the ladder a column's magnitude over 448 reaches. -/
def rungs (a : FVec F S1x128 .f32) : IVec S1x128 32 :=
  shapeCast S1x128 (multiReductionI .add [0] S128
    (select (cmpf .oge (broadcastTo S248x128 (mulf a (broadcast S1x128 (Scalar.ofBits .f32 0x3B124925#32))) broadcasts_S1x128_S248x128) ladder)
      (broadcast S248x128 1#32) (broadcast S248x128 0#32)) 0#32 reduces_S248x128_S128 rfl) shapeCasts_S128_S1x128

/-- The exponent of a column's scale. -/
def expo (a : FVec F S1x128 .f32) : IVec S1x128 32 :=
  select (cmpf .oeq a (broadcast S1x128 (Scalar.ofBits .f32 0x00000000#32))) (broadcast S1x128 0#32)
    (subi (subi (rungs a) (broadcast S1x128 1#32)) (broadcast S1x128 126#32))

/-- The scale of an exponent. -/
def scaleOf (n : IVec S1x128 32) : FVec F S1x128 .f32 :=
  bitcastToFloat .f32 (shli (addi n (broadcast S1x128 127#32)) (broadcast S1x128 23#32))

/-- The inverse scale of an exponent. -/
def invOf (n : IVec S1x128 32) : FVec F S1x128 .f32 :=
  bitcastToFloat .f32 (shli (subi (broadcast S1x128 127#32) n) (broadcast S1x128 23#32))

variable (x : FVec Ideal S128x128 .f32) (a : FVec Ideal S1x128 .f32) (n : IVec S1x128 32) (t e : Fin 128)

theorem colMax_at : colMax x (ix2 0 e) = Cert.FwdMath.amax (fun t => x (ix2 t e)) := by
  pointwise [colMax, Cert.FwdMath.amax]

/-- A rung of the ladder. -/
theorem ladder_at (k : Fin 248) : ladder (F := Ideal) (ix2 k e) = Ideal.ofBits .f32 (IntOp.shli .vector (BitVec.ofNat 32 k.val) 23#32) := by
  pointwise [ladder]

/-- The count of rungs reached by a magnitude. -/
def count (v : EReal) : BitVec 32 :=
  Finset.fold IntOp.addi 0#32 (fun k : Fin 248 => if Ideal.ofBits .f32 (IntOp.shli .vector (BitVec.ofNat 32 k.val) 23#32) ≤ v then 1#32 else 0#32) Finset.univ

theorem rungs_at : rungs a (ix2 0 e) = count (a (ix2 0 e) * Ideal.ofBits .f32 0x3B124925#32) := by
  pointwise [rungs, ladder, count]

theorem expo_at : expo a (ix2 0 e) = if a (ix2 0 e) = 0 then 0#32 else IntOp.subi (IntOp.subi (rungs a (ix2 0 e)) 1#32) 126#32 := by
  pointwise [expo]

theorem scaleOf_at : scaleOf (F := Ideal) n (ix2 0 e) = Ideal.ofBits .f32 (IntOp.shli .vector (IntOp.addi (n (ix2 0 e)) 127#32) 23#32) := by
  pointwise [scaleOf]

theorem invOf_at : invOf (F := Ideal) n (ix2 0 e) = Ideal.ofBits .f32 (IntOp.shli .vector (IntOp.subi 127#32 (n (ix2 0 e))) 23#32) := by
  pointwise [invOf]

/-- A code: the entry times the inverse scale, clipped. -/
theorem code_at : k0_pay57 (F := Ideal) x n (ix2 t e)
    = min (Ideal.ofBits .f32 0x43E00000#32) (max (Ideal.ofBits .f32 0xC3E00000#32) (x (ix2 t e) * invOf (F := Ideal) n (ix2 0 e))) := by
  pointwise [k0_pay57, invOf]

/-- The dequantised entry: the code times the scale. -/
theorem deq_at (c : Vec Ideal S128x128 .fp8e4m3) : k0_pay53 (F := Ideal) a c (ix2 t e) = c (ix2 t e) * a (ix2 0 e) := by
  pointwise [k0_pay53]

/-- The rotated gradient of the query, transposed. -/
theorem rot_at (u : Vec Ideal S128x1024 .f32) (cs sn : Vec Ideal S32x1024 .f32) (t : Fin 1024) :
    k0_pay31 (F := Ideal) u cs sn (ix2 t e) = ropeInv (fun e => u (ix2 e t)) (fun r => cs (ix2 r t)) (fun r => sn (ix2 r t)) e := by
  pointwise [k0_pay31, ropeInv]

/-- The gradient of the projection's weight. -/
theorem proj_at (cq : Vec Ideal S1536x1024 .bf16) (dq : Vec Ideal S1024x256 .bf16) (r : Fin 1536) (n : Fin 256) :
    k0_pay2 (F := Ideal) cq dq (ix2 r n) = ∑ t, cq (ix2 r t) * dq (ix2 t n) := by
  pointwise [k0_pay2]

end Cert.BwdIdeal.Gen

end
-- ==== Proof.Bwd.Same.lean ====
module

public import proofs.«01_k».proof.Proof.Bwd.Pay
public import proofs.«01_k».proof.Proof.Bwd.PayQuant

@[expose] public section

set_option maxRecDepth 16384

/-! The second head's strips are the first head's, and each of the body's sixteen slices goes through the one quantiser. -/

noncomputable section

namespace Cert.BwdIdeal.Gen

open Idealize.ShloMosaic Idealize.ShloMosaic.TcCoe Cert.BwdMath

variable {F : FTy → Type} [FloatOps F]

section Strips

variable (q : Vec F S128x256 .fp8e4m3) (f w : Vec F S1x1024 .f32)

theorem w256_same (k : Vec F S256x128 .fp8e4m3) (d : Vec F S256x256 .f32) : k0_pay92 f (k0_pay89 q k) (k0_pay90 q k) d = k0_pay7 f q k d := rfl
theorem w512_same (k : Vec F S512x128 .fp8e4m3) (d : Vec F S512x256 .f32) : k0_pay98 f (k0_pay95 q k) (k0_pay96 q k) d = k0_pay14 f q k d := rfl
theorem w768_same (k : Vec F S768x128 .fp8e4m3) (d : Vec F S768x256 .f32) :
    k0_pay104 f (k0_pay101 q k) (k0_pay102 q k) d (FloatOps.ofBits .f32 0#32) = k0_pay21 f q k d := rfl
theorem w1024_same (k : Vec F S1024x128 .fp8e4m3) (d : Vec F S1024x256 .f32) : k0_pay109 f (k0_pay107 q k) (k0_pay108 q k d) = k0_pay27 f q k d := rfl

theorem u256_same (k : Vec F S256x128 .fp8e4m3) (d : Vec F S256x256 .f32) (kt : Vec F S128x256 .bf16) :
    k0_pay93 w (k0_pay90 q k) d kt = k0_pay10 (k0_pay9 w q k d kt) := rfl
theorem u512_same (k : Vec F S512x128 .fp8e4m3) (d : Vec F S512x256 .f32) (kt : Vec F S128x512 .bf16) :
    k0_pay99 w (k0_pay96 q k) d kt = k0_pay17 (k0_pay16 w q k d kt) := rfl
theorem u768_same (k : Vec F S768x128 .fp8e4m3) (d : Vec F S768x256 .f32) (kt : Vec F S128x768 .bf16) :
    k0_pay105 w (k0_pay102 q k) d (FloatOps.ofBits .f32 0#32) kt = k0_pay23 w q k d kt := rfl
theorem u1024_same (k : Vec F S1024x128 .fp8e4m3) (d : Vec F S1024x256 .f32) (kt : Vec F S128x1024 .bf16) :
    k0_pay110 w (k0_pay108 q k d) kt = k0_pay29 w q k d kt := rfl

theorem k256_same (k : Vec F S256x128 .fp8e4m3) (d : Vec F S256x256 .f32) (o : Vec F S256x128 .f32) :
    k0_pay94 (k0_pay88 f w) q (k0_pay90 q k) d o = k0_pay11 q (k0_pay8 f w q k d) o := rfl
theorem k512_same (k : Vec F S512x128 .fp8e4m3) (d : Vec F S512x256 .f32) (o : Vec F S512x128 .f32) :
    k0_pay100 (k0_pay88 f w) q (k0_pay96 q k) d o = k0_pay18 q (k0_pay15 (k0_pay4 f w) q k d) o := rfl
theorem k768_same (k : Vec F S768x128 .fp8e4m3) (d : Vec F S768x256 .f32) (o : Vec F S768x128 .f32) :
    k0_pay106 (k0_pay88 f w) q (k0_pay102 q k) d (FloatOps.ofBits .f32 0#32) o = k0_pay24 q (k0_pay22 (k0_pay4 f w) q k d) o := rfl
theorem k1024_same (k : Vec F S1024x128 .fp8e4m3) (d : Vec F S1024x256 .f32) (o : Vec F S1024x128 .f32) :
    k0_pay111 (k0_pay88 f w) q (k0_pay108 q k d) o = k0_pay30 q (k0_pay28 (k0_pay4 f w) q k d) o := rfl

theorem rot_same (u : Vec F S128x1024 .f32) (cs sn : Vec F S32x1024 .f32) : k0_pay113 (k0_pay112 u cs sn) = k0_pay31 u cs sn := rfl

end Strips

/-- 128 tokens' rows of the rotated gradients. -/
def rows (o : ℕ) (h : S1024x128.Slices ![o, 0] S128x128) (R : FVec F S1024x128 .f32) : FVec F S128x128 .f32 := extractStridedSlice S128x128 ![o, 0] R h

/-- The scales of a slice. -/
def sliceScale (x : FVec F S128x128 .f32) : FVec F S1x128 .f32 := scaleOf (expo (colMax x))

/-- The codes of a slice. -/
def sliceCode (x : FVec F S128x128 .f32) : FVec F S128x128 .fp8e4m3 := k0_pay57 x (expo (colMax x))

/-- The dequantised slice. -/
def sliceDeq (x : FVec F S128x128 .f32) : FVec F S128x128 .bf16 := k0_pay53 (sliceScale x) (sliceCode x)

end Cert.BwdIdeal.Gen

end
-- ==== Proof.Bwd.Quant.lean ====
module

public import proofs.«01_k».proof.Proof.Fwd.Math
public import Idealize.ShloMosaic.Lib.Pointwise

@[expose] public section

/-! The quantiser of a column of 128 gradients: a power of two as the scale. The kernel counts the powers of two a
magnitude reaches, the reference takes the smallest power of two above it; both are the same power. -/

noncomputable section

namespace Cert.BwdMath

open Idealize.ShloMosaic Cert.FwdMath

/-- A power of two. -/
def pw (z : ℤ) : EReal := (((2 : ℝ) ^ z : ℝ) : EReal)

theorem pw_pos (z : ℤ) : 0 < pw z := EReal.coe_pos.2 (zpow_pos (by norm_num) z)

theorem pw_le {a b : ℤ} (h : a ≤ b) : pw a ≤ pw b := EReal.coe_le_coe_iff.2 (zpow_le_zpow_right₀ (by norm_num) h)

/-- A positive pattern of exponent field `k` and no fraction is a power of two. -/
theorem ieee_pow (b : BitVec 32) (k : ℕ) (h1 : 1 ≤ k) (h2 : k ≤ 254) (e1 : (b.extractLsb' 23 8).toNat = k) (e2 : (b.extractLsb' 0 23).toNat = 0)
    (e3 : (b.extractLsb' (8 + 23) 1 == 1#1) = false) : Ideal.ieee 8 23 b = pw ((k : ℤ) - 127) := by
  unfold Ideal.ieee pw
  simp only [e1, e2, e3]
  rw [if_neg (by omega), if_neg (by omega)]
  refine congrArg _ ?_
  have h3 : (8388608 : ℝ) = (2 : ℝ) ^ (23 : ℤ) := by norm_num
  simp only [Bool.false_eq_true, if_false, one_mul, Nat.add_zero]
  norm_num
  rw [h3, ← zpow_add₀ (by norm_num : (2 : ℝ) ≠ 0)]
  refine congrArg _ ?_
  ring

theorem shl_toNat (k : ℕ) (h2 : k ≤ 254) : (IntOp.shli .vector (BitVec.ofNat 32 k) 23#32).toNat = k * 2 ^ 23 := by
  have : IntOp.shli .vector (BitVec.ofNat 32 k) 23#32 = BitVec.ofNat 32 k <<< 23 := if_pos (by decide)
  rw [this, BitVec.toNat_shiftLeft, BitVec.toNat_ofNat, Nat.shiftLeft_eq]
  have h3 : k % 2 ^ 32 = k := Nat.mod_eq_of_lt (by omega)
  rw [h3]
  exact Nat.mod_eq_of_lt (by omega)

/-- The bits of an exponent field `k` and nothing else are a power of two. -/
theorem bits_pow (k : ℕ) (h1 : 1 ≤ k) (h2 : k ≤ 254) :
    Ideal.ofBits .f32 (IntOp.shli .vector (BitVec.ofNat 32 k) 23#32) = pw ((k : ℤ) - 127) := by
  have h := shl_toNat k h2
  refine ieee_pow _ k h1 h2 ?_ ?_ ?_
  · rw [BitVec.extractLsb'_toNat, h, Nat.shiftRight_eq_div_pow, Nat.mul_div_cancel _ (by norm_num)]
    exact Nat.mod_eq_of_lt (by omega)
  · rw [BitVec.extractLsb'_toNat, h, Nat.shiftRight_eq_div_pow, Nat.pow_zero, Nat.div_one, Nat.mul_mod_left]
  · rw [beq_eq_false_iff_ne]
    intro h0
    have h4 := congrArg BitVec.toNat h0
    rw [BitVec.extractLsb'_toNat, h, Nat.shiftRight_eq_div_pow, Nat.div_eq_of_lt (by omega)] at h4
    exact absurd h4 (by decide)

/-- A rung: 0, then the powers of two from 2^-126 on. -/
def rung (k : ℕ) : EReal := Ideal.ofBits .f32 (IntOp.shli .vector (BitVec.ofNat 32 k) 23#32)

theorem rung_zero : rung 0 = 0 := by
  show Ideal.ofBits .f32 0#32 = 0
  simp [Ideal.ofBits, Ideal.ieee]

theorem rung_pow {k : ℕ} (h1 : 1 ≤ k) (h2 : k ≤ 254) : rung k = pw ((k : ℤ) - 127) := bits_pow k h1 h2

theorem rung_le {a b : ℕ} (h : a ≤ b) (hb : b ≤ 254) : rung a ≤ rung b := by
  rcases Nat.eq_zero_or_pos a with rfl | ha
  · rw [rung_zero]
    rcases Nat.eq_zero_or_pos b with rfl | hb'
    · rw [rung_zero]
    · rw [rung_pow hb' hb]; exact (pw_pos _).le
  · rw [rung_pow ha (by omega), rung_pow (by omega) hb]
    exact pw_le (by omega)

open Classical in
/-- How many rungs a magnitude reaches. -/
def reach (v : EReal) : ℕ := (Finset.univ.filter fun k : Fin 248 => rung k.val ≤ v).card

/-- The rungs reached are the first ones. -/
theorem reach_iff (v : EReal) (k : Fin 248) : rung k.val ≤ v ↔ k.val < reach v := by
  classical
  have card_lt : ∀ n : ℕ, n ≤ 248 → (Finset.univ.filter fun j : Fin 248 => j.val < n).card = n := by
    intro n hn
    have : (Finset.univ.filter fun j : Fin 248 => j.val < n) = Finset.univ.map (Fin.castLEEmb hn) := by
      ext j
      simp only [Finset.mem_filter, Finset.mem_univ, true_and, Finset.mem_map]
      constructor
      · intro h; exact ⟨⟨j.val, h⟩, rfl⟩
      · rintro ⟨i, rfl⟩; exact i.isLt
    rw [this, Finset.card_map, Finset.card_univ, Fintype.card_fin]
  constructor
  · intro h
    have hsub : (Finset.univ.filter fun j : Fin 248 => j.val < k.val + 1) ⊆ Finset.univ.filter fun j : Fin 248 => rung j.val ≤ v := by
      intro j hj
      have hj' := (Finset.mem_filter.1 hj).2
      exact Finset.mem_filter.2 ⟨Finset.mem_univ _, (rung_le (by omega) (by omega)).trans h⟩
    have := Finset.card_le_card hsub
    rw [card_lt _ (by omega)] at this
    unfold reach
    convert (show k.val < _ from Nat.lt_of_succ_le this)
  · intro h
    by_contra hk
    have hsub : (Finset.univ.filter fun j : Fin 248 => rung j.val ≤ v) ⊆ Finset.univ.filter fun j : Fin 248 => j.val < k.val := by
      intro j hj
      have hj' := (Finset.mem_filter.1 hj).2
      refine Finset.mem_filter.2 ⟨Finset.mem_univ _, ?_⟩
      by_contra hjk
      exact hk ((rung_le (by omega) (by omega)).trans hj')
    have := Finset.card_le_card hsub
    rw [card_lt _ (by omega)] at this
    unfold reach at h
    have h' : k.val < (Finset.univ.filter fun j : Fin 248 => rung j.val ≤ v).card := by convert h
    omega

theorem reach_le (v : EReal) : reach v ≤ 248 := by
  unfold reach
  refine (Finset.card_le_univ _).trans ?_
  simp

theorem reach_pos {v : EReal} (h : 0 ≤ v) : 1 ≤ reach v :=
  (reach_iff v 0).1 (by show rung 0 ≤ v; rw [rung_zero]; exact h)

/-- Ones added up over the rungs reached are their number. -/
theorem fold_ones {ι : Type} (s : Finset ι) (p : ι → Prop) [DecidablePred p] :
    Finset.fold IntOp.addi 0#32 (fun k => if p k then 1#32 else 0#32) s = BitVec.ofNat 32 (s.filter p).card := by
  classical
  induction s using Finset.induction_on with
  | empty => rfl
  | insert a s ha ih =>
    rw [Finset.fold_insert ha, ih, Finset.filter_insert]
    by_cases h : p a
    · rw [if_pos h, if_pos h, Finset.card_insert_of_notMem (by simp [ha])]
      show 1#32 + BitVec.ofNat 32 _ = _
      rw [Nat.add_comm, BitVec.ofNat_add]
    · rw [if_neg h, if_neg h]
      exact BitVec.zero_add _

/-- The power of two of a column of magnitude `a`. -/
def expoZ (a : EReal) : ℤ := (reach (a * Ideal.ofBits .f32 0x3B124925#32) : ℤ) - 127

/-- The scale of a column of magnitude `a`. -/
def gscale (a : EReal) : EReal := if a = 0 then 1 else pw (expoZ a)

/-- The inverse scale of a column of magnitude `a`. -/
def ginv (a : EReal) : EReal := if a = 0 then 1 else pw (-expoZ a)

/-- The code of an entry of a column of magnitude `a`. -/
def gcode (a x : EReal) : EReal :=
  min (Ideal.ofBits .f32 0x43E00000#32) (max (Ideal.ofBits .f32 0xC3E00000#32) (x * ginv a))

/-- 1/448 is positive. -/
theorem c448_pos : 0 ≤ Ideal.ofBits .f32 0x3B124925#32 := by
  simp [Ideal.ofBits, Ideal.ieee]
  positivity

theorem pw_zero : pw 0 = 1 := by simp [pw]

/-- The kernel's exponent of a column of magnitude `a`, from its count of rungs. -/
def expoBits (a : EReal) : BitVec 32 :=
  if a = 0 then 0#32 else IntOp.subi (IntOp.subi
    (Finset.fold IntOp.addi 0#32 (fun k : Fin 248 => if Ideal.ofBits .f32 (IntOp.shli .vector (BitVec.ofNat 32 k.val) 23#32) ≤ a * Ideal.ofBits .f32 0x3B124925#32 then 1#32 else 0#32) Finset.univ) 1#32) 126#32

theorem expoBits_of_ne {a : EReal} (h : a ≠ 0) :
    expoBits a = BitVec.ofNat 32 (reach (a * Ideal.ofBits .f32 0x3B124925#32)) - 1#32 - 126#32 := by
  unfold expoBits
  rw [if_neg h, fold_ones]
  show BitVec.ofNat 32 _ - 1#32 - 126#32 = _
  unfold reach
  congr!

/-- The kernel's scale is the power of two. -/
theorem scale_bits {a : EReal} (ha : 0 ≤ a) :
    Ideal.ofBits .f32 (IntOp.shli .vector (IntOp.addi (expoBits a) 127#32) 23#32) = gscale a := by
  unfold gscale
  by_cases h : a = 0
  · rw [if_pos h, ← pw_zero]
    unfold expoBits
    rw [if_pos h]
    exact (bits_pow 127 (by norm_num) (by norm_num)).trans (by norm_num)
  · rw [if_neg h, expoBits_of_ne h]
    have h1 := reach_pos (mul_nonneg ha c448_pos)
    have h2 := reach_le (a * Ideal.ofBits .f32 0x3B124925#32)
    unfold expoZ
    rw [← bits_pow _ h1 (by omega)]
    refine congrArg (fun b => Ideal.ofBits .f32 (IntOp.shli .vector b 23#32)) ?_
    show BitVec.ofNat 32 _ - 1#32 - 126#32 + 127#32 = _
    generalize BitVec.ofNat 32 (reach (a * Ideal.ofBits .f32 0x3B124925#32)) = n
    rw [BitVec.sub_sub, show (1#32 + 126#32) = 127#32 from rfl, BitVec.sub_add_cancel]

/-- The kernel's inverse scale is the inverse power of two. -/
theorem inv_bits {a : EReal} (ha : 0 ≤ a) :
    Ideal.ofBits .f32 (IntOp.shli .vector (IntOp.subi 127#32 (expoBits a)) 23#32) = ginv a := by
  unfold ginv
  by_cases h : a = 0
  · rw [if_pos h, ← pw_zero]
    unfold expoBits
    rw [if_pos h]
    exact (bits_pow 127 (by norm_num) (by norm_num)).trans (by norm_num)
  · rw [if_neg h, expoBits_of_ne h]
    have h1 := reach_pos (mul_nonneg ha c448_pos)
    have h2 := reach_le (a * Ideal.ofBits .f32 0x3B124925#32)
    unfold expoZ
    have e := bits_pow (254 - reach (a * Ideal.ofBits .f32 0x3B124925#32)) (by omega) (by omega)
    rw [show -((reach (a * Ideal.ofBits .f32 0x3B124925#32) : ℤ) - 127) = ((254 - reach (a * Ideal.ofBits .f32 0x3B124925#32) : ℕ) : ℤ) - 127 by omega, ← e]
    refine congrArg (fun b => Ideal.ofBits .f32 (IntOp.shli .vector b 23#32)) ?_
    show 127#32 - (BitVec.ofNat 32 _ - 1#32 - 126#32) = _
    generalize reach (a * Ideal.ofBits .f32 0x3B124925#32) = n at *
    apply BitVec.eq_of_toNat_eq
    simp only [BitVec.toNat_sub, BitVec.toNat_ofNat]
    omega

/-- The smallest power of two above a magnitude, from 2^-126 to 2^121: the same power. -/
theorem least_power {v : EReal} (hv : 0 ≤ v) :
    Finset.fold min ⊤ (fun k : Fin 248 => if v < pw ((k.val : ℤ) - 126) then pw ((k.val : ℤ) - 126) else pw 121) Finset.univ
      = pw ((reach v : ℤ) - 127) := by
  have h1 := reach_pos hv
  have h2 := reach_le v
  have key : ∀ k : Fin 248, v < pw ((k.val : ℤ) - 126) ↔ (k.val = 247 ∧ v < pw 121) ∨ (reach v ≤ k.val + 1 ∧ k.val < 247) := by
    intro k
    by_cases hk : k.val = 247
    · constructor
      · intro h; left; refine ⟨hk, ?_⟩; rw [hk] at h; exact h
      · rintro (⟨_, h⟩ | ⟨_, h⟩)
        · rw [hk]; exact h
        · omega
    · have hk' : k.val + 1 < 248 := by omega
      have e := reach_iff v ⟨k.val + 1, hk'⟩
      rw [rung_pow (by simp) (by simp; omega)] at e
      have e' : (((⟨k.val + 1, hk'⟩ : Fin 248).val : ℤ) - 127) = (k.val : ℤ) - 126 := by push_cast; ring
      rw [e'] at e
      constructor
      · intro h
        right
        refine ⟨?_, by omega⟩
        by_contra hc
        exact absurd (e.2 (by simp; omega)) (not_le.2 h)
      · rintro (⟨h, _⟩ | ⟨h, _⟩)
        · omega
        · by_contra hc
          have := e.1 (not_lt.1 hc)
          simp at this
          omega
  refine le_antisymm ?_ ?_
  · refine (Finset.fold_min_le _).2 (Or.inr ⟨⟨reach v - 1, by omega⟩, Finset.mem_univ _, ?_⟩)
    have e : (((⟨reach v - 1, by omega⟩ : Fin 248).val : ℕ) : ℤ) - 126 = (reach v : ℤ) - 127 := by simp; omega
    split
    · rw [e]
    · rename_i hn
      have hn' := fun h => hn ((key _).2 h)
      have : reach v = 248 := by
        by_contra hc
        exact hn' (Or.inr ⟨by simp; omega, by simp; omega⟩)
      rw [this]; exact pw_le (by norm_num)
  · refine (Finset.le_fold_min _).2 ⟨le_top, fun k _ => ?_⟩
    split
    · rename_i h
      rcases (key k).1 h with ⟨hk, _⟩ | ⟨hk, _⟩
      · exact pw_le (by omega)
      · exact pw_le (by omega)
    · exact pw_le (by omega)

/-- Dividing by the scale is multiplying by its inverse. -/
theorem div_scale (a x : EReal) : Ideal.div x (gscale a) = x * ginv a := by
  have key : ∀ z : ℤ, Ideal.div x (pw z) = x * pw (-z) := fun z => by
    unfold pw
    rw [Ideal.div_coe (zpow_pos (by norm_num) z).ne', zpow_neg, one_div]
  unfold gscale ginv
  split
  · rw [← pw_zero]; exact key 0
  · exact key _

/-- A column's largest magnitude is not negative. -/
theorem amax_nonneg (v : Fin 128 → EReal) : 0 ≤ amax v := by
  unfold amax
  refine (Finset.le_fold_max _).2 (Or.inr ⟨0, Finset.mem_univ _, ?_⟩)
  show (0 : EReal) ≤ max (v 0) (-v 0)
  rcases le_total 0 (v 0) with h | h
  · exact le_max_of_le_left h
  · exact le_max_of_le_right (EReal.neg_nonneg.2 h)

end Cert.BwdMath

end
-- ==== Proof.Bwd.Strip.lean ====
module

public import proofs.«01_k».proof.Proof.Bwd.Same
public import proofs.«01_k».proof.Proof.Bwd.Quant
public import proofs.«01_k».proof.Proof.Gen.BwdIdeal.Frame
public import Idealize.ShloMosaic.Lib.VecWindow
public import Idealize.ShloMosaic.Lib.WholeRead

@[expose] public section

set_option maxRecDepth 16384

/-! A grid point of the backward kernel handles two heads, and each head's tokens in four strips of 256. What a strip
gives, as a function of the point's blocks, and what one more store leaves in a buffer. -/

noncomputable section

namespace Cert.BwdIdeal.Gen

open Idealize.ShloMosaic Idealize.ShloMosaic.TcCoe
open Cert.FwdMath Cert.BwdMath

/-- The index a unit-stride rectangle of a matrix gives its entry `(x, y)`. -/
theorem unit_idx2 {m n a b p q : ℕ} (inb : ∀ k, (![a, b] : Fin 2 → ℕ) k + (![p, q] : Fin 2 → ℕ) k ≤ (⟨2, ![m, n]⟩ : Shape).size k)
    (x : Fin p) (y : Fin q) (hx : a + x.val < m) (hy : b + y.val < n) :
    (Rect.unit (s := ⟨2, ![m, n]⟩) ![a, b] ![p, q] inb).idx (ix2 x y) = ix2 ⟨a + x.val, hx⟩ ⟨b + y.val, hy⟩ := by
  funext k
  match k with
  | ⟨0, _⟩ => exact Fin.ext (congrArg (a + ·) (Nat.one_mul _))
  | ⟨1, _⟩ => exact Fin.ext (congrArg (b + ·) (Nat.one_mul _))

/-- A rectangle that is the whole matrix gives every index itself. -/
theorem unit_idx2_whole {m n : ℕ} (inb : ∀ k, (![0, 0] : Fin 2 → ℕ) k + (![m, n] : Fin 2 → ℕ) k ≤ (⟨2, ![m, n]⟩ : Shape).size k)
    (x : (⟨2, ![m, n]⟩ : Shape).Idx) : (Rect.unit (s := ⟨2, ![m, n]⟩) ![0, 0] ![m, n] inb).idx x = x := by
  funext k
  match k with
  | ⟨0, _⟩ => exact Fin.ext ((Nat.zero_add _).trans (Nat.one_mul _))
  | ⟨1, _⟩ => exact Fin.ext ((Nat.zero_add _).trans (Nat.one_mul _))

/-- A whole buffer, loaded whole, is its contents. -/
theorem whole_read {κ : Kind} {sp : Space} {e : EltTy} {m n : ℕ} (arg : Memref sig κ sp ⟨2, ![m, n]⟩ e) (harg : arg.IsWhole)
    (x : Vec Ideal ⟨2, ![m, n]⟩ e) (inb) :
    View.readAt (Elt Ideal) arg.view (Rect.unit (s := ⟨2, ![m, n]⟩) ![0, 0] ![m, n] inb).toLoadRect (harg.unread x) = x :=
  funext fun y => (harg.readAt_unread x _ y).trans (congrArg x (unit_idx2_whole inb y))

/-- A load through a unit-stride rectangle of a matrix held whole reads the matrix there. -/
theorem unit_read {κ : Kind} {sp : Space} {e : EltTy} {m n a b p q : ℕ} (arg : Memref sig κ sp ⟨2, ![m, n]⟩ e) (harg : arg.IsWhole)
    (x : Vec Ideal ⟨2, ![m, n]⟩ e) (inb) (s : Fin p) (t : Fin q) (hs : a + s.val < m) (ht : b + t.val < n) :
    View.readAt (Elt Ideal) arg.view (Rect.unit (s := ⟨2, ![m, n]⟩) ![a, b] ![p, q] inb).toLoadRect (harg.unread x) (ix2 s t)
      = x (ix2 ⟨a + s.val, hs⟩ ⟨b + t.val, ht⟩) :=
  (harg.readAt_unread x _ _).trans (congrArg x (unit_idx2 inb s t hs ht))

/-- The head number `2 i + h` as the body computes it. -/
theorem word_eq (n h : ℕ) (hn : n < 32) (hh : h < 2) :
    (Scalar.indexCast (Scalar.addi (Scalar.muli (BitVec.ofNat 32 n) 2#32) (BitVec.ofNat 32 h))).toNat = 2 * n + h := by
  interval_cases n <;> interval_cases h <;> rfl

/-- The grid point's number is below 32. -/
theorem pt_lt (i : grid0.Coords) : (i 0).val < 32 := (i 0).isLt

/-- A matrix as a function of two numbers. -/
abbrev fn {m n : ℕ} (a : (⟨2, ![m, n]⟩ : Shape).Idx → EReal) (i : Fin m) (j : Fin n) : EReal := a (ix2 i j)

/-- The number of one of the point's two heads. -/
def hrow (i : grid0.Coords) (h : Fin 2) : Fin 64 := ⟨2 * (i 0).val + h.val, by have := pt_lt i; omega⟩

theorem off1_eq (i : grid0.Coords) (h : Fin 2) : k0_off1 i (BitVec.ofNat 32 h.val) = ![2 * (i 0).val + h.val, 0] := by
  rw [← word_eq _ _ (pt_lt i) h.isLt]; rfl

theorem off2_eq (i : grid0.Coords) (h : Fin 2) : k0_off2 i (BitVec.ofNat 32 h.val) = ![2 * (i 0).val + h.val, 256 * 0] := by
  rw [← word_eq _ _ (pt_lt i) h.isLt]; rfl

theorem off3_eq (i : grid0.Coords) (h : Fin 2) : k0_off3 i (BitVec.ofNat 32 h.val) = ![2 * (i 0).val + h.val, 256 * 1] := by
  rw [← word_eq _ _ (pt_lt i) h.isLt]; rfl

theorem off4_eq (i : grid0.Coords) (h : Fin 2) : k0_off4 i (BitVec.ofNat 32 h.val) = ![2 * (i 0).val + h.val, 256 * 2] := by
  rw [← word_eq _ _ (pt_lt i) h.isLt]; rfl

theorem off5_eq (i : grid0.Coords) (h : Fin 2) : k0_off5 i (BitVec.ofNat 32 h.val) = ![2 * (i 0).val + h.val, 256 * 3] := by
  rw [← word_eq _ _ (pt_lt i) h.isLt]; rfl

variable (i : grid0.Coords) (x0 : Vec Ideal S256x1024 .fp8e4m3) (x1 x2 : Vec Ideal S64x1024 .f32) (x3 : Vec Ideal S1024x128 .fp8e4m3)
  (x4 : Vec Ideal S128x1024 .bf16) (x5 : Vec Ideal S1024x1024 .f32) (x7 x8 : Vec Ideal S32x1024 .f32)

/-- The query column of one of the point's heads at a token. -/
def qc (h : Fin 2) (t : Fin 1024) (x : Fin 128) : EReal := x0 (ix2 ⟨128 * h.val + x.val, by omega⟩ t)

/-- The gradient of the head's weight at a token. -/
def wAt (h : Fin 2) (t : Fin 1024) : EReal := wgrad (fn x3) (qc x0 h t) (fun s => upper (fn x5) s t) (x1 (ix2 (hrow i h) t))

/-- The gradient of the head's query at a token, before the rotary embedding is undone. -/
def uAt (h : Fin 2) (t : Fin 1024) (e : Fin 128) : EReal :=
  qgrad (fn x3) (qc x0 h t) (fun s => upper (fn x5) s t) (x2 (ix2 (hrow i h) t)) (fn x4 e)

/-- What the head's tokens of a strip add to one feature of a key's gradient. -/
def kAt (h : Fin 2) (j : Fin 4) (s : Fin 1024) (e : Fin 128) : EReal :=
  kgrad (n := 256) (fn x3 s) (fun t => qc x0 h ⟨256 * j.val + t.val, by omega⟩) (fun t => upper (fn x5) s ⟨256 * j.val + t.val, by omega⟩)
    (fun t => x1 (ix2 (hrow i h) ⟨256 * j.val + t.val, by omega⟩)) (fun t => x2 (ix2 (hrow i h) ⟨256 * j.val + t.val, by omega⟩))
    (fun t => qc x0 h ⟨256 * j.val + t.val, by omega⟩ e)

/-- The gradient of the head's query at a token. -/
def dqAt (h : Fin 2) (t : Fin 1024) (e : Fin 128) : EReal := ropeInv (uAt i x0 x2 x3 x4 x5 h t) (fun r => x7 (ix2 r t)) (fun r => x8 (ix2 r t)) e

/-- The largest magnitude of a feature's gradient in a group of 128 tokens. -/
def magAt (h : Fin 2) (T : Fin 8) (e : Fin 128) : EReal := amax fun x => dqAt i x0 x2 x3 x4 x5 x7 x8 h ⟨128 * T.val + x.val, by omega⟩ e

section Loads

variable {i x0 x1 x2 x3 x4 x5}

/-- A strip of the weight's gradient, of loads of its parts. -/
theorem wstrip (h : Fin 2) (j : Fin 4) {n : ℕ} (hn : n = 256 * (j.val + 1)) {k : Fin n → Fin 128 → EReal} {q : Fin 128 → EReal} {d : Fin n → EReal} {f : EReal}
    (t : Fin 256) (hk : ∀ s x, k s x = x3 (ix2 ⟨s.val, by omega⟩ x)) (hq : ∀ x, q x = qc x0 h ⟨256 * j.val + t.val, by omega⟩ x)
    (hd : ∀ s, d s = x5 (ix2 ⟨s.val, by omega⟩ ⟨256 * j.val + t.val, by omega⟩)) (hf : f = x1 (ix2 (hrow i h) ⟨256 * j.val + t.val, by omega⟩)) :
    wgrad k q d f = wAt i x0 x1 x3 x5 h ⟨256 * j.val + t.val, by omega⟩ := by
  obtain rfl : k = fun s => fn x3 ⟨s.val, by omega⟩ := funext fun s => funext fun x => hk s x
  obtain rfl : q = qc x0 h ⟨256 * j.val + t.val, by omega⟩ := funext hq
  obtain rfl : d = fun s => fn x5 ⟨s.val, by omega⟩ ⟨256 * j.val + t.val, by omega⟩ := funext hd
  subst hf
  exact wgrad_upper (fn x3) _ (fn x5) _ ⟨256 * j.val + t.val, by omega⟩ n (by omega) (by show n = 256 * ((256 * j.val + t.val) / 256 + 1); omega)

/-- A strip of the query's gradient, of loads of its parts. -/
theorem ustrip (h : Fin 2) (j : Fin 4) {n : ℕ} (hn : n = 256 * (j.val + 1)) {k : Fin n → Fin 128 → EReal} {q : Fin 128 → EReal} {d kt : Fin n → EReal} {f : EReal}
    (t : Fin 256) (e : Fin 128) (hk : ∀ s x, k s x = x3 (ix2 ⟨s.val, by omega⟩ x)) (hq : ∀ x, q x = qc x0 h ⟨256 * j.val + t.val, by omega⟩ x)
    (hd : ∀ s, d s = x5 (ix2 ⟨s.val, by omega⟩ ⟨256 * j.val + t.val, by omega⟩)) (hf : f = x2 (ix2 (hrow i h) ⟨256 * j.val + t.val, by omega⟩))
    (ht : ∀ s, kt s = x4 (ix2 e ⟨s.val, by omega⟩)) :
    qgrad k q d f kt = uAt i x0 x2 x3 x4 x5 h ⟨256 * j.val + t.val, by omega⟩ e := by
  obtain rfl : k = fun s => fn x3 ⟨s.val, by omega⟩ := funext fun s => funext fun x => hk s x
  obtain rfl : q = qc x0 h ⟨256 * j.val + t.val, by omega⟩ := funext hq
  obtain rfl : d = fun s => fn x5 ⟨s.val, by omega⟩ ⟨256 * j.val + t.val, by omega⟩ := funext hd
  obtain rfl : kt = fun s => fn x4 e ⟨s.val, by omega⟩ := funext ht
  subst hf
  exact qgrad_upper (fn x3) _ (fn x5) _ (fn x4 e) ⟨256 * j.val + t.val, by omega⟩ n (by omega) (by show n = 256 * ((256 * j.val + t.val) / 256 + 1); omega)

/-- What a strip adds to a key's gradient, of loads of its parts. -/
theorem kstrip (h : Fin 2) (j : Fin 4) (s : Fin 1024) (hs : s.val < 256 * (j.val + 1)) (e : Fin 128) {k : Fin 128 → EReal} {q : Fin 256 → Fin 128 → EReal}
    {d f w qe : Fin 256 → EReal} (hk : ∀ x, k x = x3 (ix2 s x)) (hq : ∀ t x, q t x = qc x0 h ⟨256 * j.val + t.val, by omega⟩ x)
    (hd : ∀ t : Fin 256, d t = x5 (ix2 s ⟨256 * j.val + t.val, by omega⟩)) (hf : ∀ t : Fin 256, f t = x1 (ix2 (hrow i h) ⟨256 * j.val + t.val, by omega⟩))
    (hw : ∀ t : Fin 256, w t = x2 (ix2 (hrow i h) ⟨256 * j.val + t.val, by omega⟩)) (he : ∀ t, qe t = qc x0 h ⟨256 * j.val + t.val, by omega⟩ e) :
    kgrad k q d f w qe = kAt i x0 x1 x2 x3 x5 h j s e := by
  obtain rfl : k = fn x3 s := funext hk
  obtain rfl : q = fun t => qc x0 h ⟨256 * j.val + t.val, by omega⟩ := funext fun t => funext fun x => hq t x
  obtain rfl : d = fun t => fn x5 s ⟨256 * j.val + t.val, by omega⟩ := funext hd
  obtain rfl : f = fun t => x1 (ix2 (hrow i h) ⟨256 * j.val + t.val, by omega⟩) := funext hf
  obtain rfl : w = fun t => x2 (ix2 (hrow i h) ⟨256 * j.val + t.val, by omega⟩) := funext hw
  obtain rfl : qe = fun t => qc x0 h ⟨256 * j.val + t.val, by omega⟩ e := funext he
  exact (kgrad_upper_eq _ _ (fn x5) _ _ _ s j.val j.isLt hs).symm

/-- A strip's load of the queries. -/
theorem load_q (arg1 : Memref sig .tc .vmem S256x1024 .fp8e4m3) (harg1 : arg1.IsWhole) (h : Fin 2) (j : Fin 4) {a b : ℕ} (ha : a = 128 * h.val) (hb : b = 256 * j.val) (inb) (x : Fin 128) (t : Fin 256) :
    View.readAt (Elt Ideal) arg1.view (Rect.unit (s := S256x1024) ![a, b] S128x256.size inb).toLoadRect (harg1.unread x0) (ix2 x t)
      = qc x0 h ⟨256 * j.val + t.val, by omega⟩ x := by
  subst ha hb
  exact unit_read (m := 256) (n := 1024) (p := 128) (q := 256) arg1 harg1 x0 _ x t _ _

/-- A load of the first keys. -/
theorem load_k (arg4 : Memref sig .tc .vmem S1024x128 .fp8e4m3) (harg4 : arg4.IsWhole) {n : ℕ} (hn : n ≤ 1024) (inb) (s : Fin n) (x : Fin 128) :
    View.readAt (Elt Ideal) arg4.view (Rect.unit (s := S1024x128) ![0, 0] ![n, 128] inb).toLoadRect (harg4.unread x3) (ix2 s x)
      = x3 (ix2 ⟨s.val, by omega⟩ x) :=
  (unit_read (m := 1024) (n := 128) arg4 harg4 x3 _ s x (by omega) (by omega)).trans
    (congrArg x3 (congrArg₂ ix2 (Fin.ext (Nat.zero_add _)) (Fin.ext (Nat.zero_add _))))

/-- A strip's load of the gradients. -/
theorem load_d (arg6 : Memref sig .tc .vmem S1024x1024 .f32) (harg6 : arg6.IsWhole) (j : Fin 4) {n b : ℕ} (hn : n ≤ 1024) (hb : b = 256 * j.val) (inb) (s : Fin n) (t : Fin 256) :
    View.readAt (Elt Ideal) arg6.view (Rect.unit (s := S1024x1024) ![0, b] ![n, 256] inb).toLoadRect (harg6.unread x5) (ix2 s t)
      = x5 (ix2 ⟨s.val, by omega⟩ ⟨256 * j.val + t.val, by omega⟩) := by
  subst hb
  exact (unit_read (m := 1024) (n := 1024) arg6 harg6 x5 _ s t (by omega) (by omega)).trans
    (congrArg x5 (congrArg₂ ix2 (Fin.ext (Nat.zero_add _)) rfl))

/-- A load of the first keys, one column each. -/
theorem load_kt (arg5 : Memref sig .tc .vmem S128x1024 .bf16) (harg5 : arg5.IsWhole) {n : ℕ} (hn : n ≤ 1024) (inb) (e : Fin 128) (s : Fin n) :
    View.readAt (Elt Ideal) arg5.view (Rect.unit (s := S128x1024) ![0, 0] ![128, n] inb).toLoadRect (harg5.unread x4) (ix2 e s)
      = x4 (ix2 e ⟨s.val, by omega⟩) :=
  (unit_read (m := 128) (n := 1024) arg5 harg5 x4 _ e s (by omega) (by omega)).trans
    (congrArg x4 (congrArg₂ ix2 (Fin.ext (Nat.zero_add _)) (Fin.ext (Nat.zero_add _))))

/-- A load of a head's row. -/
theorem load_row (arg : Memref sig .tc .vmem S64x1024 .f32) (harg : arg.IsWhole) (x : Vec Ideal S64x1024 .f32) (h : Fin 2) {off : Fin 2 → ℕ} (hoff : off = ![2 * (i 0).val + h.val, 0]) (inb)
    (t : Fin 1024) :
    View.readAt (Elt Ideal) arg.view (Rect.unit (s := S64x1024) off S1x1024.size inb).toLoadRect (harg.unread x) (ix2 0 t) = x (ix2 (hrow i h) t) := by
  subst hoff
  refine (unit_read (m := 64) (n := 1024) (p := 1) (q := 1024) arg harg x _ 0 t (by have := pt_lt i; simp; omega) (by omega)).trans ?_
  exact congrArg x (congrArg (ix2 _) (Fin.ext (Nat.zero_add _)))

end Loads

section Stores

variable {κ : Kind} {sp : Space} {e : EltTy}

/-- One more store of a head's strip into the weights' gradient. -/
theorem dw_step (v : View sig κ sp S64x1024 e) (f : v.ty.Contents (Elt Ideal)) (h : Fin 2) (j : Fin 4) {off : Fin 2 → ℕ} (hoff : off = ![2 * (i 0).val + h.val, 256 * j.val])
    (inb) (p : (Rect.unit (s := S64x1024) off S1x256.size inb).shape.Idx → Elt Ideal e) (L : List (View.Piece (Elt Ideal) S64x1024 e)) (g : Fin 64) (t : Fin 1024)
    (W : Fin 64 → Fin 1024 → Elt Ideal e) (hW : ∀ x : Fin 256, p (ix2 (0 : Fin 1) x) = W (hrow i h) ⟨256 * j.val + x.val, by omega⟩) :
    v.read (Elt Ideal) (v.writes (Elt Ideal) f (⟨Rect.unit (s := S64x1024) off S1x256.size inb, p⟩ :: L)) (ix2 g t)
      = if g.val = 2 * (i 0).val + h.val ∧ t.val / 256 = j.val then W g t else v.read (Elt Ideal) (v.writes (Elt Ideal) f L) (ix2 g t) := by
  split
  · rename_i hh
    refine (View.read_writes_cons_unit_of_mem v f inb p L (ix2 g t) (ix2 (0 : Fin 1) (⟨t.val - 256 * j.val, by omega⟩ : Fin 256)) hoff ?_).trans ((hW _).trans ?_)
    · intro a
      match a with
      | ⟨0, _⟩ => exact hh.1
      | ⟨1, _⟩ => exact (show t.val = 256 * j.val + (t.val - 256 * j.val) by omega)
    · have e1 : hrow i h = g := Fin.ext hh.1.symm
      have e2 : (⟨256 * j.val + (t.val - 256 * j.val), by omega⟩ : Fin 1024) = t := Fin.ext (by show 256 * j.val + (t.val - 256 * j.val) = t.val; omega)
      dsimp only
      rw [e1, e2]
  · rename_i hh
    by_cases h0 : g.val = 2 * (i 0).val + h.val
    · refine View.read_writes_cons_unit_of_not_mem v f inb p L (ix2 g t) hoff 1 ?_
      show t.val < 256 * j.val ∨ 256 * j.val + 256 ≤ t.val
      omega
    · refine View.read_writes_cons_unit_of_not_mem v f inb p L (ix2 g t) hoff 0 ?_
      show g.val < 2 * (i 0).val + h.val ∨ 2 * (i 0).val + h.val + 1 ≤ g.val
      omega

/-- One more addition to the first rows of the keys' gradient, the other rows' additions being nothing. -/
theorem dk_step (v : View sig κ sp S1024x128 .f32) (f : v.ty.Contents (Elt Ideal)) {n : ℕ} (inb)
    (p : (Rect.unit (s := S1024x128) ![0, 0] ![n, 128] inb).shape.Idx → Elt Ideal .f32) (L : List (View.Piece (Elt Ideal) S1024x128 .f32))
    (X T : Fin 1024 → Fin 128 → EReal) (hL : ∀ s e, n ≤ s.val → v.read (Elt Ideal) (v.writes (Elt Ideal) f L) (ix2 s e) = X s e)
    (hp : ∀ (s : Fin 1024) (hs : s.val < n) (e : Fin 128), p (ix2 (n0 := n) (n1 := 128) ⟨s.val, hs⟩ e) = X s e + T s e)
    (hT : ∀ s e, n ≤ s.val → T s e = 0) (s : Fin 1024) (e : Fin 128) :
    v.read (Elt Ideal) (v.writes (Elt Ideal) f (⟨Rect.unit (s := S1024x128) ![0, 0] ![n, 128] inb, p⟩ :: L)) (ix2 s e) = X s e + T s e := by
  by_cases hs : s.val < n
  · refine (View.read_writes_cons_unit_of_mem v f inb p L (ix2 s e) (ix2 (⟨s.val, hs⟩ : Fin n) e) rfl ?_).trans (hp s hs e)
    intro a
    match a with
    | ⟨0, _⟩ => exact (Nat.zero_add _).symm
    | ⟨1, _⟩ => exact (Nat.zero_add _).symm
  · rw [hT s e (not_lt.1 hs), add_zero]
    refine (View.read_writes_cons_unit_of_not_mem v f inb p L (ix2 s e) rfl 0 (Or.inr ?_)).trans (hL s e (not_lt.1 hs))
    show 0 + n ≤ s.val
    omega

/-- The first rows of a buffer, loaded. -/
theorem load_rows (v : View sig κ sp S1024x128 .f32) (f : v.ty.Contents (Elt Ideal)) {n : ℕ} (hn : n ≤ 1024) (inb) (s : Fin n) (e : Fin 128) :
    View.readAt (Elt Ideal) v (Rect.unit (s := S1024x128) ![0, 0] ![n, 128] inb).toLoadRect f (ix2 s e) = v.read (Elt Ideal) f (ix2 ⟨s.val, by omega⟩ e) :=
  congrArg (v.read (Elt Ideal) f) ((unit_idx2 (m := 1024) (n := 128) inb s e (by omega) (by omega)).trans
    (congrArg₂ ix2 (Fin.ext (Nat.zero_add _)) (Fin.ext (Nat.zero_add _))))

end Stores

section Slices

variable {i x0 x2 x3 x4 x5 x7 x8}

theorem rows_at (o : ℕ) (ho : S1024x128.Slices ![o, 0] S128x128) (R : FVec Ideal S1024x128 .f32) (x e : Fin 128) (hx : o + x.val < 1024) :
    rows o ho R (ix2 x e) = R (ix2 ⟨o + x.val, hx⟩ e) := by
  unfold rows
  refine congrArg R ?_
  funext k
  match k with
  | ⟨0, _⟩ => rfl
  | ⟨1, _⟩ => exact Fin.ext (Nat.zero_add _)

variable (x : FVec Ideal S128x128 .f32) (D : Fin 128 → EReal) (e : Fin 128) (hx : ∀ t, x (ix2 t e) = D t)

include hx in
theorem expo_slice : expo (colMax x) (ix2 0 e) = expoBits (amax D) := by
  rw [expo_at, rungs_at, colMax_at]
  have : (fun t => x (ix2 t e)) = D := funext hx
  rw [this]
  rfl

include hx in
/-- The scale of a slice's column is the quantiser's. -/
theorem sliceScale_at : sliceScale x (ix2 0 e) = gscale (amax D) := by
  unfold sliceScale
  rw [scaleOf_at, expo_slice x D e hx, scale_bits (amax_nonneg D)]

include hx in
/-- So are its codes. -/
theorem sliceCode_at (t : Fin 128) : sliceCode x (ix2 t e) = gcode (amax D) (D t) := by
  unfold sliceCode
  rw [code_at, invOf_at, expo_slice x D e hx, inv_bits (amax_nonneg D), hx]
  rfl

include hx in
/-- The dequantised column is the codes times the scale. -/
theorem sliceDeq_at (t : Fin 128) : sliceDeq x (ix2 t e) = gcode (amax D) (D t) * gscale (amax D) := by
  unfold sliceDeq
  rw [deq_at, sliceCode_at x D e hx, sliceScale_at x D e hx]

end Slices

end Cert.BwdIdeal.Gen

end
-- ==== Proof.Bwd.Run.lean ====
module

public import proofs.«01_k».proof.Proof.Gen.BwdIdeal.Frame
public import proofs.«01_k».proof.Proof.Gen.BwdIdeal.Skeleton
public import Idealize.ShloMosaic.Lib.VecWindow

@[expose] public section

-- membership in a rectangle of production extents (`View.cover_of_tiled`): the elaborator's structural look
-- recurses once per coordinate of the long axes
set_option maxRecDepth 16384

/-! One run of the backward kernel's body, with the stores it makes into its outputs. -/

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whether the grid point is the first: the condition the body's branch is taken on. -/
def isFirst (i : grid0.Coords) : BitVec 1 := Scalar.cmpi .ne (Scalar.extui (Scalar.cmpi .eq (BitVec.ofNat 32 (i 0).val) 0#32) : BitVec 32) 0#32

/-- A branch that does two operations and goes on, or just goes on: what goes on starts from what holds after the
    branch, whichever way it was taken. -/
theorem first_branch {α₁ α₂ β : Type} {c : Dev nD} {E : Set ℕ} {C : Prop} [Decidable C] {P Q : sProp 𝕄} {K : PUnit → sProp 𝕄}
    {l : Prog (TpuEff nD τ sig (Elt F) Λ₀ .tc) α₁} {s : Prog (TpuEff nD τ sig (Elt F) Λ₀ .tc) α₂}
    {jp : Prog (TpuEff nD τ sig (Elt F) Λ₀ .tc) β} {k : β → Prog (TpuEff nD τ sig (Elt F) Λ₀ .tc) PUnit}
    (h1 : C → P ⊢ wp frame (wpE (defs₀ (F := F)) Variants.none c none) E (l >>= fun _ => s >>= fun _ => pure PUnit.unit) (fun _ : PUnit => Q))
    (h2 : ¬ C → P ⊢ Q)
    (h3 : Q ⊢ wp frame (wpE (defs₀ (F := F)) Variants.none c none) E (jp >>= k) K) :
    P ⊢ wp frame (wpE (defs₀ (F := F)) Variants.none c none) E
      ((if C then l >>= fun _ => s >>= fun _ => jp else jp) >>= k) K := by
  by_cases hC : C
  · rw [if_pos hC, show (l >>= fun _ => s >>= fun _ => jp) >>= k = (l >>= fun _ => s >>= fun _ => pure PUnit.unit) >>= (fun _ : PUnit => jp >>= k) from by
      simp only [Prog.bind_assoc]; rfl, wp_bind]
    exact (h1 hC).trans (wp_mono _ _ _ (fun _ => h3))
  · rw [if_neg hC]; exact (h2 hC).trans h3

/-- What is given last may be given a name. -/
theorem tail_named {a1 a2 a3 a4 a5 a6 a7 a8 a9 a10 a11 a12 a13 a14 a15 a16 R W : sProp 𝕄}
    (h : ∀ R' : sProp 𝕄, R' = R → iprop(a1 ∗ a2 ∗ a3 ∗ a4 ∗ a5 ∗ a6 ∗ a7 ∗ a8 ∗ a9 ∗ a10 ∗ a11 ∗ a12 ∗ a13 ∗ a14 ∗ a15 ∗ a16 ∗ R') ⊢ W) : iprop(a1 ∗ a2 ∗ a3 ∗ a4 ∗ a5 ∗ a6 ∗ a7 ∗ a8 ∗ a9 ∗ a10 ∗ a11 ∗ a12 ∗ a13 ∗ a14 ∗ a15 ∗ a16 ∗ R) ⊢ W := h R rfl

-- (the run's proof term is large: checking it walks past the default budget)
set_option maxHeartbeats 20000000 in
/-- What one grid point does: run on whole staging memrefs whose inputs hold `x0`, …, `x8`, the weights' gradient `x9`
    and the keys' gradient `x10` (read as zero at the first point), the body leaves its inputs in place and its five
    outputs with the stores `L9`, …, `L13` made into them in order, the last first. The lists are found by the
    execution. -/
noncomputable def kernelRun0 (c : Dev nD) (i : grid0.Coords) (arg1 : Memref sig .tc .vmem S256x1024 .fp8e4m3) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x128 .fp8e4m3) (harg4 : arg4.IsWhole) (arg5 : Memref sig .tc .vmem S128x1024 .bf16) (harg5 : arg5.IsWhole) (arg6 : Memref sig .tc .vmem S1024x1024 .f32) (harg6 : arg6.IsWhole) (arg7 : Memref sig .tc .vmem S1536x1024 .bf16) (harg7 : arg7.IsWhole) (arg8 : Memref sig .tc .vmem S32x1024 .f32) (harg8 : arg8.IsWhole) (arg9 : Memref sig .tc .vmem S32x1024 .f32) (harg9 : arg9.IsWhole) (arg10 : Memref sig .tc .vmem S64x1024 .f32) (harg10 : arg10.IsWhole) (arg11 : Memref sig .tc .vmem S1024x128 .f32) (harg11 : arg11.IsWhole) (arg12 : Memref sig .tc .vmem S1024x256 .fp8e4m3) (harg12 : arg12.IsWhole) (arg13 : Memref sig .tc .vmem S8x256 .f32) (harg13 : arg13.IsWhole) (arg14 : Memref sig .tc .vmem S1536x256 .f32) (harg14 : arg14.IsWhole) (arg15 : Memref sig .tc .vmem S256x1024 .f32) (harg15 : arg15.IsWhole) (arg16 : Memref sig .tc .vmem S1024x256 .bf16) (harg16 : arg16.IsWhole)
    (x0 : Vec F S256x1024 .fp8e4m3) (x1 : Vec F S64x1024 .f32) (x2 : Vec F S64x1024 .f32) (x3 : Vec F S1024x128 .fp8e4m3) (x4 : Vec F S128x1024 .bf16) (x5 : Vec F S1024x1024 .f32) (x6 : Vec F S1536x1024 .bf16) (x7 : Vec F S32x1024 .f32) (x8 : Vec F S32x1024 .f32) (x9 : Vec F S64x1024 .f32) (x10 : Vec F S1024x128 .f32) :
    Σ' (L9 : List (View.Piece (Elt F) S64x1024 .f32)) (L10 : List (View.Piece (Elt F) S1024x128 .f32)) (L11 : List (View.Piece (Elt F) S1024x256 .fp8e4m3)) (L12 : List (View.Piece (Elt F) S8x256 .f32)),
      { L13 : List (View.Piece (Elt F) S1536x256 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (arg10.view.read (Elt F) (arg10.view.writes (Elt F) (harg10.unread x9) L9)) ∗ owns (c : Thread nD τ) arg11 fullShare (arg11.view.read (Elt F) (arg11.view.writes (Elt F) (harg11.unread (if isFirst i = 1#1 then k0_pay3 (F := F) else x10)) L10)) ∗ (∃ f, owns (c : Thread nD τ) arg12 fullShare (arg12.view.read (Elt F) (arg12.view.writes (Elt F) f L11))) ∗ (∃ f, owns (c : Thread nD τ) arg13 fullShare (arg13.view.read (Elt F) (arg13.view.writes (Elt F) f L12))) ∗ (∃ f, owns (c : Thread nD τ) arg14 fullShare (arg14.view.read (Elt F) (arg14.view.writes (Elt F) f L13))) ∗ (∃ d, owns (c : Thread nD τ) arg15 fullShare d) ∗ (∃ d, owns (c : Thread nD τ) arg16 fullShare d)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
    refine ⟨?_, ?_, ?_, ?_, ?_, fun E K => ?_⟩
    rotate_left 5
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold k0_part1_skel
    refine tail_named ?_
    intro R hR
    refine first_branch (Q := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (if isFirst i = 1#1 then k0_pay3 (F := F) else x10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ R)) ?first ?later ?rest
    case first =>
      clear hR
      intro hc
      rw [if_pos (show isFirst i = 1#1 from hc)]
      unfold owns
      iintro ⟨H0, H1, H2, H3, H4, H5, H6, H7, H8, H9, ⟨%f10, %hf10, H10⟩, Hr⟩
      obtain rfl := harg11.eq_unread hf10
      sl_exec
      sl_step
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro; exact View.read_writes_full _ _ _ _ _
      iexact Hr
    case later =>
      clear hR
      intro hc
      rw [if_neg (show ¬ isFirst i = 1#1 from hc)]
    subst hR
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro; rfl
    isplitl [H10]
    · iexists _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.BwdIdeal.Gen

end
-- ==== Proof.Bwd.Block.lean ====
module

public import proofs.«01_k».proof.Proof.Bwd.Strip
public import proofs.«01_k».proof.Proof.Bwd.Run

@[expose] public section

set_option maxRecDepth 16384

/-! What one grid point of the backward kernel leaves in the weights' and the keys' gradients and in the scratch buffer
of the queries' gradients. -/

noncomputable section

namespace Cert.BwdIdeal.Gen

open Idealize.ShloMosaic Idealize.ShloMosaic.TcCoe
open Cert.FwdMath Cert.BwdMath

variable (c : Dev nD) (i : grid0.Coords) (arg1 : Memref sig .tc .vmem S256x1024 .fp8e4m3) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x128 .fp8e4m3) (harg4 : arg4.IsWhole) (arg5 : Memref sig .tc .vmem S128x1024 .bf16) (harg5 : arg5.IsWhole) (arg6 : Memref sig .tc .vmem S1024x1024 .f32) (harg6 : arg6.IsWhole) (arg7 : Memref sig .tc .vmem S1536x1024 .bf16) (harg7 : arg7.IsWhole) (arg8 : Memref sig .tc .vmem S32x1024 .f32) (harg8 : arg8.IsWhole) (arg9 : Memref sig .tc .vmem S32x1024 .f32) (harg9 : arg9.IsWhole) (arg10 : Memref sig .tc .vmem S64x1024 .f32) (harg10 : arg10.IsWhole) (arg11 : Memref sig .tc .vmem S1024x128 .f32) (harg11 : arg11.IsWhole) (arg12 : Memref sig .tc .vmem S1024x256 .fp8e4m3) (harg12 : arg12.IsWhole) (arg13 : Memref sig .tc .vmem S8x256 .f32) (harg13 : arg13.IsWhole) (arg14 : Memref sig .tc .vmem S1536x256 .f32) (harg14 : arg14.IsWhole) (arg15 : Memref sig .tc .vmem S256x1024 .f32) (harg15 : arg15.IsWhole) (arg16 : Memref sig .tc .vmem S1024x256 .bf16) (harg16 : arg16.IsWhole)
    (x0 : Vec Ideal S256x1024 .fp8e4m3) (x1 : Vec Ideal S64x1024 .f32) (x2 : Vec Ideal S64x1024 .f32) (x3 : Vec Ideal S1024x128 .fp8e4m3) (x4 : Vec Ideal S128x1024 .bf16) (x5 : Vec Ideal S1024x1024 .f32) (x6 : Vec Ideal S1536x1024 .bf16) (x7 : Vec Ideal S32x1024 .f32) (x8 : Vec Ideal S32x1024 .f32) (x9 : Vec Ideal S64x1024 .f32) (x10 : Vec Ideal S1024x128 .f32)

/-- The stores one grid point makes into the weights' gradient. -/
abbrev dwStores := (kernelRun0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).1

/-- The stores one grid point makes into the keys' gradient. -/
abbrev dkStores := (kernelRun0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.1

/-- The stores one grid point makes into the codes. -/
abbrev dqcStores := (kernelRun0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.2.1

/-- The stores one grid point makes into the scales. -/
abbrev dqsStores := (kernelRun0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.2.2.1

/-- The stores one grid point makes into the projection's weight's gradient. -/
abbrev dwqStores := (kernelRun0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.2.2.2.1

theorem ite_step {c : Prop} [Decidable c] {α : Type} {x y z : α} (h1 : c → x = z) (h2 : ¬ c → y = z) : (if c then x else y) = z := by
  split
  · exact h1 ‹_›
  · exact h2 ‹_›

/-- The gradient of the weight of a row's head, the row's parity choosing among the point's two. -/
def wRow (g : Fin 64) (t : Fin 1024) : EReal := wAt i x0 x1 x3 x5 ⟨g.val % 2, Nat.mod_lt _ (by decide)⟩ t

theorem wRow_hrow (h : Fin 2) (t : Fin 1024) : wRow i x0 x1 x3 x5 (hrow i h) t = wAt i x0 x1 x3 x5 h t :=
  congrArg (fun h => wAt i x0 x1 x3 x5 h t) (Fin.ext (by show (2 * (i 0).val + h.val) % 2 = h.val; omega))

/-- Strip 0 of a head's stores into the weights' gradient. -/
theorem w256_piece (h : Fin 2) {a : ℕ} (ha : a = 128 * h.val) (off : Fin 2 → ℕ) (hoff : off = ![2 * (i 0).val + h.val, 0]) (inb1 inb2) (t : Fin 256) :
    k0_pay7 (F := Ideal)
      (View.readAt (Elt Ideal) arg2.view (Rect.unit (s := S64x1024) off S1x1024.size inb1).toLoadRect (harg2.unread x1))
      (View.readAt (Elt Ideal) arg1.view (Rect.unit (s := S256x1024) ![a, 0] S128x256.size inb2).toLoadRect (harg1.unread x0))
      (View.readAt (Elt Ideal) arg4.view (Rect.unit (s := S1024x128) ![0, 0] S256x128.size inb_S1024x128_S256x128_0_0).toLoadRect (harg4.unread x3))
      (View.readAt (Elt Ideal) arg6.view (Rect.unit (s := S1024x1024) ![0, 0] S256x256.size inb_S1024x1024_S256x256_0_0).toLoadRect (harg6.unread x5))
      (ix2 0 t) = wRow i x0 x1 x3 x5 (hrow i h) ⟨256 * ((0 : Fin 4) : ℕ) + t.val, by have : ((0 : Fin 4) : ℕ) = 0 := rfl; omega⟩ := by
  rw [w256_at, wRow_hrow]
  exact wstrip h 0 rfl t (load_k arg4 harg4 (by decide) _) (fun x => load_q arg1 harg1 h 0 ha rfl _ x t) (fun s => load_d arg6 harg6 0 (by decide) rfl _ s t)
    (load_row arg2 harg2 x1 h hoff _ _)

/-- Strip 1 of a head's stores into the weights' gradient. -/
theorem w512_piece (h : Fin 2) {a : ℕ} (ha : a = 128 * h.val) (off : Fin 2 → ℕ) (hoff : off = ![2 * (i 0).val + h.val, 0]) (inb1 inb2) (t : Fin 256) :
    k0_pay14 (F := Ideal)
      (View.readAt (Elt Ideal) arg2.view (Rect.unit (s := S64x1024) off S1x1024.size inb1).toLoadRect (harg2.unread x1))
      (View.readAt (Elt Ideal) arg1.view (Rect.unit (s := S256x1024) ![a, 256] S128x256.size inb2).toLoadRect (harg1.unread x0))
      (View.readAt (Elt Ideal) arg4.view (Rect.unit (s := S1024x128) ![0, 0] S512x128.size inb_S1024x128_S512x128_0_0).toLoadRect (harg4.unread x3))
      (View.readAt (Elt Ideal) arg6.view (Rect.unit (s := S1024x1024) ![0, 256] S512x256.size inb_S1024x1024_S512x256_0_256).toLoadRect (harg6.unread x5))
      (ix2 0 t) = wRow i x0 x1 x3 x5 (hrow i h) ⟨256 * ((1 : Fin 4) : ℕ) + t.val, by have : ((1 : Fin 4) : ℕ) = 1 := rfl; omega⟩ := by
  rw [w512_at, wRow_hrow]
  exact wstrip h 1 rfl t (load_k arg4 harg4 (by decide) _) (fun x => load_q arg1 harg1 h 1 ha rfl _ x t) (fun s => load_d arg6 harg6 1 (by decide) rfl _ s t)
    (load_row arg2 harg2 x1 h hoff _ _)

/-- Strip 2 of a head's stores into the weights' gradient. -/
theorem w768_piece (h : Fin 2) {a : ℕ} (ha : a = 128 * h.val) (off : Fin 2 → ℕ) (hoff : off = ![2 * (i 0).val + h.val, 0]) (inb1 inb2) (t : Fin 256) :
    k0_pay21 (F := Ideal)
      (View.readAt (Elt Ideal) arg2.view (Rect.unit (s := S64x1024) off S1x1024.size inb1).toLoadRect (harg2.unread x1))
      (View.readAt (Elt Ideal) arg1.view (Rect.unit (s := S256x1024) ![a, 512] S128x256.size inb2).toLoadRect (harg1.unread x0))
      (View.readAt (Elt Ideal) arg4.view (Rect.unit (s := S1024x128) ![0, 0] S768x128.size inb_S1024x128_S768x128_0_0).toLoadRect (harg4.unread x3))
      (View.readAt (Elt Ideal) arg6.view (Rect.unit (s := S1024x1024) ![0, 512] S768x256.size inb_S1024x1024_S768x256_0_512).toLoadRect (harg6.unread x5))
      (ix2 0 t) = wRow i x0 x1 x3 x5 (hrow i h) ⟨256 * ((2 : Fin 4) : ℕ) + t.val, by have : ((2 : Fin 4) : ℕ) = 2 := rfl; omega⟩ := by
  rw [w768_at, wRow_hrow]
  exact wstrip h 2 rfl t (load_k arg4 harg4 (by decide) _) (fun x => load_q arg1 harg1 h 2 ha rfl _ x t) (fun s => load_d arg6 harg6 2 (by decide) rfl _ s t)
    (load_row arg2 harg2 x1 h hoff _ _)

/-- Strip 3 of a head's stores into the weights' gradient. -/
theorem w1024_piece (h : Fin 2) {a : ℕ} (ha : a = 128 * h.val) (off : Fin 2 → ℕ) (hoff : off = ![2 * (i 0).val + h.val, 0]) (inb1 inb2) (t : Fin 256) :
    k0_pay27 (F := Ideal)
      (View.readAt (Elt Ideal) arg2.view (Rect.unit (s := S64x1024) off S1x1024.size inb1).toLoadRect (harg2.unread x1))
      (View.readAt (Elt Ideal) arg1.view (Rect.unit (s := S256x1024) ![a, 768] S128x256.size inb2).toLoadRect (harg1.unread x0))
      (View.readAt (Elt Ideal) arg4.view (Rect.unit (s := S1024x128) ![0, 0] S1024x128.size inb_S1024x128_S1024x128_0_0).toLoadRect (harg4.unread x3))
      (View.readAt (Elt Ideal) arg6.view (Rect.unit (s := S1024x1024) ![0, 768] S1024x256.size inb_S1024x1024_S1024x256_0_768).toLoadRect (harg6.unread x5))
      (ix2 0 t) = wRow i x0 x1 x3 x5 (hrow i h) ⟨256 * ((3 : Fin 4) : ℕ) + t.val, by have : ((3 : Fin 4) : ℕ) = 3 := rfl; omega⟩ := by
  rw [w1024_at, wRow_hrow]
  exact wstrip h 3 rfl t (load_k arg4 harg4 (by decide) _) (fun x => load_q arg1 harg1 h 3 ha rfl _ x t) (fun s => load_d arg6 harg6 3 (by decide) rfl _ s t)
    (load_row arg2 harg2 x1 h hoff _ _)

/-- Strip 0 of a head's stores into the queries' gradient. -/
theorem u256_piece (h : Fin 2) {a : ℕ} (ha : a = 128 * h.val) (off : Fin 2 → ℕ) (hoff : off = ![2 * (i 0).val + h.val, 0]) (inb1 inb2) (e : Fin 128) (t : Fin 256) :
    k0_pay10 (F := Ideal) (k0_pay9 (F := Ideal)
      (View.readAt (Elt Ideal) arg3.view (Rect.unit (s := S64x1024) off S1x1024.size inb1).toLoadRect (harg3.unread x2))
      (View.readAt (Elt Ideal) arg1.view (Rect.unit (s := S256x1024) ![a, 0] S128x256.size inb2).toLoadRect (harg1.unread x0))
      (View.readAt (Elt Ideal) arg4.view (Rect.unit (s := S1024x128) ![0, 0] S256x128.size inb_S1024x128_S256x128_0_0).toLoadRect (harg4.unread x3))
      (View.readAt (Elt Ideal) arg6.view (Rect.unit (s := S1024x1024) ![0, 0] S256x256.size inb_S1024x1024_S256x256_0_0).toLoadRect (harg6.unread x5))
      (View.readAt (Elt Ideal) arg5.view (Rect.unit (s := S128x1024) ![0, 0] S128x256.size inb_S128x1024_S128x256_0_0).toLoadRect (harg5.unread x4)))
      (ix2 e t) = uAt i x0 x2 x3 x4 x5 h ⟨256 * ((0 : Fin 4) : ℕ) + t.val, by have : ((0 : Fin 4) : ℕ) = 0 := rfl; omega⟩ e := by
  rw [u256_at]
  exact ustrip h 0 rfl t e (load_k arg4 harg4 (by decide) _) (fun x => load_q arg1 harg1 h 0 ha rfl _ x t) (fun s => load_d arg6 harg6 0 (by decide) rfl _ s t)
    (load_row arg3 harg3 x2 h hoff _ _) (load_kt arg5 harg5 (by decide) _ e)

/-- Strip 1 of a head's stores into the queries' gradient. -/
theorem u512_piece (h : Fin 2) {a : ℕ} (ha : a = 128 * h.val) (off : Fin 2 → ℕ) (hoff : off = ![2 * (i 0).val + h.val, 0]) (inb1 inb2) (e : Fin 128) (t : Fin 256) :
    k0_pay17 (F := Ideal) (k0_pay16 (F := Ideal)
      (View.readAt (Elt Ideal) arg3.view (Rect.unit (s := S64x1024) off S1x1024.size inb1).toLoadRect (harg3.unread x2))
      (View.readAt (Elt Ideal) arg1.view (Rect.unit (s := S256x1024) ![a, 256] S128x256.size inb2).toLoadRect (harg1.unread x0))
      (View.readAt (Elt Ideal) arg4.view (Rect.unit (s := S1024x128) ![0, 0] S512x128.size inb_S1024x128_S512x128_0_0).toLoadRect (harg4.unread x3))
      (View.readAt (Elt Ideal) arg6.view (Rect.unit (s := S1024x1024) ![0, 256] S512x256.size inb_S1024x1024_S512x256_0_256).toLoadRect (harg6.unread x5))
      (View.readAt (Elt Ideal) arg5.view (Rect.unit (s := S128x1024) ![0, 0] S128x512.size inb_S128x1024_S128x512_0_0).toLoadRect (harg5.unread x4)))
      (ix2 e t) = uAt i x0 x2 x3 x4 x5 h ⟨256 * ((1 : Fin 4) : ℕ) + t.val, by have : ((1 : Fin 4) : ℕ) = 1 := rfl; omega⟩ e := by
  rw [u512_at]
  exact ustrip h 1 rfl t e (load_k arg4 harg4 (by decide) _) (fun x => load_q arg1 harg1 h 1 ha rfl _ x t) (fun s => load_d arg6 harg6 1 (by decide) rfl _ s t)
    (load_row arg3 harg3 x2 h hoff _ _) (load_kt arg5 harg5 (by decide) _ e)

/-- Strip 2 of a head's stores into the queries' gradient. -/
theorem u768_piece (h : Fin 2) {a : ℕ} (ha : a = 128 * h.val) (off : Fin 2 → ℕ) (hoff : off = ![2 * (i 0).val + h.val, 0]) (inb1 inb2) (e : Fin 128) (t : Fin 256) :
    k0_pay23 (F := Ideal)
      (View.readAt (Elt Ideal) arg3.view (Rect.unit (s := S64x1024) off S1x1024.size inb1).toLoadRect (harg3.unread x2))
      (View.readAt (Elt Ideal) arg1.view (Rect.unit (s := S256x1024) ![a, 512] S128x256.size inb2).toLoadRect (harg1.unread x0))
      (View.readAt (Elt Ideal) arg4.view (Rect.unit (s := S1024x128) ![0, 0] S768x128.size inb_S1024x128_S768x128_0_0).toLoadRect (harg4.unread x3))
      (View.readAt (Elt Ideal) arg6.view (Rect.unit (s := S1024x1024) ![0, 512] S768x256.size inb_S1024x1024_S768x256_0_512).toLoadRect (harg6.unread x5))
      (View.readAt (Elt Ideal) arg5.view (Rect.unit (s := S128x1024) ![0, 0] S128x768.size inb_S128x1024_S128x768_0_0).toLoadRect (harg5.unread x4))
      (ix2 e t) = uAt i x0 x2 x3 x4 x5 h ⟨256 * ((2 : Fin 4) : ℕ) + t.val, by have : ((2 : Fin 4) : ℕ) = 2 := rfl; omega⟩ e := by
  rw [u768_at]
  exact ustrip h 2 rfl t e (load_k arg4 harg4 (by decide) _) (fun x => load_q arg1 harg1 h 2 ha rfl _ x t) (fun s => load_d arg6 harg6 2 (by decide) rfl _ s t)
    (load_row arg3 harg3 x2 h hoff _ _) (load_kt arg5 harg5 (by decide) _ e)

/-- Strip 3 of a head's stores into the queries' gradient. -/
theorem u1024_piece (h : Fin 2) {a : ℕ} (ha : a = 128 * h.val) (off : Fin 2 → ℕ) (hoff : off = ![2 * (i 0).val + h.val, 0]) (inb1 inb2) (e : Fin 128) (t : Fin 256) :
    k0_pay29 (F := Ideal)
      (View.readAt (Elt Ideal) arg3.view (Rect.unit (s := S64x1024) off S1x1024.size inb1).toLoadRect (harg3.unread x2))
      (View.readAt (Elt Ideal) arg1.view (Rect.unit (s := S256x1024) ![a, 768] S128x256.size inb2).toLoadRect (harg1.unread x0))
      (View.readAt (Elt Ideal) arg4.view (Rect.unit (s := S1024x128) ![0, 0] S1024x128.size inb_S1024x128_S1024x128_0_0).toLoadRect (harg4.unread x3))
      (View.readAt (Elt Ideal) arg6.view (Rect.unit (s := S1024x1024) ![0, 768] S1024x256.size inb_S1024x1024_S1024x256_0_768).toLoadRect (harg6.unread x5))
      (View.readAt (Elt Ideal) arg5.view (Rect.unit (s := S128x1024) ![0, 0] S128x1024.size inb_S128x1024_S128x1024_0_0).toLoadRect (harg5.unread x4))
      (ix2 e t) = uAt i x0 x2 x3 x4 x5 h ⟨256 * ((3 : Fin 4) : ℕ) + t.val, by have : ((3 : Fin 4) : ℕ) = 3 := rfl; omega⟩ e := by
  rw [u1024_at]
  exact ustrip h 3 rfl t e (load_k arg4 harg4 (by decide) _) (fun x => load_q arg1 harg1 h 3 ha rfl _ x t) (fun s => load_d arg6 harg6 3 (by decide) rfl _ s t)
    (load_row arg3 harg3 x2 h hoff _ _) (load_kt arg5 harg5 (by decide) _ e)

/-- Strip 0 of a head's additions to the keys' gradient, where it was `X`. -/
theorem k256_piece (h : Fin 2) {a : ℕ} (ha : a = 128 * h.val) (off : Fin 2 → ℕ) (hoff : off = ![2 * (i 0).val + h.val, 0]) (inb1 inb2) (o : Vec Ideal S256x128 .f32)
    (X : Fin 1024 → Fin 128 → EReal) (ho : ∀ (s : Fin 256) (e : Fin 128), o (ix2 s e) = X ⟨s.val, by omega⟩ e) (s : Fin 1024) (hs : s.val < 256) (e : Fin 128) :
    k0_pay11 (F := Ideal)
      (View.readAt (Elt Ideal) arg1.view (Rect.unit (s := S256x1024) ![a, 0] S128x256.size inb2).toLoadRect (harg1.unread x0))
      (k0_pay8 (F := Ideal)
        (View.readAt (Elt Ideal) arg2.view (Rect.unit (s := S64x1024) off S1x1024.size inb1).toLoadRect (harg2.unread x1))
        (View.readAt (Elt Ideal) arg3.view (Rect.unit (s := S64x1024) off S1x1024.size inb1).toLoadRect (harg3.unread x2))
        (View.readAt (Elt Ideal) arg1.view (Rect.unit (s := S256x1024) ![a, 0] S128x256.size inb2).toLoadRect (harg1.unread x0))
        (View.readAt (Elt Ideal) arg4.view (Rect.unit (s := S1024x128) ![0, 0] S256x128.size inb_S1024x128_S256x128_0_0).toLoadRect (harg4.unread x3))
        (View.readAt (Elt Ideal) arg6.view (Rect.unit (s := S1024x1024) ![0, 0] S256x256.size inb_S1024x1024_S256x256_0_0).toLoadRect (harg6.unread x5)))
      o (ix2 (⟨s.val, hs⟩ : Fin 256) e) = X s e + kAt i x0 x1 x2 x3 x5 h 0 s e := by
  rw [k256_at, ho]
  exact congrArg (X s e + ·) (kstrip h 0 s hs e (fun x => load_k arg4 harg4 (by decide) _ ⟨s.val, hs⟩ x) (fun t x => load_q arg1 harg1 h 0 ha rfl _ x t)
    (fun t => load_d arg6 harg6 0 (by decide) rfl _ ⟨s.val, hs⟩ t) (fun t => load_row arg2 harg2 x1 h hoff _ _) (fun t => load_row arg3 harg3 x2 h hoff _ _)
    (fun t => load_q arg1 harg1 h 0 ha rfl _ e t))

/-- Strip 1 of a head's additions to the keys' gradient, where it was `X`. -/
theorem k512_piece (h : Fin 2) {a : ℕ} (ha : a = 128 * h.val) (off : Fin 2 → ℕ) (hoff : off = ![2 * (i 0).val + h.val, 0]) (inb1 inb2) (o : Vec Ideal S512x128 .f32)
    (X : Fin 1024 → Fin 128 → EReal) (ho : ∀ (s : Fin 512) (e : Fin 128), o (ix2 s e) = X ⟨s.val, by omega⟩ e) (s : Fin 1024) (hs : s.val < 512) (e : Fin 128) :
    k0_pay18 (F := Ideal)
      (View.readAt (Elt Ideal) arg1.view (Rect.unit (s := S256x1024) ![a, 256] S128x256.size inb2).toLoadRect (harg1.unread x0))
      (k0_pay15 (F := Ideal) (k0_pay4 (F := Ideal)
        (View.readAt (Elt Ideal) arg2.view (Rect.unit (s := S64x1024) off S1x1024.size inb1).toLoadRect (harg2.unread x1))
        (View.readAt (Elt Ideal) arg3.view (Rect.unit (s := S64x1024) off S1x1024.size inb1).toLoadRect (harg3.unread x2)))
        (View.readAt (Elt Ideal) arg1.view (Rect.unit (s := S256x1024) ![a, 256] S128x256.size inb2).toLoadRect (harg1.unread x0))
        (View.readAt (Elt Ideal) arg4.view (Rect.unit (s := S1024x128) ![0, 0] S512x128.size inb_S1024x128_S512x128_0_0).toLoadRect (harg4.unread x3))
        (View.readAt (Elt Ideal) arg6.view (Rect.unit (s := S1024x1024) ![0, 256] S512x256.size inb_S1024x1024_S512x256_0_256).toLoadRect (harg6.unread x5)))
      o (ix2 (⟨s.val, hs⟩ : Fin 512) e) = X s e + kAt i x0 x1 x2 x3 x5 h 1 s e := by
  rw [k512_at, ho]
  exact congrArg (X s e + ·) (kstrip h 1 s hs e (fun x => load_k arg4 harg4 (by decide) _ ⟨s.val, hs⟩ x) (fun t x => load_q arg1 harg1 h 1 ha rfl _ x t)
    (fun t => load_d arg6 harg6 1 (by decide) rfl _ ⟨s.val, hs⟩ t) (fun t => load_row arg2 harg2 x1 h hoff _ _) (fun t => load_row arg3 harg3 x2 h hoff _ _)
    (fun t => load_q arg1 harg1 h 1 ha rfl _ e t))

/-- Strip 2 of a head's additions to the keys' gradient, where it was `X`. -/
theorem k768_piece (h : Fin 2) {a : ℕ} (ha : a = 128 * h.val) (off : Fin 2 → ℕ) (hoff : off = ![2 * (i 0).val + h.val, 0]) (inb1 inb2) (o : Vec Ideal S768x128 .f32)
    (X : Fin 1024 → Fin 128 → EReal) (ho : ∀ (s : Fin 768) (e : Fin 128), o (ix2 s e) = X ⟨s.val, by omega⟩ e) (s : Fin 1024) (hs : s.val < 768) (e : Fin 128) :
    k0_pay24 (F := Ideal)
      (View.readAt (Elt Ideal) arg1.view (Rect.unit (s := S256x1024) ![a, 512] S128x256.size inb2).toLoadRect (harg1.unread x0))
      (k0_pay22 (F := Ideal) (k0_pay4 (F := Ideal)
        (View.readAt (Elt Ideal) arg2.view (Rect.unit (s := S64x1024) off S1x1024.size inb1).toLoadRect (harg2.unread x1))
        (View.readAt (Elt Ideal) arg3.view (Rect.unit (s := S64x1024) off S1x1024.size inb1).toLoadRect (harg3.unread x2)))
        (View.readAt (Elt Ideal) arg1.view (Rect.unit (s := S256x1024) ![a, 512] S128x256.size inb2).toLoadRect (harg1.unread x0))
        (View.readAt (Elt Ideal) arg4.view (Rect.unit (s := S1024x128) ![0, 0] S768x128.size inb_S1024x128_S768x128_0_0).toLoadRect (harg4.unread x3))
        (View.readAt (Elt Ideal) arg6.view (Rect.unit (s := S1024x1024) ![0, 512] S768x256.size inb_S1024x1024_S768x256_0_512).toLoadRect (harg6.unread x5)))
      o (ix2 (⟨s.val, hs⟩ : Fin 768) e) = X s e + kAt i x0 x1 x2 x3 x5 h 2 s e := by
  rw [k768_at, ho]
  exact congrArg (X s e + ·) (kstrip h 2 s hs e (fun x => load_k arg4 harg4 (by decide) _ ⟨s.val, hs⟩ x) (fun t x => load_q arg1 harg1 h 2 ha rfl _ x t)
    (fun t => load_d arg6 harg6 2 (by decide) rfl _ ⟨s.val, hs⟩ t) (fun t => load_row arg2 harg2 x1 h hoff _ _) (fun t => load_row arg3 harg3 x2 h hoff _ _)
    (fun t => load_q arg1 harg1 h 2 ha rfl _ e t))

/-- Strip 3 of a head's additions to the keys' gradient, where it was `X`. -/
theorem k1024_piece (h : Fin 2) {a : ℕ} (ha : a = 128 * h.val) (off : Fin 2 → ℕ) (hoff : off = ![2 * (i 0).val + h.val, 0]) (inb1 inb2) (o : Vec Ideal S1024x128 .f32)
    (X : Fin 1024 → Fin 128 → EReal) (ho : ∀ (s : Fin 1024) (e : Fin 128), o (ix2 s e) = X ⟨s.val, by omega⟩ e) (s : Fin 1024) (hs : s.val < 1024) (e : Fin 128) :
    k0_pay30 (F := Ideal)
      (View.readAt (Elt Ideal) arg1.view (Rect.unit (s := S256x1024) ![a, 768] S128x256.size inb2).toLoadRect (harg1.unread x0))
      (k0_pay28 (F := Ideal) (k0_pay4 (F := Ideal)
        (View.readAt (Elt Ideal) arg2.view (Rect.unit (s := S64x1024) off S1x1024.size inb1).toLoadRect (harg2.unread x1))
        (View.readAt (Elt Ideal) arg3.view (Rect.unit (s := S64x1024) off S1x1024.size inb1).toLoadRect (harg3.unread x2)))
        (View.readAt (Elt Ideal) arg1.view (Rect.unit (s := S256x1024) ![a, 768] S128x256.size inb2).toLoadRect (harg1.unread x0))
        (View.readAt (Elt Ideal) arg4.view (Rect.unit (s := S1024x128) ![0, 0] S1024x128.size inb_S1024x128_S1024x128_0_0).toLoadRect (harg4.unread x3))
        (View.readAt (Elt Ideal) arg6.view (Rect.unit (s := S1024x1024) ![0, 768] S1024x256.size inb_S1024x1024_S1024x256_0_768).toLoadRect (harg6.unread x5)))
      o (ix2 (⟨s.val, hs⟩ : Fin 1024) e) = X s e + kAt i x0 x1 x2 x3 x5 h 3 s e := by
  rw [k1024_at, ho]
  exact congrArg (X s e + ·) (kstrip h 3 s hs e (fun x => load_k arg4 harg4 (by decide) _ ⟨s.val, hs⟩ x) (fun t x => load_q arg1 harg1 h 3 ha rfl _ x t)
    (fun t => load_d arg6 harg6 3 (by decide) rfl _ ⟨s.val, hs⟩ t) (fun t => load_row arg2 harg2 x1 h hoff _ _) (fun t => load_row arg3 harg3 x2 h hoff _ _)
    (fun t => load_q arg1 harg1 h 3 ha rfl _ e t))

set_option maxHeartbeats 1000000 in
/-- The weights' gradient after a grid point: the rows of its two heads, every other row as it was. -/
theorem dw_read (f : arg10.view.ty.Contents (Elt Ideal)) (g : Fin 64) (t : Fin 1024) :
    arg10.view.read (Elt Ideal) (arg10.view.writes (Elt Ideal) f (dwStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)) (ix2 g t)
      = if g.val / 2 = (i 0).val then wRow i x0 x1 x3 x5 g t else arg10.view.read (Elt Ideal) f (ix2 g t) := by
  dsimp only [dwStores, kernelRun0]
  refine (dw_step i arg10.view f 1 3 (off5_eq i 1) _ _ _ g t (wRow i x0 x1 x3 x5)
    (fun x => (congrFun (w1024_same _ _ _ _) _).trans (w1024_piece i arg1 harg1 arg2 harg2 arg4 harg4 arg6 harg6 x0 x1 x3 x5 1 rfl _ (off1_eq i 1) _ _ x))).trans
    (ite_step (fun hc => ?_) (fun hn13 => ?_))
  · have hc : g.val = 2 * (i 0).val + 1 ∧ t.val / 256 = 3 := hc
    rw [if_pos (by omega)]
  replace hn13 : ¬ (g.val = 2 * (i 0).val + 1 ∧ t.val / 256 = 3) := hn13
  refine (dw_step i arg10.view f 1 2 (off4_eq i 1) _ _ _ g t (wRow i x0 x1 x3 x5)
    (fun x => (congrFun (w768_same _ _ _ _) _).trans (w768_piece i arg1 harg1 arg2 harg2 arg4 harg4 arg6 harg6 x0 x1 x3 x5 1 rfl _ (off1_eq i 1) _ _ x))).trans
    (ite_step (fun hc => ?_) (fun hn12 => ?_))
  · have hc : g.val = 2 * (i 0).val + 1 ∧ t.val / 256 = 2 := hc
    rw [if_pos (by omega)]
  replace hn12 : ¬ (g.val = 2 * (i 0).val + 1 ∧ t.val / 256 = 2) := hn12
  refine (dw_step i arg10.view f 1 1 (off3_eq i 1) _ _ _ g t (wRow i x0 x1 x3 x5)
    (fun x => (congrFun (w512_same _ _ _ _) _).trans (w512_piece i arg1 harg1 arg2 harg2 arg4 harg4 arg6 harg6 x0 x1 x3 x5 1 rfl _ (off1_eq i 1) _ _ x))).trans
    (ite_step (fun hc => ?_) (fun hn11 => ?_))
  · have hc : g.val = 2 * (i 0).val + 1 ∧ t.val / 256 = 1 := hc
    rw [if_pos (by omega)]
  replace hn11 : ¬ (g.val = 2 * (i 0).val + 1 ∧ t.val / 256 = 1) := hn11
  refine (dw_step i arg10.view f 1 0 (off2_eq i 1) _ _ _ g t (wRow i x0 x1 x3 x5)
    (fun x => (congrFun (w256_same _ _ _ _) _).trans (w256_piece i arg1 harg1 arg2 harg2 arg4 harg4 arg6 harg6 x0 x1 x3 x5 1 rfl _ (off1_eq i 1) _ _ x))).trans
    (ite_step (fun hc => ?_) (fun hn10 => ?_))
  · have hc : g.val = 2 * (i 0).val + 1 ∧ t.val / 256 = 0 := hc
    rw [if_pos (by omega)]
  replace hn10 : ¬ (g.val = 2 * (i 0).val + 1 ∧ t.val / 256 = 0) := hn10
  refine (dw_step i arg10.view f 0 3 (off5_eq i 0) _ _ _ g t (wRow i x0 x1 x3 x5)
    (fun x => w1024_piece i arg1 harg1 arg2 harg2 arg4 harg4 arg6 harg6 x0 x1 x3 x5 0 rfl _ (off1_eq i 0) _ _ x)).trans
    (ite_step (fun hc => ?_) (fun hn03 => ?_))
  · have hc : g.val = 2 * (i 0).val + 0 ∧ t.val / 256 = 3 := hc
    rw [if_pos (by omega)]
  replace hn03 : ¬ (g.val = 2 * (i 0).val + 0 ∧ t.val / 256 = 3) := hn03
  refine (dw_step i arg10.view f 0 2 (off4_eq i 0) _ _ _ g t (wRow i x0 x1 x3 x5)
    (fun x => w768_piece i arg1 harg1 arg2 harg2 arg4 harg4 arg6 harg6 x0 x1 x3 x5 0 rfl _ (off1_eq i 0) _ _ x)).trans
    (ite_step (fun hc => ?_) (fun hn02 => ?_))
  · have hc : g.val = 2 * (i 0).val + 0 ∧ t.val / 256 = 2 := hc
    rw [if_pos (by omega)]
  replace hn02 : ¬ (g.val = 2 * (i 0).val + 0 ∧ t.val / 256 = 2) := hn02
  refine (dw_step i arg10.view f 0 1 (off3_eq i 0) _ _ _ g t (wRow i x0 x1 x3 x5)
    (fun x => w512_piece i arg1 harg1 arg2 harg2 arg4 harg4 arg6 harg6 x0 x1 x3 x5 0 rfl _ (off1_eq i 0) _ _ x)).trans
    (ite_step (fun hc => ?_) (fun hn01 => ?_))
  · have hc : g.val = 2 * (i 0).val + 0 ∧ t.val / 256 = 1 := hc
    rw [if_pos (by omega)]
  replace hn01 : ¬ (g.val = 2 * (i 0).val + 0 ∧ t.val / 256 = 1) := hn01
  refine (dw_step i arg10.view f 0 0 (off2_eq i 0) _ _ _ g t (wRow i x0 x1 x3 x5)
    (fun x => w256_piece i arg1 harg1 arg2 harg2 arg4 harg4 arg6 harg6 x0 x1 x3 x5 0 rfl _ (off1_eq i 0) _ _ x)).trans
    (ite_step (fun hc => ?_) (fun hn00 => ?_))
  · have hc : g.val = 2 * (i 0).val + 0 ∧ t.val / 256 = 0 := hc
    rw [if_pos (by omega)]
  replace hn00 : ¬ (g.val = 2 * (i 0).val + 0 ∧ t.val / 256 = 0) := hn00
  rw [if_neg (by omega)]
  rfl

/-- What the keys' gradient starts from at a grid point: nothing at the first, what was there at the others. -/
def dkStart (x10 : Vec Ideal S1024x128 .f32) (s : Fin 1024) (e : Fin 128) : EReal := if isFirst i = 1#1 then 0 else x10 (ix2 s e)

theorem start_eq (s : Fin 1024) (e : Fin 128) : (if isFirst i = 1#1 then k0_pay3 (F := Ideal) else x10) (ix2 s e) = dkStart i x10 s e := by
  unfold dkStart
  split
  · pointwise [k0_pay3]
  · rfl

/-- A strip adds nothing to the keys after it. -/
theorem kAt_zero (h : Fin 2) (j : Fin 4) (s : Fin 1024) (e : Fin 128) (hs : 256 * (j.val + 1) ≤ s.val) : kAt i x0 x1 x2 x3 x5 h j s e = 0 :=
  kgrad_upper_zero _ _ (fn x5) _ _ _ s j.val j.isLt (not_lt.2 hs)

/-- The keys' gradient after one more strip. -/
def plus (X : Fin 1024 → Fin 128 → EReal) (h : Fin 2) (j : Fin 4) (s : Fin 1024) (e : Fin 128) : EReal := X s e + kAt i x0 x1 x2 x3 x5 h j s e

/-- The keys' gradient after both heads' strips. -/
def dkAfter : Fin 1024 → Fin 128 → EReal :=
  let p := plus i x0 x1 x2 x3 x5
  p (p (p (p (p (p (p (p (dkStart i x10) 0 0) 0 1) 0 2) 0 3) 1 0) 1 1) 1 2) 1 3

set_option maxHeartbeats 1000000 in
theorem dk1_read (s : Fin 1024) (e : Fin 128) :
    arg11.view.read (Elt Ideal) (arg11.view.writes (Elt Ideal) (harg11.unread (if isFirst i = 1#1 then k0_pay3 (F := Ideal) else x10)) (kernelRun0.sl.H10_1 (F := Ideal) c i arg1 harg1 arg2 harg2 arg3 harg3 arg4 harg4 arg5 harg5 arg6 harg6 arg11 harg11 x0 x1 x2 x3 x4 x5 x10)) (ix2 s e)
      = (plus i x0 x1 x2 x3 x5 (dkStart i x10) 0 0) s e := by
  unfold kernelRun0.sl.H10_1
  exact dk_step arg11.view _ (n := 256) _ _ _ (dkStart i x10) (kAt i x0 x1 x2 x3 x5 0 0) (fun s e _ => (congrFun (harg11.read_unread _) _).trans (start_eq i x10 s e))
    (fun s hs e => k256_piece i arg1 harg1 arg2 harg2 arg3 harg3 arg4 harg4 arg6 harg6 x0 x1 x2 x3 x5 0 rfl _ (off1_eq i 0) _ _ _ (dkStart i x10) (fun s e => (load_rows arg11.view _ (by decide) _ s e).trans ((congrFun (harg11.read_unread _) _).trans (start_eq i x10 ⟨s.val, by omega⟩ e))) s hs e)
    (fun s e hs => kAt_zero i x0 x1 x2 x3 x5 0 0 s e hs) s e

set_option maxHeartbeats 1000000 in
theorem dk2_read (s : Fin 1024) (e : Fin 128) :
    arg11.view.read (Elt Ideal) (arg11.view.writes (Elt Ideal) (harg11.unread (if isFirst i = 1#1 then k0_pay3 (F := Ideal) else x10)) (kernelRun0.sl.H10_2 (F := Ideal) c i arg1 harg1 arg2 harg2 arg3 harg3 arg4 harg4 arg5 harg5 arg6 harg6 arg11 harg11 x0 x1 x2 x3 x4 x5 x10)) (ix2 s e)
      = (plus i x0 x1 x2 x3 x5 (plus i x0 x1 x2 x3 x5 (dkStart i x10) 0 0) 0 1) s e := by
  unfold kernelRun0.sl.H10_2
  exact dk_step arg11.view _ (n := 512) _ _ _ (plus i x0 x1 x2 x3 x5 (dkStart i x10) 0 0) (kAt i x0 x1 x2 x3 x5 0 1) (fun s e _ => dk1_read c i arg1 harg1 arg2 harg2 arg3 harg3 arg4 harg4 arg5 harg5 arg6 harg6 arg11 harg11 x0 x1 x2 x3 x4 x5 x10 s e)
    (fun s hs e => k512_piece i arg1 harg1 arg2 harg2 arg3 harg3 arg4 harg4 arg6 harg6 x0 x1 x2 x3 x5 0 rfl _ (off1_eq i 0) _ _ _ (plus i x0 x1 x2 x3 x5 (dkStart i x10) 0 0) (fun s e => (load_rows arg11.view _ (by decide) _ s e).trans (dk1_read c i arg1 harg1 arg2 harg2 arg3 harg3 arg4 harg4 arg5 harg5 arg6 harg6 arg11 harg11 x0 x1 x2 x3 x4 x5 x10 ⟨s.val, by omega⟩ e)) s hs e)
    (fun s e hs => kAt_zero i x0 x1 x2 x3 x5 0 1 s e hs) s e

set_option maxHeartbeats 1000000 in
theorem dk3_read (s : Fin 1024) (e : Fin 128) :
    arg11.view.read (Elt Ideal) (arg11.view.writes (Elt Ideal) (harg11.unread (if isFirst i = 1#1 then k0_pay3 (F := Ideal) else x10)) (kernelRun0.sl.H10_3 (F := Ideal) c i arg1 harg1 arg2 harg2 arg3 harg3 arg4 harg4 arg5 harg5 arg6 harg6 arg11 harg11 x0 x1 x2 x3 x4 x5 x10)) (ix2 s e)
      = (plus i x0 x1 x2 x3 x5 (plus i x0 x1 x2 x3 x5 (plus i x0 x1 x2 x3 x5 (dkStart i x10) 0 0) 0 1) 0 2) s e := by
  unfold kernelRun0.sl.H10_3
  exact dk_step arg11.view _ (n := 768) _ _ _ (plus i x0 x1 x2 x3 x5 (plus i x0 x1 x2 x3 x5 (dkStart i x10) 0 0) 0 1) (kAt i x0 x1 x2 x3 x5 0 2) (fun s e _ => dk2_read c i arg1 harg1 arg2 harg2 arg3 harg3 arg4 harg4 arg5 harg5 arg6 harg6 arg11 harg11 x0 x1 x2 x3 x4 x5 x10 s e)
    (fun s hs e => k768_piece i arg1 harg1 arg2 harg2 arg3 harg3 arg4 harg4 arg6 harg6 x0 x1 x2 x3 x5 0 rfl _ (off1_eq i 0) _ _ _ (plus i x0 x1 x2 x3 x5 (plus i x0 x1 x2 x3 x5 (dkStart i x10) 0 0) 0 1) (fun s e => (load_rows arg11.view _ (by decide) _ s e).trans (dk2_read c i arg1 harg1 arg2 harg2 arg3 harg3 arg4 harg4 arg5 harg5 arg6 harg6 arg11 harg11 x0 x1 x2 x3 x4 x5 x10 ⟨s.val, by omega⟩ e)) s hs e)
    (fun s e hs => kAt_zero i x0 x1 x2 x3 x5 0 2 s e hs) s e

set_option maxHeartbeats 1000000 in
theorem dk4_read (f : arg11.view.ty.Contents (Elt Ideal)) (s : Fin 1024) (e : Fin 128) :
    arg11.view.read (Elt Ideal) (arg11.view.writes (Elt Ideal) f (kernelRun0.sl.H10_4 (F := Ideal) c i arg1 harg1 arg2 harg2 arg3 harg3 arg4 harg4 arg5 harg5 arg6 harg6 arg11 harg11 x0 x1 x2 x3 x4 x5 x10)) (ix2 s e)
      = (plus i x0 x1 x2 x3 x5 (plus i x0 x1 x2 x3 x5 (plus i x0 x1 x2 x3 x5 (plus i x0 x1 x2 x3 x5 (dkStart i x10) 0 0) 0 1) 0 2) 0 3) s e := by
  unfold kernelRun0.sl.H10_4
  exact dk_step arg11.view _ (n := 1024) _ _ _ (plus i x0 x1 x2 x3 x5 (plus i x0 x1 x2 x3 x5 (plus i x0 x1 x2 x3 x5 (dkStart i x10) 0 0) 0 1) 0 2) (kAt i x0 x1 x2 x3 x5 0 3) (fun s e hs => absurd s.isLt (not_lt.2 hs))
    (fun s hs e => k1024_piece i arg1 harg1 arg2 harg2 arg3 harg3 arg4 harg4 arg6 harg6 x0 x1 x2 x3 x5 0 rfl _ (off1_eq i 0) _ _ _ (plus i x0 x1 x2 x3 x5 (plus i x0 x1 x2 x3 x5 (plus i x0 x1 x2 x3 x5 (dkStart i x10) 0 0) 0 1) 0 2) (fun s e => (load_rows arg11.view _ (by decide) _ s e).trans (dk3_read c i arg1 harg1 arg2 harg2 arg3 harg3 arg4 harg4 arg5 harg5 arg6 harg6 arg11 harg11 x0 x1 x2 x3 x4 x5 x10 ⟨s.val, by omega⟩ e)) s hs e)
    (fun s e hs => kAt_zero i x0 x1 x2 x3 x5 0 3 s e hs) s e

set_option maxHeartbeats 1000000 in
theorem dk5_read (f : arg11.view.ty.Contents (Elt Ideal)) (s : Fin 1024) (e : Fin 128) :
    arg11.view.read (Elt Ideal) (arg11.view.writes (Elt Ideal) f (kernelRun0.sl.H10_5 (F := Ideal) c i arg1 harg1 arg2 harg2 arg3 harg3 arg4 harg4 arg5 harg5 arg6 harg6 arg11 harg11 x0 x1 x2 x3 x4 x5 x10)) (ix2 s e)
      = (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) s e := by
  unfold kernelRun0.sl.H10_5
  exact dk_step arg11.view _ (n := 256) _ _ _ (plus i x0 x1 x2 x3 x5 (plus i x0 x1 x2 x3 x5 (plus i x0 x1 x2 x3 x5 (plus i x0 x1 x2 x3 x5 (dkStart i x10) 0 0) 0 1) 0 2) 0 3) (kAt i x0 x1 x2 x3 x5 1 0) (fun s e _ => dk4_read c i arg1 harg1 arg2 harg2 arg3 harg3 arg4 harg4 arg5 harg5 arg6 harg6 arg11 harg11 x0 x1 x2 x3 x4 x5 x10 f s e)
    (fun s hs e => (congrFun (k256_same _ _ _ _ _ _) _).trans (k256_piece i arg1 harg1 arg2 harg2 arg3 harg3 arg4 harg4 arg6 harg6 x0 x1 x2 x3 x5 1 rfl _ (off1_eq i 1) _ _ _ (plus i x0 x1 x2 x3 x5 (plus i x0 x1 x2 x3 x5 (plus i x0 x1 x2 x3 x5 (plus i x0 x1 x2 x3 x5 (dkStart i x10) 0 0) 0 1) 0 2) 0 3) (fun s e => (load_rows arg11.view _ (by decide) _ s e).trans (dk4_read c i arg1 harg1 arg2 harg2 arg3 harg3 arg4 harg4 arg5 harg5 arg6 harg6 arg11 harg11 x0 x1 x2 x3 x4 x5 x10 _ ⟨s.val, by omega⟩ e)) s hs e))
    (fun s e hs => kAt_zero i x0 x1 x2 x3 x5 1 0 s e hs) s e

set_option maxHeartbeats 1000000 in
theorem dk6_read (f : arg11.view.ty.Contents (Elt Ideal)) (s : Fin 1024) (e : Fin 128) :
    arg11.view.read (Elt Ideal) (arg11.view.writes (Elt Ideal) f (kernelRun0.sl.H10_6 (F := Ideal) c i arg1 harg1 arg2 harg2 arg3 harg3 arg4 harg4 arg5 harg5 arg6 harg6 arg11 harg11 x0 x1 x2 x3 x4 x5 x10)) (ix2 s e)
      = (plus i x0 x1 x2 x3 x5 (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) 1 1) s e := by
  unfold kernelRun0.sl.H10_6
  exact dk_step arg11.view _ (n := 512) _ _ _ (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) (kAt i x0 x1 x2 x3 x5 1 1) (fun s e _ => dk5_read c i arg1 harg1 arg2 harg2 arg3 harg3 arg4 harg4 arg5 harg5 arg6 harg6 arg11 harg11 x0 x1 x2 x3 x4 x5 x10 f s e)
    (fun s hs e => (congrFun (k512_same _ _ _ _ _ _) _).trans (k512_piece i arg1 harg1 arg2 harg2 arg3 harg3 arg4 harg4 arg6 harg6 x0 x1 x2 x3 x5 1 rfl _ (off1_eq i 1) _ _ _ (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) (fun s e => (load_rows arg11.view _ (by decide) _ s e).trans (dk5_read c i arg1 harg1 arg2 harg2 arg3 harg3 arg4 harg4 arg5 harg5 arg6 harg6 arg11 harg11 x0 x1 x2 x3 x4 x5 x10 _ ⟨s.val, by omega⟩ e)) s hs e))
    (fun s e hs => kAt_zero i x0 x1 x2 x3 x5 1 1 s e hs) s e

set_option maxHeartbeats 1000000 in
theorem dk7_read (f : arg11.view.ty.Contents (Elt Ideal)) (s : Fin 1024) (e : Fin 128) :
    arg11.view.read (Elt Ideal) (arg11.view.writes (Elt Ideal) f (kernelRun0.sl.H10_7 (F := Ideal) c i arg1 harg1 arg2 harg2 arg3 harg3 arg4 harg4 arg5 harg5 arg6 harg6 arg11 harg11 x0 x1 x2 x3 x4 x5 x10)) (ix2 s e)
      = (plus i x0 x1 x2 x3 x5 (plus i x0 x1 x2 x3 x5 (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) 1 1) 1 2) s e := by
  unfold kernelRun0.sl.H10_7
  exact dk_step arg11.view _ (n := 768) _ _ _ (plus i x0 x1 x2 x3 x5 (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) 1 1) (kAt i x0 x1 x2 x3 x5 1 2) (fun s e _ => dk6_read c i arg1 harg1 arg2 harg2 arg3 harg3 arg4 harg4 arg5 harg5 arg6 harg6 arg11 harg11 x0 x1 x2 x3 x4 x5 x10 f s e)
    (fun s hs e => (congrFun (k768_same _ _ _ _ _ _) _).trans (k768_piece i arg1 harg1 arg2 harg2 arg3 harg3 arg4 harg4 arg6 harg6 x0 x1 x2 x3 x5 1 rfl _ (off1_eq i 1) _ _ _ (plus i x0 x1 x2 x3 x5 (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) 1 1) (fun s e => (load_rows arg11.view _ (by decide) _ s e).trans (dk6_read c i arg1 harg1 arg2 harg2 arg3 harg3 arg4 harg4 arg5 harg5 arg6 harg6 arg11 harg11 x0 x1 x2 x3 x4 x5 x10 _ ⟨s.val, by omega⟩ e)) s hs e))
    (fun s e hs => kAt_zero i x0 x1 x2 x3 x5 1 2 s e hs) s e

set_option maxHeartbeats 1000000 in
theorem dk8_read (f : arg11.view.ty.Contents (Elt Ideal)) (s : Fin 1024) (e : Fin 128) :
    arg11.view.read (Elt Ideal) (arg11.view.writes (Elt Ideal) f (dkStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)) (ix2 s e)
      = (plus i x0 x1 x2 x3 x5 (plus i x0 x1 x2 x3 x5 (plus i x0 x1 x2 x3 x5 (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) 1 1) 1 2) 1 3) s e := by
  dsimp only [dkStores, kernelRun0]
  exact dk_step arg11.view _ (n := 1024) _ _ _ (plus i x0 x1 x2 x3 x5 (plus i x0 x1 x2 x3 x5 (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) 1 1) 1 2) (kAt i x0 x1 x2 x3 x5 1 3) (fun s e _ => dk7_read c i arg1 harg1 arg2 harg2 arg3 harg3 arg4 harg4 arg5 harg5 arg6 harg6 arg11 harg11 x0 x1 x2 x3 x4 x5 x10 f s e)
    (fun s hs e => (congrFun (k1024_same _ _ _ _ _ _) _).trans (k1024_piece i arg1 harg1 arg2 harg2 arg3 harg3 arg4 harg4 arg6 harg6 x0 x1 x2 x3 x5 1 rfl _ (off1_eq i 1) _ _ _ (plus i x0 x1 x2 x3 x5 (plus i x0 x1 x2 x3 x5 (plus i x0 x1 x2 x3 x5 (plus i x0 x1 x2 x3 x5 (plus i x0 x1 x2 x3 x5 (plus i x0 x1 x2 x3 x5 (plus i x0 x1 x2 x3 x5 (dkStart i x10) 0 0) 0 1) 0 2) 0 3) 1 0) 1 1) 1 2) (fun s e => (load_rows arg11.view _ (by decide) _ s e).trans (dk7_read c i arg1 harg1 arg2 harg2 arg3 harg3 arg4 harg4 arg5 harg5 arg6 harg6 arg11 harg11 x0 x1 x2 x3 x4 x5 x10 _ ⟨s.val, by omega⟩ e)) s hs e))
    (fun s e hs => kAt_zero i x0 x1 x2 x3 x5 1 3 s e hs) s e

/-- The scratch buffer of the queries' gradients: 128 rows a head. -/
def uBuf (y : S256x1024.Idx) : EReal :=
  uAt i x0 x2 x3 x4 x5 ⟨(y 0).val / 128, by have : (y 0).val < 256 := (y 0).isLt; omega⟩ (y 1) ⟨(y 0).val % 128, Nat.mod_lt _ (by decide)⟩

/-- One store into it is its part of it. -/
theorem uBuf_piece (h : Fin 2) (j : Fin 4) {a b : ℕ} (ha : a = 128 * h.val) (hb : b = 256 * j.val) (inb) (p : S128x256.Idx → EReal)
    (hp : ∀ (e : Fin 128) (t : Fin 256), p (ix2 e t) = uAt i x0 x2 x3 x4 x5 h ⟨256 * j.val + t.val, by omega⟩ e) (x : S128x256.Idx) :
    p x = uBuf i x0 x2 x3 x4 x5 ((Rect.unit (s := S256x1024) ![a, b] S128x256.size inb).emb x) := by
  subst ha hb
  obtain ⟨e, t, rfl⟩ : ∃ d t, x = ix2 d t := ⟨x 0, x 1, (ix2_eta x).symm⟩
  have h1 : (Rect.unit (s := S256x1024) ![128 * h.val, 256 * j.val] S128x256.size inb).emb (ix2 e t) = ix2 ⟨128 * h.val + e.val, by omega⟩ ⟨256 * j.val + t.val, by omega⟩ :=
    unit_idx2 (m := 256) (n := 1024) (p := 128) (q := 256) _ _ _ _ _
  rw [hp, h1]
  unfold uBuf
  have e1 : (128 * h.val + e.val) / 128 = h.val := by omega
  have e2 : (128 * h.val + e.val) % 128 = e.val := by omega
  simp only [ix2_0, ix2_1, e1, e2]

set_option maxHeartbeats 1000000 in
theorem H14_4_pieces : ∀ p ∈ kernelRun0.sl.H14_4 (F := Ideal) c i arg1 harg1 arg2 harg2 arg3 harg3 arg4 harg4 arg5 harg5 arg6 harg6 x0 x1 x2 x3 x4 x5,
    ∀ x : p.1.shape.Idx, p.2 x = uBuf i x0 x2 x3 x4 x5 (p.1.emb x) := by
  unfold kernelRun0.sl.H14_4
  refine List.forall_mem_cons.2 ⟨uBuf_piece i x0 x2 x3 x4 x5 0 3 rfl rfl inb_S256x1024_S128x256_0_768 _ (fun e t => u1024_piece i arg1 harg1 arg3 harg3 arg4 harg4 arg5 harg5 arg6 harg6 x0 x2 x3 x4 x5 0 rfl _ (off1_eq i 0) _ _ e t), ?_⟩
  refine List.forall_mem_cons.2 ⟨uBuf_piece i x0 x2 x3 x4 x5 0 2 rfl rfl inb_S256x1024_S128x256_0_512 _ (fun e t => u768_piece i arg1 harg1 arg3 harg3 arg4 harg4 arg5 harg5 arg6 harg6 x0 x2 x3 x4 x5 0 rfl _ (off1_eq i 0) _ _ e t), ?_⟩
  refine List.forall_mem_cons.2 ⟨uBuf_piece i x0 x2 x3 x4 x5 0 1 rfl rfl inb_S256x1024_S128x256_0_256 _ (fun e t => u512_piece i arg1 harg1 arg3 harg3 arg4 harg4 arg5 harg5 arg6 harg6 x0 x2 x3 x4 x5 0 rfl _ (off1_eq i 0) _ _ e t), ?_⟩
  refine List.forall_mem_cons.2 ⟨uBuf_piece i x0 x2 x3 x4 x5 0 0 rfl rfl inb_S256x1024_S128x256_0_0 _ (fun e t => u256_piece i arg1 harg1 arg3 harg3 arg4 harg4 arg5 harg5 arg6 harg6 x0 x2 x3 x4 x5 0 rfl _ (off1_eq i 0) _ _ e t), ?_⟩
  exact fun p hp => absurd hp List.not_mem_nil

set_option maxHeartbeats 1000000 in
theorem H14_8_pieces : ∀ p ∈ kernelRun0.sl.H14_8 (F := Ideal) c i arg1 harg1 arg2 harg2 arg3 harg3 arg4 harg4 arg5 harg5 arg6 harg6 x0 x1 x2 x3 x4 x5,
    ∀ x : p.1.shape.Idx, p.2 x = uBuf i x0 x2 x3 x4 x5 (p.1.emb x) := by
  unfold kernelRun0.sl.H14_8
  refine List.forall_mem_cons.2 ⟨uBuf_piece i x0 x2 x3 x4 x5 1 3 rfl rfl inb_S256x1024_S128x256_128_768 _ (fun e t => (congrFun (u1024_same _ _ _ _ _) _).trans (u1024_piece i arg1 harg1 arg3 harg3 arg4 harg4 arg5 harg5 arg6 harg6 x0 x2 x3 x4 x5 1 rfl _ (off1_eq i 1) _ _ e t)), ?_⟩
  refine List.forall_mem_cons.2 ⟨uBuf_piece i x0 x2 x3 x4 x5 1 2 rfl rfl inb_S256x1024_S128x256_128_512 _ (fun e t => (congrFun (u768_same _ _ _ _ _) _).trans (u768_piece i arg1 harg1 arg3 harg3 arg4 harg4 arg5 harg5 arg6 harg6 x0 x2 x3 x4 x5 1 rfl _ (off1_eq i 1) _ _ e t)), ?_⟩
  refine List.forall_mem_cons.2 ⟨uBuf_piece i x0 x2 x3 x4 x5 1 1 rfl rfl inb_S256x1024_S128x256_128_256 _ (fun e t => (congrFun (u512_same _ _ _ _ _) _).trans (u512_piece i arg1 harg1 arg3 harg3 arg4 harg4 arg5 harg5 arg6 harg6 x0 x2 x3 x4 x5 1 rfl _ (off1_eq i 1) _ _ e t)), ?_⟩
  refine List.forall_mem_cons.2 ⟨uBuf_piece i x0 x2 x3 x4 x5 1 0 rfl rfl inb_S256x1024_S128x256_128_0 _ (fun e t => (congrFun (u256_same _ _ _ _ _) _).trans (u256_piece i arg1 harg1 arg3 harg3 arg4 harg4 arg5 harg5 arg6 harg6 x0 x2 x3 x4 x5 1 rfl _ (off1_eq i 1) _ _ e t)), ?_⟩
  exact H14_4_pieces c i arg1 harg1 arg2 harg2 arg3 harg3 arg4 harg4 arg5 harg5 arg6 harg6 x0 x1 x2 x3 x4 x5

/-- The first head's gradients, read back. -/
theorem v146_at (e : Fin 128) (t : Fin 1024) :
    arg15.view.readCov (kernelRun0.sl.H14_4 (F := Ideal) c i arg1 harg1 arg2 harg2 arg3 harg3 arg4 harg4 arg5 harg5 arg6 harg6 x0 x1 x2 x3 x4 x5) (Rect.unit (s := S256x1024) ![0, 0] S128x1024.size inb_S256x1024_S128x1024_0_0).toLoadRect (ix2 e t)
      = uAt i x0 x2 x3 x4 x5 0 t e := by
  have hx : (Rect.unit (s := S256x1024) ![0, 0] S128x1024.size inb_S256x1024_S128x1024_0_0).toLoadRect.idx (ix2 e t) = ix2 ⟨e.val, by omega⟩ t :=
    (unit_idx2 (m := 256) (n := 1024) (p := 128) (q := 1024) _ e t (by omega) (by omega)).trans (congrArg₂ ix2 (Fin.ext (Nat.zero_add _)) (Fin.ext (Nat.zero_add _)))
  have key : ∀ (b : ℕ) (inb : ∀ a, (![0, b] : Fin 2 → ℕ) a + S128x256.size a ≤ S256x1024.size a), b ≤ t.val → t.val < b + 256 →
      (ix2 (⟨e.val, by omega⟩ : Fin 256) t : S256x1024.Idx) ∈ (Rect.unit (s := S256x1024) ![0, b] S128x256.size inb).set := by
    intro b inb h1 h2
    refine Rect.mem_set_unit.2 fun a => ?_
    match a with
    | ⟨0, _⟩ => exact ⟨Nat.zero_le _, show e.val < 0 + 128 by omega⟩
    | ⟨1, _⟩ => exact ⟨h1, h2⟩
  have hc : ∃ p ∈ kernelRun0.sl.H14_4 (F := Ideal) c i arg1 harg1 arg2 harg2 arg3 harg3 arg4 harg4 arg5 harg5 arg6 harg6 x0 x1 x2 x3 x4 x5, (ix2 (⟨e.val, by omega⟩ : Fin 256) t : S256x1024.Idx) ∈ p.1.set := by
    unfold kernelRun0.sl.H14_4
    have h4 : t.val / 256 = 0 ∨ t.val / 256 = 1 ∨ t.val / 256 = 2 ∨ t.val / 256 = 3 := by omega
    rcases h4 with h | h | h | h
    · exact ⟨_, List.mem_cons_of_mem _ (List.mem_cons_of_mem _ (List.mem_cons_of_mem _ List.mem_cons_self)), key 0 inb_S256x1024_S128x256_0_0 (by omega) (by omega)⟩
    · exact ⟨_, List.mem_cons_of_mem _ (List.mem_cons_of_mem _ List.mem_cons_self), key 256 inb_S256x1024_S128x256_0_256 (by omega) (by omega)⟩
    · exact ⟨_, List.mem_cons_of_mem _ List.mem_cons_self, key 512 inb_S256x1024_S128x256_0_512 (by omega) (by omega)⟩
    · exact ⟨_, List.mem_cons_self, key 768 inb_S256x1024_S128x256_0_768 (by omega) (by omega)⟩
  have hh := View.read_writes_apply_of_pieces (v := arg15.view) (f := arg15.view.junk) _ _ (H14_4_pieces c i arg1 harg1 arg2 harg2 arg3 harg3 arg4 harg4 arg5 harg5 arg6 harg6 x0 x1 x2 x3 x4 x5) _ hc
  refine (congrArg (arg15.view.read (Elt Ideal) _) hx).trans (hh.trans ?_)
  unfold uBuf
  have e1 : e.val / 128 = 0 := by omega
  have e2 : e.val % 128 = e.val := by omega
  simp only [ix2_0, ix2_1, e1, e2]
  rfl

/-- The second head's gradients, read back. -/
theorem v711_at (e : Fin 128) (t : Fin 1024) :
    arg15.view.readCov (kernelRun0.sl.H14_8 (F := Ideal) c i arg1 harg1 arg2 harg2 arg3 harg3 arg4 harg4 arg5 harg5 arg6 harg6 x0 x1 x2 x3 x4 x5) (Rect.unit (s := S256x1024) ![128, 0] S128x1024.size inb_S256x1024_S128x1024_128_0).toLoadRect (ix2 e t)
      = uAt i x0 x2 x3 x4 x5 1 t e := by
  have hx : (Rect.unit (s := S256x1024) ![128, 0] S128x1024.size inb_S256x1024_S128x1024_128_0).toLoadRect.idx (ix2 e t) = ix2 ⟨128 + e.val, by omega⟩ t :=
    (unit_idx2 (m := 256) (n := 1024) (p := 128) (q := 1024) _ e t (by omega) (by omega)).trans (congrArg (ix2 _) (Fin.ext (Nat.zero_add _)))
  have hh := View.read_writes_apply_of_pieces (v := arg15.view) (f := arg15.view.junk) _ _ (H14_8_pieces c i arg1 harg1 arg2 harg2 arg3 harg3 arg4 harg4 arg5 harg5 arg6 harg6 x0 x1 x2 x3 x4 x5) (ix2 ⟨128 + e.val, by omega⟩ t)
    (View.cover_of_tiled (kernelRun0.sl.H14_8 (F := Ideal) c i arg1 harg1 arg2 harg2 arg3 harg3 arg4 harg4 arg5 harg5 arg6 harg6 x0 x1 x2 x3 x4 x5) ![128, 256] rfl _)
  refine (congrArg (arg15.view.read (Elt Ideal) _) hx).trans (hh.trans ?_)
  unfold uBuf
  have e1 : (128 + e.val) / 128 = 1 := by omega
  have e2 : (128 + e.val) % 128 = e.val := by omega
  simp only [ix2_0, ix2_1, e1, e2]
  rfl

end Cert.BwdIdeal.Gen

end
-- ==== Proof.Bwd.BlockQuant.lean ====
module

public import proofs.«01_k».proof.Proof.Bwd.Block

@[expose] public section

set_option maxRecDepth 16384

/-! What one grid point of the backward kernel leaves in the codes, the scales and the projection's weight's
gradient. -/

noncomputable section

namespace Cert.BwdIdeal.Gen

open Idealize.ShloMosaic Idealize.ShloMosaic.TcCoe
open Cert.FwdMath Cert.BwdMath

variable (c : Dev nD) (i : grid0.Coords) (arg1 : Memref sig .tc .vmem S256x1024 .fp8e4m3) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x128 .fp8e4m3) (harg4 : arg4.IsWhole) (arg5 : Memref sig .tc .vmem S128x1024 .bf16) (harg5 : arg5.IsWhole) (arg6 : Memref sig .tc .vmem S1024x1024 .f32) (harg6 : arg6.IsWhole) (arg7 : Memref sig .tc .vmem S1536x1024 .bf16) (harg7 : arg7.IsWhole) (arg8 : Memref sig .tc .vmem S32x1024 .f32) (harg8 : arg8.IsWhole) (arg9 : Memref sig .tc .vmem S32x1024 .f32) (harg9 : arg9.IsWhole) (arg10 : Memref sig .tc .vmem S64x1024 .f32) (harg10 : arg10.IsWhole) (arg11 : Memref sig .tc .vmem S1024x128 .f32) (harg11 : arg11.IsWhole) (arg12 : Memref sig .tc .vmem S1024x256 .fp8e4m3) (harg12 : arg12.IsWhole) (arg13 : Memref sig .tc .vmem S8x256 .f32) (harg13 : arg13.IsWhole) (arg14 : Memref sig .tc .vmem S1536x256 .f32) (harg14 : arg14.IsWhole) (arg15 : Memref sig .tc .vmem S256x1024 .f32) (harg15 : arg15.IsWhole) (arg16 : Memref sig .tc .vmem S1024x256 .bf16) (harg16 : arg16.IsWhole)
    (x0 : Vec Ideal S256x1024 .fp8e4m3) (x1 : Vec Ideal S64x1024 .f32) (x2 : Vec Ideal S64x1024 .f32) (x3 : Vec Ideal S1024x128 .fp8e4m3) (x4 : Vec Ideal S128x1024 .bf16) (x5 : Vec Ideal S1024x1024 .f32) (x6 : Vec Ideal S1536x1024 .bf16) (x7 : Vec Ideal S32x1024 .f32) (x8 : Vec Ideal S32x1024 .f32) (x9 : Vec Ideal S64x1024 .f32) (x10 : Vec Ideal S1024x128 .f32)

/-- A table of the rotation, read whole. -/
theorem tab_read (arg : Memref sig .tc .vmem S32x1024 .f32) (harg : arg.IsWhole) (x : Vec Ideal S32x1024 .f32) :
    View.readAt (Elt Ideal) arg.view (Rect.unit (s := S32x1024) ![0, 0] S32x1024.size inb_S32x1024_S32x1024_0_0).toLoadRect (harg.unread x) = x :=
  whole_read (m := 32) (n := 1024) arg harg x _

/-- The rotated gradients of a head whose gradients are `u`. -/
theorem rot_rows (h : Fin 2) (u : Vec Ideal S128x1024 .f32) (hu : ∀ e t, u (ix2 e t) = uAt i x0 x2 x3 x4 x5 h t e) (t : Fin 1024) (e : Fin 128) :
    k0_pay31 (F := Ideal) u
      (View.readAt (Elt Ideal) arg8.view (Rect.unit (s := S32x1024) ![0, 0] S32x1024.size inb_S32x1024_S32x1024_0_0).toLoadRect (harg8.unread x7))
      (View.readAt (Elt Ideal) arg9.view (Rect.unit (s := S32x1024) ![0, 0] S32x1024.size inb_S32x1024_S32x1024_0_0).toLoadRect (harg9.unread x8))
      (ix2 t e) = dqAt i x0 x2 x3 x4 x5 x7 x8 h t e := by
  rw [tab_read, tab_read, rot_at]
  unfold dqAt
  exact congrArg (fun v => ropeInv v _ _ e) (funext fun e => hu e t)

theorem r7_at (t : Fin 1024) (e : Fin 128) :
    kernelRun0.sl.r_7 (F := Ideal) c i arg1 harg1 arg2 harg2 arg3 harg3 arg4 harg4 arg5 harg5 arg6 harg6 arg8 harg8 arg9 harg9 arg15 x0 x1 x2 x3 x4 x5 x7 x8 (ix2 t e) = dqAt i x0 x2 x3 x4 x5 x7 x8 0 t e :=
  rot_rows i arg8 harg8 arg9 harg9 x0 x2 x3 x4 x5 x7 x8 0 _ (v146_at c i arg1 harg1 arg2 harg2 arg3 harg3 arg4 harg4 arg5 harg5 arg6 harg6 arg15 x0 x1 x2 x3 x4 x5) t e

theorem r48_at (t : Fin 1024) (e : Fin 128) :
    kernelRun0.sl.r_48 (F := Ideal) c i arg1 harg1 arg2 harg2 arg3 harg3 arg4 harg4 arg5 harg5 arg6 harg6 arg8 harg8 arg9 harg9 arg15 x0 x1 x2 x3 x4 x5 x7 x8 (ix2 t e) = dqAt i x0 x2 x3 x4 x5 x7 x8 1 t e :=
  (congrFun (rot_same _ _ _) _).trans
    (rot_rows i arg8 harg8 arg9 harg9 x0 x2 x3 x4 x5 x7 x8 1 _ (v711_at c i arg1 harg1 arg2 harg2 arg3 harg3 arg4 harg4 arg5 harg5 arg6 harg6 arg15 x0 x1 x2 x3 x4 x5) t e)

/-- The codes' block. -/
def cBuf (y : S1024x256.Idx) : EReal :=
  gcode (magAt i x0 x2 x3 x4 x5 x7 x8 ⟨(y 1).val / 128, by have : (y 1).val < 256 := (y 1).isLt; omega⟩
      ⟨(y 0).val / 128, by have : (y 0).val < 1024 := (y 0).isLt; omega⟩ ⟨(y 1).val % 128, Nat.mod_lt _ (by decide)⟩)
    (dqAt i x0 x2 x3 x4 x5 x7 x8 ⟨(y 1).val / 128, by have : (y 1).val < 256 := (y 1).isLt; omega⟩ (y 0) ⟨(y 1).val % 128, Nat.mod_lt _ (by decide)⟩)

/-- The scales' block. -/
def sBuf (y : S8x256.Idx) : EReal :=
  gscale (magAt i x0 x2 x3 x4 x5 x7 x8 ⟨(y 1).val / 128, by have : (y 1).val < 256 := (y 1).isLt; omega⟩ (y 0) ⟨(y 1).val % 128, Nat.mod_lt _ (by decide)⟩)

/-- The dequantised gradients. -/
def dBuf (y : S1024x256.Idx) : EReal :=
  cBuf i x0 x2 x3 x4 x5 x7 x8 y
    * sBuf i x0 x2 x3 x4 x5 x7 x8 (ix2 ⟨(y 0).val / 128, by have : (y 0).val < 1024 := (y 0).isLt; omega⟩ (y 1))

/-- A token of a group is a token. -/
theorem group_lt (T : Fin 8) (x : Fin 128) : 128 * T.val + x.val < 1024 := by omega

/-- A row of a slice is a row. -/
theorem row_lt {a : ℕ} (T : Fin 8) (ha : a = 128 * T.val) (t : Fin 128) : a + t.val < 1024 := by omega

/-- A column of a head's half is a column. -/
theorem half_lt {b : ℕ} (h : Fin 2) (hb : b = 128 * h.val) (e : Fin 128) : b + e.val < 256 := by omega

section Slice

variable {i x0 x2 x3 x4 x5 x7 x8}
variable (h : Fin 2) (T : Fin 8) {a b : ℕ} (ha : a = 128 * T.val) (hb : b = 128 * h.val) (R : FVec Ideal S1024x128 .f32)
  (hR : ∀ t e, R (ix2 t e) = dqAt i x0 x2 x3 x4 x5 x7 x8 h t e)

include ha hR in
theorem slice_rows (ho) (x e : Fin 128) : rows a ho R (ix2 x e) = dqAt i x0 x2 x3 x4 x5 x7 x8 h ⟨128 * T.val + x.val, group_lt T x⟩ e := by
  subst ha
  rw [rows_at _ _ R x e (group_lt T x), hR]

include ha hb hR in
/-- A slice's codes are its part of the codes' block. -/
theorem code_piece (ho) (inb) (x : S128x128.Idx) :
    sliceCode (rows a ho R) x = cBuf i x0 x2 x3 x4 x5 x7 x8 ((Rect.unit (s := S1024x256) ![a, b] S128x128.size inb).emb x) := by
  obtain ⟨t, e, rfl⟩ : ∃ d t, x = ix2 d t := ⟨x 0, x 1, (ix2_eta x).symm⟩
  rw [sliceCode_at (rows a ho R) (fun x => dqAt i x0 x2 x3 x4 x5 x7 x8 h ⟨128 * T.val + x.val, group_lt T x⟩ e) e (fun x => slice_rows h T ha R hR ho x e)]
  have h1 : (Rect.unit (s := S1024x256) ![a, b] S128x128.size inb).emb (ix2 t e) = ix2 ⟨a + t.val, row_lt T ha t⟩ ⟨b + e.val, half_lt h hb e⟩ :=
    unit_idx2 (m := 1024) (n := 256) (p := 128) (q := 128) _ _ _ _ _
  rw [h1]
  unfold cBuf
  have e1 : (128 * h.val + e.val) / 128 = h.val := by omega
  have e2 : (128 * h.val + e.val) % 128 = e.val := by omega
  have e3 : (128 * T.val + t.val) / 128 = T.val := by omega
  simp only [ix2_0, ix2_1, ha, hb, e1, e2, e3]
  rfl

include ha hR in
/-- A slice's scales are its part of the scales' block. -/
theorem scale_piece (hb : b = 128 * h.val) (ho) (inb) (x : S1x128.Idx) :
    sliceScale (rows a ho R) x = sBuf i x0 x2 x3 x4 x5 x7 x8 ((Rect.unit (s := S8x256) ![T.val, b] S1x128.size inb).emb x) := by
  obtain ⟨z, e, rfl⟩ : ∃ d t, x = ix2 d t := ⟨x 0, x 1, (ix2_eta x).symm⟩
  obtain rfl : z = 0 := Subsingleton.elim _ _
  rw [sliceScale_at (rows a ho R) (fun x => dqAt i x0 x2 x3 x4 x5 x7 x8 h ⟨128 * T.val + x.val, group_lt T x⟩ e) e (fun x => slice_rows h T ha R hR ho x e)]
  have h1 : (Rect.unit (s := S8x256) ![T.val, b] S1x128.size inb).emb (ix2 0 e) = ix2 ⟨T.val + (0 : Fin 1).val, by simp⟩ ⟨b + e.val, half_lt h hb e⟩ :=
    unit_idx2 (m := 8) (n := 256) (p := 1) (q := 128) _ _ _ _ _
  rw [h1]
  unfold sBuf
  have e1 : (128 * h.val + e.val) / 128 = h.val := by omega
  have e2 : (128 * h.val + e.val) % 128 = e.val := by omega
  simp only [ix2_0, ix2_1, hb, e1, e2, Fin.val_zero, Nat.add_zero]
  rfl

include ha hb hR in
/-- A dequantised slice is its part of the dequantised gradients. -/
theorem deq_piece (ho) (inb) (x : S128x128.Idx) :
    sliceDeq (rows a ho R) x = dBuf i x0 x2 x3 x4 x5 x7 x8 ((Rect.unit (s := S1024x256) ![a, b] S128x128.size inb).emb x) := by
  obtain ⟨t, e, rfl⟩ : ∃ d t, x = ix2 d t := ⟨x 0, x 1, (ix2_eta x).symm⟩
  rw [sliceDeq_at (rows a ho R) (fun x => dqAt i x0 x2 x3 x4 x5 x7 x8 h ⟨128 * T.val + x.val, group_lt T x⟩ e) e (fun x => slice_rows h T ha R hR ho x e)]
  have h1 : (Rect.unit (s := S1024x256) ![a, b] S128x128.size inb).emb (ix2 t e) = ix2 ⟨a + t.val, row_lt T ha t⟩ ⟨b + e.val, half_lt h hb e⟩ :=
    unit_idx2 (m := 1024) (n := 256) (p := 128) (q := 128) _ _ _ _ _
  rw [h1]
  unfold dBuf cBuf sBuf
  have e1 : (128 * h.val + e.val) / 128 = h.val := by omega
  have e2 : (128 * h.val + e.val) % 128 = e.val := by omega
  have e3 : (128 * T.val + t.val) / 128 = T.val := by omega
  simp only [ix2_0, ix2_1, ha, hb, e1, e2, e3]
  rfl

end Slice

set_option maxHeartbeats 4000000 in
/-- Every store into the codes is its part of the codes' block. -/
theorem dqc_pieces : ∀ p ∈ dqcStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10,
    ∀ x : p.1.shape.Idx, p.2 x = cBuf i x0 x2 x3 x4 x5 x7 x8 (p.1.emb x) := by
  dsimp only [dqcStores, kernelRun0]
  refine List.forall_mem_cons.2 ⟨code_piece 1 7 rfl rfl _ (r48_at c i arg1 harg1 arg2 harg2 arg3 harg3 arg4 harg4 arg5 harg5 arg6 harg6 arg8 harg8 arg9 harg9 arg15 x0 x1 x2 x3 x4 x5 x7 x8) slices_S1024x128_o896_0_S128x128 inb_S1024x256_S128x128_896_128, ?_⟩
  refine List.forall_mem_cons.2 ⟨code_piece 1 6 rfl rfl _ (r48_at c i arg1 harg1 arg2 harg2 arg3 harg3 arg4 harg4 arg5 harg5 arg6 harg6 arg8 harg8 arg9 harg9 arg15 x0 x1 x2 x3 x4 x5 x7 x8) slices_S1024x128_o768_0_S128x128 inb_S1024x256_S128x128_768_128, ?_⟩
  refine List.forall_mem_cons.2 ⟨code_piece 1 5 rfl rfl _ (r48_at c i arg1 harg1 arg2 harg2 arg3 harg3 arg4 harg4 arg5 harg5 arg6 harg6 arg8 harg8 arg9 harg9 arg15 x0 x1 x2 x3 x4 x5 x7 x8) slices_S1024x128_o640_0_S128x128 inb_S1024x256_S128x128_640_128, ?_⟩
  refine List.forall_mem_cons.2 ⟨code_piece 1 4 rfl rfl _ (r48_at c i arg1 harg1 arg2 harg2 arg3 harg3 arg4 harg4 arg5 harg5 arg6 harg6 arg8 harg8 arg9 harg9 arg15 x0 x1 x2 x3 x4 x5 x7 x8) slices_S1024x128_o512_0_S128x128 inb_S1024x256_S128x128_512_128, ?_⟩
  refine List.forall_mem_cons.2 ⟨code_piece 1 3 rfl rfl _ (r48_at c i arg1 harg1 arg2 harg2 arg3 harg3 arg4 harg4 arg5 harg5 arg6 harg6 arg8 harg8 arg9 harg9 arg15 x0 x1 x2 x3 x4 x5 x7 x8) slices_S1024x128_o384_0_S128x128 inb_S1024x256_S128x128_384_128, ?_⟩
  refine List.forall_mem_cons.2 ⟨code_piece 1 2 rfl rfl _ (r48_at c i arg1 harg1 arg2 harg2 arg3 harg3 arg4 harg4 arg5 harg5 arg6 harg6 arg8 harg8 arg9 harg9 arg15 x0 x1 x2 x3 x4 x5 x7 x8) slices_S1024x128_o256_0_S128x128 inb_S1024x256_S128x128_256_128, ?_⟩
  refine List.forall_mem_cons.2 ⟨code_piece 1 1 rfl rfl _ (r48_at c i arg1 harg1 arg2 harg2 arg3 harg3 arg4 harg4 arg5 harg5 arg6 harg6 arg8 harg8 arg9 harg9 arg15 x0 x1 x2 x3 x4 x5 x7 x8) slices_S1024x128_o128_0_S128x128 inb_S1024x256_S128x128_128_128, ?_⟩
  refine List.forall_mem_cons.2 ⟨code_piece 1 0 rfl rfl _ (r48_at c i arg1 harg1 arg2 harg2 arg3 harg3 arg4 harg4 arg5 harg5 arg6 harg6 arg8 harg8 arg9 harg9 arg15 x0 x1 x2 x3 x4 x5 x7 x8) slices_S1024x128_o0_0_S128x128 inb_S1024x256_S128x128_0_128, ?_⟩
  refine List.forall_mem_cons.2 ⟨code_piece 0 7 rfl rfl _ (r7_at c i arg1 harg1 arg2 harg2 arg3 harg3 arg4 harg4 arg5 harg5 arg6 harg6 arg8 harg8 arg9 harg9 arg15 x0 x1 x2 x3 x4 x5 x7 x8) slices_S1024x128_o896_0_S128x128 inb_S1024x256_S128x128_896_0, ?_⟩
  refine List.forall_mem_cons.2 ⟨code_piece 0 6 rfl rfl _ (r7_at c i arg1 harg1 arg2 harg2 arg3 harg3 arg4 harg4 arg5 harg5 arg6 harg6 arg8 harg8 arg9 harg9 arg15 x0 x1 x2 x3 x4 x5 x7 x8) slices_S1024x128_o768_0_S128x128 inb_S1024x256_S128x128_768_0, ?_⟩
  refine List.forall_mem_cons.2 ⟨code_piece 0 5 rfl rfl _ (r7_at c i arg1 harg1 arg2 harg2 arg3 harg3 arg4 harg4 arg5 harg5 arg6 harg6 arg8 harg8 arg9 harg9 arg15 x0 x1 x2 x3 x4 x5 x7 x8) slices_S1024x128_o640_0_S128x128 inb_S1024x256_S128x128_640_0, ?_⟩
  refine List.forall_mem_cons.2 ⟨code_piece 0 4 rfl rfl _ (r7_at c i arg1 harg1 arg2 harg2 arg3 harg3 arg4 harg4 arg5 harg5 arg6 harg6 arg8 harg8 arg9 harg9 arg15 x0 x1 x2 x3 x4 x5 x7 x8) slices_S1024x128_o512_0_S128x128 inb_S1024x256_S128x128_512_0, ?_⟩
  refine List.forall_mem_cons.2 ⟨code_piece 0 3 rfl rfl _ (r7_at c i arg1 harg1 arg2 harg2 arg3 harg3 arg4 harg4 arg5 harg5 arg6 harg6 arg8 harg8 arg9 harg9 arg15 x0 x1 x2 x3 x4 x5 x7 x8) slices_S1024x128_o384_0_S128x128 inb_S1024x256_S128x128_384_0, ?_⟩
  refine List.forall_mem_cons.2 ⟨code_piece 0 2 rfl rfl _ (r7_at c i arg1 harg1 arg2 harg2 arg3 harg3 arg4 harg4 arg5 harg5 arg6 harg6 arg8 harg8 arg9 harg9 arg15 x0 x1 x2 x3 x4 x5 x7 x8) slices_S1024x128_o256_0_S128x128 inb_S1024x256_S128x128_256_0, ?_⟩
  refine List.forall_mem_cons.2 ⟨code_piece 0 1 rfl rfl _ (r7_at c i arg1 harg1 arg2 harg2 arg3 harg3 arg4 harg4 arg5 harg5 arg6 harg6 arg8 harg8 arg9 harg9 arg15 x0 x1 x2 x3 x4 x5 x7 x8) slices_S1024x128_o128_0_S128x128 inb_S1024x256_S128x128_128_0, ?_⟩
  refine List.forall_mem_cons.2 ⟨code_piece 0 0 rfl rfl _ (r7_at c i arg1 harg1 arg2 harg2 arg3 harg3 arg4 harg4 arg5 harg5 arg6 harg6 arg8 harg8 arg9 harg9 arg15 x0 x1 x2 x3 x4 x5 x7 x8) slices_S1024x128_o0_0_S128x128 inb_S1024x256_S128x128_0_0, ?_⟩
  exact fun p hp => absurd hp List.not_mem_nil

set_option maxHeartbeats 4000000 in
/-- Every store into the scales is its part of the scales' block. -/
theorem dqs_pieces : ∀ p ∈ dqsStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10,
    ∀ x : p.1.shape.Idx, p.2 x = sBuf i x0 x2 x3 x4 x5 x7 x8 (p.1.emb x) := by
  dsimp only [dqsStores, kernelRun0]
  refine List.forall_mem_cons.2 ⟨scale_piece 1 7 (a := 896) rfl _ (r48_at c i arg1 harg1 arg2 harg2 arg3 harg3 arg4 harg4 arg5 harg5 arg6 harg6 arg8 harg8 arg9 harg9 arg15 x0 x1 x2 x3 x4 x5 x7 x8) rfl slices_S1024x128_o896_0_S128x128 inb_S8x256_S1x128_7_128, ?_⟩
  refine List.forall_mem_cons.2 ⟨scale_piece 1 6 (a := 768) rfl _ (r48_at c i arg1 harg1 arg2 harg2 arg3 harg3 arg4 harg4 arg5 harg5 arg6 harg6 arg8 harg8 arg9 harg9 arg15 x0 x1 x2 x3 x4 x5 x7 x8) rfl slices_S1024x128_o768_0_S128x128 inb_S8x256_S1x128_6_128, ?_⟩
  refine List.forall_mem_cons.2 ⟨scale_piece 1 5 (a := 640) rfl _ (r48_at c i arg1 harg1 arg2 harg2 arg3 harg3 arg4 harg4 arg5 harg5 arg6 harg6 arg8 harg8 arg9 harg9 arg15 x0 x1 x2 x3 x4 x5 x7 x8) rfl slices_S1024x128_o640_0_S128x128 inb_S8x256_S1x128_5_128, ?_⟩
  refine List.forall_mem_cons.2 ⟨scale_piece 1 4 (a := 512) rfl _ (r48_at c i arg1 harg1 arg2 harg2 arg3 harg3 arg4 harg4 arg5 harg5 arg6 harg6 arg8 harg8 arg9 harg9 arg15 x0 x1 x2 x3 x4 x5 x7 x8) rfl slices_S1024x128_o512_0_S128x128 inb_S8x256_S1x128_4_128, ?_⟩
  refine List.forall_mem_cons.2 ⟨scale_piece 1 3 (a := 384) rfl _ (r48_at c i arg1 harg1 arg2 harg2 arg3 harg3 arg4 harg4 arg5 harg5 arg6 harg6 arg8 harg8 arg9 harg9 arg15 x0 x1 x2 x3 x4 x5 x7 x8) rfl slices_S1024x128_o384_0_S128x128 inb_S8x256_S1x128_3_128, ?_⟩
  refine List.forall_mem_cons.2 ⟨scale_piece 1 2 (a := 256) rfl _ (r48_at c i arg1 harg1 arg2 harg2 arg3 harg3 arg4 harg4 arg5 harg5 arg6 harg6 arg8 harg8 arg9 harg9 arg15 x0 x1 x2 x3 x4 x5 x7 x8) rfl slices_S1024x128_o256_0_S128x128 inb_S8x256_S1x128_2_128, ?_⟩
  refine List.forall_mem_cons.2 ⟨scale_piece 1 1 (a := 128) rfl _ (r48_at c i arg1 harg1 arg2 harg2 arg3 harg3 arg4 harg4 arg5 harg5 arg6 harg6 arg8 harg8 arg9 harg9 arg15 x0 x1 x2 x3 x4 x5 x7 x8) rfl slices_S1024x128_o128_0_S128x128 inb_S8x256_S1x128_1_128, ?_⟩
  refine List.forall_mem_cons.2 ⟨scale_piece 1 0 (a := 0) rfl _ (r48_at c i arg1 harg1 arg2 harg2 arg3 harg3 arg4 harg4 arg5 harg5 arg6 harg6 arg8 harg8 arg9 harg9 arg15 x0 x1 x2 x3 x4 x5 x7 x8) rfl slices_S1024x128_o0_0_S128x128 inb_S8x256_S1x128_0_128, ?_⟩
  refine List.forall_mem_cons.2 ⟨scale_piece 0 7 (a := 896) rfl _ (r7_at c i arg1 harg1 arg2 harg2 arg3 harg3 arg4 harg4 arg5 harg5 arg6 harg6 arg8 harg8 arg9 harg9 arg15 x0 x1 x2 x3 x4 x5 x7 x8) rfl slices_S1024x128_o896_0_S128x128 inb_S8x256_S1x128_7_0, ?_⟩
  refine List.forall_mem_cons.2 ⟨scale_piece 0 6 (a := 768) rfl _ (r7_at c i arg1 harg1 arg2 harg2 arg3 harg3 arg4 harg4 arg5 harg5 arg6 harg6 arg8 harg8 arg9 harg9 arg15 x0 x1 x2 x3 x4 x5 x7 x8) rfl slices_S1024x128_o768_0_S128x128 inb_S8x256_S1x128_6_0, ?_⟩
  refine List.forall_mem_cons.2 ⟨scale_piece 0 5 (a := 640) rfl _ (r7_at c i arg1 harg1 arg2 harg2 arg3 harg3 arg4 harg4 arg5 harg5 arg6 harg6 arg8 harg8 arg9 harg9 arg15 x0 x1 x2 x3 x4 x5 x7 x8) rfl slices_S1024x128_o640_0_S128x128 inb_S8x256_S1x128_5_0, ?_⟩
  refine List.forall_mem_cons.2 ⟨scale_piece 0 4 (a := 512) rfl _ (r7_at c i arg1 harg1 arg2 harg2 arg3 harg3 arg4 harg4 arg5 harg5 arg6 harg6 arg8 harg8 arg9 harg9 arg15 x0 x1 x2 x3 x4 x5 x7 x8) rfl slices_S1024x128_o512_0_S128x128 inb_S8x256_S1x128_4_0, ?_⟩
  refine List.forall_mem_cons.2 ⟨scale_piece 0 3 (a := 384) rfl _ (r7_at c i arg1 harg1 arg2 harg2 arg3 harg3 arg4 harg4 arg5 harg5 arg6 harg6 arg8 harg8 arg9 harg9 arg15 x0 x1 x2 x3 x4 x5 x7 x8) rfl slices_S1024x128_o384_0_S128x128 inb_S8x256_S1x128_3_0, ?_⟩
  refine List.forall_mem_cons.2 ⟨scale_piece 0 2 (a := 256) rfl _ (r7_at c i arg1 harg1 arg2 harg2 arg3 harg3 arg4 harg4 arg5 harg5 arg6 harg6 arg8 harg8 arg9 harg9 arg15 x0 x1 x2 x3 x4 x5 x7 x8) rfl slices_S1024x128_o256_0_S128x128 inb_S8x256_S1x128_2_0, ?_⟩
  refine List.forall_mem_cons.2 ⟨scale_piece 0 1 (a := 128) rfl _ (r7_at c i arg1 harg1 arg2 harg2 arg3 harg3 arg4 harg4 arg5 harg5 arg6 harg6 arg8 harg8 arg9 harg9 arg15 x0 x1 x2 x3 x4 x5 x7 x8) rfl slices_S1024x128_o128_0_S128x128 inb_S8x256_S1x128_1_0, ?_⟩
  refine List.forall_mem_cons.2 ⟨scale_piece 0 0 (a := 0) rfl _ (r7_at c i arg1 harg1 arg2 harg2 arg3 harg3 arg4 harg4 arg5 harg5 arg6 harg6 arg8 harg8 arg9 harg9 arg15 x0 x1 x2 x3 x4 x5 x7 x8) rfl slices_S1024x128_o0_0_S128x128 inb_S8x256_S1x128_0_0, ?_⟩
  exact fun p hp => absurd hp List.not_mem_nil

set_option maxHeartbeats 4000000 in
/-- Every store into the scratch buffer of the dequantised gradients is its part of them. -/
theorem dqd_pieces : ∀ p ∈ kernelRun0.sl.H15_16 (F := Ideal) c i arg1 harg1 arg2 harg2 arg3 harg3 arg4 harg4 arg5 harg5 arg6 harg6 arg8 harg8 arg9 harg9 arg15 x0 x1 x2 x3 x4 x5 x7 x8,
    ∀ x : p.1.shape.Idx, p.2 x = dBuf i x0 x2 x3 x4 x5 x7 x8 (p.1.emb x) := by
  unfold kernelRun0.sl.H15_16
  refine List.forall_mem_cons.2 ⟨deq_piece 1 7 rfl rfl _ (r48_at c i arg1 harg1 arg2 harg2 arg3 harg3 arg4 harg4 arg5 harg5 arg6 harg6 arg8 harg8 arg9 harg9 arg15 x0 x1 x2 x3 x4 x5 x7 x8) slices_S1024x128_o896_0_S128x128 inb_S1024x256_S128x128_896_128, ?_⟩
  refine List.forall_mem_cons.2 ⟨deq_piece 1 6 rfl rfl _ (r48_at c i arg1 harg1 arg2 harg2 arg3 harg3 arg4 harg4 arg5 harg5 arg6 harg6 arg8 harg8 arg9 harg9 arg15 x0 x1 x2 x3 x4 x5 x7 x8) slices_S1024x128_o768_0_S128x128 inb_S1024x256_S128x128_768_128, ?_⟩
  refine List.forall_mem_cons.2 ⟨deq_piece 1 5 rfl rfl _ (r48_at c i arg1 harg1 arg2 harg2 arg3 harg3 arg4 harg4 arg5 harg5 arg6 harg6 arg8 harg8 arg9 harg9 arg15 x0 x1 x2 x3 x4 x5 x7 x8) slices_S1024x128_o640_0_S128x128 inb_S1024x256_S128x128_640_128, ?_⟩
  refine List.forall_mem_cons.2 ⟨deq_piece 1 4 rfl rfl _ (r48_at c i arg1 harg1 arg2 harg2 arg3 harg3 arg4 harg4 arg5 harg5 arg6 harg6 arg8 harg8 arg9 harg9 arg15 x0 x1 x2 x3 x4 x5 x7 x8) slices_S1024x128_o512_0_S128x128 inb_S1024x256_S128x128_512_128, ?_⟩
  refine List.forall_mem_cons.2 ⟨deq_piece 1 3 rfl rfl _ (r48_at c i arg1 harg1 arg2 harg2 arg3 harg3 arg4 harg4 arg5 harg5 arg6 harg6 arg8 harg8 arg9 harg9 arg15 x0 x1 x2 x3 x4 x5 x7 x8) slices_S1024x128_o384_0_S128x128 inb_S1024x256_S128x128_384_128, ?_⟩
  refine List.forall_mem_cons.2 ⟨deq_piece 1 2 rfl rfl _ (r48_at c i arg1 harg1 arg2 harg2 arg3 harg3 arg4 harg4 arg5 harg5 arg6 harg6 arg8 harg8 arg9 harg9 arg15 x0 x1 x2 x3 x4 x5 x7 x8) slices_S1024x128_o256_0_S128x128 inb_S1024x256_S128x128_256_128, ?_⟩
  refine List.forall_mem_cons.2 ⟨deq_piece 1 1 rfl rfl _ (r48_at c i arg1 harg1 arg2 harg2 arg3 harg3 arg4 harg4 arg5 harg5 arg6 harg6 arg8 harg8 arg9 harg9 arg15 x0 x1 x2 x3 x4 x5 x7 x8) slices_S1024x128_o128_0_S128x128 inb_S1024x256_S128x128_128_128, ?_⟩
  refine List.forall_mem_cons.2 ⟨deq_piece 1 0 rfl rfl _ (r48_at c i arg1 harg1 arg2 harg2 arg3 harg3 arg4 harg4 arg5 harg5 arg6 harg6 arg8 harg8 arg9 harg9 arg15 x0 x1 x2 x3 x4 x5 x7 x8) slices_S1024x128_o0_0_S128x128 inb_S1024x256_S128x128_0_128, ?_⟩
  refine List.forall_mem_cons.2 ⟨deq_piece 0 7 rfl rfl _ (r7_at c i arg1 harg1 arg2 harg2 arg3 harg3 arg4 harg4 arg5 harg5 arg6 harg6 arg8 harg8 arg9 harg9 arg15 x0 x1 x2 x3 x4 x5 x7 x8) slices_S1024x128_o896_0_S128x128 inb_S1024x256_S128x128_896_0, ?_⟩
  refine List.forall_mem_cons.2 ⟨deq_piece 0 6 rfl rfl _ (r7_at c i arg1 harg1 arg2 harg2 arg3 harg3 arg4 harg4 arg5 harg5 arg6 harg6 arg8 harg8 arg9 harg9 arg15 x0 x1 x2 x3 x4 x5 x7 x8) slices_S1024x128_o768_0_S128x128 inb_S1024x256_S128x128_768_0, ?_⟩
  refine List.forall_mem_cons.2 ⟨deq_piece 0 5 rfl rfl _ (r7_at c i arg1 harg1 arg2 harg2 arg3 harg3 arg4 harg4 arg5 harg5 arg6 harg6 arg8 harg8 arg9 harg9 arg15 x0 x1 x2 x3 x4 x5 x7 x8) slices_S1024x128_o640_0_S128x128 inb_S1024x256_S128x128_640_0, ?_⟩
  refine List.forall_mem_cons.2 ⟨deq_piece 0 4 rfl rfl _ (r7_at c i arg1 harg1 arg2 harg2 arg3 harg3 arg4 harg4 arg5 harg5 arg6 harg6 arg8 harg8 arg9 harg9 arg15 x0 x1 x2 x3 x4 x5 x7 x8) slices_S1024x128_o512_0_S128x128 inb_S1024x256_S128x128_512_0, ?_⟩
  refine List.forall_mem_cons.2 ⟨deq_piece 0 3 rfl rfl _ (r7_at c i arg1 harg1 arg2 harg2 arg3 harg3 arg4 harg4 arg5 harg5 arg6 harg6 arg8 harg8 arg9 harg9 arg15 x0 x1 x2 x3 x4 x5 x7 x8) slices_S1024x128_o384_0_S128x128 inb_S1024x256_S128x128_384_0, ?_⟩
  refine List.forall_mem_cons.2 ⟨deq_piece 0 2 rfl rfl _ (r7_at c i arg1 harg1 arg2 harg2 arg3 harg3 arg4 harg4 arg5 harg5 arg6 harg6 arg8 harg8 arg9 harg9 arg15 x0 x1 x2 x3 x4 x5 x7 x8) slices_S1024x128_o256_0_S128x128 inb_S1024x256_S128x128_256_0, ?_⟩
  refine List.forall_mem_cons.2 ⟨deq_piece 0 1 rfl rfl _ (r7_at c i arg1 harg1 arg2 harg2 arg3 harg3 arg4 harg4 arg5 harg5 arg6 harg6 arg8 harg8 arg9 harg9 arg15 x0 x1 x2 x3 x4 x5 x7 x8) slices_S1024x128_o128_0_S128x128 inb_S1024x256_S128x128_128_0, ?_⟩
  refine List.forall_mem_cons.2 ⟨deq_piece 0 0 rfl rfl _ (r7_at c i arg1 harg1 arg2 harg2 arg3 harg3 arg4 harg4 arg5 harg5 arg6 harg6 arg8 harg8 arg9 harg9 arg15 x0 x1 x2 x3 x4 x5 x7 x8) slices_S1024x128_o0_0_S128x128 inb_S1024x256_S128x128_0_0, ?_⟩
  exact fun p hp => absurd hp List.not_mem_nil

/-- The codes' block after the stores. -/
theorem dqc_read (f : arg12.view.ty.Contents (Elt Ideal)) (y : S1024x256.Idx) :
    arg12.view.read (Elt Ideal) (arg12.view.writes (Elt Ideal) f (dqcStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)) y = cBuf i x0 x2 x3 x4 x5 x7 x8 y :=
  View.read_writes_apply_of_pieces (v := arg12.view) (f := f) (cBuf i x0 x2 x3 x4 x5 x7 x8) _ (dqc_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) y
    (View.cover_of_tiled (dqcStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) ![128, 128] rfl y)

/-- The scales' block after the stores. -/
theorem dqs_read (f : arg13.view.ty.Contents (Elt Ideal)) (y : S8x256.Idx) :
    arg13.view.read (Elt Ideal) (arg13.view.writes (Elt Ideal) f (dqsStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)) y = sBuf i x0 x2 x3 x4 x5 x7 x8 y :=
  View.read_writes_apply_of_pieces (v := arg13.view) (f := f) (sBuf i x0 x2 x3 x4 x5 x7 x8) _ (dqs_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) y
    (View.cover_of_tiled (dqsStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) ![1, 128] rfl y)

/-- The dequantised gradients, read back whole. -/
theorem v1134_at (y : S1024x256.Idx) :
    arg16.view.readCov (kernelRun0.sl.H15_16 (F := Ideal) c i arg1 harg1 arg2 harg2 arg3 harg3 arg4 harg4 arg5 harg5 arg6 harg6 arg8 harg8 arg9 harg9 arg15 x0 x1 x2 x3 x4 x5 x7 x8) (Rect.unit (s := S1024x256) ![0, 0] ![1024, 256] inb_S1024x256_S1024x256_0_0).toLoadRect y
      = dBuf i x0 x2 x3 x4 x5 x7 x8 y := by
  refine (congrArg (arg16.view.read (Elt Ideal) _) (unit_idx2_whole (m := 1024) (n := 256) _ y)).trans ?_
  exact View.read_writes_apply_of_pieces (v := arg16.view) (f := arg16.view.junk) (dBuf i x0 x2 x3 x4 x5 x7 x8) _ (dqd_pieces c i arg1 harg1 arg2 harg2 arg3 harg3 arg4 harg4 arg5 harg5 arg6 harg6 arg8 harg8 arg9 harg9 arg15 x0 x1 x2 x3 x4 x5 x7 x8) y
    (View.cover_of_tiled (kernelRun0.sl.H15_16 (F := Ideal) c i arg1 harg1 arg2 harg2 arg3 harg3 arg4 harg4 arg5 harg5 arg6 harg6 arg8 harg8 arg9 harg9 arg15 x0 x1 x2 x3 x4 x5 x7 x8) ![128, 128] rfl y)

/-- The gradient of the projection's weight, of a grid point's two heads. -/
def qBuf (r : Fin 1536) (n : Fin 256) : EReal := ∑ t : Fin 1024, x6 (ix2 r t) * dBuf i x0 x2 x3 x4 x5 x7 x8 (ix2 t n)

/-- The projection's weight's gradient after the store. -/
theorem dwq_read (f : arg14.view.ty.Contents (Elt Ideal)) (r : Fin 1536) (n : Fin 256) :
    arg14.view.read (Elt Ideal) (arg14.view.writes (Elt Ideal) f (dwqStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)) (ix2 r n) = qBuf i x0 x2 x3 x4 x5 x6 x7 x8 r n := by
  dsimp only [dwqStores, kernelRun0]
  refine (congrFun (View.read_writes_full (s := S1536x256) arg14.view f _ _ _) _).trans ((proj_at _ _ r n).trans (Finset.sum_congr rfl fun t _ => ?_))
  exact congrArg₂ (· * ·) (congrFun (whole_read (m := 1536) (n := 1024) arg7 harg7 x6 _) _) (v1134_at c i arg1 harg1 arg2 harg2 arg3 harg3 arg4 harg4 arg5 harg5 arg6 harg6 arg8 harg8 arg9 harg9 arg15 arg16 x0 x1 x2 x3 x4 x5 x7 x8 (ix2 t n))

end Cert.BwdIdeal.Gen

end
-- ==== Proof.Bwd.Data.lean ====
module

public import proofs.«01_k».proof.Proof.Bwd.BlockQuant
public import Idealize.ShloMosaic.Lib.Pipeline.ArrRel
public import Idealize.ShloMosaic.Lib.Claim

@[expose] public section

set_option maxRecDepth 16384

/-! The launch of the backward kernel over the extended reals: what each grid point leaves in the five output blocks,
stated as a relation to what it found there, and the run with its frame. -/

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-! ## The staging memrefs -/

/-- Each window's current staging memref at point `t`, as the pipeline passes it, and its wholeness. -/
abbrev ms0_0 (t : Fin cfg0.N) : Memref sig .tc .vmem S256x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x256 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x256 .f32 := win0_13.stage (cfg0.slots t 13)
abbrev hs0_13 (t : Fin cfg0.N) : (ms0_13 t).IsWhole := hstage0_13 ((cfg0.slots t 13).cast nbuf0_13)
/-- The two scratch buffers: the queries' gradients and the dequantised ones. -/
abbrev scM0_0 : Memref sig .tc .vmem S256x1024 .f32 := Memref.whole cc0_scratch0
abbrev scM0_1 : Memref sig .tc .vmem S1024x256 .bf16 := Memref.whole cc0_scratch1

/-- The frame's invariant: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The proof data -/

/-- What a grid point leaves in the heads' weights' gradient: that of its two heads, every other row as found. -/
def rel9 (c : Dev nD) (t : Fin cfg0.N) (Y X : Vec Ideal S64x1024 .f32) : Prop :=
  ∀ (g : Fin 64) (k : Fin 1024), X (ix2 g k) = if g.val / 2 = (grid0.coords t 0).val
    then wRow (grid0.coords t) (iblk m c 0 t) (iblk m c 1 t) (iblk m c 3 t) (iblk m c 5 t) g k else Y (ix2 g k)

/-- What a grid point leaves in the keys' gradient: what was there (nothing at the first point) plus its two heads'
    parts, strip by strip. -/
def rel10 (c : Dev nD) (t : Fin cfg0.N) (Y X : Vec Ideal S1024x128 .f32) : Prop :=
  ∀ (s : Fin 1024) (e : Fin 128), X (ix2 s e) = dkAfter (grid0.coords t) (iblk m c 0 t) (iblk m c 1 t) (iblk m c 2 t) (iblk m c 3 t) (iblk m c 5 t) Y s e

/-- What a grid point leaves in the codes of the queries' gradients: those of its two heads. -/
def rel11 (c : Dev nD) (t : Fin cfg0.N) (X : Vec Ideal S1024x256 .fp8e4m3) : Prop :=
  ∀ y, X y = cBuf (grid0.coords t) (iblk m c 0 t) (iblk m c 2 t) (iblk m c 3 t) (iblk m c 4 t) (iblk m c 5 t) (iblk m c 7 t) (iblk m c 8 t) y

/-- What a grid point leaves in the scales of the queries' gradients: those of its two heads. -/
def rel12 (c : Dev nD) (t : Fin cfg0.N) (X : Vec Ideal S8x256 .f32) : Prop :=
  ∀ y, X y = sBuf (grid0.coords t) (iblk m c 0 t) (iblk m c 2 t) (iblk m c 3 t) (iblk m c 4 t) (iblk m c 5 t) (iblk m c 7 t) (iblk m c 8 t) y

/-- What a grid point leaves in the projection's weight's gradient: that of its two heads. -/
def rel13 (c : Dev nD) (t : Fin cfg0.N) (X : Vec Ideal S1536x256 .f32) : Prop :=
  ∀ (r : Fin 1536) (n : Fin 256), X (ix2 r n) = qBuf (grid0.coords t) (iblk m c 0 t) (iblk m c 2 t) (iblk m c 3 t) (iblk m c 4 t) (iblk m c 5 t) (iblk m c 6 t) (iblk m c 7 t) (iblk m c 8 t) r n

/-- The exact part of the proof data: every input's buffer at its block. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The outputs' relations; none for an input. -/
def ovr (c : Dev nD) : (w : Fin cfg0.W) → Option (Fin cfg0.N → (Y X : (cfg0.win w).block.Idx → Elt Ideal (cfg0.win w).elt) → Prop)
  | ⟨9, _⟩ => some fun t Y X => rel9 m c t Y X
  | ⟨10, _⟩ => some fun t Y X => rel10 m c t Y X
  | ⟨11, _⟩ => some fun t _ X => rel11 m c t X
  | ⟨12, _⟩ => some fun t _ X => rel12 m c t X
  | ⟨13, _⟩ => some fun t _ X => rel13 m c t X
  | _ => none

/-- The proof data: the inputs exact, each output in its relation. -/
def rdat (c : Dev nD) : RDat τ (Elt Ideal) Unit ℕ (UR sig nD τ) ℕ cfg0 c := (dats m c).toR.override (ovr m c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]
theorem after0_7 (c : Dev nD) (t : Fin cfg0.N) : (dats m c).after 7 t = iblk m c 7 t := by dsimp only [dats]
theorem after0_8 (c : Dev nD) (t : Fin cfg0.N) : (dats m c).after 8 t = iblk m c 8 t := by dsimp only [dats]

/-- What the body finds in each input's buffer: its block. -/
theorem find0 (c : Dev nD) (t : Fin cfg0.N) (Y : (cfg0.win 0).block.Idx → Elt Ideal (cfg0.win 0).elt) (h : (rdat m c).Finds 0 t Y) : Y = iblk m c 0 t :=
  let ⟨d, hd⟩ := (dats m c).toR_finds 0 t Y (((dats m c).toR.override_finds (ovr := ovr m c) (w := 0) rfl t Y).mp h)
  hd.trans (before0_0_of m (dats m c) (A_eq m c 0) (after0_0 m c) t d)
theorem find1 (c : Dev nD) (t : Fin cfg0.N) (Y : (cfg0.win 1).block.Idx → Elt Ideal (cfg0.win 1).elt) (h : (rdat m c).Finds 1 t Y) : Y = iblk m c 1 t :=
  let ⟨d, hd⟩ := (dats m c).toR_finds 1 t Y (((dats m c).toR.override_finds (ovr := ovr m c) (w := 1) rfl t Y).mp h)
  hd.trans (before0_1_of m (dats m c) (A_eq m c 1) (after0_1 m c) t d)
theorem find2 (c : Dev nD) (t : Fin cfg0.N) (Y : (cfg0.win 2).block.Idx → Elt Ideal (cfg0.win 2).elt) (h : (rdat m c).Finds 2 t Y) : Y = iblk m c 2 t :=
  let ⟨d, hd⟩ := (dats m c).toR_finds 2 t Y (((dats m c).toR.override_finds (ovr := ovr m c) (w := 2) rfl t Y).mp h)
  hd.trans (before0_2_of m (dats m c) (A_eq m c 2) (after0_2 m c) t d)
theorem find3 (c : Dev nD) (t : Fin cfg0.N) (Y : (cfg0.win 3).block.Idx → Elt Ideal (cfg0.win 3).elt) (h : (rdat m c).Finds 3 t Y) : Y = iblk m c 3 t :=
  let ⟨d, hd⟩ := (dats m c).toR_finds 3 t Y (((dats m c).toR.override_finds (ovr := ovr m c) (w := 3) rfl t Y).mp h)
  hd.trans (before0_3_of m (dats m c) (A_eq m c 3) (after0_3 m c) t d)
theorem find4 (c : Dev nD) (t : Fin cfg0.N) (Y : (cfg0.win 4).block.Idx → Elt Ideal (cfg0.win 4).elt) (h : (rdat m c).Finds 4 t Y) : Y = iblk m c 4 t :=
  let ⟨d, hd⟩ := (dats m c).toR_finds 4 t Y (((dats m c).toR.override_finds (ovr := ovr m c) (w := 4) rfl t Y).mp h)
  hd.trans (before0_4_of m (dats m c) (A_eq m c 4) (after0_4 m c) t d)
theorem find5 (c : Dev nD) (t : Fin cfg0.N) (Y : (cfg0.win 5).block.Idx → Elt Ideal (cfg0.win 5).elt) (h : (rdat m c).Finds 5 t Y) : Y = iblk m c 5 t :=
  let ⟨d, hd⟩ := (dats m c).toR_finds 5 t Y (((dats m c).toR.override_finds (ovr := ovr m c) (w := 5) rfl t Y).mp h)
  hd.trans (before0_5_of m (dats m c) (A_eq m c 5) (after0_5 m c) t d)
theorem find6 (c : Dev nD) (t : Fin cfg0.N) (Y : (cfg0.win 6).block.Idx → Elt Ideal (cfg0.win 6).elt) (h : (rdat m c).Finds 6 t Y) : Y = iblk m c 6 t :=
  let ⟨d, hd⟩ := (dats m c).toR_finds 6 t Y (((dats m c).toR.override_finds (ovr := ovr m c) (w := 6) rfl t Y).mp h)
  hd.trans (before0_6_of m (dats m c) (A_eq m c 6) (after0_6 m c) t d)
theorem find7 (c : Dev nD) (t : Fin cfg0.N) (Y : (cfg0.win 7).block.Idx → Elt Ideal (cfg0.win 7).elt) (h : (rdat m c).Finds 7 t Y) : Y = iblk m c 7 t :=
  let ⟨d, hd⟩ := (dats m c).toR_finds 7 t Y (((dats m c).toR.override_finds (ovr := ovr m c) (w := 7) rfl t Y).mp h)
  hd.trans (before0_7_of m (dats m c) (A_eq m c 7) (after0_7 m c) t d)
theorem find8 (c : Dev nD) (t : Fin cfg0.N) (Y : (cfg0.win 8).block.Idx → Elt Ideal (cfg0.win 8).elt) (h : (rdat m c).Finds 8 t Y) : Y = iblk m c 8 t :=
  let ⟨d, hd⟩ := (dats m c).toR_finds 8 t Y (((dats m c).toR.override_finds (ovr := ovr m c) (w := 8) rfl t Y).mp h)
  hd.trans (before0_8_of m (dats m c) (A_eq m c 8) (after0_8 m c) t d)

/-- An input's block left in place is what its relation asks. -/
theorem keep0 (c : Dev nD) (t : Fin cfg0.N) (Y : (cfg0.win 0).block.Idx → Elt Ideal (cfg0.win 0).elt) : (rdat m c).after 0 t Y (iblk m c 0 t) :=
  (after0_0 m c t).symm
theorem keep1 (c : Dev nD) (t : Fin cfg0.N) (Y : (cfg0.win 1).block.Idx → Elt Ideal (cfg0.win 1).elt) : (rdat m c).after 1 t Y (iblk m c 1 t) :=
  (after0_1 m c t).symm
theorem keep2 (c : Dev nD) (t : Fin cfg0.N) (Y : (cfg0.win 2).block.Idx → Elt Ideal (cfg0.win 2).elt) : (rdat m c).after 2 t Y (iblk m c 2 t) :=
  (after0_2 m c t).symm
theorem keep3 (c : Dev nD) (t : Fin cfg0.N) (Y : (cfg0.win 3).block.Idx → Elt Ideal (cfg0.win 3).elt) : (rdat m c).after 3 t Y (iblk m c 3 t) :=
  (after0_3 m c t).symm
theorem keep4 (c : Dev nD) (t : Fin cfg0.N) (Y : (cfg0.win 4).block.Idx → Elt Ideal (cfg0.win 4).elt) : (rdat m c).after 4 t Y (iblk m c 4 t) :=
  (after0_4 m c t).symm
theorem keep5 (c : Dev nD) (t : Fin cfg0.N) (Y : (cfg0.win 5).block.Idx → Elt Ideal (cfg0.win 5).elt) : (rdat m c).after 5 t Y (iblk m c 5 t) :=
  (after0_5 m c t).symm
theorem keep6 (c : Dev nD) (t : Fin cfg0.N) (Y : (cfg0.win 6).block.Idx → Elt Ideal (cfg0.win 6).elt) : (rdat m c).after 6 t Y (iblk m c 6 t) :=
  (after0_6 m c t).symm
theorem keep7 (c : Dev nD) (t : Fin cfg0.N) (Y : (cfg0.win 7).block.Idx → Elt Ideal (cfg0.win 7).elt) : (rdat m c).after 7 t Y (iblk m c 7 t) :=
  (after0_7 m c t).symm
theorem keep8 (c : Dev nD) (t : Fin cfg0.N) (Y : (cfg0.win 8).block.Idx → Elt Ideal (cfg0.win 8).elt) : (rdat m c).after 8 t Y (iblk m c 8 t) :=
  (after0_8 m c t).symm

/-! ## The body obligation -/

/-- One run of the body at point `t`, its inputs' blocks in place, the heads' weights' gradient at `Y9` and the keys' at `Y10`. -/
theorem sound_body (c : Dev nD) (t : Fin cfg0.N) (Y9 : Vec Ideal S64x1024 .f32) (Y10 : Vec Ideal S1024x128 .f32) (O : sProp 𝕄) :
    iprop(Pipeline.ΦA spec0 c ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ owns (c : Thread nD τ) (ms0_9 t) fullShare Y9
      ∗ owns (c : Thread nD τ) (ms0_10 t) fullShare Y10
      ∗ (∃ d, owns (c : Thread nD τ) (ms0_11 t) fullShare d)
      ∗ (∃ d, owns (c : Thread nD τ) (ms0_12 t) fullShare d)
      ∗ (∃ d, owns (c : Thread nD τ) (ms0_13 t) fullShare d))
    ⊢ wp frame (wpE (defs₀ (F := Ideal)) Variants.none c none) Set.univ (bodyAt0 t) (fun _ => iprop(Pipeline.ΦA spec0 c ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ (∃ X, ⌜rel9 m c t Y9 X⌝ ∗ owns (c : Thread nD τ) (ms0_9 t) fullShare X)
      ∗ (∃ X, ⌜rel10 m c t Y10 X⌝ ∗ owns (c : Thread nD τ) (ms0_10 t) fullShare X)
      ∗ (∃ X, ⌜rel11 m c t X⌝ ∗ owns (c : Thread nD τ) (ms0_11 t) fullShare X)
      ∗ (∃ X, ⌜rel12 m c t X⌝ ∗ owns (c : Thread nD τ) (ms0_12 t) fullShare X)
      ∗ (∃ X, ⌜rel13 m c t X⌝ ∗ owns (c : Thread nD τ) (ms0_13 t) fullShare X))) := by
  unfold bodyAt0
  rw [PhiA0_eq]
  iintro ⟨⟨⟨HS0, HS1⟩, Hg⟩, Ho, H0, H1, H2, H3, H4, H5, H6, H7, H8, H9, H10, H11, H12, H13⟩
  iapply ((kernelRun0 (F := Ideal) c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Y9 Y10).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, ⟨%f11, H11⟩, ⟨%f12, H12⟩, ⟨%f13, H13⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro; intro g k; exact (dw_read c _ _ _ _ _ _ _ _ _ _ _ _ _ _ _ _ _ _ _ _ _ _ _ _ _ _ _ _ _ _ _ _ _ _ _ _ _ _ _ _ _ _ _ _ _ g k).trans (congrArg (ite _ _) (congrFun (Memref.IsWhole.read_unread _ _) _))
  isplitl [H10]
  · iexists _; isplitr; swap; · iexact H10
    ipureintro; intro s e; exact dk8_read c _ _ _ _ _ _ _ _ _ _ _ _ _ _ _ _ _ _ _ _ _ _ _ _ _ _ _ _ _ _ _ _ _ _ _ _ _ _ _ _ _ _ _ _ _ s e
  isplitl [H11]
  · iexists _; isplitr; swap; · iexact H11
    ipureintro; intro y; exact dqc_read c _ _ _ _ _ _ _ _ _ _ _ _ _ _ _ _ _ _ _ _ _ _ _ _ _ _ _ _ _ _ _ _ _ _ _ _ _ _ _ _ _ _ _ _ f11 y
  isplitl [H12]
  · iexists _; isplitr; swap; · iexact H12
    ipureintro; intro y; exact dqs_read c _ _ _ _ _ _ _ _ _ _ _ _ _ _ _ _ _ _ _ _ _ _ _ _ _ _ _ _ _ _ _ _ _ _ _ _ _ _ _ _ _ _ _ _ f12 y
  iexists _; isplitr; swap; · iexact H13
  ipureintro; intro r n; exact dwq_read c _ _ _ _ _ _ _ _ _ _ _ _ _ _ _ _ _ _ _ _ _ _ _ _ _ _ _ _ _ _ _ _ _ _ _ _ _ _ _ _ _ _ _ _ f13 r n

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Ideal)) Variants.none () Set.univ := fun t Y hY => by
  rw [bigSep_W0, bigSep_W0, defs₀_row]
  have e0 := find0 m c t (Y 0) (hY 0)
  have e1 := find1 m c t (Y 1) (hY 1)
  have e2 := find2 m c t (Y 2) (hY 2)
  have e3 := find3 m c t (Y 3) (hY 3)
  have e4 := find4 m c t (Y 4) (hY 4)
  have e5 := find5 m c t (Y 5) (hY 5)
  have e6 := find6 m c t (Y 6) (hY 6)
  have e7 := find7 m c t (Y 7) (hY 7)
  have e8 := find8 m c t (Y 8) (hY 8)
  rw [e0, e1, e2, e3, e4, e5, e6, e7, e8, show (rdat m c).Φ t.castSucc = Pipeline.ΦA spec0 c from rfl, show (rdat m c).Φ t.succ = Pipeline.ΦA spec0 c from rfl]
  refine triple_restated (sound_body m c t (Y 9) (Y 10) ((rdat m c).owesAt () t.castSucc)) rfl ?_ fun _ => ?_
  · iintro ⟨HA, Ho, H0, H1, H2, H3, H4, H5, H6, H7, H8, H9, H10, H11, H12, H13⟩
    isplitl [HA]; · iexact HA
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iexists _; iexact H13
  · iintro ⟨HA, Ho, H0, H1, H2, H3, H4, H5, H6, H7, H8, ⟨%X9, %h9, H9⟩, ⟨%X10, %h10, H10⟩, ⟨%X11, %h11, H11⟩, ⟨%X12, %h12, H12⟩, ⟨%X13, %h13, H13⟩⟩
    isplitl [HA]; · iexact HA
    isplitl [Ho]; · iexact Ho
    isplitl [H0]
    · iexists (iblk m c 0 t); isplitr; · ipureintro; exact keep0 m c t _
      iexact H0
    isplitl [H1]
    · iexists (iblk m c 1 t); isplitr; · ipureintro; exact keep1 m c t _
      iexact H1
    isplitl [H2]
    · iexists (iblk m c 2 t); isplitr; · ipureintro; exact keep2 m c t _
      iexact H2
    isplitl [H3]
    · iexists (iblk m c 3 t); isplitr; · ipureintro; exact keep3 m c t _
      iexact H3
    isplitl [H4]
    · iexists (iblk m c 4 t); isplitr; · ipureintro; exact keep4 m c t _
      iexact H4
    isplitl [H5]
    · iexists (iblk m c 5 t); isplitr; · ipureintro; exact keep5 m c t _
      iexact H5
    isplitl [H6]
    · iexists (iblk m c 6 t); isplitr; · ipureintro; exact keep6 m c t _
      iexact H6
    isplitl [H7]
    · iexists (iblk m c 7 t); isplitr; · ipureintro; exact keep7 m c t _
      iexact H7
    isplitl [H8]
    · iexists (iblk m c 8 t); isplitr; · ipureintro; exact keep8 m c t _
      iexact H8
    isplitl [H9]
    · iexists X9; isplitr; · ipureintro; exact h9
      iexact H9
    isplitl [H10]
    · iexists X10; isplitr; · ipureintro; exact h10
      iexact H10
    isplitl [H11]
    · iexists X11; isplitr; · ipureintro; exact h11
      iexact H11
    isplitl [H12]
    · iexists X12; isplitr; · ipureintro; exact h12
      iexact H12
    iexists X13; isplitr; · ipureintro; exact h13
    iexact H13

/-! ## The run and the frame -/

set_option backward.isDefEq.respectTransparency.types false in
/-- Every execution terminates, with every array as the proof data say and every semaphore counter at zero. -/
theorem run_main : θ_run defs (onTc (τ := τ) (main (F := Ideal))) (s₀ m ρ)
    (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := body_obligation m) (hshare := fun c => (dats m c).share_full fun _ => rfl)
    (howed := fun _ _ => rfl) (V := V m) (hmain := hmain m Variants.none) (hA := A_eq m) (hΦ := fun _ _ => rfl)

/-- The argument arrays end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c))⟩, h.2⟩) (run_main m ρ)

end Cert.BwdIdeal.Gen

end
-- ==== Proof.Bwd.Spec.lean ====
module

public import proofs.«01_k».proof.Proof.Bwd.Math
public import proofs.«01_k».proof.Proof.Bwd.Quant

@[expose] public section

/-! The five results of the backward pass as functions of its arrays: codes of the queries `q`, their scales `qs`, the
heads' weights `w`, the keys `k` and the keys for the queries' gradient `kt`, the gradient of the logits `d`, the inputs
of the projection `cq`, cosines `cs` and sines `sn`. -/

noncomputable section

namespace Cert.BwdSpec

open Idealize.ShloMosaic Cert.BwdMath Cert.FwdMath

variable (q : Fin 8192 → Fin 1024 → EReal) (qs w : Fin 64 → Fin 1024 → EReal) (k : Fin 1024 → Fin 128 → EReal)
  (kt : Fin 128 → Fin 1024 → EReal) (d : Fin 1024 → Fin 1024 → EReal) (cq : Fin 1536 → Fin 1024 → EReal) (cs sn : Fin 32 → Fin 1024 → EReal)

/-- The query column of a head at a token. -/
def qcol (g : Fin 64) (t : Fin 1024) (x : Fin 128) : EReal := q ⟨128 * g.val + x.val, by omega⟩ t

/-- The gradient of a head's weight at a token. -/
def dw (g : Fin 64) (t : Fin 1024) : EReal := wgrad k (qcol q g t) (fun s => d s t) (qs g t)

/-- What a head adds to one feature of a key's gradient. -/
def dkHead (s : Fin 1024) (e : Fin 128) (g : Fin 64) : EReal :=
  kgrad (k s) (fun t => qcol q g t) (fun t => d s t) (qs g) (w g) (fun t => qcol q g t e)

/-- The gradient of a key, summed over the heads. -/
def dk (s : Fin 1024) (e : Fin 128) : EReal := ∑ g, dkHead q qs w k d s e g

/-- The gradient of a head's query at a token, before the rotary embedding is undone. -/
def du (g : Fin 64) (t : Fin 1024) (e : Fin 128) : EReal := qgrad k (qcol q g t) (fun s => d s t) (w g t) (kt e)

/-- The gradient of a head's query at a token. -/
def dq (g : Fin 64) (t : Fin 1024) (e : Fin 128) : EReal := ropeInv (du q w k kt d g t) (fun r => cs r t) (fun r => sn r t) e

/-- The largest magnitude of a feature's gradient in a group of 128 tokens. -/
def mag (T : Fin 8) (g : Fin 64) (e : Fin 128) : EReal := amax fun x => dq q w k kt d cs sn g ⟨128 * T.val + x.val, by omega⟩ e

/-- The code of a gradient. -/
def dqc (t : Fin 1024) (g : Fin 64) (e : Fin 128) : EReal :=
  gcode (mag q w k kt d cs sn ⟨t.val / 128, by omega⟩ g e) (dq q w k kt d cs sn g t e)

/-- The scale of a group. -/
def dqs (T : Fin 8) (g : Fin 64) (e : Fin 128) : EReal := gscale (mag q w k kt d cs sn T g e)

/-- The gradient of the projection's weight, from the dequantised gradients. -/
def dwq (r : Fin 1536) (g : Fin 64) (e : Fin 128) : EReal :=
  ∑ t : Fin 1024, cq r t * (dqc q w k kt d cs sn t g e * dqs q w k kt d cs sn ⟨t.val / 128, by omega⟩ g e)

/-- Where the logits' gradient is nothing for a key after the token, leaving out the part below the diagonal blocks
    leaves out nothing. -/
theorem upper_eq (h : ∀ s t : Fin 1024, s.val ≤ t.val ∨ d s t = 0) : upper d = d := by
  funext s t
  unfold upper
  split
  · rfl
  · rcases h s t with h | h
    · omega
    · exact h.symm

end Cert.BwdSpec

end
-- ==== Proof.Bwd.Point.lean ====
module

public import proofs.«01_k».proof.Proof.Bwd.Data
public import proofs.«01_k».proof.Proof.Bwd.Spec

@[expose] public section

set_option maxRecDepth 16384

/-! What one grid point of the backward kernel computes, in the functions of Spec: its two heads' rows and columns of
the results and their parts of the keys' gradient. -/

noncomputable section

namespace Cert.BwdIdeal.Gen

open Idealize.ShloMosaic Idealize.ShloMosaic.TcCoe
open Cert.FwdMath Cert.BwdMath Cert.BwdSpec

/-- A row of a grid point's block of the queries is a row of the queries. -/
theorem qrow_lt (i : grid0.Coords) (r : Fin 256) : 256 * (i 0).val + r.val < 8192 := by have := pt_lt i; omega

/-- The head of a column of a grid point's block. -/
def bh (n : Fin 256) : Fin 2 := ⟨n.val / 128, by omega⟩
/-- The feature of a column of a grid point's block. -/
def be (n : Fin 256) : Fin 128 := ⟨n.val % 128, Nat.mod_lt _ (by decide)⟩
/-- The group of a token. -/
def tg (t : Fin 1024) : Fin 8 := ⟨t.val / 128, by omega⟩

variable (a0 : Vec Ideal S8192x1024 .fp8e4m3) (a1 a2 : Vec Ideal S64x1024 .f32) (a3 : Vec Ideal S1024x128 .fp8e4m3)
  (a4 : Vec Ideal S128x1024 .bf16) (a5 : Vec Ideal S1024x1024 .f32) (a6 : Vec Ideal S1536x1024 .bf16) (a7 a8 : Vec Ideal S32x1024 .f32)
  (i : grid0.Coords) (x0 : Vec Ideal S256x1024 .fp8e4m3)
  (hx : ∀ (r : Fin 256) (t : Fin 1024), x0 (ix2 r t) = a0 (ix2 ⟨256 * (i 0).val + r.val, qrow_lt i r⟩ t))

include hx

/-- A grid point's query column is that of the head it stands for. -/
theorem qc_eq (h : Fin 2) (t : Fin 1024) : qc x0 h t = qcol (fn a0) (hrow i h) t := by
  funext x
  refine (hx _ t).trans (congrArg a0 (congrArg (fun r => ix2 r t) (Fin.ext ?_)))
  show 256 * (i 0).val + (128 * h.val + x.val) = 128 * (2 * (i 0).val + h.val) + x.val
  omega

/-- A grid point's weight gradient is its head's. -/
theorem wAt_eq (h : Fin 2) (t : Fin 1024) :
    wAt i x0 a1 a3 a5 h t = dw (fn a0) (fn a1) (fn a3) (upper (fn a5)) (hrow i h) t :=
  congrArg (fun q => wgrad (fn a3) q (fun s => upper (fn a5) s t) (a1 (ix2 (hrow i h) t))) (qc_eq a0 i x0 hx h t)

theorem uAt_eq (h : Fin 2) (t : Fin 1024) :
    uAt i x0 a2 a3 a4 a5 h t = du (fn a0) (fn a2) (fn a3) (fn a4) (upper (fn a5)) (hrow i h) t :=
  funext fun e => congrArg (fun q => qgrad (fn a3) q (fun s => upper (fn a5) s t) (a2 (ix2 (hrow i h) t)) (fn a4 e)) (qc_eq a0 i x0 hx h t)

/-- A grid point's query gradient is its head's. -/
theorem dqAt_eq (h : Fin 2) (t : Fin 1024) (e : Fin 128) :
    dqAt i x0 a2 a3 a4 a5 a7 a8 h t e = dq (fn a0) (fn a2) (fn a3) (fn a4) (upper (fn a5)) (fn a7) (fn a8) (hrow i h) t e :=
  congrArg (fun u => ropeInv u (fun r => a7 (ix2 r t)) (fun r => a8 (ix2 r t)) e) (uAt_eq a0 a2 a3 a4 a5 i x0 hx h t)

theorem magAt_eq (h : Fin 2) (T : Fin 8) (e : Fin 128) :
    magAt i x0 a2 a3 a4 a5 a7 a8 h T e = mag (fn a0) (fn a2) (fn a3) (fn a4) (upper (fn a5)) (fn a7) (fn a8) T (hrow i h) e :=
  congrArg amax (funext fun x => dqAt_eq a0 a2 a3 a4 a5 a7 a8 i x0 hx h _ e)

/-- The row a grid point leaves for one of its heads is that of the heads' weights' gradient. -/
theorem wRow_eq (g : Fin 64) (t : Fin 1024) (hg : g.val / 2 = (i 0).val) :
    wRow i x0 a1 a3 a5 g t = dw (fn a0) (fn a1) (fn a3) (upper (fn a5)) g t := by
  unfold wRow
  rw [wAt_eq a0 a1 a3 a5 i x0 hx]
  refine congrArg (fun g => dw (fn a0) (fn a1) (fn a3) (upper (fn a5)) g t) (Fin.ext ?_)
  show 2 * (i 0).val + g.val % 2 = g.val
  omega

/-- The codes a grid point leaves are its heads'. -/
theorem cBuf_eq (t : Fin 1024) (n : Fin 256) :
    cBuf i x0 a2 a3 a4 a5 a7 a8 (ix2 t n) = dqc (fn a0) (fn a2) (fn a3) (fn a4) (upper (fn a5)) (fn a7) (fn a8) t (hrow i (bh n)) (be n) :=
  congrArg₂ gcode (magAt_eq a0 a2 a3 a4 a5 a7 a8 i x0 hx (bh n) (tg t) (be n)) (dqAt_eq a0 a2 a3 a4 a5 a7 a8 i x0 hx (bh n) t (be n))

/-- The scales a grid point leaves are its heads'. -/
theorem sBuf_eq (T : Fin 8) (n : Fin 256) :
    sBuf i x0 a2 a3 a4 a5 a7 a8 (ix2 T n) = dqs (fn a0) (fn a2) (fn a3) (fn a4) (upper (fn a5)) (fn a7) (fn a8) T (hrow i (bh n)) (be n) :=
  congrArg gscale (magAt_eq a0 a2 a3 a4 a5 a7 a8 i x0 hx (bh n) T (be n))

/-- The projection's weight's gradient a grid point leaves is its heads'. -/
theorem qBuf_eq (r : Fin 1536) (n : Fin 256) :
    qBuf i x0 a2 a3 a4 a5 a6 a7 a8 r n
      = dwq (fn a0) (fn a2) (fn a3) (fn a4) (upper (fn a5)) (fn a6) (fn a7) (fn a8) r (hrow i (bh n)) (be n) := by
  refine Finset.sum_congr rfl fun t _ => congrArg (a6 (ix2 r t) * ·) ?_
  exact congrArg₂ (· * ·) (cBuf_eq a0 a2 a3 a4 a5 a7 a8 i x0 hx t n) (sBuf_eq a0 a2 a3 a4 a5 a7 a8 i x0 hx (tg t) n)

omit hx in
/-- What a token adds to a head's part of a key's gradient. -/
def kterm (g : Fin 64) (s : Fin 1024) (e : Fin 128) (t : Fin 1024) : EReal :=
  gate (dot (fn a3 s) (qcol (fn a0) g t)) (upper (fn a5) s t) * (a1 (ix2 g t) * a2 (ix2 g t)) * qcol (fn a0) g t e

/-- A strip of a head's part of a key's gradient, token by token. -/
theorem kAt_eq (h : Fin 2) (j : Fin 4) (s : Fin 1024) (e : Fin 128) :
    kAt i x0 a1 a2 a3 a5 h j s e = ∑ t : Fin 256, kterm a0 a1 a2 a3 a5 (hrow i h) s e ⟨256 * j.val + t.val, by omega⟩ := by
  unfold kAt kgrad
  refine Finset.sum_congr rfl fun t _ => ?_
  beta_reduce
  rw [qc_eq a0 i x0 hx]
  rfl

/-- The four strips of a head's part of a key's gradient make up its part. -/
theorem kAt_sum (h : Fin 2) (s : Fin 1024) (e : Fin 128) :
    ((kAt i x0 a1 a2 a3 a5 h 0 s e + kAt i x0 a1 a2 a3 a5 h 1 s e) + kAt i x0 a1 a2 a3 a5 h 2 s e) + kAt i x0 a1 a2 a3 a5 h 3 s e
      = dkHead (fn a0) (fn a1) (fn a2) (fn a3) (upper (fn a5)) s e (hrow i h) := by
  rw [kAt_eq a0 a1 a2 a3 a5 i x0 hx, kAt_eq a0 a1 a2 a3 a5 i x0 hx, kAt_eq a0 a1 a2 a3 a5 i x0 hx, kAt_eq a0 a1 a2 a3 a5 i x0 hx]
  exact sum_blocks (kterm a0 a1 a2 a3 a5 (hrow i h) s e)

omit hx in
/-- The heads' parts of a key's gradient, numbered by natural numbers. -/
def kpart (s : Fin 1024) (e : Fin 128) (n : ℕ) : EReal :=
  if h : n < 64 then dkHead (fn a0) (fn a1) (fn a2) (fn a3) (upper (fn a5)) s e ⟨n, h⟩ else 0

omit hx in
/-- The keys' gradient is started from nothing at the first point only. -/
theorem isFirst_iff : isFirst i = 1#1 ↔ (i 0).val = 0 := by
  have : ∀ n : Fin 32, Scalar.cmpi .ne (Scalar.extui (Scalar.cmpi .eq (BitVec.ofNat 32 n.val) 0#32) : BitVec 32) 0#32 = 1#1 ↔ n.val = 0 := by decide
  exact this ⟨(i 0).val, pt_lt i⟩

/-- What a grid point leaves in a key's gradient: what it starts from and its two heads' parts. -/
theorem dkAfter_eq (Y : Vec Ideal S1024x128 .f32) (s : Fin 1024) (e : Fin 128) :
    dkAfter i x0 a1 a2 a3 a5 Y s e
      = (if (i 0).val = 0 then 0 else Y (ix2 s e)) + ∑ j ∈ Finset.range 2, kpart a0 a1 a2 a3 a5 s e (2 * (i 0).val + j) := by
  have hp := pt_lt i
  have h0 : kpart a0 a1 a2 a3 a5 s e (2 * (i 0).val + 0) = dkHead (fn a0) (fn a1) (fn a2) (fn a3) (upper (fn a5)) s e (hrow i 0) := dif_pos (by omega)
  have h1 : kpart a0 a1 a2 a3 a5 s e (2 * (i 0).val + 1) = dkHead (fn a0) (fn a1) (fn a2) (fn a3) (upper (fn a5)) s e (hrow i 1) := dif_pos (by omega)
  have hs : dkStart i Y s e = if (i 0).val = 0 then 0 else Y (ix2 s e) := by
    unfold dkStart
    simp only [isFirst_iff]
  rw [Finset.sum_range_succ, Finset.sum_range_one, h0, h1, ← kAt_sum a0 a1 a2 a3 a5 i x0 hx, ← kAt_sum a0 a1 a2 a3 a5 i x0 hx, ← hs]
  show (((((((_ + _) + _) + _) + _) + _) + _) + _) + _ = _
  simp only [add_assoc]

end Cert.BwdIdeal.Gen

end
-- ==== Proof.Bwd.Final.lean ====
module

public import proofs.«01_k».proof.Proof.Bwd.Point

@[expose] public section

set_option maxRecDepth 16384

/-! The result arrays of the backward kernel over the extended reals: the gradients of the heads' weights and of the
keys, the codes and scales of the queries' gradients, and the gradient of the projection's weight. -/

noncomputable section

namespace Cert.BwdIdeal.Gen

open Idealize.ShloMosaic Idealize.ShloMosaic.TcCoe Idealize.SL.Sem
open Idealize.ShloMosaic.Pipeline (Dat RDat)
open Cert.FwdMath Cert.BwdMath Cert.BwdSpec

variable (m : (ℓ : Loc nD τ sig) → Buf (Elt Ideal) ℓ) (ρ : Dev nD → PrngReg)

/-! ## The input blocks -/

/-- The grid point's number is its coordinate. -/
theorem coord_val : ∀ t : Fin cfg0.N, (grid0.coords t 0).val = t.val :=
  (by decide +kernel : ∀ t : Fin grid0.N, (grid0.coords t 0).val = t.val)

theorem idx_0 : ∀ t : Fin cfg0.N, win0_0.index t 0 = (grid0.coords t 0).val ∧ win0_0.index t 1 = 0 :=
  (by decide +kernel : ∀ t : Fin grid0.N, win0_0.index t 0 = (grid0.coords t 0).val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = 0 ∧ win0_6.index t 1 = 0 :=
  (by decide +kernel : ∀ t : Fin grid0.N, win0_6.index t 0 = 0 ∧ win0_6.index t 1 = 0)
theorem idx_7 : ∀ t : Fin cfg0.N, win0_7.index t 0 = 0 ∧ win0_7.index t 1 = 0 :=
  (by decide +kernel : ∀ t : Fin grid0.N, win0_7.index t 0 = 0 ∧ win0_7.index t 1 = 0)
theorem idx_8 : ∀ t : Fin cfg0.N, win0_8.index t 0 = 0 ∧ win0_8.index t 1 = 0 :=
  (by decide +kernel : ∀ t : Fin grid0.N, win0_8.index t 0 = 0 ∧ win0_8.index t 1 = 0)
theorem idx_11 : ∀ t : Fin cfg0.N, win0_11.index t 0 = 0 ∧ win0_11.index t 1 = (grid0.coords t 0).val :=
  (by decide +kernel : ∀ t : Fin grid0.N, win0_11.index t 0 = 0 ∧ win0_11.index t 1 = (grid0.coords t 0).val)
theorem idx_12 : ∀ t : Fin cfg0.N, win0_12.index t 0 = 0 ∧ win0_12.index t 1 = (grid0.coords t 0).val :=
  (by decide +kernel : ∀ t : Fin grid0.N, win0_12.index t 0 = 0 ∧ win0_12.index t 1 = (grid0.coords t 0).val)
theorem idx_13 : ∀ t : Fin cfg0.N, win0_13.index t 0 = 0 ∧ win0_13.index t 1 = (grid0.coords t 0).val :=
  (by decide +kernel : ∀ t : Fin grid0.N, win0_13.index t 0 = 0 ∧ win0_13.index t 1 = (grid0.coords t 0).val)

/-- The queries' block is 256 rows of the queries. -/
theorem iblk_0 (c : Dev nD) (t : Fin cfg0.N) (r : Fin 256) (k : Fin 1024) :
    (iblk m c 0 t : Vec Ideal S256x1024 .fp8e4m3) (ix2 r k)
      = (V m c main_arg0 : Vec Ideal S8192x1024 .fp8e4m3) (ix2 ⟨256 * (grid0.coords t 0).val + r.val, qrow_lt (grid0.coords t) r⟩ k) := by
  refine congrArg (V m c main_arg0) (funext fun a => Fin.ext ?_)
  match a with
  | 0 => show win0_0.index t (0 : Fin 2) * 256 + 1 * r.val = 256 * (grid0.coords t 0).val + r.val; have := (idx_0 t).1; omega
  | 1 => show win0_0.index t (1 : Fin 2) * 1024 + 1 * k.val = k.val; have := (idx_0 t).2; omega

/-- The scales' block is all of them. -/
theorem iblk_1 (c : Dev nD) (t : Fin cfg0.N) : iblk m c 1 t = V m c main_arg1 := by
  funext j
  refine congrArg (V m c main_arg1) (funext fun a => Fin.ext ?_)
  match a with
  | 0 => show win0_1.index t (0 : Fin 2) * 64 + 1 * (j 0).val = (j 0).val; have := (idx_1 t).1; omega
  | 1 => show win0_1.index t (1 : Fin 2) * 1024 + 1 * (j 1).val = (j 1).val; have := (idx_1 t).2; omega

/-- The head weights' block is all of them. -/
theorem iblk_2 (c : Dev nD) (t : Fin cfg0.N) : iblk m c 2 t = V m c main_arg2 := by
  funext j
  refine congrArg (V m c main_arg2) (funext fun a => Fin.ext ?_)
  match a with
  | 0 => show win0_2.index t (0 : Fin 2) * 64 + 1 * (j 0).val = (j 0).val; have := (idx_2 t).1; omega
  | 1 => show win0_2.index t (1 : Fin 2) * 1024 + 1 * (j 1).val = (j 1).val; have := (idx_2 t).2; omega

/-- The keys' block is all of them. -/
theorem iblk_3 (c : Dev nD) (t : Fin cfg0.N) : iblk m c 3 t = V m c main_arg3 := by
  funext j
  refine congrArg (V m c main_arg3) (funext fun a => Fin.ext ?_)
  match a with
  | 0 => show win0_3.index t (0 : Fin 2) * 1024 + 1 * (j 0).val = (j 0).val; have := (idx_3 t).1; omega
  | 1 => show win0_3.index t (1 : Fin 2) * 128 + 1 * (j 1).val = (j 1).val; have := (idx_3 t).2; omega

/-- The transposed keys' block is all of them. -/
theorem iblk_4 (c : Dev nD) (t : Fin cfg0.N) : iblk m c 4 t = V m c main_arg4 := by
  funext j
  refine congrArg (V m c main_arg4) (funext fun a => Fin.ext ?_)
  match a with
  | 0 => show win0_4.index t (0 : Fin 2) * 128 + 1 * (j 0).val = (j 0).val; have := (idx_4 t).1; omega
  | 1 => show win0_4.index t (1 : Fin 2) * 1024 + 1 * (j 1).val = (j 1).val; have := (idx_4 t).2; omega

/-- The logits' gradient's block is all of it. -/
theorem iblk_5 (c : Dev nD) (t : Fin cfg0.N) : iblk m c 5 t = V m c main_arg5 := by
  funext j
  refine congrArg (V m c main_arg5) (funext fun a => Fin.ext ?_)
  match a with
  | 0 => show win0_5.index t (0 : Fin 2) * 1024 + 1 * (j 0).val = (j 0).val; have := (idx_5 t).1; omega
  | 1 => show win0_5.index t (1 : Fin 2) * 1024 + 1 * (j 1).val = (j 1).val; have := (idx_5 t).2; omega

/-- The projection's inputs' block is all of them. -/
theorem iblk_6 (c : Dev nD) (t : Fin cfg0.N) : iblk m c 6 t = V m c main_arg6 := by
  funext j
  refine congrArg (V m c main_arg6) (funext fun a => Fin.ext ?_)
  match a with
  | 0 => show win0_6.index t (0 : Fin 2) * 1536 + 1 * (j 0).val = (j 0).val; have := (idx_6 t).1; omega
  | 1 => show win0_6.index t (1 : Fin 2) * 1024 + 1 * (j 1).val = (j 1).val; have := (idx_6 t).2; omega

/-- The cosines' block is all of them. -/
theorem iblk_7 (c : Dev nD) (t : Fin cfg0.N) : iblk m c 7 t = V m c main_arg7 := by
  funext j
  refine congrArg (V m c main_arg7) (funext fun a => Fin.ext ?_)
  match a with
  | 0 => show win0_7.index t (0 : Fin 2) * 32 + 1 * (j 0).val = (j 0).val; have := (idx_7 t).1; omega
  | 1 => show win0_7.index t (1 : Fin 2) * 1024 + 1 * (j 1).val = (j 1).val; have := (idx_7 t).2; omega

/-- The sines' block is all of them. -/
theorem iblk_8 (c : Dev nD) (t : Fin cfg0.N) : iblk m c 8 t = V m c main_arg8 := by
  funext j
  refine congrArg (V m c main_arg8) (funext fun a => Fin.ext ?_)
  match a with
  | 0 => show win0_8.index t (0 : Fin 2) * 32 + 1 * (j 0).val = (j 0).val; have := (idx_8 t).1; omega
  | 1 => show win0_8.index t (1 : Fin 2) * 1024 + 1 * (j 1).val = (j 1).val; have := (idx_8 t).2; omega

/-! ## The results as arrays -/

/-- The head of a column of the gradients. -/
def colHead (n : Fin 8192) : Fin 64 := ⟨n.val / 128, by omega⟩
/-- The feature of a column of the gradients. -/
def colFeat (n : Fin 8192) : Fin 128 := ⟨n.val % 128, Nat.mod_lt _ (by decide)⟩

/-- The gradient of the heads' weights. -/
def dwOf (a0 : Vec Ideal S8192x1024 .fp8e4m3) (a1 : Vec Ideal S64x1024 .f32) (a3 : Vec Ideal S1024x128 .fp8e4m3) (a5 : Vec Ideal S1024x1024 .f32) : Vec Ideal S64x1024 .f32 :=
  fun y => dw (fn a0) (fn a1) (fn a3) (upper (fn a5)) (y 0) (y 1)
/-- The gradient of the keys. -/
def dkOf (a0 : Vec Ideal S8192x1024 .fp8e4m3) (a1 : Vec Ideal S64x1024 .f32) (a2 : Vec Ideal S64x1024 .f32) (a3 : Vec Ideal S1024x128 .fp8e4m3) (a5 : Vec Ideal S1024x1024 .f32) : Vec Ideal S1024x128 .f32 :=
  fun y => dk (fn a0) (fn a1) (fn a2) (fn a3) (upper (fn a5)) (y 0) (y 1)
/-- The codes of the queries' gradients. -/
def dqcOf (a0 : Vec Ideal S8192x1024 .fp8e4m3) (a2 : Vec Ideal S64x1024 .f32) (a3 : Vec Ideal S1024x128 .fp8e4m3) (a4 : Vec Ideal S128x1024 .bf16) (a5 : Vec Ideal S1024x1024 .f32) (a7 : Vec Ideal S32x1024 .f32) (a8 : Vec Ideal S32x1024 .f32) : Vec Ideal S1024x8192 .fp8e4m3 :=
  fun y => dqc (fn a0) (fn a2) (fn a3) (fn a4) (upper (fn a5)) (fn a7) (fn a8) (y 0) (colHead (y 1)) (colFeat (y 1))
/-- The scales of the queries' gradients. -/
def dqsOf (a0 : Vec Ideal S8192x1024 .fp8e4m3) (a2 : Vec Ideal S64x1024 .f32) (a3 : Vec Ideal S1024x128 .fp8e4m3) (a4 : Vec Ideal S128x1024 .bf16) (a5 : Vec Ideal S1024x1024 .f32) (a7 : Vec Ideal S32x1024 .f32) (a8 : Vec Ideal S32x1024 .f32) : Vec Ideal S8x8192 .f32 :=
  fun y => dqs (fn a0) (fn a2) (fn a3) (fn a4) (upper (fn a5)) (fn a7) (fn a8) (y 0) (colHead (y 1)) (colFeat (y 1))
/-- The gradient of the projection's weight. -/
def dwqOf (a0 : Vec Ideal S8192x1024 .fp8e4m3) (a2 : Vec Ideal S64x1024 .f32) (a3 : Vec Ideal S1024x128 .fp8e4m3) (a4 : Vec Ideal S128x1024 .bf16) (a5 : Vec Ideal S1024x1024 .f32) (a6 : Vec Ideal S1536x1024 .bf16) (a7 : Vec Ideal S32x1024 .f32) (a8 : Vec Ideal S32x1024 .f32) : Vec Ideal S1536x8192 .f32 :=
  fun y => dwq (fn a0) (fn a2) (fn a3) (fn a4) (upper (fn a5)) (fn a6) (fn a7) (fn a8) (y 0) (colHead (y 1)) (colFeat (y 1))

/-- A column of a grid point's block is a column of the gradients. -/
theorem qcol_lt (i : grid0.Coords) (n : Fin 256) : 256 * (i 0).val + n.val < 8192 := by have := pt_lt i; omega

theorem colHead_block (i : grid0.Coords) (n : Fin 256) : colHead ⟨256 * (i 0).val + n.val, qcol_lt i n⟩ = hrow i (bh n) :=
  Fin.ext (by show (256 * (i 0).val + n.val) / 128 = 2 * (i 0).val + n.val / 128; omega)
theorem colFeat_block (i : grid0.Coords) (n : Fin 256) : colFeat ⟨256 * (i 0).val + n.val, qcol_lt i n⟩ = be n :=
  Fin.ext (by show (256 * (i 0).val + n.val) % 128 = n.val % 128; omega)

/-! ## What the points leave -/

/-- The heads' parts of a key's gradient, of the launch's arguments. -/
def kpartM (c : Dev nD) : Fin 1024 → Fin 128 → ℕ → EReal :=
  kpart (V m c main_arg0) (V m c main_arg1) (V m c main_arg2) (V m c main_arg3) (V m c main_arg5)

/-- The block of the codes after a point. -/
theorem leaves11 (c : Dev nD) (t : Fin cfg0.N) (X) (h : (rdat m c).Leaves 11 t X) (r : Fin 1024) (n : Fin 256) :
    (X : Vec Ideal S1024x256 .fp8e4m3) (ix2 r n) = dqcOf (V m c main_arg0) (V m c main_arg2) (V m c main_arg3) (V m c main_arg4) (V m c main_arg5) (V m c main_arg7) (V m c main_arg8) (ix2 (n0 := 1024) (n1 := 8192) r ⟨256 * (grid0.coords t 0).val + n.val, qcol_lt (grid0.coords t) n⟩) := by
  obtain ⟨Y, -, hr⟩ := h
  have hr : rel11 m c t X := hr
  rw [hr, iblk_2, iblk_3, iblk_4, iblk_5, iblk_7, iblk_8, cBuf_eq _ _ _ _ _ _ _ _ _ (iblk_0 m c t)]
  simp only [dqcOf, ix2_0, ix2_1, colHead_block, colFeat_block]

/-- The block of the scales after a point. -/
theorem leaves12 (c : Dev nD) (t : Fin cfg0.N) (X) (h : (rdat m c).Leaves 12 t X) (r : Fin 8) (n : Fin 256) :
    (X : Vec Ideal S8x256 .f32) (ix2 r n) = dqsOf (V m c main_arg0) (V m c main_arg2) (V m c main_arg3) (V m c main_arg4) (V m c main_arg5) (V m c main_arg7) (V m c main_arg8) (ix2 (n0 := 8) (n1 := 8192) r ⟨256 * (grid0.coords t 0).val + n.val, qcol_lt (grid0.coords t) n⟩) := by
  obtain ⟨Y, -, hr⟩ := h
  have hr : rel12 m c t X := hr
  rw [hr, iblk_2, iblk_3, iblk_4, iblk_5, iblk_7, iblk_8, sBuf_eq _ _ _ _ _ _ _ _ _ (iblk_0 m c t)]
  simp only [dqsOf, ix2_0, ix2_1, colHead_block, colFeat_block]

/-- The block of the projection's weight's gradient after a point. -/
theorem leaves13 (c : Dev nD) (t : Fin cfg0.N) (X) (h : (rdat m c).Leaves 13 t X) (r : Fin 1536) (n : Fin 256) :
    (X : Vec Ideal S1536x256 .f32) (ix2 r n) = dwqOf (V m c main_arg0) (V m c main_arg2) (V m c main_arg3) (V m c main_arg4) (V m c main_arg5) (V m c main_arg6) (V m c main_arg7) (V m c main_arg8) (ix2 (n0 := 1536) (n1 := 8192) r ⟨256 * (grid0.coords t 0).val + n.val, qcol_lt (grid0.coords t) n⟩) := by
  obtain ⟨Y, -, hr⟩ := h
  have hr : rel13 m c t X := hr
  rw [hr, iblk_2, iblk_3, iblk_4, iblk_5, iblk_6, iblk_7, iblk_8, qBuf_eq _ _ _ _ _ _ _ _ _ _ (iblk_0 m c t)]
  simp only [dwqOf, ix2_0, ix2_1, colHead_block, colFeat_block]

/-- After a point the weights' gradients of its heads and of all heads before are in place. -/
theorem leaves9 (c : Dev nD) : ∀ (n : ℕ) (t : Fin cfg0.N), t.val = n → ∀ X, (rdat m c).Leaves 9 t X → ∀ (g : Fin 64) (k : Fin 1024), g.val / 2 ≤ n →
    (X : Vec Ideal S64x1024 .f32) (ix2 g k) = dwOf (V m c main_arg0) (V m c main_arg1) (V m c main_arg3) (V m c main_arg5) (ix2 g k) := by
  have step : ∀ (t : Fin cfg0.N) (Y X), rel9 m c t Y X → ∀ (g : Fin 64) (k : Fin 1024), (X : Vec Ideal S64x1024 .f32) (ix2 g k)
      = if g.val / 2 = t.val then dwOf (V m c main_arg0) (V m c main_arg1) (V m c main_arg3) (V m c main_arg5) (ix2 g k) else Y (ix2 g k) := fun t Y X hr g k => by
    have hc := coord_val t
    rw [hr, hc]
    refine if_ctx_congr Iff.rfl (fun hg => ?_) fun _ => rfl
    rw [iblk_1, iblk_3, iblk_5]
    exact wRow_eq _ _ _ _ _ _ (iblk_0 m c t) g k (hg.trans hc.symm)
  intro n
  induction n with
  | zero =>
    rintro t ht X ⟨Y, -, hr⟩ g k hg
    exact (step t Y X hr g k).trans (if_pos (by omega))
  | succ n ih =>
    rintro t ht X ⟨Y, hY, hr⟩ g k hg
    refine (step t Y X hr g k).trans ?_
    by_cases hg' : g.val / 2 = t.val
    · rw [if_pos hg']
    · rw [if_neg hg']
      have hN : t.val < 32 := t.isLt
      rcases ((rdat m c).finds_of_pos ((cfg0.win 9).fetch_out rfl _) (by omega) Y).mp hY with hf | hL
      · have := (flush0_9 _).mp hf
        have : (t.val - 1) % 32 = 31 := this
        omega
      · exact ih _ (by show t.val - 1 = n; omega) Y hL g k (by omega)

/-- After a point the keys' gradient holds the parts of its heads and of all heads before. -/
theorem leaves10 (c : Dev nD) (s : Fin 1024) (e : Fin 128) : ∀ (n : ℕ) (t : Fin cfg0.N), t.val = n → ∀ X, (rdat m c).Leaves 10 t X →
    (X : Vec Ideal S1024x128 .f32) (ix2 s e) = ∑ j ∈ Finset.range (2 * n + 2), kpartM m c s e j := by
  have step : ∀ (t : Fin cfg0.N) (Y X), rel10 m c t Y X → (X : Vec Ideal S1024x128 .f32) (ix2 s e)
      = (if t.val = 0 then 0 else Y (ix2 s e)) + ∑ j ∈ Finset.range 2, kpartM m c s e (2 * t.val + j) := fun t Y X hr => by
    rw [hr s e, iblk_1, iblk_2, iblk_3, iblk_5, ← coord_val t]
    exact dkAfter_eq _ _ _ _ _ _ _ (iblk_0 m c t) Y s e
  intro n
  induction n with
  | zero =>
    rintro t ht X ⟨Y, -, hr⟩
    rw [step t Y X hr, if_pos ht, ht, zero_add]
    simp only [Nat.mul_zero, Nat.zero_add]
  | succ n ih =>
    rintro t ht X ⟨Y, hY, hr⟩
    have hN : t.val < 32 := t.isLt
    rw [step t Y X hr, if_neg (by omega)]
    rcases ((rdat m c).finds_of_pos ((cfg0.win 10).fetch_out rfl _) (by omega) Y).mp hY with hf | hL
    · have := (flush0_10 _).mp hf
      have : (t.val - 1) % 32 = 31 := this
      omega
    · rw [ih _ (by show t.val - 1 = n; omega) Y hL, ht]
      exact (Finset.sum_range_add (kpartM m c s e) (2 * n + 2) 2).symm

/-! ## The result arrays -/

/-- The last grid point. -/
abbrev last : Fin cfg0.N := (⟨31, by decide⟩ : Fin grid0.N)

theorem whole9 : (cfg0.win 9).WholeAt last := (by decide +kernel : win0_9.WholeAt ⟨31, by decide⟩)
theorem whole10 : (cfg0.win 10).WholeAt last := (by decide +kernel : win0_10.WholeAt ⟨31, by decide⟩)

/-- The heads' weights' gradient's array after the run. -/
theorem final9 (c : Dev nD) (after) (h : ∀ u : Fin cfg0.N, (cfg0.win 9).flush u = true → (rdat m c).Leaves 9 u (after 9 u)) :
    ((rdat m c).withAfter after).arrAt 9 cfg0.N = dwOf (V m c main_arg0) (V m c main_arg1) (V m c main_arg3) (V m c main_arg5) := by
  refine ((rdat m c).withAfter after).arrAt_eq_of_after_last 9 last whole9 (dwOf (V m c main_arg0) (V m c main_arg1) (V m c main_arg3) (V m c main_arg5)) fun y => ?_
  obtain ⟨g, k, rfl⟩ : ∃ (r : Fin 64) (k : Fin 1024), y = ix2 r k := ⟨y 0, y 1, (ix2_eta y).symm⟩
  exact leaves9 m c 31 last rfl _ (h last whole9.1) g k (by omega)

/-- The keys' gradient's array after the run. -/
theorem final10 (c : Dev nD) (after) (h : ∀ u : Fin cfg0.N, (cfg0.win 10).flush u = true → (rdat m c).Leaves 10 u (after 10 u)) :
    ((rdat m c).withAfter after).arrAt 10 cfg0.N = dkOf (V m c main_arg0) (V m c main_arg1) (V m c main_arg2) (V m c main_arg3) (V m c main_arg5) := by
  refine ((rdat m c).withAfter after).arrAt_eq_of_after_last 10 last whole10 (dkOf (V m c main_arg0) (V m c main_arg1) (V m c main_arg2) (V m c main_arg3) (V m c main_arg5)) fun y => ?_
  obtain ⟨s, e, rfl⟩ : ∃ (r : Fin 1024) (k : Fin 128), y = ix2 r k := ⟨y 0, y 1, (ix2_eta y).symm⟩
  refine (leaves10 m c s e 31 last rfl _ (h last whole10.1)).trans ?_
  exact (Finset.sum_range (kpartM m c s e)).trans (Finset.sum_congr rfl fun g _ => dif_pos g.isLt)

/-- The array of the codes after the run. -/
theorem final11 (c : Dev nD) (after) (h : ∀ u : Fin cfg0.N, (cfg0.win 11).flush u = true → (rdat m c).Leaves 11 u (after 11 u)) :
    ((rdat m c).withAfter after).arrAt 11 cfg0.N = dqcOf (V m c main_arg0) (V m c main_arg2) (V m c main_arg3) (V m c main_arg4) (V m c main_arg5) (V m c main_arg7) (V m c main_arg8) := by
  refine ((rdat m c).withAfter after).arrAt_eq_of_covers 11 (dqcOf (V m c main_arg0) (V m c main_arg2) (V m c main_arg3) (V m c main_arg4) (V m c main_arg5) (V m c main_arg7) (V m c main_arg8)) (by decide +kernel) fun t hf y => ?_
  obtain ⟨r, n, rfl⟩ : ∃ (r : Fin 1024) (n : Fin 256), y = ix2 r n := ⟨y 0, y 1, (ix2_eta y).symm⟩
  refine (leaves11 m c t _ (h t hf) r n).trans (congrArg (dqcOf (V m c main_arg0) (V m c main_arg2) (V m c main_arg3) (V m c main_arg4) (V m c main_arg5) (V m c main_arg7) (V m c main_arg8)) (funext fun a => Fin.ext ?_))
  match a with
  | 0 => show r.val = win0_11.index t (0 : Fin 2) * 1024 + 1 * r.val; have := (idx_11 t).1; omega
  | 1 => show 256 * (grid0.coords t 0).val + n.val = win0_11.index t (1 : Fin 2) * 256 + 1 * n.val; have := (idx_11 t).2; omega

/-- The array of the scales after the run. -/
theorem final12 (c : Dev nD) (after) (h : ∀ u : Fin cfg0.N, (cfg0.win 12).flush u = true → (rdat m c).Leaves 12 u (after 12 u)) :
    ((rdat m c).withAfter after).arrAt 12 cfg0.N = dqsOf (V m c main_arg0) (V m c main_arg2) (V m c main_arg3) (V m c main_arg4) (V m c main_arg5) (V m c main_arg7) (V m c main_arg8) := by
  refine ((rdat m c).withAfter after).arrAt_eq_of_covers 12 (dqsOf (V m c main_arg0) (V m c main_arg2) (V m c main_arg3) (V m c main_arg4) (V m c main_arg5) (V m c main_arg7) (V m c main_arg8)) (by decide +kernel) fun t hf y => ?_
  obtain ⟨r, n, rfl⟩ : ∃ (r : Fin 8) (n : Fin 256), y = ix2 r n := ⟨y 0, y 1, (ix2_eta y).symm⟩
  refine (leaves12 m c t _ (h t hf) r n).trans (congrArg (dqsOf (V m c main_arg0) (V m c main_arg2) (V m c main_arg3) (V m c main_arg4) (V m c main_arg5) (V m c main_arg7) (V m c main_arg8)) (funext fun a => Fin.ext ?_))
  match a with
  | 0 => show r.val = win0_12.index t (0 : Fin 2) * 8 + 1 * r.val; have := (idx_12 t).1; omega
  | 1 => show 256 * (grid0.coords t 0).val + n.val = win0_12.index t (1 : Fin 2) * 256 + 1 * n.val; have := (idx_12 t).2; omega

/-- The array of the projection's weight's gradient after the run. -/
theorem final13 (c : Dev nD) (after) (h : ∀ u : Fin cfg0.N, (cfg0.win 13).flush u = true → (rdat m c).Leaves 13 u (after 13 u)) :
    ((rdat m c).withAfter after).arrAt 13 cfg0.N = dwqOf (V m c main_arg0) (V m c main_arg2) (V m c main_arg3) (V m c main_arg4) (V m c main_arg5) (V m c main_arg6) (V m c main_arg7) (V m c main_arg8) := by
  refine ((rdat m c).withAfter after).arrAt_eq_of_covers 13 (dwqOf (V m c main_arg0) (V m c main_arg2) (V m c main_arg3) (V m c main_arg4) (V m c main_arg5) (V m c main_arg6) (V m c main_arg7) (V m c main_arg8)) (by decide +kernel) fun t hf y => ?_
  obtain ⟨r, n, rfl⟩ : ∃ (r : Fin 1536) (n : Fin 256), y = ix2 r n := ⟨y 0, y 1, (ix2_eta y).symm⟩
  refine (leaves13 m c t _ (h t hf) r n).trans (congrArg (dwqOf (V m c main_arg0) (V m c main_arg2) (V m c main_arg3) (V m c main_arg4) (V m c main_arg5) (V m c main_arg6) (V m c main_arg7) (V m c main_arg8)) (funext fun a => Fin.ext ?_))
  match a with
  | 0 => show r.val = win0_13.index t (0 : Fin 2) * 1536 + 1 * r.val; have := (idx_13 t).1; omega
  | 1 => show 256 * (grid0.coords t 0).val + n.val = win0_13.index t (1 : Fin 2) * 256 + 1 * n.val; have := (idx_13 t).2; omega

/-- Every run of the backward kernel over the extended reals ends with the five gradients of its arguments, the logits'
    gradient read without its part below the diagonal blocks, and with the arguments unchanged. -/
theorem kernel_run : θ_run defs (onTc (τ := τ) (main (F := Ideal))) ⟨m, fun _ => 0, ρ⟩ (fun r => ∀ c : Dev nD,
      r.2.mem ((c.tc : Thread nD τ).loc main_v0_0) = dwOf (m ((c.tc : Thread nD τ).loc main_arg0)) (m ((c.tc : Thread nD τ).loc main_arg1)) (m ((c.tc : Thread nD τ).loc main_arg3)) (m ((c.tc : Thread nD τ).loc main_arg5))
      ∧ r.2.mem ((c.tc : Thread nD τ).loc main_v0_1) = dkOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v0_2) = dqcOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))
      ∧ r.2.mem ((c.tc : Thread nD τ).loc main_v0_3) = dqsOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))
      ∧ r.2.mem ((c.tc : Thread nD τ).loc main_v0_4) = dwqOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_main m ρ)
  obtain ⟨after, hL, hA⟩ := Pipeline.RDat.FramePost.exists_exact h.1 c
  have e9 := (hA 9).trans (final9 m c after (hL 9))
  rw [V_main_arg0, V_main_arg1, V_main_arg3, V_main_arg5] at e9
  have e10 := (hA 10).trans (final10 m c after (hL 10))
  rw [V_main_arg0, V_main_arg1, V_main_arg2, V_main_arg3, V_main_arg5] at e10
  have e11 := (hA 11).trans (final11 m c after (hL 11))
  rw [V_main_arg0, V_main_arg2, V_main_arg3, V_main_arg4, V_main_arg5, V_main_arg7, V_main_arg8] at e11
  have e12 := (hA 12).trans (final12 m c after (hL 12))
  rw [V_main_arg0, V_main_arg2, V_main_arg3, V_main_arg4, V_main_arg5, V_main_arg7, V_main_arg8] at e12
  have e13 := (hA 13).trans (final13 m c after (hL 13))
  rw [V_main_arg0, V_main_arg2, V_main_arg3, V_main_arg4, V_main_arg5, V_main_arg6, V_main_arg7, V_main_arg8] at e13
  exact ⟨e9, e10, e11, e12, e13,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c))⟩

end Cert.BwdIdeal.Gen

end
-- ==== Proof.Bwd.Reference.lean ====
module

public import proofs.«01_k».proof.Proof.Bwd.Spec
public import proofs.«01_k».proof.Proof.Gen.BwdRefIdeal.Value

@[expose] public section

set_option maxRecDepth 16384

/-! What the reference of the backward pass computes over the extended reals, where every query scale is positive and
finite: the functions of Spec. -/

noncomputable section

namespace Cert.BwdRefIdeal.Read

open Cert.BwdRefIdeal Cert.BwdRefIdeal.Gen Idealize.ShloMosaic Idealize.ShloMosaic.TcCoe
open Cert.FwdMath Cert.BwdMath

variable (a0 : Vec Ideal S8192x1024 .fp8e4m3) (a1 a2 : Vec Ideal S64x1024 .f32) (a3 : Vec Ideal S1024x128 .fp8e4m3)
  (a4 : Vec Ideal S128x1024 .bf16) (a5 : Vec Ideal S1024x1024 .f32) (a6 : Vec Ideal S1536x1024 .bf16) (a7 a8 : Vec Ideal S32x1024 .f32)

/-- A positive finite factor does not change whether a product is positive. -/
theorem mul_pos_iff {z f : EReal} (h0 : 0 < f) : z * f > 0 ↔ z > 0 := by
  constructor
  · intro h
    by_contra hz
    exact absurd (mul_nonpos_of_nonpos_of_nonneg (not_lt.1 hz) h0.le) (not_le.2 h)
  · intro h; exact EReal.mul_pos h h0

/-- A sum of products by one finite positive factor. -/
theorem sum_mul_finite {ι : Type} [Fintype ι] (f : EReal) (h0 : 0 < f) (h1 : f < ⊤) (a : ι → EReal) : (∑ s, a s * f) = (∑ s, a s) * f := by
  classical
  refine Finset.induction_on (Finset.univ : Finset ι) (by simp) fun s S hs ih => ?_
  rw [Finset.sum_insert hs, Finset.sum_insert hs, ih, EReal.right_distrib_of_nonneg_of_ne_top h0.le h1.ne]

/-- A term of the weight's gradient. -/
theorem wterm {z f d : EReal} (h0 : 0 < f) : d * max (z * f) 0 = gate z d * z * f := by
  unfold gate
  by_cases hz : z > 0
  · rw [if_pos hz, max_eq_left ((mul_pos_iff h0).2 hz).le, mul_assoc]
  · rw [if_neg hz, max_eq_right (mul_nonpos_of_nonpos_of_nonneg (not_lt.1 hz) h0.le), mul_zero, zero_mul, zero_mul]

/-- A gated gradient times the head's weight. -/
theorem gterm {z f d w : EReal} (h0 : 0 < f) : (if z * f > 0 then d * w else 0) = gate z d * w := by
  unfold gate
  by_cases hz : z > 0
  · rw [if_pos hz, if_pos ((mul_pos_iff h0).2 hz)]
  · rw [if_neg hz, if_neg (fun h => hz ((mul_pos_iff h0).1 h)), zero_mul]

/-- A score, with the query's scale. -/
theorem pay8_at (g : Fin 64) (s t : Fin 1024) :
    k0_pay8 (F := Ideal) a0 a1 a3 (ix3 g s t)
      = ((∑ x : Fin 128, a3 (ix2 s x) * a0 (ix2 (n0 := 8192) (n1 := 1024) ⟨g.val * 128 + x.val, by omega⟩ t)) * a1 (ix2 g t) : EReal) := by
  pointwise [k0_pay8, k0_pay7, k0_pay5]

/-- The weight's gradient, of any scores. -/
theorem pay9_at (g : Fin 64) (t : Fin 1024) :
    k0_pay9 (F := Ideal) a0 a5 a1 a3 (ix2 g t) = (∑ s, a5 (ix2 s t) * max (k0_pay8 (F := Ideal) a0 a1 a3 (ix3 g s t)) 0 : EReal) := by
  pointwise [k0_pay9, k0_pay6]

/-- The gated gradients. -/
theorem pay10_at (g : Fin 64) (s t : Fin 1024) :
    k0_pay10 (F := Ideal) a0 a5 a1 a3 a2 (ix3 g s t)
      = (if k0_pay8 (F := Ideal) a0 a1 a3 (ix3 g s t) > 0 then a5 (ix2 s t) * a2 (ix2 g t) else 0 : EReal) := by
  pointwise [k0_pay10, k0_pay6]

/-- The keys' gradient. -/
theorem pay11_at (s : Fin 1024) (e : Fin 128) :
    k0_pay11 (F := Ideal) a0 a5 a1 a3 a2 (ix2 s e)
      = (∑ g : Fin 64, ∑ t : Fin 1024, k0_pay10 (F := Ideal) a0 a5 a1 a3 a2 (ix3 g s t) * a1 (ix2 g t)
          * a0 (ix2 (n0 := 8192) (n1 := 1024) ⟨g.val * 128 + e.val, by omega⟩ t) : EReal) := by
  pointwise [k0_pay11, k0_pay7, k0_pay5]

/-- The queries' gradient before the rotary embedding is undone, of any gated gradients. -/
def contracted (v27 : FVec Ideal S64x1024x1024 .f32) (v35 : Vec Ideal S128x1024 .bf16) : FVec Ideal S64x128x1024 .f32 :=
  matmul (F := Ideal) (φ₁ := .bf16) (φ₂ := .bf16) dot_S64x128x1024_S64x1024x1024_S64x128x1024_2_1_1_2_0_0 none
    (broadcastTo S64x128x1024 (shapeCast S1x128x1024 (shapeCast S1x128x1024 v35 shapeCasts_S128x1024_S1x128x1024) shapeCasts_S1x128x1024_S1x128x1024) broadcasts_S1x128x1024_S64x128x1024)
    (truncf .bf16 v27 bitsLt_bf16_f32) (constant S64x128x1024 .f32 0x00000000#32)

/-- The rotary embedding undone. -/
def unrotated (v40 : FVec Ideal S64x128x1024 .f32) (v41 v43 : Vec Ideal S32x1024 .f32) : FVec Ideal S64x128x1024 .f32 :=
  have v42 : FVec Ideal S1x32x1024 .f32 := shapeCast S1x32x1024 v41 shapeCasts_S32x1024_S1x32x1024
  have v44 : FVec Ideal S1x32x1024 .f32 := shapeCast S1x32x1024 v43 shapeCasts_S32x1024_S1x32x1024
  have v45 : FVec Ideal S64x32x1024 .f32 := extractStridedSlice S64x32x1024 ![0, 0, 0] v40 slices_S64x128x1024_o0_0_0_S64x32x1024
  have v46 : FVec Ideal S64x32x1024 .f32 := extractStridedSlice S64x32x1024 ![0, 32, 0] v40 slices_S64x128x1024_o0_32_0_S64x32x1024
  have v47 : FVec Ideal S64x32x1024 .f32 := broadcastTo S64x32x1024 v42 broadcasts_S1x32x1024_S64x32x1024
  have v49 : FVec Ideal S64x32x1024 .f32 := broadcastTo S64x32x1024 v44 broadcasts_S1x32x1024_S64x32x1024
  have v51 : FVec Ideal S64x32x1024 .f32 := addf (mulf v45 v47) (mulf v46 v49)
  have v56 : FVec Ideal S64x32x1024 .f32 := subf (mulf v46 v47) (mulf v45 v49)
  have v57 : FVec Ideal S64x64x1024 .f32 := extractStridedSlice S64x64x1024 ![0, 64, 0] v40 slices_S64x128x1024_o0_64_0_S64x64x1024
  concatenate S64x128x1024 1 [⟨S64x32x1024, v51⟩, ⟨S64x32x1024, v56⟩, ⟨S64x64x1024, v57⟩] concatenates_S64x32x1024_S64x32x1024_S64x64x1024_S64x128x1024_d1

/-- Tokens in groups of 128, then the features of all heads. -/
def grouped (v58 : FVec Ideal S64x128x1024 .f32) : FVec Ideal S8x128x8192 .f32 :=
  shapeCast S8x128x8192 (transpose S1024x8192 [1, 0] (shapeCast S8192x1024 v58 shapeCasts_S64x128x1024_S8192x1024) transposes_S8192x1024_p1_0_S1024x8192)
    shapeCasts_S1024x8192_S8x128x8192

/-- The reference's gradients in these steps. -/
theorem pay12_eq (v27 : FVec Ideal S64x1024x1024 .f32) : k0_pay12 (F := Ideal) v27 a4 a7 a8 = grouped (unrotated (contracted v27 a4) a7 a8) := rfl

theorem contracted_at (v27 : FVec Ideal S64x1024x1024 .f32) (g : Fin 64) (e : Fin 128) (t : Fin 1024) :
    contracted v27 a4 (ix3 g e t) = (∑ s, a4 (ix2 e s) * v27 (ix3 g s t) : EReal) := by
  pointwise [contracted]

theorem unrotated_at (u : FVec Ideal S64x128x1024 .f32) (g : Fin 64) (e : Fin 128) (t : Fin 1024) :
    unrotated u a7 a8 (ix3 g e t) = ropeInv (fun e => u (ix3 g e t)) (fun r => a7 (ix2 r t)) (fun r => a8 (ix2 r t)) e := by
  pointwise [unrotated, ropeInv]

theorem grouped_at (v : FVec Ideal S64x128x1024 .f32) (T : Fin 8) (x : Fin 128) (n : Fin 8192) :
    grouped v (ix3 T x n) = v (ix3 (n0 := 64) (n1 := 128) (n2 := 1024) ⟨n.val / 128, by omega⟩ ⟨n.val % 128, Nat.mod_lt _ (by decide)⟩ ⟨T.val * 128 + x.val, by omega⟩) := by
  pointwise [grouped]

/-- The largest magnitude of each feature in each group. -/
def maxes (v : FVec Ideal S8x128x8192 .f32) : FVec Ideal S8x8192 .f32 :=
  multiReduction (F := Ideal) .maximumf [1] S8x8192 (absf v) 0xFF800000#32 reduces_S8x128x8192_S8x8192 (.inl rfl) rfl

/-- The same with a middle axis of one. -/
def spread (v : FVec Ideal S8x8192 .f32) : FVec Ideal S8x1x8192 .f32 := shapeCast S8x1x8192 v shapeCasts_S8x8192_S8x1x8192

/-- The powers of two from 2^-126 on. -/
def powers : FVec Ideal S8x248x8192 .f32 :=
  exp2 (sitofp .f32 (subi (iota .tc S8x248x8192 32 [1] iota_S8x248x8192_d1_w32) (broadcast S8x248x8192 126#32)))

/-- Those above a magnitude, the last one elsewhere. -/
def above (p : FVec Ideal S8x248x8192 .f32) (v : FVec Ideal S8x1x8192 .f32) : FVec Ideal S8x248x8192 .f32 :=
  select (cmpf .ogt p (broadcastTo S8x248x8192 v broadcasts_S8x1x8192_S8x248x8192)) p (broadcast S8x248x8192 (Scalar.ofBits (F := Ideal) .f32 0x7C000000#32))

/-- The least of them. -/
def least (p : FVec Ideal S8x248x8192 .f32) : FVec Ideal S8x8192 .f32 :=
  multiReduction (F := Ideal) .minimumf [1] S8x8192 p 0x7F800000#32 reduces_S8x248x8192_S8x8192 (.inl rfl) rfl

/-- A magnitude over 448. -/
def over (v : FVec Ideal S8x1x8192 .f32) : FVec Ideal S8x1x8192 .f32 := mulf v (broadcast S8x1x8192 (Scalar.ofBits (F := Ideal) .f32 0x3B124925#32))

/-- A scale, 1 for a magnitude of zero. -/
def orOne (v l : FVec Ideal S8x1x8192 .f32) : FVec Ideal S8x1x8192 .f32 :=
  select (cmpf .oeq v (broadcast S8x1x8192 (Scalar.ofBits (F := Ideal) .f32 0x00000000#32))) (broadcast S8x1x8192 (Scalar.ofBits (F := Ideal) .f32 0x3F800000#32)) l

/-- The reference's scales in these steps. -/
theorem pay13_eq (v27 : FVec Ideal S64x1024x1024 .f32) :
    k0_pay13 (F := Ideal) v27 a4 a7 a8 = orOne (spread (maxes (k0_pay12 (F := Ideal) v27 a4 a7 a8)))
      (spread (least (above powers (over (spread (maxes (k0_pay12 (F := Ideal) v27 a4 a7 a8))))))) := rfl

theorem maxes_at (v : FVec Ideal S8x128x8192 .f32) (T : Fin 8) (n : Fin 8192) : maxes v (ix2 T n) = amax (fun x => v (ix3 T x n)) := by
  pointwise [maxes, amax]

theorem spread_at (v : FVec Ideal S8x8192 .f32) (T : Fin 8) (n : Fin 8192) : spread v (ix3 T 0 n) = v (ix2 T n) := by
  pointwise [spread]

theorem above_at (p : FVec Ideal S8x248x8192 .f32) (v : FVec Ideal S8x1x8192 .f32) (T : Fin 8) (j : Fin 248) (n : Fin 8192) :
    above p v (ix3 T j n) = (if v (ix3 T 0 n) < p (ix3 T j n) then p (ix3 T j n) else Ideal.ofBits .f32 0x7C000000#32 : EReal) := by
  pointwise [above]

theorem least_at (p : FVec Ideal S8x248x8192 .f32) (T : Fin 8) (n : Fin 8192) :
    least p (ix2 T n) = Finset.fold min (Ideal.ofBits .f32 0x7F800000#32) (fun j => p (ix3 T j n)) Finset.univ := by
  pointwise [least]

theorem over_at (v : FVec Ideal S8x1x8192 .f32) (T : Fin 8) (n : Fin 8192) :
    over v (ix3 T 0 n) = (v (ix3 T 0 n) * Ideal.ofBits .f32 0x3B124925#32 : EReal) := by
  pointwise [over]

theorem orOne_at (v l : FVec Ideal S8x1x8192 .f32) (T : Fin 8) (n : Fin 8192) :
    orOne v l (ix3 T 0 n) = (if v (ix3 T 0 n) = 0 then 1 else l (ix3 T 0 n) : EReal) := by
  pointwise [orOne]

/-- A power of two of an integer exponent. -/
theorem exp2_int (z : ℤ) : Ideal.exp2 ((z : ℝ) : EReal) = pw z := by
  rw [Ideal.exp2_coe]
  exact congrArg _ (Real.rpow_intCast 2 z)

theorem exponent : ∀ j : Fin 248, (IntOp.subi (BitVec.ofNat 32 j.val) 126#32).toInt = (j.val : ℤ) - 126 := by decide +kernel

theorem powers_at (T : Fin 8) (j : Fin 248) (n : Fin 8192) : powers (ix3 T j n) = pw ((j.val : ℤ) - 126) := by
  have h : powers (ix3 T j n) = FloatOps.exp2 (F := Ideal) (φ := .f32) (FloatOps.sitofp (F := Ideal) .f32 (IntOp.subi (BitVec.ofNat 32 j.val) 126#32)) := by
    pointwise [powers]
  rw [h, ← exponent j]
  exact exp2_int _

theorem pay14_at (v27 : FVec Ideal S64x1024x1024 .f32) (T : Fin 8) (x : Fin 128) (n : Fin 8192) :
    k0_pay14 (F := Ideal) v27 a4 a7 a8 (ix3 T x n) = k0_pay13 (F := Ideal) v27 a4 a7 a8 (ix3 T 0 n) := by
  pointwise [k0_pay14]

/-- The codes. -/
theorem pay2_at (v61 v82 : FVec Ideal S8x128x8192 .f32) (t : Fin 1024) (n : Fin 8192) :
    k0_pay2 (F := Ideal) v61 v82 (ix2 t n) = k0_pay1 (F := Ideal) v61 v82 (ix3 (n0 := 8) (n1 := 128) (n2 := 8192) ⟨t.val / 128, by omega⟩ ⟨t.val % 128, Nat.mod_lt _ (by decide)⟩ n) := by
  pointwise [k0_pay2]

theorem pay1_at (v61 v82 : FVec Ideal S8x128x8192 .f32) (T : Fin 8) (x : Fin 128) (n : Fin 8192) :
    k0_pay1 (F := Ideal) v61 v82 (ix3 T x n) = min (Ideal.ofBits .f32 0x43E00000#32) (max (Ideal.ofBits .f32 0xC3E00000#32) (Ideal.div (v61 (ix3 T x n)) (v82 (ix3 T x n)))) := by
  pointwise [k0_pay1]

/-- The scales as rows. -/
theorem pay3_at (v : FVec Ideal S8x1x8192 .f32) (T : Fin 8) (n : Fin 8192) : k0_pay3 (F := Ideal) v (ix2 T n) = v (ix3 T 0 n) := by
  pointwise [k0_pay3]

/-- The gradient of the projection's weight. -/
theorem pay4_at (v61 v82 : FVec Ideal S8x128x8192 .f32) (v81 : FVec Ideal S8x1x8192 .f32) (r : Fin 1536) (n : Fin 8192) :
    k0_pay4 (F := Ideal) v61 v81 v82 a6 (ix2 r n)
      = (∑ t : Fin 1024, a6 (ix2 r t) * (k0_pay1 (F := Ideal) v61 v82 (ix3 (n0 := 8) (n1 := 128) (n2 := 8192) ⟨t.val / 128, by omega⟩ ⟨t.val % 128, Nat.mod_lt _ (by decide)⟩ n)
          * v81 (ix3 (n0 := 8) (n1 := 1) (n2 := 8192) ⟨t.val / 128, by omega⟩ 0 n)) : EReal) := by
  pointwise [k0_pay4]

/-- The magnitude's constant powers of two. -/
theorem top_power : Ideal.ofBits .f32 0x7C000000#32 = pw 121 := by
  have h := bits_pow 248 (by norm_num) (by norm_num)
  exact h

theorem top_bits : Ideal.ofBits .f32 0x7F800000#32 = ⊤ := by
  simp [Ideal.ofBits, Ideal.ieee]

/-- The reference's scales, of any gated gradients, are the quantiser's. -/
theorem pay13_at (v27 : FVec Ideal S64x1024x1024 .f32) (T : Fin 8) (n : Fin 8192) :
    k0_pay13 (F := Ideal) v27 a4 a7 a8 (ix3 T 0 n) = gscale (amax fun x => k0_pay12 (F := Ideal) v27 a4 a7 a8 (ix3 T x n)) := by
  have hv := mul_nonneg (amax_nonneg fun x => k0_pay12 (F := Ideal) v27 a4 a7 a8 (ix3 T x n)) c448_pos
  have hp : (fun j => above powers (over (spread (maxes (k0_pay12 (F := Ideal) v27 a4 a7 a8)))) (ix3 T j n))
      = fun j : Fin 248 => if (amax fun x => k0_pay12 (F := Ideal) v27 a4 a7 a8 (ix3 T x n)) * Ideal.ofBits .f32 0x3B124925#32 < pw ((j.val : ℤ) - 126)
          then pw ((j.val : ℤ) - 126) else pw 121 := funext fun j => by
    rw [above_at, powers_at, over_at, spread_at, maxes_at, top_power]
  rw [pay13_eq, orOne_at, spread_at, spread_at, maxes_at, least_at, hp, top_bits, least_power hv]
  rfl

section Results

open Cert.BwdSpec

/-- A matrix as a function of two numbers. -/
abbrev fn {m n : ℕ} (a : (⟨2, ![m, n]⟩ : Shape).Idx → EReal) (i : Fin m) (j : Fin n) : EReal := a (ix2 i j)

variable (hq : ∀ g t, 0 < a1 (ix2 g t) ∧ a1 (ix2 g t) < (⊤ : EReal))

theorem score_at (g : Fin 64) (s t : Fin 1024) :
    k0_pay8 (F := Ideal) a0 a1 a3 (ix3 g s t) = dot (fn a3 s) (qcol (fn a0) g t) * a1 (ix2 g t) := by
  rw [pay8_at]
  refine congrArg (· * _) (Finset.sum_congr rfl fun x _ => ?_)
  refine congrArg (fun i => (a3 (ix2 s x) * a0 (ix2 i t) : EReal)) (Fin.ext ?_)
  show g.val * 128 + x.val = 128 * g.val + x.val
  omega

include hq in
/-- Its first result is the weights' gradient. -/
theorem dw_at (g : Fin 64) (t : Fin 1024) :
    k0_pay9 (F := Ideal) a0 a5 a1 a3 (ix2 g t) = dw (fn a0) (fn a1) (fn a3) (fn a5) g t := by
  rw [pay9_at]
  unfold dw wgrad
  rw [← sum_mul_finite _ (hq g t).1 (hq g t).2]
  refine Finset.sum_congr rfl fun s _ => ?_
  rw [score_at, wterm (hq g t).1]

include hq in
/-- Its gated gradients. -/
theorem gated_at (g : Fin 64) (s t : Fin 1024) :
    k0_pay10 (F := Ideal) a0 a5 a1 a3 a2 (ix3 g s t) = gate (dot (fn a3 s) (qcol (fn a0) g t)) (a5 (ix2 s t)) * a2 (ix2 g t) := by
  rw [pay10_at, score_at, gterm (hq g t).1]

include hq in
/-- Its second result is the keys' gradient. -/
theorem dk_at (s : Fin 1024) (e : Fin 128) :
    k0_pay11 (F := Ideal) a0 a5 a1 a3 a2 (ix2 s e) = dk (fn a0) (fn a1) (fn a2) (fn a3) (fn a5) s e := by
  rw [pay11_at]
  unfold dk dkHead kgrad
  refine Finset.sum_congr rfl fun g _ => Finset.sum_congr rfl fun t _ => ?_
  rw [gated_at a0 a1 a2 a3 a5 hq]
  have e1 : (⟨g.val * 128 + e.val, by omega⟩ : Fin 8192) = ⟨128 * g.val + e.val, by omega⟩ := Fin.ext (by show g.val * 128 + e.val = 128 * g.val + e.val; omega)
  dsimp only
  rw [e1, mul_assoc (gate _ _), mul_comm (a2 (ix2 g t) : EReal)]
  rfl

/-- The head of a column. -/
def hd (n : Fin 8192) : Fin 64 := ⟨n.val / 128, by omega⟩

/-- The feature of a column. -/
def ft (n : Fin 8192) : Fin 128 := ⟨n.val % 128, Nat.mod_lt _ (by decide)⟩

include hq in
/-- Its gradients in groups. -/
theorem dq_at (T : Fin 8) (x : Fin 128) (n : Fin 8192) :
    k0_pay12 (F := Ideal) (k0_pay10 (F := Ideal) a0 a5 a1 a3 a2) a4 a7 a8 (ix3 T x n)
      = dq (fn a0) (fn a2) (fn a3) (fn a4) (fn a5) (fn a7) (fn a8) (hd n) ⟨128 * T.val + x.val, by omega⟩ (ft n) := by
  have e1 : (⟨T.val * 128 + x.val, by omega⟩ : Fin 1024) = ⟨128 * T.val + x.val, by omega⟩ := Fin.ext (by show T.val * 128 + x.val = 128 * T.val + x.val; omega)
  rw [pay12_eq, grouped_at, unrotated_at, e1]
  unfold dq
  refine congrArg (fun u => ropeInv u _ _ _) (funext fun e => ?_)
  rw [contracted_at]
  unfold du qgrad
  refine Finset.sum_congr rfl fun s _ => ?_
  rw [gated_at a0 a1 a2 a3 a5 hq]
  rfl

include hq in
theorem mag_at (T : Fin 8) (n : Fin 8192) :
    (amax fun x => k0_pay12 (F := Ideal) (k0_pay10 (F := Ideal) a0 a5 a1 a3 a2) a4 a7 a8 (ix3 T x n))
      = mag (fn a0) (fn a2) (fn a3) (fn a4) (fn a5) (fn a7) (fn a8) T (hd n) (ft n) :=
  congrArg amax (funext fun x => dq_at a0 a1 a2 a3 a4 a5 a7 a8 hq T x n)

include hq in
/-- Its scales. -/
theorem dqs_at (T : Fin 8) (n : Fin 8192) :
    k0_pay13 (F := Ideal) (k0_pay10 (F := Ideal) a0 a5 a1 a3 a2) a4 a7 a8 (ix3 T 0 n)
      = dqs (fn a0) (fn a2) (fn a3) (fn a4) (fn a5) (fn a7) (fn a8) T (hd n) (ft n) := by
  rw [pay13_at, mag_at a0 a1 a2 a3 a4 a5 a7 a8 hq]
  rfl

include hq in
/-- Its codes. -/
theorem dqc_at (t : Fin 1024) (n : Fin 8192) :
    k0_pay1 (F := Ideal) (k0_pay12 (F := Ideal) (k0_pay10 (F := Ideal) a0 a5 a1 a3 a2) a4 a7 a8)
        (k0_pay14 (F := Ideal) (k0_pay10 (F := Ideal) a0 a5 a1 a3 a2) a4 a7 a8)
        (ix3 (n0 := 8) (n1 := 128) (n2 := 8192) ⟨t.val / 128, by omega⟩ ⟨t.val % 128, Nat.mod_lt _ (by decide)⟩ n)
      = dqc (fn a0) (fn a2) (fn a3) (fn a4) (fn a5) (fn a7) (fn a8) t (hd n) (ft n) := by
  rw [pay1_at, pay14_at, pay13_at, mag_at a0 a1 a2 a3 a4 a5 a7 a8 hq, dq_at a0 a1 a2 a3 a4 a5 a7 a8 hq, div_scale]
  have e1 : (⟨128 * (t.val / 128) + t.val % 128, by omega⟩ : Fin 1024) = t := Fin.ext (Nat.div_add_mod _ _)
  dsimp only
  rw [e1]
  rfl

include hq in
/-- The five results of the reference, entry by entry. -/
theorem G9_at (g : Fin 64) (t : Fin 1024) : Value.G9 (F := Ideal) a0 a1 a2 a3 a4 a5 a6 a7 a8 (ix2 g t) = dw (fn a0) (fn a1) (fn a3) (fn a5) g t :=
  dw_at a0 a1 a3 a5 hq g t

include hq in
theorem G10_at (s : Fin 1024) (e : Fin 128) :
    Value.G10 (F := Ideal) a0 a1 a2 a3 a4 a5 a6 a7 a8 (ix2 s e) = dk (fn a0) (fn a1) (fn a2) (fn a3) (fn a5) s e :=
  dk_at a0 a1 a2 a3 a5 hq s e

/-- The gated gradients, from arrays read whole. -/
theorem slot15 : k0_pay15 (F := Ideal) a0 a1 a2 a3 a4 a5 a6 a7 a8 = k0_pay10 (F := Ideal) a0 a5 a1 a3 a2 := by
  unfold k0_pay15
  rw [View.ld_unit_zero Value.hz0, View.ld_unit_zero Value.hz0, View.ld_unit_zero Value.hz0, View.ld_unit_zero Value.hz0, View.ld_unit_zero Value.hz0]

theorem slot16 : k0_pay16 (F := Ideal) a0 a1 a2 a3 a4 a5 a6 a7 a8 = k0_pay12 (F := Ideal) (k0_pay10 (F := Ideal) a0 a5 a1 a3 a2) a4 a7 a8 := by
  unfold k0_pay16
  rw [View.ld_unit_zero Value.hz0, View.ld_unit_zero Value.hz0, View.ld_unit_zero Value.hz0, slot15]

theorem slot17 : k0_pay17 (F := Ideal) a0 a1 a2 a3 a4 a5 a6 a7 a8 = k0_pay13 (F := Ideal) (k0_pay10 (F := Ideal) a0 a5 a1 a3 a2) a4 a7 a8 := by
  unfold k0_pay17
  rw [View.ld_unit_zero Value.hz0, View.ld_unit_zero Value.hz0, View.ld_unit_zero Value.hz0, slot15]

theorem slot18 : k0_pay18 (F := Ideal) a0 a1 a2 a3 a4 a5 a6 a7 a8 = k0_pay14 (F := Ideal) (k0_pay10 (F := Ideal) a0 a5 a1 a3 a2) a4 a7 a8 := by
  unfold k0_pay18
  rw [View.ld_unit_zero Value.hz0, View.ld_unit_zero Value.hz0, View.ld_unit_zero Value.hz0, slot15]

include hq in
theorem G11_at (t : Fin 1024) (n : Fin 8192) :
    Value.G11 (F := Ideal) a0 a1 a2 a3 a4 a5 a6 a7 a8 (ix2 t n) = dqc (fn a0) (fn a2) (fn a3) (fn a4) (fn a5) (fn a7) (fn a8) t (hd n) (ft n) := by
  show k0_pay2 (F := Ideal) _ _ _ = _
  rw [slot16, slot18, pay2_at, dqc_at a0 a1 a2 a3 a4 a5 a7 a8 hq]

include hq in
theorem G12_at (T : Fin 8) (n : Fin 8192) :
    Value.G12 (F := Ideal) a0 a1 a2 a3 a4 a5 a6 a7 a8 (ix2 T n) = dqs (fn a0) (fn a2) (fn a3) (fn a4) (fn a5) (fn a7) (fn a8) T (hd n) (ft n) := by
  show k0_pay3 (F := Ideal) _ _ = _
  rw [slot17, pay3_at, dqs_at a0 a1 a2 a3 a4 a5 a7 a8 hq]

include hq in
theorem G13_at (r : Fin 1536) (n : Fin 8192) :
    Value.G13 (F := Ideal) a0 a1 a2 a3 a4 a5 a6 a7 a8 (ix2 r n)
      = dwq (fn a0) (fn a2) (fn a3) (fn a4) (fn a5) (fn a6) (fn a7) (fn a8) r (hd n) (ft n) := by
  show k0_pay4 (F := Ideal) _ _ _ _ _ = _
  rw [slot16, slot17, slot18, pay4_at]
  unfold dwq
  refine Finset.sum_congr rfl fun t _ => ?_
  rw [dqc_at a0 a1 a2 a3 a4 a5 a7 a8 hq, dqs_at a0 a1 a2 a3 a4 a5 a7 a8 hq]

end Results

end Cert.BwdRefIdeal.Read

end
-- ==== Proof.Bwd.Bits.lean ====
module

public import proofs.«01_k».proof.Proof.Gen.Bwd.Frame
public import proofs.«01_k».proof.Proof.Gen.Bwd.Skeleton
public import Idealize.ShloMosaic.Lib.VecWindow
public import Idealize.ShloMosaic.Lib.Pipeline.ArrRel
public import Idealize.ShloMosaic.Lib.Claim
public import Idealize.ShloMosaic.PureOps.BitExact

@[expose] public section

-- membership in a rectangle of production extents (`View.cover_of_tiled`): the elaborator's structural look
-- recurses once per coordinate of the long axes
set_option maxRecDepth 16384

/-! The backward kernel on machine floats: every execution ends, with its argument arrays unchanged and its counters at
zero. Nothing is said here of what it leaves in its results. -/

noncomputable section

namespace Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Bits) ℕ (UR sig nD τ) ℕ

variable (m : (ℓ : Loc nD τ sig) → Buf (Elt Bits) ℓ) (ρ : Dev nD → PrngReg)

/-- Whether the grid point is the first: the condition the body's branch is taken on. -/
def isFirst (i : grid0.Coords) : BitVec 1 := Scalar.cmpi .ne (Scalar.extui (Scalar.cmpi .eq (BitVec.ofNat 32 (i 0).val) 0#32) : BitVec 32) 0#32

/-- A branch that does two operations and goes on, or just goes on: what goes on starts from what holds after the
    branch, whichever way it was taken. -/
theorem first_branch {α₁ α₂ β : Type} {c : Dev nD} {E : Set ℕ} {C : Prop} [Decidable C] {P Q : sProp 𝕄} {K : PUnit → sProp 𝕄}
    {l : Prog (TpuEff nD τ sig (Elt Bits) Λ₀ .tc) α₁} {s : Prog (TpuEff nD τ sig (Elt Bits) Λ₀ .tc) α₂}
    {jp : Prog (TpuEff nD τ sig (Elt Bits) Λ₀ .tc) β} {k : β → Prog (TpuEff nD τ sig (Elt Bits) Λ₀ .tc) PUnit}
    (h1 : C → P ⊢ wp frame (wpE (defs₀ (F := Bits)) Variants.none c none) E (l >>= fun _ => s >>= fun _ => pure PUnit.unit) (fun _ : PUnit => Q))
    (h2 : ¬ C → P ⊢ Q)
    (h3 : Q ⊢ wp frame (wpE (defs₀ (F := Bits)) Variants.none c none) E (jp >>= k) K) :
    P ⊢ wp frame (wpE (defs₀ (F := Bits)) Variants.none c none) E
      ((if C then l >>= fun _ => s >>= fun _ => jp else jp) >>= k) K := by
  by_cases hC : C
  · rw [if_pos hC, show (l >>= fun _ => s >>= fun _ => jp) >>= k = (l >>= fun _ => s >>= fun _ => pure PUnit.unit) >>= (fun _ : PUnit => jp >>= k) from by
      simp only [Prog.bind_assoc]; rfl, wp_bind]
    exact (h1 hC).trans (wp_mono _ _ _ (fun _ => h3))
  · rw [if_neg hC]; exact (h2 hC).trans h3

/-- What is given last may be given a name. -/
theorem tail_named {a1 a2 a3 a4 a5 a6 a7 a8 a9 a10 a11 a12 a13 a14 a15 a16 R W : sProp 𝕄}
    (h : ∀ R' : sProp 𝕄, R' = R → iprop(a1 ∗ a2 ∗ a3 ∗ a4 ∗ a5 ∗ a6 ∗ a7 ∗ a8 ∗ a9 ∗ a10 ∗ a11 ∗ a12 ∗ a13 ∗ a14 ∗ a15 ∗ a16 ∗ R') ⊢ W) : iprop(a1 ∗ a2 ∗ a3 ∗ a4 ∗ a5 ∗ a6 ∗ a7 ∗ a8 ∗ a9 ∗ a10 ∗ a11 ∗ a12 ∗ a13 ∗ a14 ∗ a15 ∗ a16 ∗ R) ⊢ W := h R rfl

-- (the run's proof term is large: checking it walks past the default budget)
set_option maxHeartbeats 20000000 in
/-- What one grid point does: run on whole staging memrefs whose inputs hold `x0`, …, `x8`, the weights' gradient `x9`
    and the keys' gradient `x10` (read as zero at the first point), the body leaves its inputs in place and its five
    outputs with the stores `L9`, …, `L13` made into them in order, the last first. The lists are found by the
    execution. -/
noncomputable def kernelRun0 (c : Dev nD) (i : grid0.Coords) (arg1 : Memref sig .tc .vmem S256x1024 .fp8e4m3) (harg1 : arg1.IsWhole) (arg2 : Memref sig .tc .vmem S64x1024 .f32) (harg2 : arg2.IsWhole) (arg3 : Memref sig .tc .vmem S64x1024 .f32) (harg3 : arg3.IsWhole) (arg4 : Memref sig .tc .vmem S1024x128 .fp8e4m3) (harg4 : arg4.IsWhole) (arg5 : Memref sig .tc .vmem S128x1024 .bf16) (harg5 : arg5.IsWhole) (arg6 : Memref sig .tc .vmem S1024x1024 .f32) (harg6 : arg6.IsWhole) (arg7 : Memref sig .tc .vmem S1536x1024 .bf16) (harg7 : arg7.IsWhole) (arg8 : Memref sig .tc .vmem S32x1024 .f32) (harg8 : arg8.IsWhole) (arg9 : Memref sig .tc .vmem S32x1024 .f32) (harg9 : arg9.IsWhole) (arg10 : Memref sig .tc .vmem S64x1024 .f32) (harg10 : arg10.IsWhole) (arg11 : Memref sig .tc .vmem S1024x128 .f32) (harg11 : arg11.IsWhole) (arg12 : Memref sig .tc .vmem S1024x256 .fp8e4m3) (harg12 : arg12.IsWhole) (arg13 : Memref sig .tc .vmem S8x256 .f32) (harg13 : arg13.IsWhole) (arg14 : Memref sig .tc .vmem S1536x256 .f32) (harg14 : arg14.IsWhole) (arg15 : Memref sig .tc .vmem S256x1024 .f32) (harg15 : arg15.IsWhole) (arg16 : Memref sig .tc .vmem S1024x256 .bf16) (harg16 : arg16.IsWhole)
    (x0 : Vec Bits S256x1024 .fp8e4m3) (x1 : Vec Bits S64x1024 .f32) (x2 : Vec Bits S64x1024 .f32) (x3 : Vec Bits S1024x128 .fp8e4m3) (x4 : Vec Bits S128x1024 .bf16) (x5 : Vec Bits S1024x1024 .f32) (x6 : Vec Bits S1536x1024 .bf16) (x7 : Vec Bits S32x1024 .f32) (x8 : Vec Bits S32x1024 .f32) (x9 : Vec Bits S64x1024 .f32) (x10 : Vec Bits S1024x128 .f32) :
    Σ' (L9 : List (View.Piece (Elt Bits) S64x1024 .f32)) (L10 : List (View.Piece (Elt Bits) S1024x128 .f32)) (L11 : List (View.Piece (Elt Bits) S1024x256 .fp8e4m3)) (L12 : List (View.Piece (Elt Bits) S8x256 .f32)),
      { L13 : List (View.Piece (Elt Bits) S1536x256 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (arg10.view.read (Elt Bits) (arg10.view.writes (Elt Bits) (harg10.unread x9) L9)) ∗ owns (c : Thread nD τ) arg11 fullShare (arg11.view.read (Elt Bits) (arg11.view.writes (Elt Bits) (harg11.unread (if isFirst i = 1#1 then k0_pay3 (F := Bits) else x10)) L10)) ∗ (∃ f, owns (c : Thread nD τ) arg12 fullShare (arg12.view.read (Elt Bits) (arg12.view.writes (Elt Bits) f L11))) ∗ (∃ f, owns (c : Thread nD τ) arg13 fullShare (arg13.view.read (Elt Bits) (arg13.view.writes (Elt Bits) f L12))) ∗ (∃ f, owns (c : Thread nD τ) arg14 fullShare (arg14.view.read (Elt Bits) (arg14.view.writes (Elt Bits) f L13))) ∗ (∃ d, owns (c : Thread nD τ) arg15 fullShare d) ∗ (∃ d, owns (c : Thread nD τ) arg16 fullShare d)) -∗ K ⟨⟩))
          ⊢ wp frame (wpE (defs₀ (F := Bits)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
    refine ⟨?_, ?_, ?_, ?_, ?_, fun E K => ?_⟩
    rotate_left 5
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold k0_part1_skel
    refine tail_named ?_
    intro R hR
    refine first_branch (Q := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (if isFirst i = 1#1 then k0_pay3 (F := Bits) else x10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ R)) ?first ?later ?rest
    case first =>
      clear hR
      intro hc
      rw [if_pos (show isFirst i = 1#1 from hc)]
      unfold owns
      iintro ⟨H0, H1, H2, H3, H4, H5, H6, H7, H8, H9, ⟨%f10, %hf10, H10⟩, Hr⟩
      obtain rfl := harg11.eq_unread hf10
      sl_exec
      sl_step
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro; exact View.read_writes_full _ _ _ _ _
      iexact Hr
    case later =>
      clear hR
      intro hc
      rw [if_neg (show ¬ isFirst i = 1#1 from hc)]
    subst hR
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro; rfl
    isplitl [H10]
    · iexists _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

/-! ## The staging memrefs -/

/-- Each window's current staging memref at point `t`, as the pipeline passes it, and its wholeness. -/
abbrev ms0_0 (t : Fin cfg0.N) : Memref sig .tc .vmem S256x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x256 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x256 .f32 := win0_13.stage (cfg0.slots t 13)
abbrev hs0_13 (t : Fin cfg0.N) : (ms0_13 t).IsWhole := hstage0_13 ((cfg0.slots t 13).cast nbuf0_13)
/-- The two scratch buffers: the queries' gradients and the dequantised ones. -/
abbrev scM0_0 : Memref sig .tc .vmem S256x1024 .f32 := Memref.whole cc0_scratch0
abbrev scM0_1 : Memref sig .tc .vmem S1024x256 .bf16 := Memref.whole cc0_scratch1

/-- The frame's invariant: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The proof data -/

/-- The exact part of the proof data: every input's buffer at its block. -/
def dats (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The outputs' relations, which say nothing; none for an input. -/
def ovr (c : Dev nD) : (w : Fin cfg0.W) → Option (Fin cfg0.N → (Y X : (cfg0.win w).block.Idx → Elt Bits (cfg0.win w).elt) → Prop)
  | ⟨9, _⟩ => some fun _ _ _ => True
  | ⟨10, _⟩ => some fun _ _ _ => True
  | ⟨11, _⟩ => some fun _ _ _ => True
  | ⟨12, _⟩ => some fun _ _ _ => True
  | ⟨13, _⟩ => some fun _ _ _ => True
  | _ => none

/-- The proof data: the inputs exact, the outputs unconstrained. -/
def rdat (c : Dev nD) : RDat τ (Elt Bits) Unit ℕ (UR sig nD τ) ℕ cfg0 c := (dats m c).toR.override (ovr c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]
theorem after0_7 (c : Dev nD) (t : Fin cfg0.N) : (dats m c).after 7 t = iblk m c 7 t := by dsimp only [dats]
theorem after0_8 (c : Dev nD) (t : Fin cfg0.N) : (dats m c).after 8 t = iblk m c 8 t := by dsimp only [dats]

/-- What the body finds in each input's buffer: its block. -/
theorem find0 (c : Dev nD) (t : Fin cfg0.N) (Y : (cfg0.win 0).block.Idx → Elt Bits (cfg0.win 0).elt) (h : (rdat m c).Finds 0 t Y) : Y = iblk m c 0 t :=
  let ⟨d, hd⟩ := (dats m c).toR_finds 0 t Y (((dats m c).toR.override_finds (ovr := ovr c) (w := 0) rfl t Y).mp h)
  hd.trans (before0_0_of m (dats m c) (A_eq m c 0) (after0_0 m c) t d)
theorem find1 (c : Dev nD) (t : Fin cfg0.N) (Y : (cfg0.win 1).block.Idx → Elt Bits (cfg0.win 1).elt) (h : (rdat m c).Finds 1 t Y) : Y = iblk m c 1 t :=
  let ⟨d, hd⟩ := (dats m c).toR_finds 1 t Y (((dats m c).toR.override_finds (ovr := ovr c) (w := 1) rfl t Y).mp h)
  hd.trans (before0_1_of m (dats m c) (A_eq m c 1) (after0_1 m c) t d)
theorem find2 (c : Dev nD) (t : Fin cfg0.N) (Y : (cfg0.win 2).block.Idx → Elt Bits (cfg0.win 2).elt) (h : (rdat m c).Finds 2 t Y) : Y = iblk m c 2 t :=
  let ⟨d, hd⟩ := (dats m c).toR_finds 2 t Y (((dats m c).toR.override_finds (ovr := ovr c) (w := 2) rfl t Y).mp h)
  hd.trans (before0_2_of m (dats m c) (A_eq m c 2) (after0_2 m c) t d)
theorem find3 (c : Dev nD) (t : Fin cfg0.N) (Y : (cfg0.win 3).block.Idx → Elt Bits (cfg0.win 3).elt) (h : (rdat m c).Finds 3 t Y) : Y = iblk m c 3 t :=
  let ⟨d, hd⟩ := (dats m c).toR_finds 3 t Y (((dats m c).toR.override_finds (ovr := ovr c) (w := 3) rfl t Y).mp h)
  hd.trans (before0_3_of m (dats m c) (A_eq m c 3) (after0_3 m c) t d)
theorem find4 (c : Dev nD) (t : Fin cfg0.N) (Y : (cfg0.win 4).block.Idx → Elt Bits (cfg0.win 4).elt) (h : (rdat m c).Finds 4 t Y) : Y = iblk m c 4 t :=
  let ⟨d, hd⟩ := (dats m c).toR_finds 4 t Y (((dats m c).toR.override_finds (ovr := ovr c) (w := 4) rfl t Y).mp h)
  hd.trans (before0_4_of m (dats m c) (A_eq m c 4) (after0_4 m c) t d)
theorem find5 (c : Dev nD) (t : Fin cfg0.N) (Y : (cfg0.win 5).block.Idx → Elt Bits (cfg0.win 5).elt) (h : (rdat m c).Finds 5 t Y) : Y = iblk m c 5 t :=
  let ⟨d, hd⟩ := (dats m c).toR_finds 5 t Y (((dats m c).toR.override_finds (ovr := ovr c) (w := 5) rfl t Y).mp h)
  hd.trans (before0_5_of m (dats m c) (A_eq m c 5) (after0_5 m c) t d)
theorem find6 (c : Dev nD) (t : Fin cfg0.N) (Y : (cfg0.win 6).block.Idx → Elt Bits (cfg0.win 6).elt) (h : (rdat m c).Finds 6 t Y) : Y = iblk m c 6 t :=
  let ⟨d, hd⟩ := (dats m c).toR_finds 6 t Y (((dats m c).toR.override_finds (ovr := ovr c) (w := 6) rfl t Y).mp h)
  hd.trans (before0_6_of m (dats m c) (A_eq m c 6) (after0_6 m c) t d)
theorem find7 (c : Dev nD) (t : Fin cfg0.N) (Y : (cfg0.win 7).block.Idx → Elt Bits (cfg0.win 7).elt) (h : (rdat m c).Finds 7 t Y) : Y = iblk m c 7 t :=
  let ⟨d, hd⟩ := (dats m c).toR_finds 7 t Y (((dats m c).toR.override_finds (ovr := ovr c) (w := 7) rfl t Y).mp h)
  hd.trans (before0_7_of m (dats m c) (A_eq m c 7) (after0_7 m c) t d)
theorem find8 (c : Dev nD) (t : Fin cfg0.N) (Y : (cfg0.win 8).block.Idx → Elt Bits (cfg0.win 8).elt) (h : (rdat m c).Finds 8 t Y) : Y = iblk m c 8 t :=
  let ⟨d, hd⟩ := (dats m c).toR_finds 8 t Y (((dats m c).toR.override_finds (ovr := ovr c) (w := 8) rfl t Y).mp h)
  hd.trans (before0_8_of m (dats m c) (A_eq m c 8) (after0_8 m c) t d)

/-- An input's block left in place is what its relation asks. -/
theorem keep0 (c : Dev nD) (t : Fin cfg0.N) (Y : (cfg0.win 0).block.Idx → Elt Bits (cfg0.win 0).elt) : (rdat m c).after 0 t Y (iblk m c 0 t) :=
  (after0_0 m c t).symm
theorem keep1 (c : Dev nD) (t : Fin cfg0.N) (Y : (cfg0.win 1).block.Idx → Elt Bits (cfg0.win 1).elt) : (rdat m c).after 1 t Y (iblk m c 1 t) :=
  (after0_1 m c t).symm
theorem keep2 (c : Dev nD) (t : Fin cfg0.N) (Y : (cfg0.win 2).block.Idx → Elt Bits (cfg0.win 2).elt) : (rdat m c).after 2 t Y (iblk m c 2 t) :=
  (after0_2 m c t).symm
theorem keep3 (c : Dev nD) (t : Fin cfg0.N) (Y : (cfg0.win 3).block.Idx → Elt Bits (cfg0.win 3).elt) : (rdat m c).after 3 t Y (iblk m c 3 t) :=
  (after0_3 m c t).symm
theorem keep4 (c : Dev nD) (t : Fin cfg0.N) (Y : (cfg0.win 4).block.Idx → Elt Bits (cfg0.win 4).elt) : (rdat m c).after 4 t Y (iblk m c 4 t) :=
  (after0_4 m c t).symm
theorem keep5 (c : Dev nD) (t : Fin cfg0.N) (Y : (cfg0.win 5).block.Idx → Elt Bits (cfg0.win 5).elt) : (rdat m c).after 5 t Y (iblk m c 5 t) :=
  (after0_5 m c t).symm
theorem keep6 (c : Dev nD) (t : Fin cfg0.N) (Y : (cfg0.win 6).block.Idx → Elt Bits (cfg0.win 6).elt) : (rdat m c).after 6 t Y (iblk m c 6 t) :=
  (after0_6 m c t).symm
theorem keep7 (c : Dev nD) (t : Fin cfg0.N) (Y : (cfg0.win 7).block.Idx → Elt Bits (cfg0.win 7).elt) : (rdat m c).after 7 t Y (iblk m c 7 t) :=
  (after0_7 m c t).symm
theorem keep8 (c : Dev nD) (t : Fin cfg0.N) (Y : (cfg0.win 8).block.Idx → Elt Bits (cfg0.win 8).elt) : (rdat m c).after 8 t Y (iblk m c 8 t) :=
  (after0_8 m c t).symm

/-! ## The body obligation -/

/-- One run of the body at point `t`, its inputs' blocks in place, the heads' weights' gradient at `Y9` and the keys' at `Y10`. -/
theorem sound_body (c : Dev nD) (t : Fin cfg0.N) (Y9 : Vec Bits S64x1024 .f32) (Y10 : Vec Bits S1024x128 .f32) (O : sProp 𝕄) :
    iprop(Pipeline.ΦA spec0 c ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ owns (c : Thread nD τ) (ms0_9 t) fullShare Y9
      ∗ owns (c : Thread nD τ) (ms0_10 t) fullShare Y10
      ∗ (∃ d, owns (c : Thread nD τ) (ms0_11 t) fullShare d)
      ∗ (∃ d, owns (c : Thread nD τ) (ms0_12 t) fullShare d)
      ∗ (∃ d, owns (c : Thread nD τ) (ms0_13 t) fullShare d))
    ⊢ wp frame (wpE (defs₀ (F := Bits)) Variants.none c none) Set.univ (bodyAt0 t) (fun _ => iprop(Pipeline.ΦA spec0 c ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ (∃ X, owns (c : Thread nD τ) (ms0_9 t) fullShare X)
      ∗ (∃ X, owns (c : Thread nD τ) (ms0_10 t) fullShare X)
      ∗ (∃ X, owns (c : Thread nD τ) (ms0_11 t) fullShare X)
      ∗ (∃ X, owns (c : Thread nD τ) (ms0_12 t) fullShare X)
      ∗ (∃ X, owns (c : Thread nD τ) (ms0_13 t) fullShare X))) := by
  unfold bodyAt0
  rw [PhiA0_eq]
  iintro ⟨⟨⟨HS0, HS1⟩, Hg⟩, Ho, H0, H1, H2, H3, H4, H5, H6, H7, H8, H9, H10, H11, H12, H13⟩
  iapply ((kernelRun0 c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Y9 Y10).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, ⟨%f11, H11⟩, ⟨%f12, H12⟩, ⟨%f13, H13⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The body table's row at point `t`'s slots is the body as `bodyAt0` spells it. -/
theorem defs₀_row (t : Fin cfg0.N) :
    defs₀ (F := Bits) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Bits)) Variants.none () Set.univ := fun t Y hY => by
  rw [bigSep_W0, bigSep_W0, defs₀_row]
  have e0 := find0 m c t (Y 0) (hY 0)
  have e1 := find1 m c t (Y 1) (hY 1)
  have e2 := find2 m c t (Y 2) (hY 2)
  have e3 := find3 m c t (Y 3) (hY 3)
  have e4 := find4 m c t (Y 4) (hY 4)
  have e5 := find5 m c t (Y 5) (hY 5)
  have e6 := find6 m c t (Y 6) (hY 6)
  have e7 := find7 m c t (Y 7) (hY 7)
  have e8 := find8 m c t (Y 8) (hY 8)
  rw [e0, e1, e2, e3, e4, e5, e6, e7, e8, show (rdat m c).Φ t.castSucc = Pipeline.ΦA spec0 c from rfl, show (rdat m c).Φ t.succ = Pipeline.ΦA spec0 c from rfl]
  refine triple_restated (sound_body m c t (Y 9) (Y 10) ((rdat m c).owesAt () t.castSucc)) rfl ?_ fun _ => ?_
  · iintro ⟨HA, Ho, H0, H1, H2, H3, H4, H5, H6, H7, H8, H9, H10, H11, H12, H13⟩
    isplitl [HA]; · iexact HA
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iexists _; iexact H13
  · iintro ⟨HA, Ho, H0, H1, H2, H3, H4, H5, H6, H7, H8, ⟨%X9, H9⟩, ⟨%X10, H10⟩, ⟨%X11, H11⟩, ⟨%X12, H12⟩, ⟨%X13, H13⟩⟩
    isplitl [HA]; · iexact HA
    isplitl [Ho]; · iexact Ho
    isplitl [H0]
    · iexists (iblk m c 0 t); isplitr; · ipureintro; exact keep0 m c t _
      iexact H0
    isplitl [H1]
    · iexists (iblk m c 1 t); isplitr; · ipureintro; exact keep1 m c t _
      iexact H1
    isplitl [H2]
    · iexists (iblk m c 2 t); isplitr; · ipureintro; exact keep2 m c t _
      iexact H2
    isplitl [H3]
    · iexists (iblk m c 3 t); isplitr; · ipureintro; exact keep3 m c t _
      iexact H3
    isplitl [H4]
    · iexists (iblk m c 4 t); isplitr; · ipureintro; exact keep4 m c t _
      iexact H4
    isplitl [H5]
    · iexists (iblk m c 5 t); isplitr; · ipureintro; exact keep5 m c t _
      iexact H5
    isplitl [H6]
    · iexists (iblk m c 6 t); isplitr; · ipureintro; exact keep6 m c t _
      iexact H6
    isplitl [H7]
    · iexists (iblk m c 7 t); isplitr; · ipureintro; exact keep7 m c t _
      iexact H7
    isplitl [H8]
    · iexists (iblk m c 8 t); isplitr; · ipureintro; exact keep8 m c t _
      iexact H8
    isplitl [H9]
    · iexists X9; isplitr; · ipureintro; exact trivial
      iexact H9
    isplitl [H10]
    · iexists X10; isplitr; · ipureintro; exact trivial
      iexact H10
    isplitl [H11]
    · iexists X11; isplitr; · ipureintro; exact trivial
      iexact H11
    isplitl [H12]
    · iexists X12; isplitr; · ipureintro; exact trivial
      iexact H12
    iexists X13; isplitr; · ipureintro; exact trivial
    iexact H13

/-! ## The run and the frame -/

set_option backward.isDefEq.respectTransparency.types false in
/-- Every execution terminates, with every array as the proof data say and every semaphore counter at zero. -/
theorem run_main : θ_run defs (onTc (τ := τ) (main (F := Bits))) (s₀ m ρ)
    (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := body_obligation m) (hshare := fun c => (dats m c).share_full fun _ => rfl)
    (howed := fun _ _ => rfl) (V := V m) (hmain := hmain m Variants.none) (hA := A_eq m) (hΦ := fun _ _ => rfl)

/-- The argument arrays end unchanged and every semaphore counter at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c))⟩, h.2⟩) (run_main m ρ)

end Cert.Bwd.Gen

end
-- ==== Proof.Bwd.Pre.lean ====
module

public import proofs.«01_k».proof.Proof.Gen.Pre_masked_and_scaled
public import proofs.«01_k».proof.Proof.Fwd.Math
public import Idealize.ShloMosaic.Lib.Pointwise

@[expose] public section

/-! What the precondition of the backward claim says: the logits' gradient is nothing wherever the key is after the
token, and every scale of a query is positive and finite. -/

noncomputable section

namespace Cert.Pre_masked_and_scaled

open Idealize.ShloMosaic

/-- A disjunction of bits that holds, holds on one side. -/
theorem or_one {a b : BitVec 1} (h : a ||| b = 1#1) : a = 1#1 ∨ b = 1#1 := by
  revert a b; decide

/-- A conjunction of bits that holds, holds on both sides. -/
theorem and_one {a b : BitVec 1} (h : a &&& b = 1#1) : a = 1#1 ∧ b = 1#1 := by
  revert a b; decide

/-- A comparison for equality that holds. -/
theorem cmp_oeq_one {x y : EReal} (h : Ideal.cmp .oeq x y = 1#1) : x = y := by
  by_contra hn
  have : Ideal.cmp .oeq x y = BitVec.ofBool (decide (x = y)) := rfl
  rw [this, decide_eq_false hn] at h
  exact absurd h (by decide)

/-- The bits of the infinite float. -/
theorem ofBits_inf_f32 : Ideal.ofBits .f32 0x7F800000#32 = ⊤ := by simp [Ideal.ofBits, Ideal.ieee]

/-- Where the comparison of row and column numbers holds, the row is at most the column. -/
theorem le_of_set (s k : Fin 1024) (h : BitVec.ofBool ((BitVec.ofNat 32 s.val).sle (BitVec.ofNat 32 k.val)) = 1#1) : s.val ≤ k.val := by
  by_contra hn
  have hf : (BitVec.ofNat 32 s.val).sle (BitVec.ofNat 32 k.val) = false := by
    rw [BitVec.sle_eq_decide, decide_eq_false_iff_not]
    have hs : (BitVec.ofNat 32 s.val).toInt = s.val := by
      rw [BitVec.toInt_eq_toNat_of_lt] <;> simp [BitVec.toNat_ofNat] <;> omega
    have hk : (BitVec.ofNat 32 k.val).toInt = k.val := by
      rw [BitVec.toInt_eq_toNat_of_lt] <;> simp [BitVec.toNat_ofNat] <;> omega
    rw [hs, hk]
    omega
  rw [hf] at h
  exact absurd h (by decide)

variable [Facts] (a0 : FVec Ideal S8192x1024 .fp8e4m3) (a1 a2 : FVec Ideal S64x1024 .f32) (a3 : FVec Ideal S1024x128 .fp8e4m3)
  (a4 : FVec Ideal S128x1024 .bf16) (a5 : FVec Ideal S1024x1024 .f32) (a6 : FVec Ideal S1536x1024 .bf16) (a7 a8 : FVec Ideal S32x1024 .f32)

/-- The first half: nothing where the key is after the token. -/
theorem masked (h : (fn (F := Ideal) a0 a1 a2 a3 a4 a5 a6 a7 a8).1 = fun _ => 1#1) (s t : Fin 1024) :
    s.val ≤ t.val ∨ a5 (ix2 s t) = (0 : EReal) := by
  have e := congrFun h (ix2 (n0 := 1024) (n1 := 1024) s t)
  rcases or_one e with e | e
  · exact Or.inl (le_of_set s t e)
  · refine Or.inr ?_
    have e' : Ideal.cmp .oeq (a5 (ix2 s t)) (Ideal.ofBits .f32 0x00000000#32) = 1#1 := e
    rw [Ideal.ofBits_zero_f32] at e'
    exact cmp_oeq_one e'

/-- The second half: every scale is positive and finite. -/
theorem scaled (h : (fn (F := Ideal) a0 a1 a2 a3 a4 a5 a6 a7 a8).2 = fun _ => 1#1) (g : Fin 64) (t : Fin 1024) :
    (0 : EReal) < a1 (ix2 g t) ∧ a1 (ix2 g t) < (⊤ : EReal) := by
  have e := congrFun h (ix2 (n0 := 64) (n1 := 1024) g t)
  obtain ⟨e1, e2⟩ := and_one e
  have e1' : Ideal.cmp .ogt (a1 (ix2 g t)) (Ideal.ofBits .f32 0x00000000#32) = 1#1 := e1
  have e2' : Ideal.cmp .olt (a1 (ix2 g t)) (Ideal.ofBits .f32 0x7F800000#32) = 1#1 := e2
  rw [Ideal.ofBits_zero_f32] at e1'
  rw [ofBits_inf_f32] at e2'
  exact ⟨(Ideal.cmp_ogt_eq_one _ _).mp e1', (Ideal.cmp_olt_eq_one _ _).mp e2'⟩

end Cert.Pre_masked_and_scaled

end
-- ==== Proof.Dproj.Spec.lean ====
module

public import proofs.«01_k».proof.Proof.Bwd.Math

@[expose] public section

/-! The mathematics of the projections' gradients over the extended reals, one token and one feature at a time: the
gradient of the normalised keys, of the norm's scale and shift, of the keys before the norm, and of the two projections'
weights. Kernel and reference are both read down to these functions. -/

noncomputable section

namespace Cert.DprojSpec

open Idealize.ShloMosaic
open Cert.BwdMath

/-- A matrix over the extended reals. -/
abbrev Mat (m n : ℕ) : Type := (⟨2, ![m, n]⟩ : Shape).Idx → EReal

variable (x : Mat 1024 7168) (dk : Mat 1024 128) (ks : Mat 1 1024) (dw : Mat 64 1024) (xh : Mat 128 1024) (sd : Mat 1 1024)
  (co si : Mat 32 1024) (g : Mat 1 128)

/-- The gradient of a token's key after the norm: the keys' gradient over the token's scale, with the rotary embedding
    undone. -/
def normed (t : Fin 1024) (e : Fin 128) : EReal :=
  ropeInv (fun d => Ideal.div (dk (ix2 t d)) (ks (ix2 0 t))) (fun r => co (ix2 r t)) (fun r => si (ix2 r t)) e

/-- The gradient of the norm's scale at a feature. -/
def scaleGrad (e : Fin 128) : EReal := ∑ t, normed dk ks co si t e * xh (ix2 e t)

/-- The gradient of the norm's shift at a feature. -/
def shiftGrad (e : Fin 128) : EReal := ∑ t, normed dk ks co si t e

/-- The gradient of a token's normalised key. -/
def scaled (t : Fin 1024) (e : Fin 128) : EReal := normed dk ks co si t e * g (ix2 0 e)

/-- The mean over the features of the gradient of a token's normalised key. -/
def meanGrad (t : Fin 1024) : EReal := Ideal.div (∑ e, scaled dk ks co si g t e) (Ideal.ofBits .f32 0x43000000#32)

/-- The mean over the features of that gradient times the normalised key. -/
def meanProd (t : Fin 1024) : EReal := Ideal.div (∑ e, scaled dk ks co si g t e * xh (ix2 e t)) (Ideal.ofBits .f32 0x43000000#32)

/-- The gradient of a token's key before the norm. -/
def pre (t : Fin 1024) (e : Fin 128) : EReal :=
  Ideal.div (scaled dk ks co si g t e - meanGrad dk ks co si g t - xh (ix2 e t) * meanProd dk ks xh co si g t) (sd (ix2 0 t))

/-- The gradient of the keys' projection. -/
def keyGrad (n : Fin 7168) (e : Fin 128) : EReal := ∑ t, pre dk ks xh sd co si g t e * x (ix2 t n)

/-- The gradient of the heads' weights' projection. -/
def headGrad (h : Fin 64) (n : Fin 7168) : EReal := ∑ t, dw (ix2 h t) * Ideal.ofBits .f32 0x3C3504F3#32 * x (ix2 t n)

/-- The five results as arrays. -/
def keyArr : Mat 7168 128 := fun i => keyGrad x dk ks xh sd co si g (i 0) (i 1)
def headArr : Mat 64 7168 := fun i => headGrad x dw (i 0) (i 1)
def scaleArr : Mat 1 128 := fun i => scaleGrad dk ks xh co si (i 1)
def shiftArr : Mat 1 128 := fun i => shiftGrad dk ks co si (i 1)
def preArr : Mat 1024 128 := fun i => pre dk ks xh sd co si g (i 0) (i 1)

end Cert.DprojSpec

end
-- ==== Proof.Dproj.Run.lean ====
module

public import proofs.«01_k».proof.Proof.Gen.DprojIdeal.Frame
public import proofs.«01_k».proof.Proof.Gen.DprojIdeal.Skeleton
public import Idealize.ShloMosaic.Lib.VecWindow
public import Idealize.ShloMosaic.Lib.Pointwise

@[expose] public section

set_option maxRecDepth 16384

/-! One run of the projection kernel's body: what the first grid point and what a later one leaves in the outputs and in
the scratch. -/

noncomputable section

namespace Cert.DprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gradient of the norm's scale: computed of the keys' gradient, the keys' scales, the normalised keys, and the
    rotary cosines and sines. -/
def dgV (x1 : Vec F S1024x128 .f32) (x2 : Vec F S1x1024 .f32) (x4 : Vec F S128x1024 .f32) (x6 x7 : Vec F S32x1024 .f32) : Vec F S1x128 .f32 := k0_pay9 x1 x2 x6 x7 x4

/-- The gradient of the norm's shift. -/
def dbV (x1 : Vec F S1024x128 .f32) (x2 : Vec F S1x1024 .f32) (x6 x7 : Vec F S32x1024 .f32) : Vec F S1x128 .f32 := k0_pay10 x1 x2 x6 x7

/-- The gradient of the keys before the norm. -/
def dkpreV (x1 : Vec F S1024x128 .f32) (x2 : Vec F S1x1024 .f32) (x4 : Vec F S128x1024 .f32) (x5 : Vec F S1x1024 .f32) (x6 x7 : Vec F S32x1024 .f32) (x8 : Vec F S1x128 .f32) : Vec F S1024x128 .f32 :=
  k0_pay2 x4 (k0_pay11 x1 x2 x6 x7 x8) (k0_pay12 x1 x2 x6 x7 x8) x5

/-- Rows 0 to 127 of one block above the 64 rows of another. -/
def scrP (p3 : Vec F S128x1024 .bf16) (p4 : Vec F S64x1024 .bf16) : Vec F S192x1024 .bf16 := fun y =>
  if h : (y 0).val < 128 then p3 (ix2 (n0 := 128) (n1 := 1024) ⟨(y 0).val, h⟩ (y 1))
  else p4 (ix2 (n0 := 64) (n1 := 1024) ⟨(y 0).val - 128, by have : (y 0).val < 192 := (y 0).isLt; omega⟩ (y 1))

/-- The scratch after the first point: above, the gradient of the keys before the norm, feature by token; below, the
    gradient of the heads' weights. -/
def scrV (x1 : Vec F S1024x128 .f32) (x2 : Vec F S1x1024 .f32) (x3 : Vec F S64x1024 .f32) (x4 : Vec F S128x1024 .f32) (x5 : Vec F S1x1024 .f32) (x6 x7 : Vec F S32x1024 .f32) (x8 : Vec F S1x128 .f32) : Vec F S192x1024 .bf16 :=
  scrP (k0_pay3 x4 (k0_pay11 x1 x2 x6 x7 x8) (k0_pay12 x1 x2 x6 x7 x8) x5) (k0_pay4 x3)

/-- The two stores into the scratch cover it. -/
theorem scr_pieces (v : View sig .tc .vmem S192x1024 .bf16) (f : v.ty.Contents (Elt F)) (i3 : ∀ a, (![0, 0] : Fin 2 → ℕ) a + S128x1024.size a ≤ S192x1024.size a)
    (i4 : ∀ a, (![128, 0] : Fin 2 → ℕ) a + S64x1024.size a ≤ S192x1024.size a) (p3 : Vec F S128x1024 .bf16) (p4 : Vec F S64x1024 .bf16) :
    v.read (Elt F) (v.writes (Elt F) f [⟨Rect.unit (s := S192x1024) ![128, 0] S64x1024.size i4, p4⟩, ⟨Rect.unit (s := S192x1024) ![0, 0] S128x1024.size i3, p3⟩]) = scrP p3 p4 := by
  funext y
  unfold scrP
  by_cases h : (y 0).val < 128
  · rw [dif_pos h, View.read_writes_cons_unit_of_not_mem v f i4 p4 _ y rfl 0 (Or.inl h)]
    exact View.read_writes_cons_unit_of_mem v f i3 p3 _ y _ rfl fun a => match a with
      | 0 => (Nat.zero_add _).symm
      | 1 => (Nat.zero_add _).symm
  · rw [dif_neg h]
    exact View.read_writes_cons_unit_of_mem v f i4 p4 _ y _ rfl fun a => match a with
      | 0 => by show (y 0).val = 128 + ((y 0).val - 128); omega
      | 1 => (Nat.zero_add _).symm

/-- A whole load of a whole memref is its contents. -/
theorem ldu {s : Shape} {e : EltTy} (M : Memref sig .tc .vmem s e) (h : M.IsWhole) (x : s.Idx → Elt F e) {off : Fin s.rank → ℕ} (inb : ∀ a, off a + s.size a ≤ s.size a) :
    View.readAt (Elt F) M.view (Rect.unit off s.size inb).toLoadRect (h.unread x) = x :=
  (View.readAt_full _ _ inb).trans (h.read_unread x)

theorem app2 {A B Z : Type} (f : A → B → Z) {a a' : A} {b b' : B} (ha : a = a') (hb : b = b') : f a b = f a' b' := by rw [ha, hb]
theorem app4 {A B C D Z : Type} (f : A → B → C → D → Z) {a a' : A} {b b' : B} {c c' : C} {d d' : D} (ha : a = a') (hb : b = b') (hc : c = c') (hd : d = d') :
    f a b c d = f a' b' c' d' := by rw [ha, hb, hc, hd]
theorem app5 {A B C D E Z : Type} (f : A → B → C → D → E → Z) {a a' : A} {b b' : B} {c c' : C} {d d' : D} {e e' : E} (ha : a = a') (hb : b = b') (hc : c = c') (hd : d = d')
    (he : e = e') : f a b c d e = f a' b' c' d' e' := by rw [ha, hb, hc, hd, he]

set_option maxHeartbeats 20000000 in
/-- What the first grid point does. -/
theorem run_first (c : Dev nD) (i : grid0.Coords) (hc : k0_cond1 i = 1#1) (arg1 : Memref sig .tc .vmem S1024x1024 .bf16) (harg1 : arg1.IsWhole) (arg2 : Memref sig .tc .vmem S1024x128 .f32) (harg2 : arg2.IsWhole) (arg3 : Memref sig .tc .vmem S1x1024 .f32) (harg3 : arg3.IsWhole) (arg4 : Memref sig .tc .vmem S64x1024 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S64x1024 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1024x128 .f32) (harg14 : arg14.IsWhole) (arg15 : Memref sig .tc .vmem S192x1024 .bf16) (harg15 : arg15.IsWhole)
    (x0 : Vec F S1024x1024 .bf16) (x1 : Vec F S1024x128 .f32) (x2 : Vec F S1x1024 .f32) (x3 : Vec F S64x1024 .f32) (x4 : Vec F S128x1024 .f32) (x5 : Vec F S1x1024 .f32) (x6 : Vec F S32x1024 .f32) (x7 : Vec F S32x1024 .f32) (x8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay6 (scrV x1 x2 x3 x4 x5 x6 x7 x8) x0) ∗ owns (c : Thread nD τ) arg11 fullShare (k0_pay7 (scrV x1 x2 x3 x4 x5 x6 x7 x8) x0) ∗ owns (c : Thread nD τ) arg12 fullShare (dgV x1 x2 x4 x6 x7) ∗ owns (c : Thread nD τ) arg13 fullShare (dbV x1 x2 x6 x7) ∗ owns (c : Thread nD τ) arg14 fullShare (dkpreV x1 x2 x4 x5 x6 x7 x8) ∗ owns (c : Thread nD τ) arg15 fullShare (scrV x1 x2 x3 x4 x5 x6 x7 x8)) -∗ K ⟨⟩))
      ⊢ wp frame (wpE (defs₀ (F := F)) Variants.none c none) E (cc0_dproj i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dproj_eq_skeleton]; unfold cc0_dproj_skel
  simp only [k0_part1_eq_skeleton]
  rw [dif_pos hc]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec
  have L0 := ldu arg1 harg1 x0 inb_S1024x1024_S1024x1024_0_0
  have L1 := ldu arg2 harg2 x1 inb_S1024x128_S1024x128_0_0
  have L2 := ldu arg3 harg3 x2 inb_S1x1024_S1x1024_0_0
  have L3 := ldu arg4 harg4 x3 inb_S64x1024_S64x1024_0_0
  have L4 := ldu arg5 harg5 x4 inb_S128x1024_S128x1024_0_0
  have L5 := ldu arg6 harg6 x5 inb_S1x1024_S1x1024_0_0
  have L6 := ldu arg7 harg7 x6 inb_S32x1024_S32x1024_0_0
  have L7 := ldu arg8 harg8 x7 inb_S32x1024_S32x1024_0_0
  have L8 := ldu arg9 harg9 x8 inb_S1x128_S1x128_0_0
  have hP := app4 k0_pay3 L4 (app5 k0_pay11 L1 L2 L6 L7 L8) (app5 k0_pay12 L1 L2 L6 L7 L8) L5
  have hS : ∀ f, View.read (Elt F) arg15.view (arg15.view.writes (Elt F) f
      (run_first.sl.H14_2 c arg2 harg2 arg3 harg3 arg4 harg4 arg5 harg5 arg6 harg6 arg7 harg7 arg8 harg8 arg9 harg9 x1 x2 x3 x4 x5 x6 x7 x8)) = scrV x1 x2 x3 x4 x5 x6 x7 x8 := fun f =>
    (scr_pieces arg15.view f inb_S192x1024_S128x1024_0_0 inb_S192x1024_S64x1024_128_0 _ _).trans (app2 scrP hP (congrArg k0_pay4 L3))
  have hV : run_first.sl.v3 c arg2 harg2 arg3 harg3 arg4 harg4 arg5 harg5 arg6 harg6 arg7 harg7 arg8 harg8 arg9 harg9 arg15 x1 x2 x3 x4 x5 x6 x7 x8 = scrV x1 x2 x3 x4 x5 x6 x7 x8 :=
    (View.readAt_full arg15.view _ inb_S192x1024_S192x1024_0_0).trans (hS _)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; exact (View.read_writes_full _ _ _ _ _).trans (app2 k0_pay6 hV L0)
  isplitl [H10]
  · iexists _; isplitr; swap; · iexact H10
    ipureintro; exact (View.read_writes_full _ _ _ _ _).trans (app2 k0_pay7 hV L0)
  isplitl [H11]
  · iexists _; isplitr; swap; · iexact H11
    ipureintro; exact (View.read_writes_full _ _ _ _ _).trans (app5 k0_pay9 L1 L2 L6 L7 L4)
  isplitl [H12]
  · iexists _; isplitr; swap; · iexact H12
    ipureintro; exact (View.read_writes_full _ _ _ _ _).trans (app4 k0_pay10 L1 L2 L6 L7)
  isplitl [H13]
  · iexists _; isplitr; swap; · iexact H13
    ipureintro; exact (View.read_writes_full _ _ _ _ _).trans (app4 k0_pay2 L4 (app5 k0_pay11 L1 L2 L6 L7 L8) (app5 k0_pay12 L1 L2 L6 L7 L8) L5)
  iexists _; isplitr; swap; · iexact H14
  ipureintro; exact hS _

set_option maxHeartbeats 20000000 in
/-- What a later grid point does, with the scratch as it found it. -/
theorem run_later (c : Dev nD) (i : grid0.Coords) (hc : ¬ k0_cond1 i = 1#1) (arg1 : Memref sig .tc .vmem S1024x1024 .bf16) (harg1 : arg1.IsWhole) (arg2 : Memref sig .tc .vmem S1024x128 .f32) (harg2 : arg2.IsWhole) (arg3 : Memref sig .tc .vmem S1x1024 .f32) (harg3 : arg3.IsWhole) (arg4 : Memref sig .tc .vmem S64x1024 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S64x1024 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1024x128 .f32) (harg14 : arg14.IsWhole) (arg15 : Memref sig .tc .vmem S192x1024 .bf16) (harg15 : arg15.IsWhole)
    (x0 : Vec F S1024x1024 .bf16) (r : Vec F S192x1024 .bf16) (E : Set ℕ) (K : PUnit → sProp 𝕄) :
    iprop(owns (c : Thread nD τ) arg1 fullShare x0 ∗ (∃ d, owns (c : Thread nD τ) arg10 fullShare d) ∗ (∃ d, owns (c : Thread nD τ) arg11 fullShare d) ∗ owns (c : Thread nD τ) arg15 fullShare r
        ∗ (iprop(owns (c : Thread nD τ) arg1 fullShare x0 ∗ owns (c : Thread nD τ) arg10 fullShare (k0_pay6 r x0) ∗ owns (c : Thread nD τ) arg11 fullShare (k0_pay7 r x0) ∗ owns (c : Thread nD τ) arg15 fullShare r) -∗ K ⟨⟩))
      ⊢ wp frame (wpE (defs₀ (F := F)) Variants.none c none) E (cc0_dproj i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dproj_eq_skeleton]; unfold cc0_dproj_skel
  rw [dif_neg hc]
  unfold owns
  iintro ⟨⟨%f0, %hf0, H0⟩, ⟨%d9, %f9, -, H9⟩, ⟨%d10, %f10, -, H10⟩, ⟨%f14, %hf14, H14⟩, Hk⟩
  obtain rfl := harg1.eq_unread hf0; obtain rfl := harg15.eq_unread hf14
  have L14 := ldu arg15 harg15 r inb_S192x1024_S192x1024_0_0
  have L0 := ldu arg1 harg1 x0 inb_S1024x1024_S1024x1024_0_0

  sl_exec
  sl_step
  iapply Hk
  isplitl [H0]
  · iexists _; isplitr; · ipureintro; exact harg1.read_unread _
    iexact H0
  isplitl [H9]
  · iexists _; isplitr; swap; · iexact H9
    ipureintro; exact View.read_writes_full _ _ _ _ _
  isplitl [H10]
  · iexists _; isplitr; swap; · iexact H10
    ipureintro; exact View.read_writes_full _ _ _ _ _
  iexists _; isplitr; swap; · iexact H14
  ipureintro; exact harg15.read_unread _

end Cert.DprojIdeal.Gen

end
-- ==== Proof.Dproj.Data.lean ====
module

public import proofs.«01_k».proof.Proof.Dproj.Run
public import Idealize.ShloMosaic.Lib.Pipeline.ArrRel
public import Idealize.ShloMosaic.Lib.Claim

@[expose] public section

set_option maxRecDepth 16384

/-! The launch of the projection kernel over the extended reals: what each grid point leaves in the five output blocks and
in the scratch, and the run with its frame. -/

noncomputable section

namespace Cert.DprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-! ## The staging memrefs -/

/-- Each window's current staging memref at point `t`, as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x128 .f32 := win0_13.stage (cfg0.slots t 13)
abbrev hs0_13 (t : Fin cfg0.N) : (ms0_13 t).IsWhole := hstage0_13 ((cfg0.slots t 13).cast nbuf0_13)
/-- The scratch buffer. -/
abbrev scM0_0 : Memref sig .tc .vmem S192x1024 .bf16 := Memref.whole cc0_scratch0

/-- The frame's invariant: the scratch buffer at some contents, and the generator register. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-! ## The input blocks -/

/-- The grid point's number is its coordinate. -/
theorem coord_val : ∀ t : Fin cfg0.N, (grid0.coords t 0).val = t.val :=
  (by decide +kernel : ∀ t : Fin grid0.N, (grid0.coords t 0).val = t.val)

/-- The branch is taken at the first point and at no other. -/
theorem cond_iff : ∀ t : Fin cfg0.N, k0_cond1 (grid0.coords t) = 1#1 ↔ t.val = 0 :=
  (by decide +kernel : ∀ t : Fin grid0.N, k0_cond1 (grid0.coords t) = 1#1 ↔ t.val = 0)

theorem idx_1 : ∀ t : Fin cfg0.N, win0_1.index t 0 = 0 ∧ win0_1.index t 1 = 0 :=
  (by decide +kernel : ∀ t : Fin grid0.N, win0_1.index t 0 = 0 ∧ win0_1.index t 1 = 0)

/-- The block of the keys' gradient is the whole array. -/
theorem iblk_1 (c : Dev nD) (t : Fin cfg0.N) : iblk m c 1 t = V m c main_arg1 := by
  funext j
  refine congrArg (V m c main_arg1) (funext fun a => Fin.ext ?_)
  match a with
  | 0 => show win0_1.index t (0 : Fin 2) * 1024 + 1 * (j 0).val = (j 0).val; have := (idx_1 t).1; omega
  | 1 => show win0_1.index t (1 : Fin 2) * 128 + 1 * (j 1).val = (j 1).val; have := (idx_1 t).2; omega

theorem idx_2 : ∀ t : Fin cfg0.N, win0_2.index t 0 = 0 ∧ win0_2.index t 1 = 0 :=
  (by decide +kernel : ∀ t : Fin grid0.N, win0_2.index t 0 = 0 ∧ win0_2.index t 1 = 0)

/-- The block of the keys' scales is the whole array. -/
theorem iblk_2 (c : Dev nD) (t : Fin cfg0.N) : iblk m c 2 t = V m c main_arg2 := by
  funext j
  refine congrArg (V m c main_arg2) (funext fun a => Fin.ext ?_)
  match a with
  | 0 => show win0_2.index t (0 : Fin 2) * 1 + 1 * (j 0).val = (j 0).val; have := (idx_2 t).1; omega
  | 1 => show win0_2.index t (1 : Fin 2) * 1024 + 1 * (j 1).val = (j 1).val; have := (idx_2 t).2; omega

theorem idx_3 : ∀ t : Fin cfg0.N, win0_3.index t 0 = 0 ∧ win0_3.index t 1 = 0 :=
  (by decide +kernel : ∀ t : Fin grid0.N, win0_3.index t 0 = 0 ∧ win0_3.index t 1 = 0)

/-- The block of the heads' weights' gradient is the whole array. -/
theorem iblk_3 (c : Dev nD) (t : Fin cfg0.N) : iblk m c 3 t = V m c main_arg3 := by
  funext j
  refine congrArg (V m c main_arg3) (funext fun a => Fin.ext ?_)
  match a with
  | 0 => show win0_3.index t (0 : Fin 2) * 64 + 1 * (j 0).val = (j 0).val; have := (idx_3 t).1; omega
  | 1 => show win0_3.index t (1 : Fin 2) * 1024 + 1 * (j 1).val = (j 1).val; have := (idx_3 t).2; omega

theorem idx_4 : ∀ t : Fin cfg0.N, win0_4.index t 0 = 0 ∧ win0_4.index t 1 = 0 :=
  (by decide +kernel : ∀ t : Fin grid0.N, win0_4.index t 0 = 0 ∧ win0_4.index t 1 = 0)

/-- The block of the normalised keys is the whole array. -/
theorem iblk_4 (c : Dev nD) (t : Fin cfg0.N) : iblk m c 4 t = V m c main_arg4 := by
  funext j
  refine congrArg (V m c main_arg4) (funext fun a => Fin.ext ?_)
  match a with
  | 0 => show win0_4.index t (0 : Fin 2) * 128 + 1 * (j 0).val = (j 0).val; have := (idx_4 t).1; omega
  | 1 => show win0_4.index t (1 : Fin 2) * 1024 + 1 * (j 1).val = (j 1).val; have := (idx_4 t).2; omega

theorem idx_5 : ∀ t : Fin cfg0.N, win0_5.index t 0 = 0 ∧ win0_5.index t 1 = 0 :=
  (by decide +kernel : ∀ t : Fin grid0.N, win0_5.index t 0 = 0 ∧ win0_5.index t 1 = 0)

/-- The block of the standard deviations is the whole array. -/
theorem iblk_5 (c : Dev nD) (t : Fin cfg0.N) : iblk m c 5 t = V m c main_arg5 := by
  funext j
  refine congrArg (V m c main_arg5) (funext fun a => Fin.ext ?_)
  match a with
  | 0 => show win0_5.index t (0 : Fin 2) * 1 + 1 * (j 0).val = (j 0).val; have := (idx_5 t).1; omega
  | 1 => show win0_5.index t (1 : Fin 2) * 1024 + 1 * (j 1).val = (j 1).val; have := (idx_5 t).2; omega

theorem idx_6 : ∀ t : Fin cfg0.N, win0_6.index t 0 = 0 ∧ win0_6.index t 1 = 0 :=
  (by decide +kernel : ∀ t : Fin grid0.N, win0_6.index t 0 = 0 ∧ win0_6.index t 1 = 0)

/-- The block of the cosines is the whole array. -/
theorem iblk_6 (c : Dev nD) (t : Fin cfg0.N) : iblk m c 6 t = V m c main_arg6 := by
  funext j
  refine congrArg (V m c main_arg6) (funext fun a => Fin.ext ?_)
  match a with
  | 0 => show win0_6.index t (0 : Fin 2) * 32 + 1 * (j 0).val = (j 0).val; have := (idx_6 t).1; omega
  | 1 => show win0_6.index t (1 : Fin 2) * 1024 + 1 * (j 1).val = (j 1).val; have := (idx_6 t).2; omega

theorem idx_7 : ∀ t : Fin cfg0.N, win0_7.index t 0 = 0 ∧ win0_7.index t 1 = 0 :=
  (by decide +kernel : ∀ t : Fin grid0.N, win0_7.index t 0 = 0 ∧ win0_7.index t 1 = 0)

/-- The block of the sines is the whole array. -/
theorem iblk_7 (c : Dev nD) (t : Fin cfg0.N) : iblk m c 7 t = V m c main_arg7 := by
  funext j
  refine congrArg (V m c main_arg7) (funext fun a => Fin.ext ?_)
  match a with
  | 0 => show win0_7.index t (0 : Fin 2) * 32 + 1 * (j 0).val = (j 0).val; have := (idx_7 t).1; omega
  | 1 => show win0_7.index t (1 : Fin 2) * 1024 + 1 * (j 1).val = (j 1).val; have := (idx_7 t).2; omega

theorem idx_8 : ∀ t : Fin cfg0.N, win0_8.index t 0 = 0 ∧ win0_8.index t 1 = 0 :=
  (by decide +kernel : ∀ t : Fin grid0.N, win0_8.index t 0 = 0 ∧ win0_8.index t 1 = 0)

/-- The block of the norm's scale is the whole array. -/
theorem iblk_8 (c : Dev nD) (t : Fin cfg0.N) : iblk m c 8 t = V m c main_arg8 := by
  funext j
  refine congrArg (V m c main_arg8) (funext fun a => Fin.ext ?_)
  match a with
  | 0 => show win0_8.index t (0 : Fin 2) * 1 + 1 * (j 0).val = (j 0).val; have := (idx_8 t).1; omega
  | 1 => show win0_8.index t (1 : Fin 2) * 128 + 1 * (j 1).val = (j 1).val; have := (idx_8 t).2; omega

/-! ## The proof data -/

/-- The scratch's contents from the first point on. -/
def scrM (c : Dev nD) : Vec Ideal S192x1024 .bf16 := scrV (V m c main_arg1) (V m c main_arg2) (V m c main_arg3) (V m c main_arg4) (V m c main_arg5) (V m c main_arg6) (V m c main_arg7) (V m c main_arg8)

/-- What a grid point leaves in the first projection's gradient: the product of the scratch with its block of the
    activations, its first 128 rows transposed. -/
def rel9 (c : Dev nD) (t : Fin cfg0.N) (X : Vec Ideal S1024x128 .f32) : Prop := X = k0_pay6 (scrM m c) (iblk m c 0 t)

/-- What a grid point leaves in the second projection's gradient: the last 64 rows of the same product. -/
def rel10 (c : Dev nD) (t : Fin cfg0.N) (X : Vec Ideal S64x1024 .f32) : Prop := X = k0_pay7 (scrM m c) (iblk m c 0 t)

/-- What a grid point leaves in the gradient of the norm's scale: the first point stores it, a later one leaves it. -/
def rel11 (c : Dev nD) (t : Fin cfg0.N) (Y X : Vec Ideal S1x128 .f32) : Prop := X = if t.val = 0 then dgV (V m c main_arg1) (V m c main_arg2) (V m c main_arg4) (V m c main_arg6) (V m c main_arg7) else Y

/-- What a grid point leaves in the gradient of the norm's shift: the first point stores it, a later one leaves it. -/
def rel12 (c : Dev nD) (t : Fin cfg0.N) (Y X : Vec Ideal S1x128 .f32) : Prop := X = if t.val = 0 then dbV (V m c main_arg1) (V m c main_arg2) (V m c main_arg6) (V m c main_arg7) else Y

/-- What a grid point leaves in the gradient before the norm: the first point stores it, a later one leaves it. -/
def rel13 (c : Dev nD) (t : Fin cfg0.N) (Y X : Vec Ideal S1024x128 .f32) : Prop := X = if t.val = 0 then dkpreV (V m c main_arg1) (V m c main_arg2) (V m c main_arg4) (V m c main_arg5) (V m c main_arg6) (V m c main_arg7) (V m c main_arg8) else Y

/-- What holds between points: at first nothing of the scratch, from the first point on its contents. -/
def Phi (c : Dev nD) (n : ℕ) : sProp 𝕄 :=
  iprop((∃ d, ⌜0 < n → d = scrM m c⌝ ∗ owns (c : Thread nD τ) scM0_0 fullShare d) ∗ (∃ r, prngReg c r))

/-- The exact part of the proof data: every input's buffer at its block. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := Phi m c t.val
  q _ := fullShare
  owed _ := 0

/-- The outputs' relations; none for an input. -/
def ovr (c : Dev nD) : (w : Fin cfg0.W) → Option (Fin cfg0.N → (Y X : (cfg0.win w).block.Idx → Elt Ideal (cfg0.win w).elt) → Prop)
  | ⟨9, _⟩ => some fun t _ X => rel9 m c t X
  | ⟨10, _⟩ => some fun t _ X => rel10 m c t X
  | ⟨11, _⟩ => some fun t Y X => rel11 m c t Y X
  | ⟨12, _⟩ => some fun t Y X => rel12 m c t Y X
  | ⟨13, _⟩ => some fun t Y X => rel13 m c t Y X
  | _ => none

/-- The proof data: the inputs exact, each output in its relation. -/
def rdat (c : Dev nD) : RDat τ (Elt Ideal) Unit ℕ (UR sig nD τ) ℕ cfg0 c := (dats m c).toR.override (ovr m c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]
theorem after0_7 (c : Dev nD) (t : Fin cfg0.N) : (dats m c).after 7 t = iblk m c 7 t := by dsimp only [dats]
theorem after0_8 (c : Dev nD) (t : Fin cfg0.N) : (dats m c).after 8 t = iblk m c 8 t := by dsimp only [dats]

/-- What the body finds in each input's buffer: its block. -/
theorem find0 (c : Dev nD) (t : Fin cfg0.N) (Y : (cfg0.win 0).block.Idx → Elt Ideal (cfg0.win 0).elt) (h : (rdat m c).Finds 0 t Y) : Y = iblk m c 0 t :=
  let ⟨d, hd⟩ := (dats m c).toR_finds 0 t Y (((dats m c).toR.override_finds (ovr := ovr m c) (w := 0) rfl t Y).mp h)
  hd.trans (before0_0_of m (dats m c) (A_eq m c 0) (after0_0 m c) t d)
theorem find1 (c : Dev nD) (t : Fin cfg0.N) (Y : (cfg0.win 1).block.Idx → Elt Ideal (cfg0.win 1).elt) (h : (rdat m c).Finds 1 t Y) : Y = iblk m c 1 t :=
  let ⟨d, hd⟩ := (dats m c).toR_finds 1 t Y (((dats m c).toR.override_finds (ovr := ovr m c) (w := 1) rfl t Y).mp h)
  hd.trans (before0_1_of m (dats m c) (A_eq m c 1) (after0_1 m c) t d)
theorem find2 (c : Dev nD) (t : Fin cfg0.N) (Y : (cfg0.win 2).block.Idx → Elt Ideal (cfg0.win 2).elt) (h : (rdat m c).Finds 2 t Y) : Y = iblk m c 2 t :=
  let ⟨d, hd⟩ := (dats m c).toR_finds 2 t Y (((dats m c).toR.override_finds (ovr := ovr m c) (w := 2) rfl t Y).mp h)
  hd.trans (before0_2_of m (dats m c) (A_eq m c 2) (after0_2 m c) t d)
theorem find3 (c : Dev nD) (t : Fin cfg0.N) (Y : (cfg0.win 3).block.Idx → Elt Ideal (cfg0.win 3).elt) (h : (rdat m c).Finds 3 t Y) : Y = iblk m c 3 t :=
  let ⟨d, hd⟩ := (dats m c).toR_finds 3 t Y (((dats m c).toR.override_finds (ovr := ovr m c) (w := 3) rfl t Y).mp h)
  hd.trans (before0_3_of m (dats m c) (A_eq m c 3) (after0_3 m c) t d)
theorem find4 (c : Dev nD) (t : Fin cfg0.N) (Y : (cfg0.win 4).block.Idx → Elt Ideal (cfg0.win 4).elt) (h : (rdat m c).Finds 4 t Y) : Y = iblk m c 4 t :=
  let ⟨d, hd⟩ := (dats m c).toR_finds 4 t Y (((dats m c).toR.override_finds (ovr := ovr m c) (w := 4) rfl t Y).mp h)
  hd.trans (before0_4_of m (dats m c) (A_eq m c 4) (after0_4 m c) t d)
theorem find5 (c : Dev nD) (t : Fin cfg0.N) (Y : (cfg0.win 5).block.Idx → Elt Ideal (cfg0.win 5).elt) (h : (rdat m c).Finds 5 t Y) : Y = iblk m c 5 t :=
  let ⟨d, hd⟩ := (dats m c).toR_finds 5 t Y (((dats m c).toR.override_finds (ovr := ovr m c) (w := 5) rfl t Y).mp h)
  hd.trans (before0_5_of m (dats m c) (A_eq m c 5) (after0_5 m c) t d)
theorem find6 (c : Dev nD) (t : Fin cfg0.N) (Y : (cfg0.win 6).block.Idx → Elt Ideal (cfg0.win 6).elt) (h : (rdat m c).Finds 6 t Y) : Y = iblk m c 6 t :=
  let ⟨d, hd⟩ := (dats m c).toR_finds 6 t Y (((dats m c).toR.override_finds (ovr := ovr m c) (w := 6) rfl t Y).mp h)
  hd.trans (before0_6_of m (dats m c) (A_eq m c 6) (after0_6 m c) t d)
theorem find7 (c : Dev nD) (t : Fin cfg0.N) (Y : (cfg0.win 7).block.Idx → Elt Ideal (cfg0.win 7).elt) (h : (rdat m c).Finds 7 t Y) : Y = iblk m c 7 t :=
  let ⟨d, hd⟩ := (dats m c).toR_finds 7 t Y (((dats m c).toR.override_finds (ovr := ovr m c) (w := 7) rfl t Y).mp h)
  hd.trans (before0_7_of m (dats m c) (A_eq m c 7) (after0_7 m c) t d)
theorem find8 (c : Dev nD) (t : Fin cfg0.N) (Y : (cfg0.win 8).block.Idx → Elt Ideal (cfg0.win 8).elt) (h : (rdat m c).Finds 8 t Y) : Y = iblk m c 8 t :=
  let ⟨d, hd⟩ := (dats m c).toR_finds 8 t Y (((dats m c).toR.override_finds (ovr := ovr m c) (w := 8) rfl t Y).mp h)
  hd.trans (before0_8_of m (dats m c) (A_eq m c 8) (after0_8 m c) t d)

/-- An input's block left in place is what its relation asks. -/
theorem keep0 (c : Dev nD) (t : Fin cfg0.N) (Y : (cfg0.win 0).block.Idx → Elt Ideal (cfg0.win 0).elt) : (rdat m c).after 0 t Y (iblk m c 0 t) :=
  (after0_0 m c t).symm
theorem keep1 (c : Dev nD) (t : Fin cfg0.N) (Y : (cfg0.win 1).block.Idx → Elt Ideal (cfg0.win 1).elt) : (rdat m c).after 1 t Y (iblk m c 1 t) :=
  (after0_1 m c t).symm
theorem keep2 (c : Dev nD) (t : Fin cfg0.N) (Y : (cfg0.win 2).block.Idx → Elt Ideal (cfg0.win 2).elt) : (rdat m c).after 2 t Y (iblk m c 2 t) :=
  (after0_2 m c t).symm
theorem keep3 (c : Dev nD) (t : Fin cfg0.N) (Y : (cfg0.win 3).block.Idx → Elt Ideal (cfg0.win 3).elt) : (rdat m c).after 3 t Y (iblk m c 3 t) :=
  (after0_3 m c t).symm
theorem keep4 (c : Dev nD) (t : Fin cfg0.N) (Y : (cfg0.win 4).block.Idx → Elt Ideal (cfg0.win 4).elt) : (rdat m c).after 4 t Y (iblk m c 4 t) :=
  (after0_4 m c t).symm
theorem keep5 (c : Dev nD) (t : Fin cfg0.N) (Y : (cfg0.win 5).block.Idx → Elt Ideal (cfg0.win 5).elt) : (rdat m c).after 5 t Y (iblk m c 5 t) :=
  (after0_5 m c t).symm
theorem keep6 (c : Dev nD) (t : Fin cfg0.N) (Y : (cfg0.win 6).block.Idx → Elt Ideal (cfg0.win 6).elt) : (rdat m c).after 6 t Y (iblk m c 6 t) :=
  (after0_6 m c t).symm
theorem keep7 (c : Dev nD) (t : Fin cfg0.N) (Y : (cfg0.win 7).block.Idx → Elt Ideal (cfg0.win 7).elt) : (rdat m c).after 7 t Y (iblk m c 7 t) :=
  (after0_7 m c t).symm
theorem keep8 (c : Dev nD) (t : Fin cfg0.N) (Y : (cfg0.win 8).block.Idx → Elt Ideal (cfg0.win 8).elt) : (rdat m c).after 8 t Y (iblk m c 8 t) :=
  (after0_8 m c t).symm

/-! ## The body obligation -/

/-- One run of the body at point `t`, its inputs' blocks in place. -/
theorem sound_body (c : Dev nD) (t : Fin cfg0.N) (Y11 Y12 : Vec Ideal S1x128 .f32) (Y13 : Vec Ideal S1024x128 .f32) (O : sProp 𝕄) :
    iprop(Phi m c t.val ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ (∃ d, owns (c : Thread nD τ) (ms0_9 t) fullShare d)
      ∗ (∃ d, owns (c : Thread nD τ) (ms0_10 t) fullShare d)
      ∗ owns (c : Thread nD τ) (ms0_11 t) fullShare Y11
      ∗ owns (c : Thread nD τ) (ms0_12 t) fullShare Y12
      ∗ owns (c : Thread nD τ) (ms0_13 t) fullShare Y13)
    ⊢ wp frame (wpE (defs₀ (F := Ideal)) Variants.none c none) Set.univ (bodyAt0 t) (fun _ => iprop(Phi m c (t.val + 1) ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ (∃ X, ⌜rel9 m c t X⌝ ∗ owns (c : Thread nD τ) (ms0_9 t) fullShare X)
      ∗ (∃ X, ⌜rel10 m c t X⌝ ∗ owns (c : Thread nD τ) (ms0_10 t) fullShare X)
      ∗ (∃ X, ⌜rel11 m c t Y11 X⌝ ∗ owns (c : Thread nD τ) (ms0_11 t) fullShare X)
      ∗ (∃ X, ⌜rel12 m c t Y12 X⌝ ∗ owns (c : Thread nD τ) (ms0_12 t) fullShare X)
      ∗ (∃ X, ⌜rel13 m c t Y13 X⌝ ∗ owns (c : Thread nD τ) (ms0_13 t) fullShare X))) := by
  have eS : scrV (iblk m c 1 t) (iblk m c 2 t) (iblk m c 3 t) (iblk m c 4 t) (iblk m c 5 t) (iblk m c 6 t) (iblk m c 7 t) (iblk m c 8 t) = scrM m c := by
    unfold scrM; rw [iblk_1, iblk_2, iblk_3, iblk_4, iblk_5, iblk_6, iblk_7, iblk_8]
  unfold bodyAt0 Phi
  by_cases h0 : t.val = 0
  · have hc := (cond_iff t).mpr h0
    iintro ⟨⟨⟨%ds, -, HS⟩, Hg⟩, Ho, H0, H1, H2, H3, H4, H5, H6, H7, H8, H9, H10, H11, H12, H13⟩
    iapply (run_first (F := Ideal) c (grid0.coords t) hc _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS]; · iexists _; iexact HS
    iintro ⟨H0, H1, H2, H3, H4, H5, H6, H7, H8, H9, H10, H11, H12, H13, HS⟩
    isplitl [HS Hg]
    · isplitl [HS]
      · iexists _; isplitr; swap; · iexact HS
        ipureintro; exact fun _ => eS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro; exact congrArg (fun z => k0_pay6 z (iblk m c 0 t)) eS
    isplitl [H10]
    · iexists _; isplitr; swap; · iexact H10
      ipureintro; exact congrArg (fun z => k0_pay7 z (iblk m c 0 t)) eS
    isplitl [H11]
    · iexists _; isplitr; swap; · iexact H11
      ipureintro; unfold rel11; rw [if_pos h0, iblk_1, iblk_2, iblk_4, iblk_6, iblk_7]
    isplitl [H12]
    · iexists _; isplitr; swap; · iexact H12
      ipureintro; unfold rel12; rw [if_pos h0, iblk_1, iblk_2, iblk_6, iblk_7]
    iexists _; isplitr; swap; · iexact H13
    ipureintro; unfold rel13; rw [if_pos h0, iblk_1, iblk_2, iblk_4, iblk_5, iblk_6, iblk_7, iblk_8]
  · have hc : ¬ k0_cond1 (grid0.coords t) = 1#1 := fun h => h0 ((cond_iff t).mp h)
    iintro ⟨⟨⟨%ds, %hd, HS⟩, Hg⟩, Ho, H0, H1, H2, H3, H4, H5, H6, H7, H8, H9, H10, H11, H12, H13⟩
    obtain rfl := hd (by omega)
    iapply (run_later (F := Ideal) c (grid0.coords t) hc _ _ _ _ _ _ _ _ _ _ _ _ _ _ _ _ _ _ _ _ _ _ _ _ _ _ _ _ _ _ (iblk m c 0 t) (scrM m c) Set.univ _)
    isplitl [H0]; · iexact H0
    isplitl [H9]; · iexact H9
    isplitl [H10]; · iexact H10
    isplitl [HS]; · iexact HS
    iintro ⟨H0, H9, H10, HS⟩
    isplitl [HS Hg]
    · isplitl [HS]
      · iexists _; isplitr; swap; · iexact HS
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; exact (if_neg h0).symm
    isplitl [H12]
    · iexists _; isplitr; swap; · iexact H12
      ipureintro; exact (if_neg h0).symm
    iexists _; isplitr; swap; · iexact H13
    ipureintro; exact (if_neg h0).symm

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Ideal)) Variants.none () Set.univ := fun t Y hY => by
  rw [bigSep_W0, bigSep_W0, defs₀_row]
  have e0 := find0 m c t (Y 0) (hY 0)
  have e1 := find1 m c t (Y 1) (hY 1)
  have e2 := find2 m c t (Y 2) (hY 2)
  have e3 := find3 m c t (Y 3) (hY 3)
  have e4 := find4 m c t (Y 4) (hY 4)
  have e5 := find5 m c t (Y 5) (hY 5)
  have e6 := find6 m c t (Y 6) (hY 6)
  have e7 := find7 m c t (Y 7) (hY 7)
  have e8 := find8 m c t (Y 8) (hY 8)
  rw [e0, e1, e2, e3, e4, e5, e6, e7, e8, show (rdat m c).Φ t.castSucc = Phi m c t.val from rfl, show (rdat m c).Φ t.succ = Phi m c (t.val + 1) from rfl]
  refine triple_restated (sound_body m c t (Y 11) (Y 12) (Y 13) ((rdat m c).owesAt () t.castSucc)) rfl ?_ fun _ => ?_
  · iintro ⟨HA, Ho, H0, H1, H2, H3, H4, H5, H6, H7, H8, H9, H10, H11, H12, H13⟩
    isplitl [HA]; · iexact HA
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    iexact H13
  · iintro ⟨HA, Ho, H0, H1, H2, H3, H4, H5, H6, H7, H8, ⟨%X9, %h9, H9⟩, ⟨%X10, %h10, H10⟩, ⟨%X11, %h11, H11⟩, ⟨%X12, %h12, H12⟩, ⟨%X13, %h13, H13⟩⟩
    isplitl [HA]; · iexact HA
    isplitl [Ho]; · iexact Ho
    isplitl [H0]
    · iexists (iblk m c 0 t); isplitr; · ipureintro; exact keep0 m c t _
      iexact H0
    isplitl [H1]
    · iexists (iblk m c 1 t); isplitr; · ipureintro; exact keep1 m c t _
      iexact H1
    isplitl [H2]
    · iexists (iblk m c 2 t); isplitr; · ipureintro; exact keep2 m c t _
      iexact H2
    isplitl [H3]
    · iexists (iblk m c 3 t); isplitr; · ipureintro; exact keep3 m c t _
      iexact H3
    isplitl [H4]
    · iexists (iblk m c 4 t); isplitr; · ipureintro; exact keep4 m c t _
      iexact H4
    isplitl [H5]
    · iexists (iblk m c 5 t); isplitr; · ipureintro; exact keep5 m c t _
      iexact H5
    isplitl [H6]
    · iexists (iblk m c 6 t); isplitr; · ipureintro; exact keep6 m c t _
      iexact H6
    isplitl [H7]
    · iexists (iblk m c 7 t); isplitr; · ipureintro; exact keep7 m c t _
      iexact H7
    isplitl [H8]
    · iexists (iblk m c 8 t); isplitr; · ipureintro; exact keep8 m c t _
      iexact H8
    isplitl [H9]
    · iexists X9; isplitr; · ipureintro; exact h9
      iexact H9
    isplitl [H10]
    · iexists X10; isplitr; · ipureintro; exact h10
      iexact H10
    isplitl [H11]
    · iexists X11; isplitr; · ipureintro; exact h11
      iexact H11
    isplitl [H12]
    · iexists X12; isplitr; · ipureintro; exact h12
      iexact H12
    iexists X13; isplitr; · ipureintro; exact h13
    iexact H13

/-! ## The run and the frame -/

/-- At entry nothing is asked of the scratch. -/
theorem Phi_in (c : Dev nD) : (Pipeline.ΦA spec0 c : sProp 𝕄) ⊢ (rdat m c).Φ 0 := by
  rw [show (rdat m c).Φ 0 = Phi m c 0 from rfl, PhiA0_eq]
  unfold Phi
  iintro ⟨⟨%d, HS⟩, Hg⟩
  isplitl [HS]
  · iexists _; isplitr; swap; · iexact HS
    ipureintro; exact fun h => absurd h (Nat.lt_irrefl 0)
  iexact Hg

/-- At exit the scratch's contents are let go. -/
theorem Phi_out (c : Dev nD) : (rdat m c).Φ (Fin.last cfg0.N) ⊢ (Pipeline.ΦA spec0 c : sProp 𝕄) := by
  rw [show (rdat m c).Φ (Fin.last cfg0.N) = Phi m c cfg0.N from rfl, PhiA0_eq]
  unfold Phi
  iintro ⟨⟨%d, -, HS⟩, Hg⟩
  isplitl [HS]
  · iexists _; iexact HS
  iexact Hg

set_option backward.isDefEq.respectTransparency.types false in
/-- Every execution terminates, with every array as the proof data say and every semaphore counter at zero. -/
theorem run_main : θ_run defs (onTc (τ := τ) (main (F := Ideal))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := body_obligation m) (hshare := fun c => (dats m c).share_full fun _ => rfl)
    (howed := fun _ _ => rfl) (V := V m) (hmain := hmain m Variants.none) (hA := A_eq m) (hin := Phi_in m) (hout := Phi_out m)

/-- The argument arrays end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c))⟩, h.2⟩) (run_main m ρ)

end Cert.DprojIdeal.Gen

end
-- ==== Proof.Dproj.Pay.lean ====
module

public import proofs.«01_k».proof.Proof.Dproj.Spec
public import proofs.«01_k».proof.Proof.Dproj.Data

@[expose] public section

set_option maxRecDepth 16384

/-! What one run of the projection kernel computes over the extended reals, read at an index. -/

noncomputable section

namespace Cert.DprojIdeal.Gen

open Idealize.ShloMosaic Idealize.ShloMosaic.TcCoe
open Cert.BwdMath Cert.DprojSpec

variable (x1 : Vec Ideal S1024x128 .f32) (x2 : Vec Ideal S1x1024 .f32) (x3 : Vec Ideal S64x1024 .f32) (x4 : Vec Ideal S128x1024 .f32) (x5 : Vec Ideal S1x1024 .f32)
  (x6 x7 : Vec Ideal S32x1024 .f32) (x8 : Vec Ideal S1x128 .f32)

/-- The normalised keys' gradient. -/
theorem pay8_at (e : Fin 128) (t : Fin 1024) : k0_pay8 (F := Ideal) x1 x2 x6 x7 (ix2 e t) = normed x1 x2 x6 x7 t e := by
  pointwise [k0_pay8, normed, ropeInv]

theorem pay9_at (e : Fin 128) : k0_pay9 (F := Ideal) x1 x2 x6 x7 x4 (ix2 0 e) = (∑ t, k0_pay8 (F := Ideal) x1 x2 x6 x7 (ix2 e t) * x4 (ix2 e t) : EReal) := by
  pointwise [k0_pay9]

theorem pay10_at (e : Fin 128) : k0_pay10 (F := Ideal) x1 x2 x6 x7 (ix2 0 e) = (∑ t, k0_pay8 (F := Ideal) x1 x2 x6 x7 (ix2 e t) : EReal) := by
  pointwise [k0_pay10]

theorem pay11_at (e : Fin 128) (t : Fin 1024) : k0_pay11 (F := Ideal) x1 x2 x6 x7 x8 (ix2 e t) = (k0_pay8 (F := Ideal) x1 x2 x6 x7 (ix2 e t) * x8 (ix2 0 e) : EReal) := by
  pointwise [k0_pay11]

theorem pay12_at (t : Fin 1024) : k0_pay12 (F := Ideal) x1 x2 x6 x7 x8 (ix2 0 t) = Ideal.div (∑ e, k0_pay11 (F := Ideal) x1 x2 x6 x7 x8 (ix2 e t)) (Ideal.ofBits .f32 0x43000000#32) := by
  pointwise [k0_pay12]

theorem pay1_at (u : FVec Ideal S128x1024 .f32) (v : FVec Ideal S1x1024 .f32) (e : Fin 128) (t : Fin 1024) :
    k0_pay1 (F := Ideal) x4 u v x5 (ix2 e t)
      = Ideal.div (u (ix2 e t) - v (ix2 0 t) - x4 (ix2 e t) * Ideal.div (∑ d, u (ix2 d t) * x4 (ix2 d t)) (Ideal.ofBits .f32 0x43000000#32)) (x5 (ix2 0 t)) := by
  pointwise [k0_pay1]

theorem pay2_at (u : FVec Ideal S128x1024 .f32) (v : FVec Ideal S1x1024 .f32) (e : Fin 128) (t : Fin 1024) :
    k0_pay2 (F := Ideal) x4 u v x5 (ix2 t e) = k0_pay1 (F := Ideal) x4 u v x5 (ix2 e t) := by
  pointwise [k0_pay2]

theorem pay3_at (u : FVec Ideal S128x1024 .f32) (v : FVec Ideal S1x1024 .f32) (e : Fin 128) (t : Fin 1024) :
    k0_pay3 (F := Ideal) x4 u v x5 (ix2 e t) = k0_pay1 (F := Ideal) x4 u v x5 (ix2 e t) := by
  pointwise [k0_pay3]

theorem pay4_at (h : Fin 64) (t : Fin 1024) : k0_pay4 (F := Ideal) x3 (ix2 h t) = (x3 (ix2 h t) * Ideal.ofBits .f32 0x3C3504F3#32 : EReal) := by
  pointwise [k0_pay4]

/-- The gradient of the keys' projection at a block of the activations, of any scratch. -/
theorem pay6_at (r : Vec Ideal S192x1024 .bf16) (b : Vec Ideal S1024x1024 .bf16) (n : Fin 1024) (e : Fin 128) :
    k0_pay6 (F := Ideal) r b (ix2 n e) = (∑ t, r (ix2 (n0 := 192) (n1 := 1024) ⟨e.val, by omega⟩ t) * b (ix2 t n) : EReal) := by
  pointwise [k0_pay6, k0_pay5]

/-- The gradient of the heads' weights' projection at a block of the activations, of any scratch. -/
theorem pay7_at (r : Vec Ideal S192x1024 .bf16) (b : Vec Ideal S1024x1024 .bf16) (h : Fin 64) (n : Fin 1024) :
    k0_pay7 (F := Ideal) r b (ix2 h n) = (∑ t, r (ix2 (n0 := 192) (n1 := 1024) ⟨128 + h.val, by omega⟩ t) * b (ix2 t n) : EReal) := by
  pointwise [k0_pay7, k0_pay5]

/-- The gradient before the norm, feature by token. -/
theorem pre_at (e : Fin 128) (t : Fin 1024) :
    k0_pay1 (F := Ideal) x4 (k0_pay11 x1 x2 x6 x7 x8) (k0_pay12 x1 x2 x6 x7 x8) x5 (ix2 e t) = pre x1 x2 x4 x5 x6 x7 x8 t e := by
  rw [pay1_at, pay12_at]
  simp only [pay11_at, pay8_at]
  rfl

theorem dgV_eq : dgV x1 x2 x4 x6 x7 = scaleArr x1 x2 x4 x6 x7 := by
  funext y
  obtain ⟨z, e, rfl⟩ : ∃ (z : Fin 1) (e : Fin 128), y = ix2 z e := ⟨y 0, y 1, (ix2_eta y).symm⟩
  obtain rfl : z = 0 := Subsingleton.elim _ _
  refine (pay9_at x1 x2 x4 x6 x7 e).trans ?_
  simp only [pay8_at]
  rfl

theorem dbV_eq : dbV x1 x2 x6 x7 = shiftArr x1 x2 x6 x7 := by
  funext y
  obtain ⟨z, e, rfl⟩ : ∃ (z : Fin 1) (e : Fin 128), y = ix2 z e := ⟨y 0, y 1, (ix2_eta y).symm⟩
  obtain rfl : z = 0 := Subsingleton.elim _ _
  refine (pay10_at x1 x2 x6 x7 e).trans ?_
  simp only [pay8_at]
  rfl

theorem dkpreV_eq : dkpreV x1 x2 x4 x5 x6 x7 x8 = preArr x1 x2 x4 x5 x6 x7 x8 := by
  funext y
  obtain ⟨t, e, rfl⟩ : ∃ (t : Fin 1024) (e : Fin 128), y = ix2 t e := ⟨y 0, y 1, (ix2_eta y).symm⟩
  exact (pay2_at x4 x5 _ _ e t).trans (pre_at x1 x2 x4 x5 x6 x7 x8 e t)

/-- The scratch's upper rows. -/
theorem scrV_hi (e : Fin 128) (t : Fin 1024) (h : e.val < 192) : scrV x1 x2 x3 x4 x5 x6 x7 x8 (ix2 (n0 := 192) (n1 := 1024) ⟨e.val, h⟩ t) = pre x1 x2 x4 x5 x6 x7 x8 t e :=
  (dif_pos e.isLt).trans ((pay3_at x4 x5 _ _ e t).trans (pre_at x1 x2 x4 x5 x6 x7 x8 e t))

/-- The scratch's lower rows. -/
theorem scrV_lo (h : Fin 64) (t : Fin 1024) (hh : 128 + h.val < 192) :
    scrV x1 x2 x3 x4 x5 x6 x7 x8 (ix2 (n0 := 192) (n1 := 1024) ⟨128 + h.val, hh⟩ t) = (x3 (ix2 h t) * Ideal.ofBits .f32 0x3C3504F3#32 : EReal) := by
  refine (dif_neg (by show ¬ 128 + h.val < 128; omega)).trans (Eq.trans (congrArg (k0_pay4 (F := Ideal) x3) (funext fun a => Fin.ext ?_)) (pay4_at x3 h t))
  match a with
  | 0 => show 128 + h.val - 128 = h.val; omega
  | 1 => rfl

end Cert.DprojIdeal.Gen

end
-- ==== Proof.Dproj.Final.lean ====
module

public import proofs.«01_k».proof.Proof.Dproj.Pay

@[expose] public section

set_option maxRecDepth 16384

/-! The result arrays of the projection kernel over the extended reals. -/

noncomputable section

namespace Cert.DprojIdeal.Gen

open Idealize.ShloMosaic Idealize.ShloMosaic.TcCoe Idealize.SL.Sem
open Idealize.ShloMosaic.Pipeline (Dat RDat)
open Cert.DprojSpec

variable (m : (ℓ : Loc nD τ sig) → Buf (Elt Ideal) ℓ) (ρ : Dev nD → PrngReg)

/-! ## The blocks of the activations and of the results -/

theorem idx_0 : ∀ t : Fin cfg0.N, win0_0.index t 0 = 0 ∧ win0_0.index t 1 = (grid0.coords t 0).val :=
  (by decide +kernel : ∀ t : Fin grid0.N, win0_0.index t 0 = 0 ∧ win0_0.index t 1 = (grid0.coords t 0).val)
theorem idx_9 : ∀ t : Fin cfg0.N, win0_9.index t 0 = (grid0.coords t 0).val ∧ win0_9.index t 1 = 0 :=
  (by decide +kernel : ∀ t : Fin grid0.N, win0_9.index t 0 = (grid0.coords t 0).val ∧ win0_9.index t 1 = 0)
theorem idx_10 : ∀ t : Fin cfg0.N, win0_10.index t 0 = 0 ∧ win0_10.index t 1 = (grid0.coords t 0).val :=
  (by decide +kernel : ∀ t : Fin grid0.N, win0_10.index t 0 = 0 ∧ win0_10.index t 1 = (grid0.coords t 0).val)

/-- A column of a block is a column of the activations. -/
theorem col_lt (t : Fin cfg0.N) (k : Fin 1024) : 1024 * (grid0.coords t 0).val + k.val < 7168 := by
  have h : (grid0.coords t 0).val < 7 := (grid0.coords t 0).isLt
  omega

/-- The activations' block is 1024 of their columns. -/
theorem iblk_0 (c : Dev nD) (t : Fin cfg0.N) (r k : Fin 1024) :
    (iblk m c 0 t : Vec Ideal S1024x1024 .bf16) (ix2 r k)
      = (V m c main_arg0 : Vec Ideal S1024x7168 .bf16) (ix2 r ⟨1024 * (grid0.coords t 0).val + k.val, col_lt t k⟩) := by
  refine congrArg (V m c main_arg0) (funext fun a => Fin.ext ?_)
  match a with
  | 0 => show win0_0.index t (0 : Fin 2) * 1024 + 1 * r.val = r.val; have := (idx_0 t).1; omega
  | 1 => show win0_0.index t (1 : Fin 2) * 1024 + 1 * k.val = 1024 * (grid0.coords t 0).val + k.val; have := (idx_0 t).2; omega

/-! ## What the output blocks hold -/

/-- A block of the keys' projection's gradient. -/
theorem leaves9 (c : Dev nD) (t : Fin cfg0.N) (X) (h : (rdat m c).Leaves 9 t X) (n : Fin 1024) (e : Fin 128) :
    (X : Vec Ideal S1024x128 .f32) (ix2 n e) = keyArr (V m c main_arg0) (V m c main_arg1) (V m c main_arg2) (V m c main_arg4) (V m c main_arg5) (V m c main_arg6) (V m c main_arg7) (V m c main_arg8) (ix2 ⟨1024 * (grid0.coords t 0).val + n.val, col_lt t n⟩ e) := by
  obtain ⟨Y, -, hr⟩ := h
  rw [show X = _ from hr]
  rw [pay6_at]
  show _ = keyGrad _ _ _ _ _ _ _ _ _ _
  unfold keyGrad
  refine Finset.sum_congr rfl fun s _ => ?_
  rw [iblk_0]
  exact congrArg (· * _) (scrV_hi _ _ _ _ _ _ _ _ e s _)

/-- A block of the heads' weights' projection's gradient. -/
theorem leaves10 (c : Dev nD) (t : Fin cfg0.N) (X) (h : (rdat m c).Leaves 10 t X) (g : Fin 64) (n : Fin 1024) :
    (X : Vec Ideal S64x1024 .f32) (ix2 g n) = headArr (V m c main_arg0) (V m c main_arg3) (ix2 g ⟨1024 * (grid0.coords t 0).val + n.val, col_lt t n⟩) := by
  obtain ⟨Y, -, hr⟩ := h
  rw [show X = _ from hr]
  rw [pay7_at]
  show _ = headGrad _ _ _ _
  unfold headGrad
  refine Finset.sum_congr rfl fun s _ => ?_
  rw [iblk_0]
  exact congrArg (· * _) (scrV_lo _ _ _ _ _ _ _ _ g s _)

/-- After every point the gradient of the norm's scale is what the first point stored. -/
theorem leaves11 (c : Dev nD) : ∀ (n : ℕ) (t : Fin cfg0.N), t.val = n → ∀ X, (rdat m c).Leaves 11 t X → X = scaleArr (V m c main_arg1) (V m c main_arg2) (V m c main_arg4) (V m c main_arg6) (V m c main_arg7) := by
  intro n
  induction n with
  | zero =>
    rintro t ht X ⟨Y, -, hr⟩
    exact (show X = _ from hr).trans ((if_pos ht).trans (dgV_eq _ _ _ _ _))
  | succ n ih =>
    rintro t ht X ⟨Y, hY, hr⟩
    have hN : t.val < 7 := t.isLt
    have e : X = Y := (show X = _ from hr).trans (if_neg (by omega))
    subst e
    rcases ((rdat m c).finds_of_pos ((cfg0.win 11).fetch_out rfl _) (by omega) X).mp hY with hf | hL
    · have := (flush0_11 _).mp hf
      have : (t.val - 1) % 7 = 6 := this
      omega
    · exact ih _ (by show t.val - 1 = n; omega) X hL

/-- After every point the gradient of the norm's shift is what the first point stored. -/
theorem leaves12 (c : Dev nD) : ∀ (n : ℕ) (t : Fin cfg0.N), t.val = n → ∀ X, (rdat m c).Leaves 12 t X → X = shiftArr (V m c main_arg1) (V m c main_arg2) (V m c main_arg6) (V m c main_arg7) := by
  intro n
  induction n with
  | zero =>
    rintro t ht X ⟨Y, -, hr⟩
    exact (show X = _ from hr).trans ((if_pos ht).trans (dbV_eq _ _ _ _))
  | succ n ih =>
    rintro t ht X ⟨Y, hY, hr⟩
    have hN : t.val < 7 := t.isLt
    have e : X = Y := (show X = _ from hr).trans (if_neg (by omega))
    subst e
    rcases ((rdat m c).finds_of_pos ((cfg0.win 12).fetch_out rfl _) (by omega) X).mp hY with hf | hL
    · have := (flush0_12 _).mp hf
      have : (t.val - 1) % 7 = 6 := this
      omega
    · exact ih _ (by show t.val - 1 = n; omega) X hL

/-- After every point the gradient before the norm is what the first point stored. -/
theorem leaves13 (c : Dev nD) : ∀ (n : ℕ) (t : Fin cfg0.N), t.val = n → ∀ X, (rdat m c).Leaves 13 t X → X = preArr (V m c main_arg1) (V m c main_arg2) (V m c main_arg4) (V m c main_arg5) (V m c main_arg6) (V m c main_arg7) (V m c main_arg8) := by
  intro n
  induction n with
  | zero =>
    rintro t ht X ⟨Y, -, hr⟩
    exact (show X = _ from hr).trans ((if_pos ht).trans (dkpreV_eq _ _ _ _ _ _ _))
  | succ n ih =>
    rintro t ht X ⟨Y, hY, hr⟩
    have hN : t.val < 7 := t.isLt
    have e : X = Y := (show X = _ from hr).trans (if_neg (by omega))
    subst e
    rcases ((rdat m c).finds_of_pos ((cfg0.win 13).fetch_out rfl _) (by omega) X).mp hY with hf | hL
    · have := (flush0_13 _).mp hf
      have : (t.val - 1) % 7 = 6 := this
      omega
    · exact ih _ (by show t.val - 1 = n; omega) X hL

/-! ## The result arrays -/

/-- The last grid point. -/
abbrev last : Fin cfg0.N := (⟨6, by decide⟩ : Fin grid0.N)

theorem whole11 : (cfg0.win 11).WholeAt last := (by decide +kernel : win0_11.WholeAt ⟨6, by decide⟩)
theorem whole12 : (cfg0.win 12).WholeAt last := (by decide +kernel : win0_12.WholeAt ⟨6, by decide⟩)
theorem whole13 : (cfg0.win 13).WholeAt last := (by decide +kernel : win0_13.WholeAt ⟨6, by decide⟩)

/-- The array of the keys' projection's gradient after the run. -/
theorem final9 (c : Dev nD) (after) (h : ∀ u : Fin cfg0.N, (cfg0.win 9).flush u = true → (rdat m c).Leaves 9 u (after 9 u)) :
    ((rdat m c).withAfter after).arrAt 9 cfg0.N = keyArr (V m c main_arg0) (V m c main_arg1) (V m c main_arg2) (V m c main_arg4) (V m c main_arg5) (V m c main_arg6) (V m c main_arg7) (V m c main_arg8) := by
  refine ((rdat m c).withAfter after).arrAt_eq_of_covers 9 (keyArr (V m c main_arg0) (V m c main_arg1) (V m c main_arg2) (V m c main_arg4) (V m c main_arg5) (V m c main_arg6) (V m c main_arg7) (V m c main_arg8)) (by decide +kernel) fun t hf y => ?_
  obtain ⟨n, e, rfl⟩ : ∃ (n : Fin 1024) (e : Fin 128), y = ix2 n e := ⟨y 0, y 1, (ix2_eta y).symm⟩
  refine (leaves9 m c t _ (h t hf) n e).trans (congrArg (keyArr (V m c main_arg0) (V m c main_arg1) (V m c main_arg2) (V m c main_arg4) (V m c main_arg5) (V m c main_arg6) (V m c main_arg7) (V m c main_arg8)) (funext fun a => Fin.ext ?_))
  match a with
  | 0 => show 1024 * (grid0.coords t 0).val + n.val = win0_9.index t (0 : Fin 2) * 1024 + 1 * n.val; have := (idx_9 t).1; omega
  | 1 => show e.val = win0_9.index t (1 : Fin 2) * 128 + 1 * e.val; have := (idx_9 t).2; omega

/-- The array of the heads' weights' projection's gradient after the run. -/
theorem final10 (c : Dev nD) (after) (h : ∀ u : Fin cfg0.N, (cfg0.win 10).flush u = true → (rdat m c).Leaves 10 u (after 10 u)) :
    ((rdat m c).withAfter after).arrAt 10 cfg0.N = headArr (V m c main_arg0) (V m c main_arg3) := by
  refine ((rdat m c).withAfter after).arrAt_eq_of_covers 10 (headArr (V m c main_arg0) (V m c main_arg3)) (by decide +kernel) fun t hf y => ?_
  obtain ⟨g, n, rfl⟩ : ∃ (g : Fin 64) (n : Fin 1024), y = ix2 g n := ⟨y 0, y 1, (ix2_eta y).symm⟩
  refine (leaves10 m c t _ (h t hf) g n).trans (congrArg (headArr (V m c main_arg0) (V m c main_arg3)) (funext fun a => Fin.ext ?_))
  match a with
  | 0 => show g.val = win0_10.index t (0 : Fin 2) * 64 + 1 * g.val; have := (idx_10 t).1; omega
  | 1 => show 1024 * (grid0.coords t 0).val + n.val = win0_10.index t (1 : Fin 2) * 1024 + 1 * n.val; have := (idx_10 t).2; omega

/-- The array of the gradient of the norm's scale after the run. -/
theorem final11 (c : Dev nD) (after) (h : ∀ u : Fin cfg0.N, (cfg0.win 11).flush u = true → (rdat m c).Leaves 11 u (after 11 u)) :
    ((rdat m c).withAfter after).arrAt 11 cfg0.N = scaleArr (V m c main_arg1) (V m c main_arg2) (V m c main_arg4) (V m c main_arg6) (V m c main_arg7) :=
  ((rdat m c).withAfter after).arrAt_eq_of_after_last 11 last whole11 (scaleArr (V m c main_arg1) (V m c main_arg2) (V m c main_arg4) (V m c main_arg6) (V m c main_arg7)) fun y => congrFun (leaves11 m c 6 last rfl _ (h last whole11.1)) y

/-- The array of the gradient of the norm's shift after the run. -/
theorem final12 (c : Dev nD) (after) (h : ∀ u : Fin cfg0.N, (cfg0.win 12).flush u = true → (rdat m c).Leaves 12 u (after 12 u)) :
    ((rdat m c).withAfter after).arrAt 12 cfg0.N = shiftArr (V m c main_arg1) (V m c main_arg2) (V m c main_arg6) (V m c main_arg7) :=
  ((rdat m c).withAfter after).arrAt_eq_of_after_last 12 last whole12 (shiftArr (V m c main_arg1) (V m c main_arg2) (V m c main_arg6) (V m c main_arg7)) fun y => congrFun (leaves12 m c 6 last rfl _ (h last whole12.1)) y

/-- The array of the gradient before the norm after the run. -/
theorem final13 (c : Dev nD) (after) (h : ∀ u : Fin cfg0.N, (cfg0.win 13).flush u = true → (rdat m c).Leaves 13 u (after 13 u)) :
    ((rdat m c).withAfter after).arrAt 13 cfg0.N = preArr (V m c main_arg1) (V m c main_arg2) (V m c main_arg4) (V m c main_arg5) (V m c main_arg6) (V m c main_arg7) (V m c main_arg8) :=
  ((rdat m c).withAfter after).arrAt_eq_of_after_last 13 last whole13 (preArr (V m c main_arg1) (V m c main_arg2) (V m c main_arg4) (V m c main_arg5) (V m c main_arg6) (V m c main_arg7) (V m c main_arg8)) fun y => congrFun (leaves13 m c 6 last rfl _ (h last whole13.1)) y

/-- Every run of the projection kernel over the extended reals ends with the five gradients of its arguments, and with the
    arguments unchanged. -/
theorem kernel_run : θ_run defs (onTc (τ := τ) (main (F := Ideal))) ⟨m, fun _ => 0, ρ⟩ (fun r => ∀ c : Dev nD,
      r.2.mem ((c.tc : Thread nD τ).loc main_v0_0) = keyArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v0_1) = headArr (m ((c.tc : Thread nD τ).loc main_arg0)) (m ((c.tc : Thread nD τ).loc main_arg3))
      ∧ r.2.mem ((c.tc : Thread nD τ).loc main_v0_2) = scaleArr (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7))
      ∧ r.2.mem ((c.tc : Thread nD τ).loc main_v0_3) = shiftArr (m ((c.tc : Thread nD τ).loc main_arg1)) (m ((c.tc : Thread nD τ).loc main_arg2)) (m ((c.tc : Thread nD τ).loc main_arg6)) (m ((c.tc : Thread nD τ).loc main_arg7))
      ∧ r.2.mem ((c.tc : Thread nD τ).loc main_v0_4) = preArr (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_main m ρ)
  obtain ⟨after, hL, hA⟩ := Pipeline.RDat.FramePost.exists_exact h.1 c
  have e9 := (hA 9).trans (final9 m c after (hL 9))
  rw [V_main_arg0, V_main_arg1, V_main_arg2, V_main_arg4, V_main_arg5, V_main_arg6, V_main_arg7, V_main_arg8] at e9
  have e10 := (hA 10).trans (final10 m c after (hL 10))
  rw [V_main_arg0, V_main_arg3] at e10
  have e11 := (hA 11).trans (final11 m c after (hL 11))
  rw [V_main_arg1, V_main_arg2, V_main_arg4, V_main_arg6, V_main_arg7] at e11
  have e12 := (hA 12).trans (final12 m c after (hL 12))
  rw [V_main_arg1, V_main_arg2, V_main_arg6, V_main_arg7] at e12
  have e13 := (hA 13).trans (final13 m c after (hL 13))
  rw [V_main_arg1, V_main_arg2, V_main_arg4, V_main_arg5, V_main_arg6, V_main_arg7, V_main_arg8] at e13
  exact ⟨e9, e10, e11, e12, e13,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c))⟩

end Cert.DprojIdeal.Gen

end
-- ==== Proof.Dproj.Reference.lean ====
module

public import proofs.«01_k».proof.Proof.Dproj.Spec
public import proofs.«01_k».proof.Proof.Gen.DprojRefIdeal.Value

@[expose] public section

set_option maxRecDepth 16384

/-! What the reference of the projections' gradients computes over the extended reals: the functions of Spec. -/

noncomputable section

namespace Cert.DprojRefIdeal.Read

open Cert.DprojRefIdeal Cert.DprojRefIdeal.Gen Idealize.ShloMosaic Idealize.ShloMosaic.TcCoe
open Cert.BwdMath Cert.DprojSpec

variable (a0 : Vec Ideal S1024x7168 .bf16) (a1 : Vec Ideal S1024x128 .f32) (a2 : Vec Ideal S1x1024 .f32) (a3 : Vec Ideal S64x1024 .f32)
  (a4 : Vec Ideal S128x1024 .f32) (a5 : Vec Ideal S1x1024 .f32) (a6 a7 : Vec Ideal S32x1024 .f32) (a8 : Vec Ideal S1x128 .f32)

/-- The normalised keys' gradient. -/
theorem pay6_at (t : Fin 1024) (e : Fin 128) : k0_pay6 (F := Ideal) a6 a7 a1 a2 (ix2 t e) = normed a1 a2 a6 a7 t e := by
  pointwise [k0_pay6, normed, ropeInv]

theorem pay4_at (t : Fin 1024) (e : Fin 128) : k0_pay4 (F := Ideal) a4 (ix2 t e) = a4 (ix2 e t) := by
  pointwise [k0_pay4]

theorem pay5_at (t : Fin 1024) : k0_pay5 (F := Ideal) a5 (ix2 t 0) = a5 (ix2 0 t) := by
  pointwise [k0_pay5]

theorem pay7_at (e : Fin 128) : k0_pay7 (F := Ideal) a4 a6 a7 a1 a2 (ix2 0 e) = (∑ t, k0_pay6 (F := Ideal) a6 a7 a1 a2 (ix2 t e) * k0_pay4 (F := Ideal) a4 (ix2 t e) : EReal) := by
  pointwise [k0_pay7]

theorem pay8_at (e : Fin 128) : k0_pay8 (F := Ideal) a6 a7 a1 a2 (ix2 0 e) = (∑ t, k0_pay6 (F := Ideal) a6 a7 a1 a2 (ix2 t e) : EReal) := by
  pointwise [k0_pay8]

theorem pay9_at (t : Fin 1024) (e : Fin 128) : k0_pay9 (F := Ideal) a6 a7 a1 a2 a8 (ix2 t e) = (k0_pay6 (F := Ideal) a6 a7 a1 a2 (ix2 t e) * a8 (ix2 0 e) : EReal) := by
  pointwise [k0_pay9]

theorem pay10_at (t : Fin 1024) : k0_pay10 (F := Ideal) a6 a7 a1 a2 a8 (ix2 t 0) = (∑ e, k0_pay9 (F := Ideal) a6 a7 a1 a2 a8 (ix2 t e) : EReal) := by
  pointwise [k0_pay10]

theorem pay11_at (t : Fin 1024) : k0_pay11 (F := Ideal) (ix2 t 0) = Ideal.ofBits .f32 0x43000000#32 := by
  pointwise [k0_pay11]

/-- The gradient before the norm, of any parts. -/
theorem pay1_at (w : FVec Ideal S1024x128 .f32) (d : FVec Ideal S1024x1 .f32) (u : FVec Ideal S1024x128 .f32) (v n : FVec Ideal S1024x1 .f32)
    (t : Fin 1024) (e : Fin 128) :
    k0_pay1 (F := Ideal) w d u v n (ix2 t e)
      = Ideal.div (u (ix2 t e) - Ideal.div (v (ix2 t 0)) (n (ix2 t 0))
          - w (ix2 t e) * Ideal.div (∑ j, u (ix2 t j) * w (ix2 t j)) (Ideal.ofBits .f32 0x43000000#32)) (d (ix2 t 0)) := by
  pointwise [k0_pay1]

theorem pay2_at (w : FVec Ideal S1024x128 .f32) (d : FVec Ideal S1024x1 .f32) (u : FVec Ideal S1024x128 .f32) (v n : FVec Ideal S1024x1 .f32)
    (k : Fin 7168) (e : Fin 128) :
    k0_pay2 (F := Ideal) w d u v n a0 (ix2 k e) = (∑ t, a0 (ix2 t k) * k0_pay1 (F := Ideal) w d u v n (ix2 t e) : EReal) := by
  pointwise [k0_pay2]

theorem pay3_at (h : Fin 64) (k : Fin 7168) :
    k0_pay3 (F := Ideal) a3 a0 (ix2 h k) = (∑ t, a3 (ix2 h t) * Ideal.ofBits .f32 0x3C3504F3#32 * a0 (ix2 t k) : EReal) := by
  pointwise [k0_pay3]

/-- The gradient before the norm. -/
theorem pre_at (t : Fin 1024) (e : Fin 128) :
    k0_pay1 (F := Ideal) (k0_pay4 a4) (k0_pay5 a5) (k0_pay9 a6 a7 a1 a2 a8) (k0_pay10 a6 a7 a1 a2 a8) (k0_pay11 (F := Ideal)) (ix2 t e)
      = pre a1 a2 a4 a5 a6 a7 a8 t e := by
  rw [pay1_at, pay10_at, pay11_at, pay5_at]
  simp only [pay9_at, pay6_at, pay4_at]
  rfl

/-! The body's first part, from arrays read whole. -/

theorem slot12 : k0_pay12 (F := Ideal) a0 a1 a2 a3 a4 a5 a6 a7 a8 = k0_pay4 (F := Ideal) a4 := by
  unfold k0_pay12
  rw [View.ld_unit_zero Value.hz0]

theorem slot13 : k0_pay13 (F := Ideal) a0 a1 a2 a3 a4 a5 a6 a7 a8 = k0_pay5 (F := Ideal) a5 := by
  unfold k0_pay13
  rw [View.ld_unit_zero Value.hz0]

theorem slot14 : k0_pay14 (F := Ideal) a0 a1 a2 a3 a4 a5 a6 a7 a8 = k0_pay9 (F := Ideal) a6 a7 a1 a2 a8 := by
  unfold k0_pay14
  rw [View.ld_unit_zero Value.hz0, View.ld_unit_zero Value.hz0, View.ld_unit_zero Value.hz0, View.ld_unit_zero Value.hz0, View.ld_unit_zero Value.hz0]

theorem slot15 : k0_pay15 (F := Ideal) a0 a1 a2 a3 a4 a5 a6 a7 a8 = k0_pay10 (F := Ideal) a6 a7 a1 a2 a8 := by
  unfold k0_pay15
  rw [View.ld_unit_zero Value.hz0, View.ld_unit_zero Value.hz0, View.ld_unit_zero Value.hz0, View.ld_unit_zero Value.hz0, View.ld_unit_zero Value.hz0]

theorem slot16 : k0_pay16 (F := Ideal) a0 a1 a2 a3 a4 a5 a6 a7 a8 = k0_pay11 (F := Ideal) := rfl

/-! The five results. -/

theorem G9_eq : Value.G9 (F := Ideal) a0 a1 a2 a3 a4 a5 a6 a7 a8 = keyArr a0 a1 a2 a4 a5 a6 a7 a8 := by
  funext y
  obtain ⟨k, e, rfl⟩ : ∃ (k : Fin 7168) (e : Fin 128), y = ix2 k e := ⟨y 0, y 1, (ix2_eta y).symm⟩
  show k0_pay2 (F := Ideal) _ _ _ _ _ _ _ = keyGrad _ _ _ _ _ _ _ _ _ _
  rw [slot12, slot13, slot14, slot15, slot16, pay2_at]
  unfold keyGrad
  refine Finset.sum_congr rfl fun t _ => ?_
  rw [pre_at, mul_comm]
  rfl

theorem G10_eq : Value.G10 (F := Ideal) a0 a1 a2 a3 a4 a5 a6 a7 a8 = headArr a0 a3 := by
  funext y
  obtain ⟨h, k, rfl⟩ : ∃ (h : Fin 64) (k : Fin 7168), y = ix2 h k := ⟨y 0, y 1, (ix2_eta y).symm⟩
  exact pay3_at a0 a3 h k

theorem G11_eq : Value.G11 (F := Ideal) a0 a1 a2 a3 a4 a5 a6 a7 a8 = scaleArr a1 a2 a4 a6 a7 := by
  funext y
  obtain ⟨z, e, rfl⟩ : ∃ (z : Fin 1) (e : Fin 128), y = ix2 z e := ⟨y 0, y 1, (ix2_eta y).symm⟩
  obtain rfl : z = 0 := Subsingleton.elim _ _
  refine (pay7_at a1 a2 a4 a6 a7 e).trans ?_
  simp only [pay6_at, pay4_at]
  rfl

theorem G12_eq : Value.G12 (F := Ideal) a0 a1 a2 a3 a4 a5 a6 a7 a8 = shiftArr a1 a2 a6 a7 := by
  funext y
  obtain ⟨z, e, rfl⟩ : ∃ (z : Fin 1) (e : Fin 128), y = ix2 z e := ⟨y 0, y 1, (ix2_eta y).symm⟩
  obtain rfl : z = 0 := Subsingleton.elim _ _
  refine (pay8_at a1 a2 a6 a7 e).trans ?_
  simp only [pay6_at]
  rfl

theorem G13_eq : Value.G13 (F := Ideal) a0 a1 a2 a3 a4 a5 a6 a7 a8 = preArr a1 a2 a4 a5 a6 a7 a8 := by
  funext y
  obtain ⟨t, e, rfl⟩ : ∃ (t : Fin 1024) (e : Fin 128), y = ix2 t e := ⟨y 0, y 1, (ix2_eta y).symm⟩
  show k0_pay1 (F := Ideal) _ _ _ _ _ _ = _
  rw [slot12, slot13, slot14, slot15, slot16, pre_at]
  rfl

end Cert.DprojRefIdeal.Read

end
-- ==== Proof.Dproj.Bits.lean ====
module

public import proofs.«01_k».proof.Proof.Gen.Dproj.Frame
public import proofs.«01_k».proof.Proof.Gen.Dproj.Skeleton
public import Idealize.ShloMosaic.Lib.VecWindow
public import Idealize.ShloMosaic.Lib.Pointwise
public import Idealize.ShloMosaic.Lib.Pipeline.ArrRel
public import Idealize.ShloMosaic.Lib.Claim
public import Idealize.ShloMosaic.PureOps.BitExact

@[expose] public section

set_option maxRecDepth 16384

/-! The projection kernel on machine floats: every execution ends, with its argument arrays unchanged and its counters at
zero. The text is that of the run and of the launch over the extended reals. -/

noncomputable section

namespace Cert.Dproj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Bits) ℕ (UR sig nD τ) ℕ

variable (m : (ℓ : Loc nD τ sig) → Buf (Elt Bits) ℓ) (ρ : Dev nD → PrngReg)

/-- The gradient of the norm's scale: computed of the keys' gradient, the keys' scales, the normalised keys, and the
    rotary cosines and sines. -/
def dgV (x1 : Vec Bits S1024x128 .f32) (x2 : Vec Bits S1x1024 .f32) (x4 : Vec Bits S128x1024 .f32) (x6 x7 : Vec Bits S32x1024 .f32) : Vec Bits S1x128 .f32 := k0_pay9 x1 x2 x6 x7 x4

/-- The gradient of the norm's shift. -/
def dbV (x1 : Vec Bits S1024x128 .f32) (x2 : Vec Bits S1x1024 .f32) (x6 x7 : Vec Bits S32x1024 .f32) : Vec Bits S1x128 .f32 := k0_pay10 x1 x2 x6 x7

/-- The gradient of the keys before the norm. -/
def dkpreV (x1 : Vec Bits S1024x128 .f32) (x2 : Vec Bits S1x1024 .f32) (x4 : Vec Bits S128x1024 .f32) (x5 : Vec Bits S1x1024 .f32) (x6 x7 : Vec Bits S32x1024 .f32) (x8 : Vec Bits S1x128 .f32) : Vec Bits S1024x128 .f32 :=
  k0_pay2 x4 (k0_pay11 x1 x2 x6 x7 x8) (k0_pay12 x1 x2 x6 x7 x8) x5

/-- Rows 0 to 127 of one block above the 64 rows of another. -/
def scrP (p3 : Vec Bits S128x1024 .bf16) (p4 : Vec Bits S64x1024 .bf16) : Vec Bits S192x1024 .bf16 := fun y =>
  if h : (y 0).val < 128 then p3 (ix2 (n0 := 128) (n1 := 1024) ⟨(y 0).val, h⟩ (y 1))
  else p4 (ix2 (n0 := 64) (n1 := 1024) ⟨(y 0).val - 128, by have : (y 0).val < 192 := (y 0).isLt; omega⟩ (y 1))

/-- The scratch after the first point: above, the gradient of the keys before the norm, feature by token; below, the
    gradient of the heads' weights. -/
def scrV (x1 : Vec Bits S1024x128 .f32) (x2 : Vec Bits S1x1024 .f32) (x3 : Vec Bits S64x1024 .f32) (x4 : Vec Bits S128x1024 .f32) (x5 : Vec Bits S1x1024 .f32) (x6 x7 : Vec Bits S32x1024 .f32) (x8 : Vec Bits S1x128 .f32) : Vec Bits S192x1024 .bf16 :=
  scrP (k0_pay3 x4 (k0_pay11 x1 x2 x6 x7 x8) (k0_pay12 x1 x2 x6 x7 x8) x5) (k0_pay4 x3)

/-- The two stores into the scratch cover it. -/
theorem scr_pieces (v : View sig .tc .vmem S192x1024 .bf16) (f : v.ty.Contents (Elt Bits)) (i3 : ∀ a, (![0, 0] : Fin 2 → ℕ) a + S128x1024.size a ≤ S192x1024.size a)
    (i4 : ∀ a, (![128, 0] : Fin 2 → ℕ) a + S64x1024.size a ≤ S192x1024.size a) (p3 : Vec Bits S128x1024 .bf16) (p4 : Vec Bits S64x1024 .bf16) :
    v.read (Elt Bits) (v.writes (Elt Bits) f [⟨Rect.unit (s := S192x1024) ![128, 0] S64x1024.size i4, p4⟩, ⟨Rect.unit (s := S192x1024) ![0, 0] S128x1024.size i3, p3⟩]) = scrP p3 p4 := by
  funext y
  unfold scrP
  by_cases h : (y 0).val < 128
  · rw [dif_pos h, View.read_writes_cons_unit_of_not_mem v f i4 p4 _ y rfl 0 (Or.inl h)]
    exact View.read_writes_cons_unit_of_mem v f i3 p3 _ y _ rfl fun a => match a with
      | 0 => (Nat.zero_add _).symm
      | 1 => (Nat.zero_add _).symm
  · rw [dif_neg h]
    exact View.read_writes_cons_unit_of_mem v f i4 p4 _ y _ rfl fun a => match a with
      | 0 => by show (y 0).val = 128 + ((y 0).val - 128); omega
      | 1 => (Nat.zero_add _).symm

/-- A whole load of a whole memref is its contents. -/
theorem ldu {s : Shape} {e : EltTy} (M : Memref sig .tc .vmem s e) (h : M.IsWhole) (x : s.Idx → Elt Bits e) {off : Fin s.rank → ℕ} (inb : ∀ a, off a + s.size a ≤ s.size a) :
    View.readAt (Elt Bits) M.view (Rect.unit off s.size inb).toLoadRect (h.unread x) = x :=
  (View.readAt_full _ _ inb).trans (h.read_unread x)

theorem app2 {A B Z : Type} (f : A → B → Z) {a a' : A} {b b' : B} (ha : a = a') (hb : b = b') : f a b = f a' b' := by rw [ha, hb]
theorem app4 {A B C D Z : Type} (f : A → B → C → D → Z) {a a' : A} {b b' : B} {c c' : C} {d d' : D} (ha : a = a') (hb : b = b') (hc : c = c') (hd : d = d') :
    f a b c d = f a' b' c' d' := by rw [ha, hb, hc, hd]
theorem app5 {A B C D E Z : Type} (f : A → B → C → D → E → Z) {a a' : A} {b b' : B} {c c' : C} {d d' : D} {e e' : E} (ha : a = a') (hb : b = b') (hc : c = c') (hd : d = d')
    (he : e = e') : f a b c d e = f a' b' c' d' e' := by rw [ha, hb, hc, hd, he]

set_option maxHeartbeats 20000000 in
/-- What the first grid point does. -/
theorem run_first (c : Dev nD) (i : grid0.Coords) (hc : k0_cond1 i = 1#1) (arg1 : Memref sig .tc .vmem S1024x1024 .bf16) (harg1 : arg1.IsWhole) (arg2 : Memref sig .tc .vmem S1024x128 .f32) (harg2 : arg2.IsWhole) (arg3 : Memref sig .tc .vmem S1x1024 .f32) (harg3 : arg3.IsWhole) (arg4 : Memref sig .tc .vmem S64x1024 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S64x1024 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1024x128 .f32) (harg14 : arg14.IsWhole) (arg15 : Memref sig .tc .vmem S192x1024 .bf16) (harg15 : arg15.IsWhole)
    (x0 : Vec Bits S1024x1024 .bf16) (x1 : Vec Bits S1024x128 .f32) (x2 : Vec Bits S1x1024 .f32) (x3 : Vec Bits S64x1024 .f32) (x4 : Vec Bits S128x1024 .f32) (x5 : Vec Bits S1x1024 .f32) (x6 : Vec Bits S32x1024 .f32) (x7 : Vec Bits S32x1024 .f32) (x8 : Vec Bits S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay6 (scrV x1 x2 x3 x4 x5 x6 x7 x8) x0) ∗ owns (c : Thread nD τ) arg11 fullShare (k0_pay7 (scrV x1 x2 x3 x4 x5 x6 x7 x8) x0) ∗ owns (c : Thread nD τ) arg12 fullShare (dgV x1 x2 x4 x6 x7) ∗ owns (c : Thread nD τ) arg13 fullShare (dbV x1 x2 x6 x7) ∗ owns (c : Thread nD τ) arg14 fullShare (dkpreV x1 x2 x4 x5 x6 x7 x8) ∗ owns (c : Thread nD τ) arg15 fullShare (scrV x1 x2 x3 x4 x5 x6 x7 x8)) -∗ K ⟨⟩))
      ⊢ wp frame (wpE (defs₀ (F := Bits)) Variants.none c none) E (cc0_dproj i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dproj_eq_skeleton]; unfold cc0_dproj_skel
  simp only [k0_part1_eq_skeleton]
  rw [dif_pos hc]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec
  have L0 := ldu arg1 harg1 x0 inb_S1024x1024_S1024x1024_0_0
  have L1 := ldu arg2 harg2 x1 inb_S1024x128_S1024x128_0_0
  have L2 := ldu arg3 harg3 x2 inb_S1x1024_S1x1024_0_0
  have L3 := ldu arg4 harg4 x3 inb_S64x1024_S64x1024_0_0
  have L4 := ldu arg5 harg5 x4 inb_S128x1024_S128x1024_0_0
  have L5 := ldu arg6 harg6 x5 inb_S1x1024_S1x1024_0_0
  have L6 := ldu arg7 harg7 x6 inb_S32x1024_S32x1024_0_0
  have L7 := ldu arg8 harg8 x7 inb_S32x1024_S32x1024_0_0
  have L8 := ldu arg9 harg9 x8 inb_S1x128_S1x128_0_0
  have hP := app4 k0_pay3 L4 (app5 k0_pay11 L1 L2 L6 L7 L8) (app5 k0_pay12 L1 L2 L6 L7 L8) L5
  have hS : ∀ f, View.read (Elt Bits) arg15.view (arg15.view.writes (Elt Bits) f
      (run_first.sl.H14_2 c arg2 harg2 arg3 harg3 arg4 harg4 arg5 harg5 arg6 harg6 arg7 harg7 arg8 harg8 arg9 harg9 x1 x2 x3 x4 x5 x6 x7 x8)) = scrV x1 x2 x3 x4 x5 x6 x7 x8 := fun f =>
    (scr_pieces arg15.view f inb_S192x1024_S128x1024_0_0 inb_S192x1024_S64x1024_128_0 _ _).trans (app2 scrP hP (congrArg k0_pay4 L3))
  have hV : run_first.sl.v3 c arg2 harg2 arg3 harg3 arg4 harg4 arg5 harg5 arg6 harg6 arg7 harg7 arg8 harg8 arg9 harg9 arg15 x1 x2 x3 x4 x5 x6 x7 x8 = scrV x1 x2 x3 x4 x5 x6 x7 x8 :=
    (View.readAt_full arg15.view _ inb_S192x1024_S192x1024_0_0).trans (hS _)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; exact (View.read_writes_full _ _ _ _ _).trans (app2 k0_pay6 hV L0)
  isplitl [H10]
  · iexists _; isplitr; swap; · iexact H10
    ipureintro; exact (View.read_writes_full _ _ _ _ _).trans (app2 k0_pay7 hV L0)
  isplitl [H11]
  · iexists _; isplitr; swap; · iexact H11
    ipureintro; exact (View.read_writes_full _ _ _ _ _).trans (app5 k0_pay9 L1 L2 L6 L7 L4)
  isplitl [H12]
  · iexists _; isplitr; swap; · iexact H12
    ipureintro; exact (View.read_writes_full _ _ _ _ _).trans (app4 k0_pay10 L1 L2 L6 L7)
  isplitl [H13]
  · iexists _; isplitr; swap; · iexact H13
    ipureintro; exact (View.read_writes_full _ _ _ _ _).trans (app4 k0_pay2 L4 (app5 k0_pay11 L1 L2 L6 L7 L8) (app5 k0_pay12 L1 L2 L6 L7 L8) L5)
  iexists _; isplitr; swap; · iexact H14
  ipureintro; exact hS _

set_option maxHeartbeats 20000000 in
/-- What a later grid point does, with the scratch as it found it. -/
theorem run_later (c : Dev nD) (i : grid0.Coords) (hc : ¬ k0_cond1 i = 1#1) (arg1 : Memref sig .tc .vmem S1024x1024 .bf16) (harg1 : arg1.IsWhole) (arg2 : Memref sig .tc .vmem S1024x128 .f32) (harg2 : arg2.IsWhole) (arg3 : Memref sig .tc .vmem S1x1024 .f32) (harg3 : arg3.IsWhole) (arg4 : Memref sig .tc .vmem S64x1024 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S64x1024 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1024x128 .f32) (harg14 : arg14.IsWhole) (arg15 : Memref sig .tc .vmem S192x1024 .bf16) (harg15 : arg15.IsWhole)
    (x0 : Vec Bits S1024x1024 .bf16) (r : Vec Bits S192x1024 .bf16) (E : Set ℕ) (K : PUnit → sProp 𝕄) :
    iprop(owns (c : Thread nD τ) arg1 fullShare x0 ∗ (∃ d, owns (c : Thread nD τ) arg10 fullShare d) ∗ (∃ d, owns (c : Thread nD τ) arg11 fullShare d) ∗ owns (c : Thread nD τ) arg15 fullShare r
        ∗ (iprop(owns (c : Thread nD τ) arg1 fullShare x0 ∗ owns (c : Thread nD τ) arg10 fullShare (k0_pay6 r x0) ∗ owns (c : Thread nD τ) arg11 fullShare (k0_pay7 r x0) ∗ owns (c : Thread nD τ) arg15 fullShare r) -∗ K ⟨⟩))
      ⊢ wp frame (wpE (defs₀ (F := Bits)) Variants.none c none) E (cc0_dproj i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dproj_eq_skeleton]; unfold cc0_dproj_skel
  rw [dif_neg hc]
  unfold owns
  iintro ⟨⟨%f0, %hf0, H0⟩, ⟨%d9, %f9, -, H9⟩, ⟨%d10, %f10, -, H10⟩, ⟨%f14, %hf14, H14⟩, Hk⟩
  obtain rfl := harg1.eq_unread hf0; obtain rfl := harg15.eq_unread hf14
  have L14 := ldu arg15 harg15 r inb_S192x1024_S192x1024_0_0
  have L0 := ldu arg1 harg1 x0 inb_S1024x1024_S1024x1024_0_0

  sl_exec
  sl_step
  iapply Hk
  isplitl [H0]
  · iexists _; isplitr; · ipureintro; exact harg1.read_unread _
    iexact H0
  isplitl [H9]
  · iexists _; isplitr; swap; · iexact H9
    ipureintro; exact View.read_writes_full _ _ _ _ _
  isplitl [H10]
  · iexists _; isplitr; swap; · iexact H10
    ipureintro; exact View.read_writes_full _ _ _ _ _
  iexists _; isplitr; swap; · iexact H14
  ipureintro; exact harg15.read_unread _

/-! ## The staging memrefs -/

/-- Each window's current staging memref at point `t`, as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x128 .f32 := win0_13.stage (cfg0.slots t 13)
abbrev hs0_13 (t : Fin cfg0.N) : (ms0_13 t).IsWhole := hstage0_13 ((cfg0.slots t 13).cast nbuf0_13)
/-- The scratch buffer. -/
abbrev scM0_0 : Memref sig .tc .vmem S192x1024 .bf16 := Memref.whole cc0_scratch0

/-- The frame's invariant: the scratch buffer at some contents, and the generator register. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-! ## The input blocks -/

/-- The grid point's number is its coordinate. -/
theorem coord_val : ∀ t : Fin cfg0.N, (grid0.coords t 0).val = t.val :=
  (by decide +kernel : ∀ t : Fin grid0.N, (grid0.coords t 0).val = t.val)

/-- The branch is taken at the first point and at no other. -/
theorem cond_iff : ∀ t : Fin cfg0.N, k0_cond1 (grid0.coords t) = 1#1 ↔ t.val = 0 :=
  (by decide +kernel : ∀ t : Fin grid0.N, k0_cond1 (grid0.coords t) = 1#1 ↔ t.val = 0)

theorem idx_1 : ∀ t : Fin cfg0.N, win0_1.index t 0 = 0 ∧ win0_1.index t 1 = 0 :=
  (by decide +kernel : ∀ t : Fin grid0.N, win0_1.index t 0 = 0 ∧ win0_1.index t 1 = 0)

/-- The block of the keys' gradient is the whole array. -/
theorem iblk_1 (c : Dev nD) (t : Fin cfg0.N) : iblk m c 1 t = V m c main_arg1 := by
  funext j
  refine congrArg (V m c main_arg1) (funext fun a => Fin.ext ?_)
  match a with
  | 0 => show win0_1.index t (0 : Fin 2) * 1024 + 1 * (j 0).val = (j 0).val; have := (idx_1 t).1; omega
  | 1 => show win0_1.index t (1 : Fin 2) * 128 + 1 * (j 1).val = (j 1).val; have := (idx_1 t).2; omega

theorem idx_2 : ∀ t : Fin cfg0.N, win0_2.index t 0 = 0 ∧ win0_2.index t 1 = 0 :=
  (by decide +kernel : ∀ t : Fin grid0.N, win0_2.index t 0 = 0 ∧ win0_2.index t 1 = 0)

/-- The block of the keys' scales is the whole array. -/
theorem iblk_2 (c : Dev nD) (t : Fin cfg0.N) : iblk m c 2 t = V m c main_arg2 := by
  funext j
  refine congrArg (V m c main_arg2) (funext fun a => Fin.ext ?_)
  match a with
  | 0 => show win0_2.index t (0 : Fin 2) * 1 + 1 * (j 0).val = (j 0).val; have := (idx_2 t).1; omega
  | 1 => show win0_2.index t (1 : Fin 2) * 1024 + 1 * (j 1).val = (j 1).val; have := (idx_2 t).2; omega

theorem idx_3 : ∀ t : Fin cfg0.N, win0_3.index t 0 = 0 ∧ win0_3.index t 1 = 0 :=
  (by decide +kernel : ∀ t : Fin grid0.N, win0_3.index t 0 = 0 ∧ win0_3.index t 1 = 0)

/-- The block of the heads' weights' gradient is the whole array. -/
theorem iblk_3 (c : Dev nD) (t : Fin cfg0.N) : iblk m c 3 t = V m c main_arg3 := by
  funext j
  refine congrArg (V m c main_arg3) (funext fun a => Fin.ext ?_)
  match a with
  | 0 => show win0_3.index t (0 : Fin 2) * 64 + 1 * (j 0).val = (j 0).val; have := (idx_3 t).1; omega
  | 1 => show win0_3.index t (1 : Fin 2) * 1024 + 1 * (j 1).val = (j 1).val; have := (idx_3 t).2; omega

theorem idx_4 : ∀ t : Fin cfg0.N, win0_4.index t 0 = 0 ∧ win0_4.index t 1 = 0 :=
  (by decide +kernel : ∀ t : Fin grid0.N, win0_4.index t 0 = 0 ∧ win0_4.index t 1 = 0)

/-- The block of the normalised keys is the whole array. -/
theorem iblk_4 (c : Dev nD) (t : Fin cfg0.N) : iblk m c 4 t = V m c main_arg4 := by
  funext j
  refine congrArg (V m c main_arg4) (funext fun a => Fin.ext ?_)
  match a with
  | 0 => show win0_4.index t (0 : Fin 2) * 128 + 1 * (j 0).val = (j 0).val; have := (idx_4 t).1; omega
  | 1 => show win0_4.index t (1 : Fin 2) * 1024 + 1 * (j 1).val = (j 1).val; have := (idx_4 t).2; omega

theorem idx_5 : ∀ t : Fin cfg0.N, win0_5.index t 0 = 0 ∧ win0_5.index t 1 = 0 :=
  (by decide +kernel : ∀ t : Fin grid0.N, win0_5.index t 0 = 0 ∧ win0_5.index t 1 = 0)

/-- The block of the standard deviations is the whole array. -/
theorem iblk_5 (c : Dev nD) (t : Fin cfg0.N) : iblk m c 5 t = V m c main_arg5 := by
  funext j
  refine congrArg (V m c main_arg5) (funext fun a => Fin.ext ?_)
  match a with
  | 0 => show win0_5.index t (0 : Fin 2) * 1 + 1 * (j 0).val = (j 0).val; have := (idx_5 t).1; omega
  | 1 => show win0_5.index t (1 : Fin 2) * 1024 + 1 * (j 1).val = (j 1).val; have := (idx_5 t).2; omega

theorem idx_6 : ∀ t : Fin cfg0.N, win0_6.index t 0 = 0 ∧ win0_6.index t 1 = 0 :=
  (by decide +kernel : ∀ t : Fin grid0.N, win0_6.index t 0 = 0 ∧ win0_6.index t 1 = 0)

/-- The block of the cosines is the whole array. -/
theorem iblk_6 (c : Dev nD) (t : Fin cfg0.N) : iblk m c 6 t = V m c main_arg6 := by
  funext j
  refine congrArg (V m c main_arg6) (funext fun a => Fin.ext ?_)
  match a with
  | 0 => show win0_6.index t (0 : Fin 2) * 32 + 1 * (j 0).val = (j 0).val; have := (idx_6 t).1; omega
  | 1 => show win0_6.index t (1 : Fin 2) * 1024 + 1 * (j 1).val = (j 1).val; have := (idx_6 t).2; omega

theorem idx_7 : ∀ t : Fin cfg0.N, win0_7.index t 0 = 0 ∧ win0_7.index t 1 = 0 :=
  (by decide +kernel : ∀ t : Fin grid0.N, win0_7.index t 0 = 0 ∧ win0_7.index t 1 = 0)

/-- The block of the sines is the whole array. -/
theorem iblk_7 (c : Dev nD) (t : Fin cfg0.N) : iblk m c 7 t = V m c main_arg7 := by
  funext j
  refine congrArg (V m c main_arg7) (funext fun a => Fin.ext ?_)
  match a with
  | 0 => show win0_7.index t (0 : Fin 2) * 32 + 1 * (j 0).val = (j 0).val; have := (idx_7 t).1; omega
  | 1 => show win0_7.index t (1 : Fin 2) * 1024 + 1 * (j 1).val = (j 1).val; have := (idx_7 t).2; omega

theorem idx_8 : ∀ t : Fin cfg0.N, win0_8.index t 0 = 0 ∧ win0_8.index t 1 = 0 :=
  (by decide +kernel : ∀ t : Fin grid0.N, win0_8.index t 0 = 0 ∧ win0_8.index t 1 = 0)

/-- The block of the norm's scale is the whole array. -/
theorem iblk_8 (c : Dev nD) (t : Fin cfg0.N) : iblk m c 8 t = V m c main_arg8 := by
  funext j
  refine congrArg (V m c main_arg8) (funext fun a => Fin.ext ?_)
  match a with
  | 0 => show win0_8.index t (0 : Fin 2) * 1 + 1 * (j 0).val = (j 0).val; have := (idx_8 t).1; omega
  | 1 => show win0_8.index t (1 : Fin 2) * 128 + 1 * (j 1).val = (j 1).val; have := (idx_8 t).2; omega

/-! ## The proof data -/

/-- The scratch's contents from the first point on. -/
def scrM (c : Dev nD) : Vec Bits S192x1024 .bf16 := scrV (V m c main_arg1) (V m c main_arg2) (V m c main_arg3) (V m c main_arg4) (V m c main_arg5) (V m c main_arg6) (V m c main_arg7) (V m c main_arg8)

/-- What a grid point leaves in the first projection's gradient: the product of the scratch with its block of the
    activations, its first 128 rows transposed. -/
def rel9 (c : Dev nD) (t : Fin cfg0.N) (X : Vec Bits S1024x128 .f32) : Prop := X = k0_pay6 (scrM m c) (iblk m c 0 t)

/-- What a grid point leaves in the second projection's gradient: the last 64 rows of the same product. -/
def rel10 (c : Dev nD) (t : Fin cfg0.N) (X : Vec Bits S64x1024 .f32) : Prop := X = k0_pay7 (scrM m c) (iblk m c 0 t)

/-- What a grid point leaves in the gradient of the norm's scale: the first point stores it, a later one leaves it. -/
def rel11 (c : Dev nD) (t : Fin cfg0.N) (Y X : Vec Bits S1x128 .f32) : Prop := X = if t.val = 0 then dgV (V m c main_arg1) (V m c main_arg2) (V m c main_arg4) (V m c main_arg6) (V m c main_arg7) else Y

/-- What a grid point leaves in the gradient of the norm's shift: the first point stores it, a later one leaves it. -/
def rel12 (c : Dev nD) (t : Fin cfg0.N) (Y X : Vec Bits S1x128 .f32) : Prop := X = if t.val = 0 then dbV (V m c main_arg1) (V m c main_arg2) (V m c main_arg6) (V m c main_arg7) else Y

/-- What a grid point leaves in the gradient before the norm: the first point stores it, a later one leaves it. -/
def rel13 (c : Dev nD) (t : Fin cfg0.N) (Y X : Vec Bits S1024x128 .f32) : Prop := X = if t.val = 0 then dkpreV (V m c main_arg1) (V m c main_arg2) (V m c main_arg4) (V m c main_arg5) (V m c main_arg6) (V m c main_arg7) (V m c main_arg8) else Y

/-- What holds between points: at first nothing of the scratch, from the first point on its contents. -/
def Phi (c : Dev nD) (n : ℕ) : sProp 𝕄 :=
  iprop((∃ d, ⌜0 < n → d = scrM m c⌝ ∗ owns (c : Thread nD τ) scM0_0 fullShare d) ∗ (∃ r, prngReg c r))

/-- The exact part of the proof data: every input's buffer at its block. -/
def dats (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := Phi m c t.val
  q _ := fullShare
  owed _ := 0

/-- The outputs' relations; none for an input. -/
def ovr (c : Dev nD) : (w : Fin cfg0.W) → Option (Fin cfg0.N → (Y X : (cfg0.win w).block.Idx → Elt Bits (cfg0.win w).elt) → Prop)
  | ⟨9, _⟩ => some fun t _ X => rel9 m c t X
  | ⟨10, _⟩ => some fun t _ X => rel10 m c t X
  | ⟨11, _⟩ => some fun t Y X => rel11 m c t Y X
  | ⟨12, _⟩ => some fun t Y X => rel12 m c t Y X
  | ⟨13, _⟩ => some fun t Y X => rel13 m c t Y X
  | _ => none

/-- The proof data: the inputs exact, each output in its relation. -/
def rdat (c : Dev nD) : RDat τ (Elt Bits) Unit ℕ (UR sig nD τ) ℕ cfg0 c := (dats m c).toR.override (ovr m c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]
theorem after0_7 (c : Dev nD) (t : Fin cfg0.N) : (dats m c).after 7 t = iblk m c 7 t := by dsimp only [dats]
theorem after0_8 (c : Dev nD) (t : Fin cfg0.N) : (dats m c).after 8 t = iblk m c 8 t := by dsimp only [dats]

/-- What the body finds in each input's buffer: its block. -/
theorem find0 (c : Dev nD) (t : Fin cfg0.N) (Y : (cfg0.win 0).block.Idx → Elt Bits (cfg0.win 0).elt) (h : (rdat m c).Finds 0 t Y) : Y = iblk m c 0 t :=
  let ⟨d, hd⟩ := (dats m c).toR_finds 0 t Y (((dats m c).toR.override_finds (ovr := ovr m c) (w := 0) rfl t Y).mp h)
  hd.trans (before0_0_of m (dats m c) (A_eq m c 0) (after0_0 m c) t d)
theorem find1 (c : Dev nD) (t : Fin cfg0.N) (Y : (cfg0.win 1).block.Idx → Elt Bits (cfg0.win 1).elt) (h : (rdat m c).Finds 1 t Y) : Y = iblk m c 1 t :=
  let ⟨d, hd⟩ := (dats m c).toR_finds 1 t Y (((dats m c).toR.override_finds (ovr := ovr m c) (w := 1) rfl t Y).mp h)
  hd.trans (before0_1_of m (dats m c) (A_eq m c 1) (after0_1 m c) t d)
theorem find2 (c : Dev nD) (t : Fin cfg0.N) (Y : (cfg0.win 2).block.Idx → Elt Bits (cfg0.win 2).elt) (h : (rdat m c).Finds 2 t Y) : Y = iblk m c 2 t :=
  let ⟨d, hd⟩ := (dats m c).toR_finds 2 t Y (((dats m c).toR.override_finds (ovr := ovr m c) (w := 2) rfl t Y).mp h)
  hd.trans (before0_2_of m (dats m c) (A_eq m c 2) (after0_2 m c) t d)
theorem find3 (c : Dev nD) (t : Fin cfg0.N) (Y : (cfg0.win 3).block.Idx → Elt Bits (cfg0.win 3).elt) (h : (rdat m c).Finds 3 t Y) : Y = iblk m c 3 t :=
  let ⟨d, hd⟩ := (dats m c).toR_finds 3 t Y (((dats m c).toR.override_finds (ovr := ovr m c) (w := 3) rfl t Y).mp h)
  hd.trans (before0_3_of m (dats m c) (A_eq m c 3) (after0_3 m c) t d)
theorem find4 (c : Dev nD) (t : Fin cfg0.N) (Y : (cfg0.win 4).block.Idx → Elt Bits (cfg0.win 4).elt) (h : (rdat m c).Finds 4 t Y) : Y = iblk m c 4 t :=
  let ⟨d, hd⟩ := (dats m c).toR_finds 4 t Y (((dats m c).toR.override_finds (ovr := ovr m c) (w := 4) rfl t Y).mp h)
  hd.trans (before0_4_of m (dats m c) (A_eq m c 4) (after0_4 m c) t d)
theorem find5 (c : Dev nD) (t : Fin cfg0.N) (Y : (cfg0.win 5).block.Idx → Elt Bits (cfg0.win 5).elt) (h : (rdat m c).Finds 5 t Y) : Y = iblk m c 5 t :=
  let ⟨d, hd⟩ := (dats m c).toR_finds 5 t Y (((dats m c).toR.override_finds (ovr := ovr m c) (w := 5) rfl t Y).mp h)
  hd.trans (before0_5_of m (dats m c) (A_eq m c 5) (after0_5 m c) t d)
theorem find6 (c : Dev nD) (t : Fin cfg0.N) (Y : (cfg0.win 6).block.Idx → Elt Bits (cfg0.win 6).elt) (h : (rdat m c).Finds 6 t Y) : Y = iblk m c 6 t :=
  let ⟨d, hd⟩ := (dats m c).toR_finds 6 t Y (((dats m c).toR.override_finds (ovr := ovr m c) (w := 6) rfl t Y).mp h)
  hd.trans (before0_6_of m (dats m c) (A_eq m c 6) (after0_6 m c) t d)
theorem find7 (c : Dev nD) (t : Fin cfg0.N) (Y : (cfg0.win 7).block.Idx → Elt Bits (cfg0.win 7).elt) (h : (rdat m c).Finds 7 t Y) : Y = iblk m c 7 t :=
  let ⟨d, hd⟩ := (dats m c).toR_finds 7 t Y (((dats m c).toR.override_finds (ovr := ovr m c) (w := 7) rfl t Y).mp h)
  hd.trans (before0_7_of m (dats m c) (A_eq m c 7) (after0_7 m c) t d)
theorem find8 (c : Dev nD) (t : Fin cfg0.N) (Y : (cfg0.win 8).block.Idx → Elt Bits (cfg0.win 8).elt) (h : (rdat m c).Finds 8 t Y) : Y = iblk m c 8 t :=
  let ⟨d, hd⟩ := (dats m c).toR_finds 8 t Y (((dats m c).toR.override_finds (ovr := ovr m c) (w := 8) rfl t Y).mp h)
  hd.trans (before0_8_of m (dats m c) (A_eq m c 8) (after0_8 m c) t d)

/-- An input's block left in place is what its relation asks. -/
theorem keep0 (c : Dev nD) (t : Fin cfg0.N) (Y : (cfg0.win 0).block.Idx → Elt Bits (cfg0.win 0).elt) : (rdat m c).after 0 t Y (iblk m c 0 t) :=
  (after0_0 m c t).symm
theorem keep1 (c : Dev nD) (t : Fin cfg0.N) (Y : (cfg0.win 1).block.Idx → Elt Bits (cfg0.win 1).elt) : (rdat m c).after 1 t Y (iblk m c 1 t) :=
  (after0_1 m c t).symm
theorem keep2 (c : Dev nD) (t : Fin cfg0.N) (Y : (cfg0.win 2).block.Idx → Elt Bits (cfg0.win 2).elt) : (rdat m c).after 2 t Y (iblk m c 2 t) :=
  (after0_2 m c t).symm
theorem keep3 (c : Dev nD) (t : Fin cfg0.N) (Y : (cfg0.win 3).block.Idx → Elt Bits (cfg0.win 3).elt) : (rdat m c).after 3 t Y (iblk m c 3 t) :=
  (after0_3 m c t).symm
theorem keep4 (c : Dev nD) (t : Fin cfg0.N) (Y : (cfg0.win 4).block.Idx → Elt Bits (cfg0.win 4).elt) : (rdat m c).after 4 t Y (iblk m c 4 t) :=
  (after0_4 m c t).symm
theorem keep5 (c : Dev nD) (t : Fin cfg0.N) (Y : (cfg0.win 5).block.Idx → Elt Bits (cfg0.win 5).elt) : (rdat m c).after 5 t Y (iblk m c 5 t) :=
  (after0_5 m c t).symm
theorem keep6 (c : Dev nD) (t : Fin cfg0.N) (Y : (cfg0.win 6).block.Idx → Elt Bits (cfg0.win 6).elt) : (rdat m c).after 6 t Y (iblk m c 6 t) :=
  (after0_6 m c t).symm
theorem keep7 (c : Dev nD) (t : Fin cfg0.N) (Y : (cfg0.win 7).block.Idx → Elt Bits (cfg0.win 7).elt) : (rdat m c).after 7 t Y (iblk m c 7 t) :=
  (after0_7 m c t).symm
theorem keep8 (c : Dev nD) (t : Fin cfg0.N) (Y : (cfg0.win 8).block.Idx → Elt Bits (cfg0.win 8).elt) : (rdat m c).after 8 t Y (iblk m c 8 t) :=
  (after0_8 m c t).symm

/-! ## The body obligation -/

/-- One run of the body at point `t`, its inputs' blocks in place. -/
theorem sound_body (c : Dev nD) (t : Fin cfg0.N) (Y11 Y12 : Vec Bits S1x128 .f32) (Y13 : Vec Bits S1024x128 .f32) (O : sProp 𝕄) :
    iprop(Phi m c t.val ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ (∃ d, owns (c : Thread nD τ) (ms0_9 t) fullShare d)
      ∗ (∃ d, owns (c : Thread nD τ) (ms0_10 t) fullShare d)
      ∗ owns (c : Thread nD τ) (ms0_11 t) fullShare Y11
      ∗ owns (c : Thread nD τ) (ms0_12 t) fullShare Y12
      ∗ owns (c : Thread nD τ) (ms0_13 t) fullShare Y13)
    ⊢ wp frame (wpE (defs₀ (F := Bits)) Variants.none c none) Set.univ (bodyAt0 t) (fun _ => iprop(Phi m c (t.val + 1) ∗ O
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ (∃ X, ⌜rel9 m c t X⌝ ∗ owns (c : Thread nD τ) (ms0_9 t) fullShare X)
      ∗ (∃ X, ⌜rel10 m c t X⌝ ∗ owns (c : Thread nD τ) (ms0_10 t) fullShare X)
      ∗ (∃ X, ⌜rel11 m c t Y11 X⌝ ∗ owns (c : Thread nD τ) (ms0_11 t) fullShare X)
      ∗ (∃ X, ⌜rel12 m c t Y12 X⌝ ∗ owns (c : Thread nD τ) (ms0_12 t) fullShare X)
      ∗ (∃ X, ⌜rel13 m c t Y13 X⌝ ∗ owns (c : Thread nD τ) (ms0_13 t) fullShare X))) := by
  have eS : scrV (iblk m c 1 t) (iblk m c 2 t) (iblk m c 3 t) (iblk m c 4 t) (iblk m c 5 t) (iblk m c 6 t) (iblk m c 7 t) (iblk m c 8 t) = scrM m c := by
    unfold scrM; rw [iblk_1, iblk_2, iblk_3, iblk_4, iblk_5, iblk_6, iblk_7, iblk_8]
  unfold bodyAt0 Phi
  by_cases h0 : t.val = 0
  · have hc := (cond_iff t).mpr h0
    iintro ⟨⟨⟨%ds, -, HS⟩, Hg⟩, Ho, H0, H1, H2, H3, H4, H5, H6, H7, H8, H9, H10, H11, H12, H13⟩
    iapply (run_first c (grid0.coords t) hc _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS]; · iexists _; iexact HS
    iintro ⟨H0, H1, H2, H3, H4, H5, H6, H7, H8, H9, H10, H11, H12, H13, HS⟩
    isplitl [HS Hg]
    · isplitl [HS]
      · iexists _; isplitr; swap; · iexact HS
        ipureintro; exact fun _ => eS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro; exact congrArg (fun z => k0_pay6 z (iblk m c 0 t)) eS
    isplitl [H10]
    · iexists _; isplitr; swap; · iexact H10
      ipureintro; exact congrArg (fun z => k0_pay7 z (iblk m c 0 t)) eS
    isplitl [H11]
    · iexists _; isplitr; swap; · iexact H11
      ipureintro; unfold rel11; rw [if_pos h0, iblk_1, iblk_2, iblk_4, iblk_6, iblk_7]
    isplitl [H12]
    · iexists _; isplitr; swap; · iexact H12
      ipureintro; unfold rel12; rw [if_pos h0, iblk_1, iblk_2, iblk_6, iblk_7]
    iexists _; isplitr; swap; · iexact H13
    ipureintro; unfold rel13; rw [if_pos h0, iblk_1, iblk_2, iblk_4, iblk_5, iblk_6, iblk_7, iblk_8]
  · have hc : ¬ k0_cond1 (grid0.coords t) = 1#1 := fun h => h0 ((cond_iff t).mp h)
    iintro ⟨⟨⟨%ds, %hd, HS⟩, Hg⟩, Ho, H0, H1, H2, H3, H4, H5, H6, H7, H8, H9, H10, H11, H12, H13⟩
    obtain rfl := hd (by omega)
    iapply (run_later c (grid0.coords t) hc _ _ _ _ _ _ _ _ _ _ _ _ _ _ _ _ _ _ _ _ _ _ _ _ _ _ _ _ _ _ (iblk m c 0 t) (scrM m c) Set.univ _)
    isplitl [H0]; · iexact H0
    isplitl [H9]; · iexact H9
    isplitl [H10]; · iexact H10
    isplitl [HS]; · iexact HS
    iintro ⟨H0, H9, H10, HS⟩
    isplitl [HS Hg]
    · isplitl [HS]
      · iexists _; isplitr; swap; · iexact HS
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; exact (if_neg h0).symm
    isplitl [H12]
    · iexists _; isplitr; swap; · iexact H12
      ipureintro; exact (if_neg h0).symm
    iexists _; isplitr; swap; · iexact H13
    ipureintro; exact (if_neg h0).symm

/-- The body table's row at point `t`'s slots is the body as `bodyAt0` spells it. -/
theorem defs₀_row (t : Fin cfg0.N) :
    defs₀ (F := Bits) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Bits)) Variants.none () Set.univ := fun t Y hY => by
  rw [bigSep_W0, bigSep_W0, defs₀_row]
  have e0 := find0 m c t (Y 0) (hY 0)
  have e1 := find1 m c t (Y 1) (hY 1)
  have e2 := find2 m c t (Y 2) (hY 2)
  have e3 := find3 m c t (Y 3) (hY 3)
  have e4 := find4 m c t (Y 4) (hY 4)
  have e5 := find5 m c t (Y 5) (hY 5)
  have e6 := find6 m c t (Y 6) (hY 6)
  have e7 := find7 m c t (Y 7) (hY 7)
  have e8 := find8 m c t (Y 8) (hY 8)
  rw [e0, e1, e2, e3, e4, e5, e6, e7, e8, show (rdat m c).Φ t.castSucc = Phi m c t.val from rfl, show (rdat m c).Φ t.succ = Phi m c (t.val + 1) from rfl]
  refine triple_restated (sound_body m c t (Y 11) (Y 12) (Y 13) ((rdat m c).owesAt () t.castSucc)) rfl ?_ fun _ => ?_
  · iintro ⟨HA, Ho, H0, H1, H2, H3, H4, H5, H6, H7, H8, H9, H10, H11, H12, H13⟩
    isplitl [HA]; · iexact HA
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    iexact H13
  · iintro ⟨HA, Ho, H0, H1, H2, H3, H4, H5, H6, H7, H8, ⟨%X9, %h9, H9⟩, ⟨%X10, %h10, H10⟩, ⟨%X11, %h11, H11⟩, ⟨%X12, %h12, H12⟩, ⟨%X13, %h13, H13⟩⟩
    isplitl [HA]; · iexact HA
    isplitl [Ho]; · iexact Ho
    isplitl [H0]
    · iexists (iblk m c 0 t); isplitr; · ipureintro; exact keep0 m c t _
      iexact H0
    isplitl [H1]
    · iexists (iblk m c 1 t); isplitr; · ipureintro; exact keep1 m c t _
      iexact H1
    isplitl [H2]
    · iexists (iblk m c 2 t); isplitr; · ipureintro; exact keep2 m c t _
      iexact H2
    isplitl [H3]
    · iexists (iblk m c 3 t); isplitr; · ipureintro; exact keep3 m c t _
      iexact H3
    isplitl [H4]
    · iexists (iblk m c 4 t); isplitr; · ipureintro; exact keep4 m c t _
      iexact H4
    isplitl [H5]
    · iexists (iblk m c 5 t); isplitr; · ipureintro; exact keep5 m c t _
      iexact H5
    isplitl [H6]
    · iexists (iblk m c 6 t); isplitr; · ipureintro; exact keep6 m c t _
      iexact H6
    isplitl [H7]
    · iexists (iblk m c 7 t); isplitr; · ipureintro; exact keep7 m c t _
      iexact H7
    isplitl [H8]
    · iexists (iblk m c 8 t); isplitr; · ipureintro; exact keep8 m c t _
      iexact H8
    isplitl [H9]
    · iexists X9; isplitr; · ipureintro; exact h9
      iexact H9
    isplitl [H10]
    · iexists X10; isplitr; · ipureintro; exact h10
      iexact H10
    isplitl [H11]
    · iexists X11; isplitr; · ipureintro; exact h11
      iexact H11
    isplitl [H12]
    · iexists X12; isplitr; · ipureintro; exact h12
      iexact H12
    iexists X13; isplitr; · ipureintro; exact h13
    iexact H13

/-! ## The run and the frame -/

/-- At entry nothing is asked of the scratch. -/
theorem Phi_in (c : Dev nD) : (Pipeline.ΦA spec0 c : sProp 𝕄) ⊢ (rdat m c).Φ 0 := by
  rw [show (rdat m c).Φ 0 = Phi m c 0 from rfl, PhiA0_eq]
  unfold Phi
  iintro ⟨⟨%d, HS⟩, Hg⟩
  isplitl [HS]
  · iexists _; isplitr; swap; · iexact HS
    ipureintro; exact fun h => absurd h (Nat.lt_irrefl 0)
  iexact Hg

/-- At exit the scratch's contents are let go. -/
theorem Phi_out (c : Dev nD) : (rdat m c).Φ (Fin.last cfg0.N) ⊢ (Pipeline.ΦA spec0 c : sProp 𝕄) := by
  rw [show (rdat m c).Φ (Fin.last cfg0.N) = Phi m c cfg0.N from rfl, PhiA0_eq]
  unfold Phi
  iintro ⟨⟨%d, -, HS⟩, Hg⟩
  isplitl [HS]
  · iexists _; iexact HS
  iexact Hg

set_option backward.isDefEq.respectTransparency.types false in
/-- Every execution terminates, with every array as the proof data say and every semaphore counter at zero. -/
theorem run_main : θ_run defs (onTc (τ := τ) (main (F := Bits))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := body_obligation m) (hshare := fun c => (dats m c).share_full fun _ => rfl)
    (howed := fun _ _ => rfl) (V := V m) (hmain := hmain m Variants.none) (hA := A_eq m) (hin := Phi_in m) (hout := Phi_out m)

/-- The argument arrays end unchanged and every semaphore counter at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c))⟩, h.2⟩) (run_main m ρ)

end Cert.Dproj.Gen

end
-- ==== Proof.lean ====
module

public import proofs.«01_k».proof.Defs
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.Gen.Bwd.Frame
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.BwdIdeal.Frame
public import proofs.«01_k».proof.Proof.Gen.FwdRefIdeal
public import proofs.«01_k».proof.Proof.Gen.FwdRefIdeal.Skeleton
public import proofs.«01_k».proof.Proof.Gen.FwdRefIdeal.Launch
public import proofs.«01_k».proof.Proof.Gen.FwdRefIdeal.Points
public import proofs.«01_k».proof.Proof.Gen.FwdRefIdeal.Frame
public import proofs.«01_k».proof.Proof.Gen.On_causal
public import proofs.«01_k».proof.Proof.Gen.BwdRefIdeal
public import proofs.«01_k».proof.Proof.Gen.BwdRefIdeal.Skeleton
public import proofs.«01_k».proof.Proof.Gen.BwdRefIdeal.Launch
public import proofs.«01_k».proof.Proof.Gen.BwdRefIdeal.Points
public import proofs.«01_k».proof.Proof.Gen.BwdRefIdeal.Frame
public import proofs.«01_k».proof.Proof.Gen.BwdRefIdeal.Value
public import proofs.«01_k».proof.Proof.Gen.Pre_masked_and_scaled
public import proofs.«01_k».proof.Proof.Gen.FwdRefIdeal.Value
public import proofs.«01_k».proof.Proof.Gen.Dproj
public import proofs.«01_k».proof.Proof.Gen.Dproj.Skeleton
public import proofs.«01_k».proof.Proof.Gen.Dproj.Launch
public import proofs.«01_k».proof.Proof.Gen.Dproj.Points
public import proofs.«01_k».proof.Proof.Gen.Dproj.Frame
public import proofs.«01_k».proof.Proof.Gen.DprojIdeal
public import proofs.«01_k».proof.Proof.Gen.DprojIdeal.Skeleton
public import proofs.«01_k».proof.Proof.Gen.DprojIdeal.Launch
public import proofs.«01_k».proof.Proof.Gen.DprojIdeal.Points
public import proofs.«01_k».proof.Proof.Gen.DprojIdeal.Frame
public import proofs.«01_k».proof.Proof.Gen.DprojRefIdeal
public import proofs.«01_k».proof.Proof.Gen.DprojRefIdeal.Skeleton
public import proofs.«01_k».proof.Proof.Gen.DprojRefIdeal.Launch
public import proofs.«01_k».proof.Proof.Gen.DprojRefIdeal.Points
public import proofs.«01_k».proof.Proof.Gen.DprojRefIdeal.Frame
public import proofs.«01_k».proof.Proof.Gen.DprojRefIdeal.Value
public import proofs.«01_k».proof.Proof.Fwd.Final
public import proofs.«01_k».proof.Proof.Fwd.Reference
public import proofs.«01_k».proof.Proof.Fwd.Bits
public import proofs.«01_k».proof.Proof.Fwd.Mask
public import proofs.«01_k».proof.Proof.Bwd.Final
public import proofs.«01_k».proof.Proof.Bwd.Reference
public import proofs.«01_k».proof.Proof.Bwd.Bits
public import proofs.«01_k».proof.Proof.Bwd.Pre
public import proofs.«01_k».proof.Proof.Dproj.Final
public import proofs.«01_k».proof.Proof.Dproj.Reference
public import proofs.«01_k».proof.Proof.Dproj.Bits
public import Idealize.ShloMosaic.Adequacy
public import Idealize.ShloMosaic.Init

@[expose] public section

noncomputable section

namespace Cert.Proof

open Idealize.ShloMosaic Idealize.SL.Sem Cert.Fwd

open Cert.FwdMath in
/-- The forward kernel and the reference agree over the extended reals: the codes and the scales everywhere, the scores
    wherever the key is not after the token. -/
theorem fwd_algebraic : letI := Cert.FwdIdeal.Gen.facts; letI := Cert.FwdRefIdeal.Gen.facts; letI := Cert.On_causal.Gen.facts
    Cert.algebraic_FwdIdeal_FwdRefIdeal_on_causal := by
  intro m g m' g' _ h
  refine ⟨fun c => codesOf (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)),
    fun c => scalesOf (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)),
    fun c => scoreOf (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)), ?_, ?_⟩
  · refine (θ_run Cert.FwdIdeal.defs _ _).mono (fun r hr c => ?_) (Cert.FwdIdeal.Gen.kernel_run m g)
    obtain ⟨h0, h1, h2, ha⟩ := hr c
    refine ⟨fun i _ => congrFun h0 i, fun i _ => congrFun h1 i, fun i hi => ?_, ha⟩
    obtain ⟨s, k, rfl⟩ : ∃ (s k : Fin 1024), i = ix2 s k := ⟨i 0, i 1, (ix2_eta i).symm⟩
    exact h2 s k (Nat.div_le_div_right (Cert.On_causal.le_of_set s k hi))
  · refine (θ_run Cert.FwdRefIdeal.defs _ _).mono (fun r hr c => ?_) (Cert.FwdRefIdeal.Value.run m' g')
    obtain ⟨h0, h1, h2, ha⟩ := hr c
    obtain ⟨e0, e1, e2, e3, e4, e5, e6⟩ := h c
    rw [Cert.FwdRefIdeal.Read.codes_eq] at h0
    rw [Cert.FwdRefIdeal.Read.scales_eq] at h1
    rw [Cert.FwdRefIdeal.Read.scores_eq] at h2
    rw [e0, e1, e2, e3, e4] at h0 h1
    rw [e0, e1, e2, e3, e4, e5, e6] at h2
    exact ⟨fun i _ => congrFun h0 i, fun i _ => congrFun h1 i, fun i _ => congrFun h2 i, ha⟩

/-- The reference's results are the kernel's: the same functions of the same arrays where the logits' gradient has nothing
    below the diagonal and every query's scale is positive and finite. -/
theorem bwd_results (a0 : Vec Ideal Cert.BwdIdeal.S8192x1024 .fp8e4m3) (a1 : Vec Ideal Cert.BwdIdeal.S64x1024 .f32) (a2 : Vec Ideal Cert.BwdIdeal.S64x1024 .f32) (a3 : Vec Ideal Cert.BwdIdeal.S1024x128 .fp8e4m3) (a4 : Vec Ideal Cert.BwdIdeal.S128x1024 .bf16) (a5 : Vec Ideal Cert.BwdIdeal.S1024x1024 .f32) (a6 : Vec Ideal Cert.BwdIdeal.S1536x1024 .bf16) (a7 : Vec Ideal Cert.BwdIdeal.S32x1024 .f32) (a8 : Vec Ideal Cert.BwdIdeal.S32x1024 .f32)
    (hd : ∀ s t : Fin 1024, s.val ≤ t.val ∨ a5 (ix2 s t) = (0 : EReal)) (hq : ∀ (g : Fin 64) (t : Fin 1024), (0 : EReal) < a1 (ix2 g t) ∧ a1 (ix2 g t) < (⊤ : EReal)) :
    Cert.BwdRefIdeal.Value.G9 (F := Ideal) a0 a1 a2 a3 a4 a5 a6 a7 a8 = Cert.BwdIdeal.Gen.dwOf a0 a1 a3 a5
    ∧ Cert.BwdRefIdeal.Value.G10 (F := Ideal) a0 a1 a2 a3 a4 a5 a6 a7 a8 = Cert.BwdIdeal.Gen.dkOf a0 a1 a2 a3 a5
    ∧ Cert.BwdRefIdeal.Value.G11 (F := Ideal) a0 a1 a2 a3 a4 a5 a6 a7 a8 = Cert.BwdIdeal.Gen.dqcOf a0 a2 a3 a4 a5 a7 a8
    ∧ Cert.BwdRefIdeal.Value.G12 (F := Ideal) a0 a1 a2 a3 a4 a5 a6 a7 a8 = Cert.BwdIdeal.Gen.dqsOf a0 a2 a3 a4 a5 a7 a8
    ∧ Cert.BwdRefIdeal.Value.G13 (F := Ideal) a0 a1 a2 a3 a4 a5 a6 a7 a8 = Cert.BwdIdeal.Gen.dwqOf a0 a2 a3 a4 a5 a6 a7 a8 := by
  have hu : Cert.BwdMath.upper (Cert.BwdIdeal.Gen.fn a5) = Cert.BwdIdeal.Gen.fn a5 := Cert.BwdSpec.upper_eq _ hd
  refine ⟨?_, ?_, ?_, ?_, ?_⟩
  · funext y
    obtain ⟨r, n, rfl⟩ : ∃ (r : Fin 64) (n : Fin 1024), y = ix2 r n := ⟨y 0, y 1, (ix2_eta y).symm⟩
    rw [Cert.BwdIdeal.Gen.dwOf, hu]
    exact Cert.BwdRefIdeal.Read.G9_at a0 a1 a2 a3 a4 a5 a6 a7 a8 hq r n
  · funext y
    obtain ⟨r, n, rfl⟩ : ∃ (r : Fin 1024) (n : Fin 128), y = ix2 r n := ⟨y 0, y 1, (ix2_eta y).symm⟩
    rw [Cert.BwdIdeal.Gen.dkOf, hu]
    exact Cert.BwdRefIdeal.Read.G10_at a0 a1 a2 a3 a4 a5 a6 a7 a8 hq r n
  · funext y
    obtain ⟨r, n, rfl⟩ : ∃ (r : Fin 1024) (n : Fin 8192), y = ix2 r n := ⟨y 0, y 1, (ix2_eta y).symm⟩
    rw [Cert.BwdIdeal.Gen.dqcOf, hu]
    exact Cert.BwdRefIdeal.Read.G11_at a0 a1 a2 a3 a4 a5 a6 a7 a8 hq r n
  · funext y
    obtain ⟨r, n, rfl⟩ : ∃ (r : Fin 8) (n : Fin 8192), y = ix2 r n := ⟨y 0, y 1, (ix2_eta y).symm⟩
    rw [Cert.BwdIdeal.Gen.dqsOf, hu]
    exact Cert.BwdRefIdeal.Read.G12_at a0 a1 a2 a3 a4 a5 a6 a7 a8 hq r n
  · funext y
    obtain ⟨r, n, rfl⟩ : ∃ (r : Fin 1536) (n : Fin 8192), y = ix2 r n := ⟨y 0, y 1, (ix2_eta y).symm⟩
    rw [Cert.BwdIdeal.Gen.dwqOf, hu]
    exact Cert.BwdRefIdeal.Read.G13_at a0 a1 a2 a3 a4 a5 a6 a7 a8 hq r n

/-- The backward kernel and the reference agree over the extended reals in all five results. -/
theorem bwd_algebraic : letI := Cert.BwdIdeal.Gen.facts; letI := Cert.BwdRefIdeal.Gen.facts; letI := Cert.Pre_masked_and_scaled.Gen.facts
    Cert.algebraic_BwdIdeal_BwdRefIdeal_pre_masked_and_scaled := by
  intro m g m' g' hpre h
  refine ⟨fun c => Cert.BwdIdeal.Gen.dwOf (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg3)) (m ((c.tc : Thread Cert.BwdIdeal.nD Cert.BwdIdeal.τ).loc Cert.BwdIdeal.main_arg5)),
    fun c => Cert.BwdIdeal.Gen.dkOf (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg5)),
    fun c => Cert.BwdIdeal.Gen.dqcOf (m ((c.tc : Thread Cert.BwdIdeal.nD Cert.BwdIdeal.τ).loc Cert.BwdIdeal.main_arg0)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)),
    fun c => Cert.BwdIdeal.Gen.dqsOf (m ((c.tc : Thread Cert.BwdIdeal.nD Cert.BwdIdeal.τ).loc Cert.BwdIdeal.main_arg0)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)),
    fun c => Cert.BwdIdeal.Gen.dwqOf (m ((c.tc : Thread Cert.BwdIdeal.nD Cert.BwdIdeal.τ).loc Cert.BwdIdeal.main_arg0)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)),
    (θ_run Cert.BwdIdeal.defs _ _).mono (fun r hr c => hr c) (Cert.BwdIdeal.Gen.kernel_run m g), ?_⟩
  refine (θ_run Cert.BwdRefIdeal.defs _ _).mono (fun r hr c => ?_) (Cert.BwdRefIdeal.Value.run m' g')
  obtain ⟨h0, h1, h2, h3, h4, ha⟩ := hr c
  obtain ⟨e0, e1, e2, e3, e4, e5, e6, e7, e8⟩ := h c
  letI := Cert.Pre_masked_and_scaled.Gen.facts
  obtain ⟨r0, r1, r2, r3, r4⟩ := bwd_results (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8))
    (Cert.Pre_masked_and_scaled.masked _ _ _ _ _ _ _ _ _ (hpre c).1) (Cert.Pre_masked_and_scaled.scaled _ _ _ _ _ _ _ _ _ (hpre c).2)
  rw [e0, e1, e2, e3, e4, e5, e6, e7, e8] at h0 h1 h2 h3 h4
  exact ⟨h0.trans r0, h1.trans r1, h2.trans r2, h3.trans r3, h4.trans r4, ha⟩

/-- The kernel of the projections' gradients and the reference agree over the extended reals in all five results. -/
theorem dproj_algebraic : letI := Cert.DprojIdeal.Gen.facts; letI := Cert.DprojRefIdeal.Gen.facts; Cert.algebraic_DprojIdeal_DprojRefIdeal := by
  intro m g m' g' _ h
  refine ⟨fun c => Cert.DprojSpec.keyArr (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)),
    fun c => Cert.DprojSpec.headArr (m ((c.tc : Thread Cert.DprojIdeal.nD Cert.DprojIdeal.τ).loc Cert.DprojIdeal.main_arg0)) (m ((c.tc : Thread Cert.DprojIdeal.nD Cert.DprojIdeal.τ).loc Cert.DprojIdeal.main_arg3)),
    fun c => Cert.DprojSpec.scaleArr (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg4)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)),
    fun c => Cert.DprojSpec.shiftArr (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)),
    fun c => Cert.DprojSpec.preArr (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)),
    (θ_run Cert.DprojIdeal.defs _ _).mono (fun r hr c => hr c) (Cert.DprojIdeal.Gen.kernel_run m g), ?_⟩
  refine (θ_run Cert.DprojRefIdeal.defs _ _).mono (fun r hr c => ?_) (Cert.DprojRefIdeal.Value.run m' g')
  obtain ⟨h0, h1, h2, h3, h4, ha⟩ := hr c
  obtain ⟨e0, e1, e2, e3, e4, e5, e6, e7, e8⟩ := h c
  rw [e0, e1, e2, e3, e4, e5, e6, e7, e8] at h0 h1 h2 h3 h4
  exact ⟨h0.trans (Cert.DprojRefIdeal.Read.G9_eq _ _ _ _ _ _ _ _ _), h1.trans (Cert.DprojRefIdeal.Read.G10_eq _ _ _ _ _ _ _ _ _),
    h2.trans (Cert.DprojRefIdeal.Read.G11_eq _ _ _ _ _ _ _ _ _), h3.trans (Cert.DprojRefIdeal.Read.G12_eq _ _ _ _ _ _ _ _ _),
    h4.trans (Cert.DprojRefIdeal.Read.G13_eq _ _ _ _ _ _ _ _ _), ha⟩

theorem claim : Cert.Claim := ⟨Cert.Fwd.Gen.facts, Cert.FwdIdeal.Gen.facts, Cert.FwdRefIdeal.Gen.facts, Cert.Bwd.Gen.facts, Cert.BwdIdeal.Gen.facts, Cert.BwdRefIdeal.Gen.facts,
  Cert.Dproj.Gen.facts, Cert.DprojIdeal.Gen.facts, Cert.DprojRefIdeal.Gen.facts, Cert.Pre_masked_and_scaled.Gen.facts, Cert.On_causal.Gen.facts,
  fun m g _ => Cert.Fwd.Gen.frame m g, fun m g _ => Cert.FwdIdeal.Gen.frame m g, fun m g _ => Cert.FwdRefIdeal.Gen.frame m g,
  fun m g _ => Cert.Bwd.Gen.frame m g, fun m g _ => Cert.BwdIdeal.Gen.frame m g, fun m g _ => Cert.BwdIdeal.Gen.frame m g,
  fun m g _ => Cert.BwdRefIdeal.Gen.frame m g, fun m g _ => Cert.BwdRefIdeal.Gen.frame m g,
  fun m g _ => Cert.Dproj.Gen.frame m g, fun m g _ => Cert.DprojIdeal.Gen.frame m g, fun m g _ => Cert.DprojRefIdeal.Gen.frame m g,
  trivial, fwd_algebraic, trivial, bwd_algebraic, trivial, dproj_algebraic⟩

end Cert.Proof

end
